-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_KernelIdeal2 (m : (ℓ : Loc Cert.KernelIdeal2.nD Cert.KernelIdeal2.τ Cert.KernelIdeal2.sig) → Buf (Elt Ideal) ℓ) : Prop :=
  True

def Pre_ReferenceIdeal2 (m : (ℓ : Loc Cert.ReferenceIdeal2.nD Cert.ReferenceIdeal2.τ Cert.ReferenceIdeal2.sig) → Buf (Elt Ideal) ℓ) : Prop :=
  True

def Pre_Kernel3 (m : (ℓ : Loc Cert.Kernel3.nD Cert.Kernel3.τ Cert.Kernel3.sig) → Buf (Elt Bits) ℓ) : Prop :=
  True

def Pre_KernelIdeal3 (m : (ℓ : Loc Cert.KernelIdeal3.nD Cert.KernelIdeal3.τ Cert.KernelIdeal3.sig) → Buf (Elt Ideal) ℓ) : Prop :=
  True

def Pre_ReferenceIdeal3 (m : (ℓ : Loc Cert.ReferenceIdeal3.nD Cert.ReferenceIdeal3.τ Cert.ReferenceIdeal3.sig) → Buf (Elt Ideal) ℓ) : Prop :=
  True

def Pre_Kernel4 (m : (ℓ : Loc Cert.Kernel4.nD Cert.Kernel4.τ Cert.Kernel4.sig) → Buf (Elt Bits) ℓ) : Prop :=
  True

def Pre_KernelIdeal4 (m : (ℓ : Loc Cert.KernelIdeal4.nD Cert.KernelIdeal4.τ Cert.KernelIdeal4.sig) → Buf (Elt Ideal) ℓ) : Prop :=
  True

def Pre_ReferenceIdeal4 (m : (ℓ : Loc Cert.ReferenceIdeal4.nD Cert.ReferenceIdeal4.τ Cert.ReferenceIdeal4.sig) → Buf (Elt Ideal) ℓ) : Prop :=
  True

def Pre_Kernel5 (m : (ℓ : Loc Cert.Kernel5.nD Cert.Kernel5.τ Cert.Kernel5.sig) → Buf (Elt Bits) ℓ) : Prop :=
  True

def Pre_KernelIdeal5 (m : (ℓ : Loc Cert.KernelIdeal5.nD Cert.KernelIdeal5.τ Cert.KernelIdeal5.sig) → Buf (Elt Ideal) ℓ) : Prop :=
  True

def Pre_KernelIdeal5_logits_above_bottom [hPre_logits_above_bottom : Cert.Pre_logits_above_bottom.Facts] (m : (ℓ : Loc Cert.KernelIdeal5.nD Cert.KernelIdeal5.τ Cert.KernelIdeal5.sig) → Buf (Elt Ideal) ℓ) : Prop :=
  ∀ c : Dev Cert.KernelIdeal5.nD,
    (Cert.Pre_logits_above_bottom.fn (F := Ideal) (m ((c.tc : Thread Cert.KernelIdeal5.nD Cert.KernelIdeal5.τ).loc Cert.KernelIdeal5.main_arg0)) (m ((c.tc : Thread Cert.KernelIdeal5.nD Cert.KernelIdeal5.τ).loc Cert.KernelIdeal5.main_arg1)) (m ((c.tc : Thread Cert.KernelIdeal5.nD Cert.KernelIdeal5.τ).loc Cert.KernelIdeal5.main_arg2)) (m ((c.tc : Thread Cert.KernelIdeal5.nD Cert.KernelIdeal5.τ).loc Cert.KernelIdeal5.main_arg3)) (m ((c.tc : Thread Cert.KernelIdeal5.nD Cert.KernelIdeal5.τ).loc Cert.KernelIdeal5.main_arg4)) (m ((c.tc : Thread Cert.KernelIdeal5.nD Cert.KernelIdeal5.τ).loc Cert.KernelIdeal5.main_arg5)) (m ((c.tc : Thread Cert.KernelIdeal5.nD Cert.KernelIdeal5.τ).loc Cert.KernelIdeal5.main_arg6)) (m ((c.tc : Thread Cert.KernelIdeal5.nD Cert.KernelIdeal5.τ).loc Cert.KernelIdeal5.main_arg7))) = (fun _ => 1#1)

def Pre_ReferenceIdeal5 (m : (ℓ : Loc Cert.ReferenceIdeal5.nD Cert.ReferenceIdeal5.τ Cert.ReferenceIdeal5.sig) → Buf (Elt Ideal) ℓ) : Prop :=
  True

def Pre_ReferenceIdeal5_logits_above_bottom [hPre_logits_above_bottom : Cert.Pre_logits_above_bottom.Facts] (m : (ℓ : Loc Cert.ReferenceIdeal5.nD Cert.ReferenceIdeal5.τ Cert.ReferenceIdeal5.sig) → Buf (Elt Ideal) ℓ) : Prop :=
  ∀ c : Dev Cert.ReferenceIdeal5.nD,
    (Cert.Pre_logits_above_bottom.fn (F := Ideal) (m ((c.tc : Thread Cert.ReferenceIdeal5.nD Cert.ReferenceIdeal5.τ).loc Cert.ReferenceIdeal5.main_arg0)) (m ((c.tc : Thread Cert.ReferenceIdeal5.nD Cert.ReferenceIdeal5.τ).loc Cert.ReferenceIdeal5.main_arg1)) (m ((c.tc : Thread Cert.ReferenceIdeal5.nD Cert.ReferenceIdeal5.τ).loc Cert.ReferenceIdeal5.main_arg2)) (m ((c.tc : Thread Cert.ReferenceIdeal5.nD Cert.ReferenceIdeal5.τ).loc Cert.ReferenceIdeal5.main_arg3)) (m ((c.tc : Thread Cert.ReferenceIdeal5.nD Cert.ReferenceIdeal5.τ).loc Cert.ReferenceIdeal5.main_arg4)) (m ((c.tc : Thread Cert.ReferenceIdeal5.nD Cert.ReferenceIdeal5.τ).loc Cert.ReferenceIdeal5.main_arg5)) (m ((c.tc : Thread Cert.ReferenceIdeal5.nD Cert.ReferenceIdeal5.τ).loc Cert.ReferenceIdeal5.main_arg6)) (m ((c.tc : Thread Cert.ReferenceIdeal5.nD Cert.ReferenceIdeal5.τ).loc Cert.ReferenceIdeal5.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_KernelIdeal2 [hKernelIdeal2 : Cert.KernelIdeal2.Facts] : Prop :=
  ∀ (m : (ℓ : Loc Cert.KernelIdeal2.nD Cert.KernelIdeal2.τ Cert.KernelIdeal2.sig) → Buf (Elt Ideal) ℓ) (g : Dev Cert.KernelIdeal2.nD → PrngReg), Pre_KernelIdeal2 m →
    θ_run (Cert.KernelIdeal2.defs (F := Ideal)) (onTc (τ := Cert.KernelIdeal2.τ) (Cert.KernelIdeal2.main (F := Ideal))) ⟨m, fun _ => 0, g⟩ (fun r => (∀ c : Dev Cert.KernelIdeal2.nD,
      r.2.mem ((c.tc : Thread Cert.KernelIdeal2.nD Cert.KernelIdeal2.τ).loc Cert.KernelIdeal2.main_arg0) = m ((c.tc : Thread Cert.KernelIdeal2.nD Cert.KernelIdeal2.τ).loc Cert.KernelIdeal2.main_arg0)
      ∧ r.2.mem ((c.tc : Thread Cert.KernelIdeal2.nD Cert.KernelIdeal2.τ).loc Cert.KernelIdeal2.main_arg1) = m ((c.tc : Thread Cert.KernelIdeal2.nD Cert.KernelIdeal2.τ).loc Cert.KernelIdeal2.main_arg1)
      ∧ r.2.mem ((c.tc : Thread Cert.KernelIdeal2.nD Cert.KernelIdeal2.τ).loc Cert.KernelIdeal2.main_arg2) = m ((c.tc : Thread Cert.KernelIdeal2.nD Cert.KernelIdeal2.τ).loc Cert.KernelIdeal2.main_arg2)
      ∧ r.2.mem ((c.tc : Thread Cert.KernelIdeal2.nD Cert.KernelIdeal2.τ).loc Cert.KernelIdeal2.main_arg3) = m ((c.tc : Thread Cert.KernelIdeal2.nD Cert.KernelIdeal2.τ).loc Cert.KernelIdeal2.main_arg3))
      ∧ r.2.sem = fun _ => 0)

def quiescent_ReferenceIdeal2 [hReferenceIdeal2 : Cert.ReferenceIdeal2.Facts] : Prop :=
  ∀ (m : (ℓ : Loc Cert.ReferenceIdeal2.nD Cert.ReferenceIdeal2.τ Cert.ReferenceIdeal2.sig) → Buf (Elt Ideal) ℓ) (g : Dev Cert.ReferenceIdeal2.nD → PrngReg), Pre_ReferenceIdeal2 m →
    θ_run (Cert.ReferenceIdeal2.defs (F := Ideal)) (onTc (τ := Cert.ReferenceIdeal2.τ) (Cert.ReferenceIdeal2.main (F := Ideal))) ⟨m, fun _ => 0, g⟩ (fun r => (∀ c : Dev Cert.ReferenceIdeal2.nD,
      r.2.mem ((c.tc : Thread Cert.ReferenceIdeal2.nD Cert.ReferenceIdeal2.τ).loc Cert.ReferenceIdeal2.main_arg0) = m ((c.tc : Thread Cert.ReferenceIdeal2.nD Cert.ReferenceIdeal2.τ).loc Cert.ReferenceIdeal2.main_arg0)
      ∧ r.2.mem ((c.tc : Thread Cert.ReferenceIdeal2.nD Cert.ReferenceIdeal2.τ).loc Cert.ReferenceIdeal2.main_arg1) = m ((c.tc : Thread Cert.ReferenceIdeal2.nD Cert.ReferenceIdeal2.τ).loc Cert.ReferenceIdeal2.main_arg1)
      ∧ r.2.mem ((c.tc : Thread Cert.ReferenceIdeal2.nD Cert.ReferenceIdeal2.τ).loc Cert.ReferenceIdeal2.main_arg2) = m ((c.tc : Thread Cert.ReferenceIdeal2.nD Cert.ReferenceIdeal2.τ).loc Cert.ReferenceIdeal2.main_arg2)
      ∧ r.2.mem ((c.tc : Thread Cert.ReferenceIdeal2.nD Cert.ReferenceIdeal2.τ).loc Cert.ReferenceIdeal2.main_arg3) = m ((c.tc : Thread Cert.ReferenceIdeal2.nD Cert.ReferenceIdeal2.τ).loc Cert.ReferenceIdeal2.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_KernelIdeal3 [hKernelIdeal3 : Cert.KernelIdeal3.Facts] : Prop :=
  ∀ (m : (ℓ : Loc Cert.KernelIdeal3.nD Cert.KernelIdeal3.τ Cert.KernelIdeal3.sig) → Buf (Elt Ideal) ℓ) (g : Dev Cert.KernelIdeal3.nD → PrngReg), Pre_KernelIdeal3 m →
    θ_run (Cert.KernelIdeal3.defs (F := Ideal)) (onTc (τ := Cert.KernelIdeal3.τ) (Cert.KernelIdeal3.main (F := Ideal))) ⟨m, fun _ => 0, g⟩ (fun r => (∀ c : Dev Cert.KernelIdeal3.nD,
      r.2.mem ((c.tc : Thread Cert.KernelIdeal3.nD Cert.KernelIdeal3.τ).loc Cert.KernelIdeal3.main_arg0) = m ((c.tc : Thread Cert.KernelIdeal3.nD Cert.KernelIdeal3.τ).loc Cert.KernelIdeal3.main_arg0)
      ∧ r.2.mem ((c.tc : Thread Cert.KernelIdeal3.nD Cert.KernelIdeal3.τ).loc Cert.KernelIdeal3.main_arg1) = m ((c.tc : Thread Cert.KernelIdeal3.nD Cert.KernelIdeal3.τ).loc Cert.KernelIdeal3.main_arg1)
      ∧ r.2.mem ((c.tc : Thread Cert.KernelIdeal3.nD Cert.KernelIdeal3.τ).loc Cert.KernelIdeal3.main_arg2) = m ((c.tc : Thread Cert.KernelIdeal3.nD Cert.KernelIdeal3.τ).loc Cert.KernelIdeal3.main_arg2)
      ∧ r.2.mem ((c.tc : Thread Cert.KernelIdeal3.nD Cert.KernelIdeal3.τ).loc Cert.KernelIdeal3.main_arg3) = m ((c.tc : Thread Cert.KernelIdeal3.nD Cert.KernelIdeal3.τ).loc Cert.KernelIdeal3.main_arg3)
      ∧ r.2.mem ((c.tc : Thread Cert.KernelIdeal3.nD Cert.KernelIdeal3.τ).loc Cert.KernelIdeal3.main_arg4) = m ((c.tc : Thread Cert.KernelIdeal3.nD Cert.KernelIdeal3.τ).loc Cert.KernelIdeal3.main_arg4)
      ∧ r.2.mem ((c.tc : Thread Cert.KernelIdeal3.nD Cert.KernelIdeal3.τ).loc Cert.KernelIdeal3.main_arg5) = m ((c.tc : Thread Cert.KernelIdeal3.nD Cert.KernelIdeal3.τ).loc Cert.KernelIdeal3.main_arg5)
      ∧ r.2.mem ((c.tc : Thread Cert.KernelIdeal3.nD Cert.KernelIdeal3.τ).loc Cert.KernelIdeal3.main_arg6) = m ((c.tc : Thread Cert.KernelIdeal3.nD Cert.KernelIdeal3.τ).loc Cert.KernelIdeal3.main_arg6)
      ∧ r.2.mem ((c.tc : Thread Cert.KernelIdeal3.nD Cert.KernelIdeal3.τ).loc Cert.KernelIdeal3.main_arg7) = m ((c.tc : Thread Cert.KernelIdeal3.nD Cert.KernelIdeal3.τ).loc Cert.KernelIdeal3.main_arg7)
      ∧ r.2.mem ((c.tc : Thread Cert.KernelIdeal3.nD Cert.KernelIdeal3.τ).loc Cert.KernelIdeal3.main_arg8) = m ((c.tc : Thread Cert.KernelIdeal3.nD Cert.KernelIdeal3.τ).loc Cert.KernelIdeal3.main_arg8)
      ∧ r.2.mem ((c.tc : Thread Cert.KernelIdeal3.nD Cert.KernelIdeal3.τ).loc Cert.KernelIdeal3.main_arg9) = m ((c.tc : Thread Cert.KernelIdeal3.nD Cert.KernelIdeal3.τ).loc Cert.KernelIdeal3.main_arg9)
      ∧ r.2.mem ((c.tc : Thread Cert.KernelIdeal3.nD Cert.KernelIdeal3.τ).loc Cert.KernelIdeal3.main_arg10) = m ((c.tc : Thread Cert.KernelIdeal3.nD Cert.KernelIdeal3.τ).loc Cert.KernelIdeal3.main_arg10)
      ∧ r.2.mem ((c.tc : Thread Cert.KernelIdeal3.nD Cert.KernelIdeal3.τ).loc Cert.KernelIdeal3.main_arg11) = m ((c.tc : Thread Cert.KernelIdeal3.nD Cert.KernelIdeal3.τ).loc Cert.KernelIdeal3.main_arg11))
      ∧ r.2.sem = fun _ => 0)

def quiescent_ReferenceIdeal3 [hReferenceIdeal3 : Cert.ReferenceIdeal3.Facts] : Prop :=
  ∀ (m : (ℓ : Loc Cert.ReferenceIdeal3.nD Cert.ReferenceIdeal3.τ Cert.ReferenceIdeal3.sig) → Buf (Elt Ideal) ℓ) (g : Dev Cert.ReferenceIdeal3.nD → PrngReg), Pre_ReferenceIdeal3 m →
    θ_run (Cert.ReferenceIdeal3.defs (F := Ideal)) (onTc (τ := Cert.ReferenceIdeal3.τ) (Cert.ReferenceIdeal3.main (F := Ideal))) ⟨m, fun _ => 0, g⟩ (fun r => (∀ c : Dev Cert.ReferenceIdeal3.nD,
      r.2.mem ((c.tc : Thread Cert.ReferenceIdeal3.nD Cert.ReferenceIdeal3.τ).loc Cert.ReferenceIdeal3.main_arg0) = m ((c.tc : Thread Cert.ReferenceIdeal3.nD Cert.ReferenceIdeal3.τ).loc Cert.ReferenceIdeal3.main_arg0)
      ∧ r.2.mem ((c.tc : Thread Cert.ReferenceIdeal3.nD Cert.ReferenceIdeal3.τ).loc Cert.ReferenceIdeal3.main_arg1) = m ((c.tc : Thread Cert.ReferenceIdeal3.nD Cert.ReferenceIdeal3.τ).loc Cert.ReferenceIdeal3.main_arg1)
      ∧ r.2.mem ((c.tc : Thread Cert.ReferenceIdeal3.nD Cert.ReferenceIdeal3.τ).loc Cert.ReferenceIdeal3.main_arg2) = m ((c.tc : Thread Cert.ReferenceIdeal3.nD Cert.ReferenceIdeal3.τ).loc Cert.ReferenceIdeal3.main_arg2)
      ∧ r.2.mem ((c.tc : Thread Cert.ReferenceIdeal3.nD Cert.ReferenceIdeal3.τ).loc Cert.ReferenceIdeal3.main_arg3) = m ((c.tc : Thread Cert.ReferenceIdeal3.nD Cert.ReferenceIdeal3.τ).loc Cert.ReferenceIdeal3.main_arg3)
      ∧ r.2.mem ((c.tc : Thread Cert.ReferenceIdeal3.nD Cert.ReferenceIdeal3.τ).loc Cert.ReferenceIdeal3.main_arg4) = m ((c.tc : Thread Cert.ReferenceIdeal3.nD Cert.ReferenceIdeal3.τ).loc Cert.ReferenceIdeal3.main_arg4)
      ∧ r.2.mem ((c.tc : Thread Cert.ReferenceIdeal3.nD Cert.ReferenceIdeal3.τ).loc Cert.ReferenceIdeal3.main_arg5) = m ((c.tc : Thread Cert.ReferenceIdeal3.nD Cert.ReferenceIdeal3.τ).loc Cert.ReferenceIdeal3.main_arg5)
      ∧ r.2.mem ((c.tc : Thread Cert.ReferenceIdeal3.nD Cert.ReferenceIdeal3.τ).loc Cert.ReferenceIdeal3.main_arg6) = m ((c.tc : Thread Cert.ReferenceIdeal3.nD Cert.ReferenceIdeal3.τ).loc Cert.ReferenceIdeal3.main_arg6)
      ∧ r.2.mem ((c.tc : Thread Cert.ReferenceIdeal3.nD Cert.ReferenceIdeal3.τ).loc Cert.ReferenceIdeal3.main_arg7) = m ((c.tc : Thread Cert.ReferenceIdeal3.nD Cert.ReferenceIdeal3.τ).loc Cert.ReferenceIdeal3.main_arg7)
      ∧ r.2.mem ((c.tc : Thread Cert.ReferenceIdeal3.nD Cert.ReferenceIdeal3.τ).loc Cert.ReferenceIdeal3.main_arg8) = m ((c.tc : Thread Cert.ReferenceIdeal3.nD Cert.ReferenceIdeal3.τ).loc Cert.ReferenceIdeal3.main_arg8)
      ∧ r.2.mem ((c.tc : Thread Cert.ReferenceIdeal3.nD Cert.ReferenceIdeal3.τ).loc Cert.ReferenceIdeal3.main_arg9) = m ((c.tc : Thread Cert.ReferenceIdeal3.nD Cert.ReferenceIdeal3.τ).loc Cert.ReferenceIdeal3.main_arg9)
      ∧ r.2.mem ((c.tc : Thread Cert.ReferenceIdeal3.nD Cert.ReferenceIdeal3.τ).loc Cert.ReferenceIdeal3.main_arg10) = m ((c.tc : Thread Cert.ReferenceIdeal3.nD Cert.ReferenceIdeal3.τ).loc Cert.ReferenceIdeal3.main_arg10)
      ∧ r.2.mem ((c.tc : Thread Cert.ReferenceIdeal3.nD Cert.ReferenceIdeal3.τ).loc Cert.ReferenceIdeal3.main_arg11) = m ((c.tc : Thread Cert.ReferenceIdeal3.nD Cert.ReferenceIdeal3.τ).loc Cert.ReferenceIdeal3.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_KernelIdeal4 [hKernelIdeal4 : Cert.KernelIdeal4.Facts] : Prop :=
  ∀ (m : (ℓ : Loc Cert.KernelIdeal4.nD Cert.KernelIdeal4.τ Cert.KernelIdeal4.sig) → Buf (Elt Ideal) ℓ) (g : Dev Cert.KernelIdeal4.nD → PrngReg), Pre_KernelIdeal4 m →
    θ_run (Cert.KernelIdeal4.defs (F := Ideal)) (onTc (τ := Cert.KernelIdeal4.τ) (Cert.KernelIdeal4.main (F := Ideal))) ⟨m, fun _ => 0, g⟩ (fun r => (∀ c : Dev Cert.KernelIdeal4.nD,
      r.2.mem ((c.tc : Thread Cert.KernelIdeal4.nD Cert.KernelIdeal4.τ).loc Cert.KernelIdeal4.main_arg0) = m ((c.tc : Thread Cert.KernelIdeal4.nD Cert.KernelIdeal4.τ).loc Cert.KernelIdeal4.main_arg0)
      ∧ r.2.mem ((c.tc : Thread Cert.KernelIdeal4.nD Cert.KernelIdeal4.τ).loc Cert.KernelIdeal4.main_arg1) = m ((c.tc : Thread Cert.KernelIdeal4.nD Cert.KernelIdeal4.τ).loc Cert.KernelIdeal4.main_arg1)
      ∧ r.2.mem ((c.tc : Thread Cert.KernelIdeal4.nD Cert.KernelIdeal4.τ).loc Cert.KernelIdeal4.main_arg2) = m ((c.tc : Thread Cert.KernelIdeal4.nD Cert.KernelIdeal4.τ).loc Cert.KernelIdeal4.main_arg2)
      ∧ r.2.mem ((c.tc : Thread Cert.KernelIdeal4.nD Cert.KernelIdeal4.τ).loc Cert.KernelIdeal4.main_arg3) = m ((c.tc : Thread Cert.KernelIdeal4.nD Cert.KernelIdeal4.τ).loc Cert.KernelIdeal4.main_arg3)
      ∧ r.2.mem ((c.tc : Thread Cert.KernelIdeal4.nD Cert.KernelIdeal4.τ).loc Cert.KernelIdeal4.main_arg4) = m ((c.tc : Thread Cert.KernelIdeal4.nD Cert.KernelIdeal4.τ).loc Cert.KernelIdeal4.main_arg4)
      ∧ r.2.mem ((c.tc : Thread Cert.KernelIdeal4.nD Cert.KernelIdeal4.τ).loc Cert.KernelIdeal4.main_arg5) = m ((c.tc : Thread Cert.KernelIdeal4.nD Cert.KernelIdeal4.τ).loc Cert.KernelIdeal4.main_arg5)
      ∧ r.2.mem ((c.tc : Thread Cert.KernelIdeal4.nD Cert.KernelIdeal4.τ).loc Cert.KernelIdeal4.main_arg6) = m ((c.tc : Thread Cert.KernelIdeal4.nD Cert.KernelIdeal4.τ).loc Cert.KernelIdeal4.main_arg6)
      ∧ r.2.mem ((c.tc : Thread Cert.KernelIdeal4.nD Cert.KernelIdeal4.τ).loc Cert.KernelIdeal4.main_arg7) = m ((c.tc : Thread Cert.KernelIdeal4.nD Cert.KernelIdeal4.τ).loc Cert.KernelIdeal4.main_arg7))
      ∧ r.2.sem = fun _ => 0)

def quiescent_ReferenceIdeal4 [hReferenceIdeal4 : Cert.ReferenceIdeal4.Facts] : Prop :=
  ∀ (m : (ℓ : Loc Cert.ReferenceIdeal4.nD Cert.ReferenceIdeal4.τ Cert.ReferenceIdeal4.sig) → Buf (Elt Ideal) ℓ) (g : Dev Cert.ReferenceIdeal4.nD → PrngReg), Pre_ReferenceIdeal4 m →
    θ_run (Cert.ReferenceIdeal4.defs (F := Ideal)) (onTc (τ := Cert.ReferenceIdeal4.τ) (Cert.ReferenceIdeal4.main (F := Ideal))) ⟨m, fun _ => 0, g⟩ (fun r => (∀ c : Dev Cert.ReferenceIdeal4.nD,
      r.2.mem ((c.tc : Thread Cert.ReferenceIdeal4.nD Cert.ReferenceIdeal4.τ).loc Cert.ReferenceIdeal4.main_arg0) = m ((c.tc : Thread Cert.ReferenceIdeal4.nD Cert.ReferenceIdeal4.τ).loc Cert.ReferenceIdeal4.main_arg0)
      ∧ r.2.mem ((c.tc : Thread Cert.ReferenceIdeal4.nD Cert.ReferenceIdeal4.τ).loc Cert.ReferenceIdeal4.main_arg1) = m ((c.tc : Thread Cert.ReferenceIdeal4.nD Cert.ReferenceIdeal4.τ).loc Cert.ReferenceIdeal4.main_arg1)
      ∧ r.2.mem ((c.tc : Thread Cert.ReferenceIdeal4.nD Cert.ReferenceIdeal4.τ).loc Cert.ReferenceIdeal4.main_arg2) = m ((c.tc : Thread Cert.ReferenceIdeal4.nD Cert.ReferenceIdeal4.τ).loc Cert.ReferenceIdeal4.main_arg2)
      ∧ r.2.mem ((c.tc : Thread Cert.ReferenceIdeal4.nD Cert.ReferenceIdeal4.τ).loc Cert.ReferenceIdeal4.main_arg3) = m ((c.tc : Thread Cert.ReferenceIdeal4.nD Cert.ReferenceIdeal4.τ).loc Cert.ReferenceIdeal4.main_arg3)
      ∧ r.2.mem ((c.tc : Thread Cert.ReferenceIdeal4.nD Cert.ReferenceIdeal4.τ).loc Cert.ReferenceIdeal4.main_arg4) = m ((c.tc : Thread Cert.ReferenceIdeal4.nD Cert.ReferenceIdeal4.τ).loc Cert.ReferenceIdeal4.main_arg4)
      ∧ r.2.mem ((c.tc : Thread Cert.ReferenceIdeal4.nD Cert.ReferenceIdeal4.τ).loc Cert.ReferenceIdeal4.main_arg5) = m ((c.tc : Thread Cert.ReferenceIdeal4.nD Cert.ReferenceIdeal4.τ).loc Cert.ReferenceIdeal4.main_arg5)
      ∧ r.2.mem ((c.tc : Thread Cert.ReferenceIdeal4.nD Cert.ReferenceIdeal4.τ).loc Cert.ReferenceIdeal4.main_arg6) = m ((c.tc : Thread Cert.ReferenceIdeal4.nD Cert.ReferenceIdeal4.τ).loc Cert.ReferenceIdeal4.main_arg6)
      ∧ r.2.mem ((c.tc : Thread Cert.ReferenceIdeal4.nD Cert.ReferenceIdeal4.τ).loc Cert.ReferenceIdeal4.main_arg7) = m ((c.tc : Thread Cert.ReferenceIdeal4.nD Cert.ReferenceIdeal4.τ).loc Cert.ReferenceIdeal4.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_KernelIdeal5 [hKernelIdeal5 : Cert.KernelIdeal5.Facts] : Prop :=
  ∀ (m : (ℓ : Loc Cert.KernelIdeal5.nD Cert.KernelIdeal5.τ Cert.KernelIdeal5.sig) → Buf (Elt Ideal) ℓ) (g : Dev Cert.KernelIdeal5.nD → PrngReg), Pre_KernelIdeal5 m →
    θ_run (Cert.KernelIdeal5.defs (F := Ideal)) (onTc (τ := Cert.KernelIdeal5.τ) (Cert.KernelIdeal5.main (F := Ideal))) ⟨m, fun _ => 0, g⟩ (fun r => (∀ c : Dev Cert.KernelIdeal5.nD,
      r.2.mem ((c.tc : Thread Cert.KernelIdeal5.nD Cert.KernelIdeal5.τ).loc Cert.KernelIdeal5.main_arg0) = m ((c.tc : Thread Cert.KernelIdeal5.nD Cert.KernelIdeal5.τ).loc Cert.KernelIdeal5.main_arg0)
      ∧ r.2.mem ((c.tc : Thread Cert.KernelIdeal5.nD Cert.KernelIdeal5.τ).loc Cert.KernelIdeal5.main_arg1) = m ((c.tc : Thread Cert.KernelIdeal5.nD Cert.KernelIdeal5.τ).loc Cert.KernelIdeal5.main_arg1)
      ∧ r.2.mem ((c.tc : Thread Cert.KernelIdeal5.nD Cert.KernelIdeal5.τ).loc Cert.KernelIdeal5.main_arg2) = m ((c.tc : Thread Cert.KernelIdeal5.nD Cert.KernelIdeal5.τ).loc Cert.KernelIdeal5.main_arg2)
      ∧ r.2.mem ((c.tc : Thread Cert.KernelIdeal5.nD Cert.KernelIdeal5.τ).loc Cert.KernelIdeal5.main_arg3) = m ((c.tc : Thread Cert.KernelIdeal5.nD Cert.KernelIdeal5.τ).loc Cert.KernelIdeal5.main_arg3)
      ∧ r.2.mem ((c.tc : Thread Cert.KernelIdeal5.nD Cert.KernelIdeal5.τ).loc Cert.KernelIdeal5.main_arg4) = m ((c.tc : Thread Cert.KernelIdeal5.nD Cert.KernelIdeal5.τ).loc Cert.KernelIdeal5.main_arg4)
      ∧ r.2.mem ((c.tc : Thread Cert.KernelIdeal5.nD Cert.KernelIdeal5.τ).loc Cert.KernelIdeal5.main_arg5) = m ((c.tc : Thread Cert.KernelIdeal5.nD Cert.KernelIdeal5.τ).loc Cert.KernelIdeal5.main_arg5)
      ∧ r.2.mem ((c.tc : Thread Cert.KernelIdeal5.nD Cert.KernelIdeal5.τ).loc Cert.KernelIdeal5.main_arg6) = m ((c.tc : Thread Cert.KernelIdeal5.nD Cert.KernelIdeal5.τ).loc Cert.KernelIdeal5.main_arg6)
      ∧ r.2.mem ((c.tc : Thread Cert.KernelIdeal5.nD Cert.KernelIdeal5.τ).loc Cert.KernelIdeal5.main_arg7) = m ((c.tc : Thread Cert.KernelIdeal5.nD Cert.KernelIdeal5.τ).loc Cert.KernelIdeal5.main_arg7))
      ∧ r.2.sem = fun _ => 0)

def quiescent_KernelIdeal5_pre_logits_above_bottom [hKernelIdeal5 : Cert.KernelIdeal5.Facts] [hPre_logits_above_bottom : Cert.Pre_logits_above_bottom.Facts] : Prop :=
  ∀ (m : (ℓ : Loc Cert.KernelIdeal5.nD Cert.KernelIdeal5.τ Cert.KernelIdeal5.sig) → Buf (Elt Ideal) ℓ) (g : Dev Cert.KernelIdeal5.nD → PrngReg), Pre_KernelIdeal5_logits_above_bottom m →
    θ_run (Cert.KernelIdeal5.defs (F := Ideal)) (onTc (τ := Cert.KernelIdeal5.τ) (Cert.KernelIdeal5.main (F := Ideal))) ⟨m, fun _ => 0, g⟩ (fun r => (∀ c : Dev Cert.KernelIdeal5.nD,
      r.2.mem ((c.tc : Thread Cert.KernelIdeal5.nD Cert.KernelIdeal5.τ).loc Cert.KernelIdeal5.main_arg0) = m ((c.tc : Thread Cert.KernelIdeal5.nD Cert.KernelIdeal5.τ).loc Cert.KernelIdeal5.main_arg0)
      ∧ r.2.mem ((c.tc : Thread Cert.KernelIdeal5.nD Cert.KernelIdeal5.τ).loc Cert.KernelIdeal5.main_arg1) = m ((c.tc : Thread Cert.KernelIdeal5.nD Cert.KernelIdeal5.τ).loc Cert.KernelIdeal5.main_arg1)
      ∧ r.2.mem ((c.tc : Thread Cert.KernelIdeal5.nD Cert.KernelIdeal5.τ).loc Cert.KernelIdeal5.main_arg2) = m ((c.tc : Thread Cert.KernelIdeal5.nD Cert.KernelIdeal5.τ).loc Cert.KernelIdeal5.main_arg2)
      ∧ r.2.mem ((c.tc : Thread Cert.KernelIdeal5.nD Cert.KernelIdeal5.τ).loc Cert.KernelIdeal5.main_arg3) = m ((c.tc : Thread Cert.KernelIdeal5.nD Cert.KernelIdeal5.τ).loc Cert.KernelIdeal5.main_arg3)
      ∧ r.2.mem ((c.tc : Thread Cert.KernelIdeal5.nD Cert.KernelIdeal5.τ).loc Cert.KernelIdeal5.main_arg4) = m ((c.tc : Thread Cert.KernelIdeal5.nD Cert.KernelIdeal5.τ).loc Cert.KernelIdeal5.main_arg4)
      ∧ r.2.mem ((c.tc : Thread Cert.KernelIdeal5.nD Cert.KernelIdeal5.τ).loc Cert.KernelIdeal5.main_arg5) = m ((c.tc : Thread Cert.KernelIdeal5.nD Cert.KernelIdeal5.τ).loc Cert.KernelIdeal5.main_arg5)
      ∧ r.2.mem ((c.tc : Thread Cert.KernelIdeal5.nD Cert.KernelIdeal5.τ).loc Cert.KernelIdeal5.main_arg6) = m ((c.tc : Thread Cert.KernelIdeal5.nD Cert.KernelIdeal5.τ).loc Cert.KernelIdeal5.main_arg6)
      ∧ r.2.mem ((c.tc : Thread Cert.KernelIdeal5.nD Cert.KernelIdeal5.τ).loc Cert.KernelIdeal5.main_arg7) = m ((c.tc : Thread Cert.KernelIdeal5.nD Cert.KernelIdeal5.τ).loc Cert.KernelIdeal5.main_arg7))
      ∧ r.2.sem = fun _ => 0)

def quiescent_ReferenceIdeal5 [hReferenceIdeal5 : Cert.ReferenceIdeal5.Facts] : Prop :=
  ∀ (m : (ℓ : Loc Cert.ReferenceIdeal5.nD Cert.ReferenceIdeal5.τ Cert.ReferenceIdeal5.sig) → Buf (Elt Ideal) ℓ) (g : Dev Cert.ReferenceIdeal5.nD → PrngReg), Pre_ReferenceIdeal5 m →
    θ_run (Cert.ReferenceIdeal5.defs (F := Ideal)) (onTc (τ := Cert.ReferenceIdeal5.τ) (Cert.ReferenceIdeal5.main (F := Ideal))) ⟨m, fun _ => 0, g⟩ (fun r => (∀ c : Dev Cert.ReferenceIdeal5.nD,
      r.2.mem ((c.tc : Thread Cert.ReferenceIdeal5.nD Cert.ReferenceIdeal5.τ).loc Cert.ReferenceIdeal5.main_arg0) = m ((c.tc : Thread Cert.ReferenceIdeal5.nD Cert.ReferenceIdeal5.τ).loc Cert.ReferenceIdeal5.main_arg0)
      ∧ r.2.mem ((c.tc : Thread Cert.ReferenceIdeal5.nD Cert.ReferenceIdeal5.τ).loc Cert.ReferenceIdeal5.main_arg1) = m ((c.tc : Thread Cert.ReferenceIdeal5.nD Cert.ReferenceIdeal5.τ).loc Cert.ReferenceIdeal5.main_arg1)
      ∧ r.2.mem ((c.tc : Thread Cert.ReferenceIdeal5.nD Cert.ReferenceIdeal5.τ).loc Cert.ReferenceIdeal5.main_arg2) = m ((c.tc : Thread Cert.ReferenceIdeal5.nD Cert.ReferenceIdeal5.τ).loc Cert.ReferenceIdeal5.main_arg2)
      ∧ r.2.mem ((c.tc : Thread Cert.ReferenceIdeal5.nD Cert.ReferenceIdeal5.τ).loc Cert.ReferenceIdeal5.main_arg3) = m ((c.tc : Thread Cert.ReferenceIdeal5.nD Cert.ReferenceIdeal5.τ).loc Cert.ReferenceIdeal5.main_arg3)
      ∧ r.2.mem ((c.tc : Thread Cert.ReferenceIdeal5.nD Cert.ReferenceIdeal5.τ).loc Cert.ReferenceIdeal5.main_arg4) = m ((c.tc : Thread Cert.ReferenceIdeal5.nD Cert.ReferenceIdeal5.τ).loc Cert.ReferenceIdeal5.main_arg4)
      ∧ r.2.mem ((c.tc : Thread Cert.ReferenceIdeal5.nD Cert.ReferenceIdeal5.τ).loc Cert.ReferenceIdeal5.main_arg5) = m ((c.tc : Thread Cert.ReferenceIdeal5.nD Cert.ReferenceIdeal5.τ).loc Cert.ReferenceIdeal5.main_arg5)
      ∧ r.2.mem ((c.tc : Thread Cert.ReferenceIdeal5.nD Cert.ReferenceIdeal5.τ).loc Cert.ReferenceIdeal5.main_arg6) = m ((c.tc : Thread Cert.ReferenceIdeal5.nD Cert.ReferenceIdeal5.τ).loc Cert.ReferenceIdeal5.main_arg6)
      ∧ r.2.mem ((c.tc : Thread Cert.ReferenceIdeal5.nD Cert.ReferenceIdeal5.τ).loc Cert.ReferenceIdeal5.main_arg7) = m ((c.tc : Thread Cert.ReferenceIdeal5.nD Cert.ReferenceIdeal5.τ).loc Cert.ReferenceIdeal5.main_arg7))
      ∧ r.2.sem = fun _ => 0)

def quiescent_ReferenceIdeal5_pre_logits_above_bottom [hReferenceIdeal5 : Cert.ReferenceIdeal5.Facts] [hPre_logits_above_bottom : Cert.Pre_logits_above_bottom.Facts] : Prop :=
  ∀ (m : (ℓ : Loc Cert.ReferenceIdeal5.nD Cert.ReferenceIdeal5.τ Cert.ReferenceIdeal5.sig) → Buf (Elt Ideal) ℓ) (g : Dev Cert.ReferenceIdeal5.nD → PrngReg), Pre_ReferenceIdeal5_logits_above_bottom m →
    θ_run (Cert.ReferenceIdeal5.defs (F := Ideal)) (onTc (τ := Cert.ReferenceIdeal5.τ) (Cert.ReferenceIdeal5.main (F := Ideal))) ⟨m, fun _ => 0, g⟩ (fun r => (∀ c : Dev Cert.ReferenceIdeal5.nD,
      r.2.mem ((c.tc : Thread Cert.ReferenceIdeal5.nD Cert.ReferenceIdeal5.τ).loc Cert.ReferenceIdeal5.main_arg0) = m ((c.tc : Thread Cert.ReferenceIdeal5.nD Cert.ReferenceIdeal5.τ).loc Cert.ReferenceIdeal5.main_arg0)
      ∧ r.2.mem ((c.tc : Thread Cert.ReferenceIdeal5.nD Cert.ReferenceIdeal5.τ).loc Cert.ReferenceIdeal5.main_arg1) = m ((c.tc : Thread Cert.ReferenceIdeal5.nD Cert.ReferenceIdeal5.τ).loc Cert.ReferenceIdeal5.main_arg1)
      ∧ r.2.mem ((c.tc : Thread Cert.ReferenceIdeal5.nD Cert.ReferenceIdeal5.τ).loc Cert.ReferenceIdeal5.main_arg2) = m ((c.tc : Thread Cert.ReferenceIdeal5.nD Cert.ReferenceIdeal5.τ).loc Cert.ReferenceIdeal5.main_arg2)
      ∧ r.2.mem ((c.tc : Thread Cert.ReferenceIdeal5.nD Cert.ReferenceIdeal5.τ).loc Cert.ReferenceIdeal5.main_arg3) = m ((c.tc : Thread Cert.ReferenceIdeal5.nD Cert.ReferenceIdeal5.τ).loc Cert.ReferenceIdeal5.main_arg3)
      ∧ r.2.mem ((c.tc : Thread Cert.ReferenceIdeal5.nD Cert.ReferenceIdeal5.τ).loc Cert.ReferenceIdeal5.main_arg4) = m ((c.tc : Thread Cert.ReferenceIdeal5.nD Cert.ReferenceIdeal5.τ).loc Cert.ReferenceIdeal5.main_arg4)
      ∧ r.2.mem ((c.tc : Thread Cert.ReferenceIdeal5.nD Cert.ReferenceIdeal5.τ).loc Cert.ReferenceIdeal5.main_arg5) = m ((c.tc : Thread Cert.ReferenceIdeal5.nD Cert.ReferenceIdeal5.τ).loc Cert.ReferenceIdeal5.main_arg5)
      ∧ r.2.mem ((c.tc : Thread Cert.ReferenceIdeal5.nD Cert.ReferenceIdeal5.τ).loc Cert.ReferenceIdeal5.main_arg6) = m ((c.tc : Thread Cert.ReferenceIdeal5.nD Cert.ReferenceIdeal5.τ).loc Cert.ReferenceIdeal5.main_arg6)
      ∧ r.2.mem ((c.tc : Thread Cert.ReferenceIdeal5.nD Cert.ReferenceIdeal5.τ).loc Cert.ReferenceIdeal5.main_arg7) = m ((c.tc : Thread Cert.ReferenceIdeal5.nD Cert.ReferenceIdeal5.τ).loc Cert.ReferenceIdeal5.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_KernelIdeal2 : Prop :=
  True

def algebraic_KernelIdeal2_ReferenceIdeal2 [hKernelIdeal2 : Cert.KernelIdeal2.Facts] [hReferenceIdeal2 : Cert.ReferenceIdeal2.Facts] : Prop :=
  ∀ (m : (ℓ : Loc Cert.KernelIdeal2.nD Cert.KernelIdeal2.τ Cert.KernelIdeal2.sig) → Buf (Elt Ideal) ℓ) (g : Dev Cert.KernelIdeal2.nD → PrngReg)
    (m' : (ℓ : Loc Cert.ReferenceIdeal2.nD Cert.ReferenceIdeal2.τ Cert.ReferenceIdeal2.sig) → Buf (Elt Ideal) ℓ) (g' : Dev Cert.ReferenceIdeal2.nD → PrngReg), Pre_KernelIdeal2 m →
    (∀ c : Dev Cert.KernelIdeal2.nD,
      m' ((c.tc : Thread Cert.ReferenceIdeal2.nD Cert.ReferenceIdeal2.τ).loc Cert.ReferenceIdeal2.main_arg0) = m ((c.tc : Thread Cert.KernelIdeal2.nD Cert.KernelIdeal2.τ).loc Cert.KernelIdeal2.main_arg0)
      ∧ m' ((c.tc : Thread Cert.ReferenceIdeal2.nD Cert.ReferenceIdeal2.τ).loc Cert.ReferenceIdeal2.main_arg1) = m ((c.tc : Thread Cert.KernelIdeal2.nD Cert.KernelIdeal2.τ).loc Cert.KernelIdeal2.main_arg1)
      ∧ m' ((c.tc : Thread Cert.ReferenceIdeal2.nD Cert.ReferenceIdeal2.τ).loc Cert.ReferenceIdeal2.main_arg2) = m ((c.tc : Thread Cert.KernelIdeal2.nD Cert.KernelIdeal2.τ).loc Cert.KernelIdeal2.main_arg2)
      ∧ m' ((c.tc : Thread Cert.ReferenceIdeal2.nD Cert.ReferenceIdeal2.τ).loc Cert.ReferenceIdeal2.main_arg3) = m ((c.tc : Thread Cert.KernelIdeal2.nD Cert.KernelIdeal2.τ).loc Cert.KernelIdeal2.main_arg3)) →
    ∃ (v0 : (c : Dev Cert.KernelIdeal2.nD) → Buf (Elt Ideal) ((c.tc : Thread Cert.KernelIdeal2.nD Cert.KernelIdeal2.τ).loc Cert.KernelIdeal2.main_v2)),
      θ_run (Cert.KernelIdeal2.defs (F := Ideal)) (onTc (τ := Cert.KernelIdeal2.τ) (Cert.KernelIdeal2.main (F := Ideal))) ⟨m, fun _ => 0, g⟩ (fun r => ∀ c : Dev Cert.KernelIdeal2.nD,
          r.2.mem ((c.tc : Thread Cert.KernelIdeal2.nD Cert.KernelIdeal2.τ).loc Cert.KernelIdeal2.main_v2) = v0 c
          ∧ r.2.mem ((c.tc : Thread Cert.KernelIdeal2.nD Cert.KernelIdeal2.τ).loc Cert.KernelIdeal2.main_arg0) = m ((c.tc : Thread Cert.KernelIdeal2.nD Cert.KernelIdeal2.τ).loc Cert.KernelIdeal2.main_arg0)
          ∧ r.2.mem ((c.tc : Thread Cert.KernelIdeal2.nD Cert.KernelIdeal2.τ).loc Cert.KernelIdeal2.main_arg1) = m ((c.tc : Thread Cert.KernelIdeal2.nD Cert.KernelIdeal2.τ).loc Cert.KernelIdeal2.main_arg1)
          ∧ r.2.mem ((c.tc : Thread Cert.KernelIdeal2.nD Cert.KernelIdeal2.τ).loc Cert.KernelIdeal2.main_arg2) = m ((c.tc : Thread Cert.KernelIdeal2.nD Cert.KernelIdeal2.τ).loc Cert.KernelIdeal2.main_arg2)
          ∧ r.2.mem ((c.tc : Thread Cert.KernelIdeal2.nD Cert.KernelIdeal2.τ).loc Cert.KernelIdeal2.main_arg3) = m ((c.tc : Thread Cert.KernelIdeal2.nD Cert.KernelIdeal2.τ).loc Cert.KernelIdeal2.main_arg3))
      ∧ θ_run (Cert.ReferenceIdeal2.defs (F := Ideal)) (onTc (τ := Cert.ReferenceIdeal2.τ) (Cert.ReferenceIdeal2.main (F := Ideal))) ⟨m', fun _ => 0, g'⟩ (fun r => ∀ c : Dev Cert.ReferenceIdeal2.nD,
          r.2.mem ((c.tc : Thread Cert.ReferenceIdeal2.nD Cert.ReferenceIdeal2.τ).loc Cert.ReferenceIdeal2.main_v44) = v0 c
          ∧ r.2.mem ((c.tc : Thread Cert.ReferenceIdeal2.nD Cert.ReferenceIdeal2.τ).loc Cert.ReferenceIdeal2.main_arg0) = m' ((c.tc : Thread Cert.ReferenceIdeal2.nD Cert.ReferenceIdeal2.τ).loc Cert.ReferenceIdeal2.main_arg0)
          ∧ r.2.mem ((c.tc : Thread Cert.ReferenceIdeal2.nD Cert.ReferenceIdeal2.τ).loc Cert.ReferenceIdeal2.main_arg1) = m' ((c.tc : Thread Cert.ReferenceIdeal2.nD Cert.ReferenceIdeal2.τ).loc Cert.ReferenceIdeal2.main_arg1)
          ∧ r.2.mem ((c.tc : Thread Cert.ReferenceIdeal2.nD Cert.ReferenceIdeal2.τ).loc Cert.ReferenceIdeal2.main_arg2) = m' ((c.tc : Thread Cert.ReferenceIdeal2.nD Cert.ReferenceIdeal2.τ).loc Cert.ReferenceIdeal2.main_arg2)
          ∧ r.2.mem ((c.tc : Thread Cert.ReferenceIdeal2.nD Cert.ReferenceIdeal2.τ).loc Cert.ReferenceIdeal2.main_arg3) = m' ((c.tc : Thread Cert.ReferenceIdeal2.nD Cert.ReferenceIdeal2.τ).loc Cert.ReferenceIdeal2.main_arg3))

def preserves_Kernel3_KernelIdeal3 : Prop :=
  True

def algebraic_KernelIdeal3_ReferenceIdeal3 [hKernelIdeal3 : Cert.KernelIdeal3.Facts] [hReferenceIdeal3 : Cert.ReferenceIdeal3.Facts] : Prop :=
  ∀ (m : (ℓ : Loc Cert.KernelIdeal3.nD Cert.KernelIdeal3.τ Cert.KernelIdeal3.sig) → Buf (Elt Ideal) ℓ) (g : Dev Cert.KernelIdeal3.nD → PrngReg)
    (m' : (ℓ : Loc Cert.ReferenceIdeal3.nD Cert.ReferenceIdeal3.τ Cert.ReferenceIdeal3.sig) → Buf (Elt Ideal) ℓ) (g' : Dev Cert.ReferenceIdeal3.nD → PrngReg), Pre_KernelIdeal3 m →
    (∀ c : Dev Cert.KernelIdeal3.nD,
      m' ((c.tc : Thread Cert.ReferenceIdeal3.nD Cert.ReferenceIdeal3.τ).loc Cert.ReferenceIdeal3.main_arg0) = m ((c.tc : Thread Cert.KernelIdeal3.nD Cert.KernelIdeal3.τ).loc Cert.KernelIdeal3.main_arg0)
      ∧ m' ((c.tc : Thread Cert.ReferenceIdeal3.nD Cert.ReferenceIdeal3.τ).loc Cert.ReferenceIdeal3.main_arg1) = m ((c.tc : Thread Cert.KernelIdeal3.nD Cert.KernelIdeal3.τ).loc Cert.KernelIdeal3.main_arg1)
      ∧ m' ((c.tc : Thread Cert.ReferenceIdeal3.nD Cert.ReferenceIdeal3.τ).loc Cert.ReferenceIdeal3.main_arg2) = m ((c.tc : Thread Cert.KernelIdeal3.nD Cert.KernelIdeal3.τ).loc Cert.KernelIdeal3.main_arg2)
      ∧ m' ((c.tc : Thread Cert.ReferenceIdeal3.nD Cert.ReferenceIdeal3.τ).loc Cert.ReferenceIdeal3.main_arg3) = m ((c.tc : Thread Cert.KernelIdeal3.nD Cert.KernelIdeal3.τ).loc Cert.KernelIdeal3.main_arg3)
      ∧ m' ((c.tc : Thread Cert.ReferenceIdeal3.nD Cert.ReferenceIdeal3.τ).loc Cert.ReferenceIdeal3.main_arg4) = m ((c.tc : Thread Cert.KernelIdeal3.nD Cert.KernelIdeal3.τ).loc Cert.KernelIdeal3.main_arg4)
      ∧ m' ((c.tc : Thread Cert.ReferenceIdeal3.nD Cert.ReferenceIdeal3.τ).loc Cert.ReferenceIdeal3.main_arg5) = m ((c.tc : Thread Cert.KernelIdeal3.nD Cert.KernelIdeal3.τ).loc Cert.KernelIdeal3.main_arg5)
      ∧ m' ((c.tc : Thread Cert.ReferenceIdeal3.nD Cert.ReferenceIdeal3.τ).loc Cert.ReferenceIdeal3.main_arg6) = m ((c.tc : Thread Cert.KernelIdeal3.nD Cert.KernelIdeal3.τ).loc Cert.KernelIdeal3.main_arg6)
      ∧ m' ((c.tc : Thread Cert.ReferenceIdeal3.nD Cert.ReferenceIdeal3.τ).loc Cert.ReferenceIdeal3.main_arg7) = m ((c.tc : Thread Cert.KernelIdeal3.nD Cert.KernelIdeal3.τ).loc Cert.KernelIdeal3.main_arg7)
      ∧ m' ((c.tc : Thread Cert.ReferenceIdeal3.nD Cert.ReferenceIdeal3.τ).loc Cert.ReferenceIdeal3.main_arg8) = m ((c.tc : Thread Cert.KernelIdeal3.nD Cert.KernelIdeal3.τ).loc Cert.KernelIdeal3.main_arg8)
      ∧ m' ((c.tc : Thread Cert.ReferenceIdeal3.nD Cert.ReferenceIdeal3.τ).loc Cert.ReferenceIdeal3.main_arg9) = m ((c.tc : Thread Cert.KernelIdeal3.nD Cert.KernelIdeal3.τ).loc Cert.KernelIdeal3.main_arg9)
      ∧ m' ((c.tc : Thread Cert.ReferenceIdeal3.nD Cert.ReferenceIdeal3.τ).loc Cert.ReferenceIdeal3.main_arg10) = m ((c.tc : Thread Cert.KernelIdeal3.nD Cert.KernelIdeal3.τ).loc Cert.KernelIdeal3.main_arg10)
      ∧ m' ((c.tc : Thread Cert.ReferenceIdeal3.nD Cert.ReferenceIdeal3.τ).loc Cert.ReferenceIdeal3.main_arg11) = m ((c.tc : Thread Cert.KernelIdeal3.nD Cert.KernelIdeal3.τ).loc Cert.KernelIdeal3.main_arg11)) →
    ∃ (v0 : (c : Dev Cert.KernelIdeal3.nD) → Buf (Elt Ideal) ((c.tc : Thread Cert.KernelIdeal3.nD Cert.KernelIdeal3.τ).loc Cert.KernelIdeal3.main_v63_0)) (v1 : (c : Dev Cert.KernelIdeal3.nD) → Buf (Elt Ideal) ((c.tc : Thread Cert.KernelIdeal3.nD Cert.KernelIdeal3.τ).loc Cert.KernelIdeal3.main_v63_1)) (v2 : (c : Dev Cert.KernelIdeal3.nD) → Buf (Elt Ideal) ((c.tc : Thread Cert.KernelIdeal3.nD Cert.KernelIdeal3.τ).loc Cert.KernelIdeal3.main_v63_2)) (v3 : (c : Dev Cert.KernelIdeal3.nD) → Buf (Elt Ideal) ((c.tc : Thread Cert.KernelIdeal3.nD Cert.KernelIdeal3.τ).loc Cert.KernelIdeal3.main_v63_3)),
      θ_run (Cert.KernelIdeal3.defs (F := Ideal)) (onTc (τ := Cert.KernelIdeal3.τ) (Cert.KernelIdeal3.main (F := Ideal))) ⟨m, fun _ => 0, g⟩ (fun r => ∀ c : Dev Cert.KernelIdeal3.nD,
          r.2.mem ((c.tc : Thread Cert.KernelIdeal3.nD Cert.KernelIdeal3.τ).loc Cert.KernelIdeal3.main_v63_0) = v0 c
          ∧ r.2.mem ((c.tc : Thread Cert.KernelIdeal3.nD Cert.KernelIdeal3.τ).loc Cert.KernelIdeal3.main_v63_1) = v1 c
          ∧ r.2.mem ((c.tc : Thread Cert.KernelIdeal3.nD Cert.KernelIdeal3.τ).loc Cert.KernelIdeal3.main_v63_2) = v2 c
          ∧ r.2.mem ((c.tc : Thread Cert.KernelIdeal3.nD Cert.KernelIdeal3.τ).loc Cert.KernelIdeal3.main_v63_3) = v3 c
          ∧ r.2.mem ((c.tc : Thread Cert.KernelIdeal3.nD Cert.KernelIdeal3.τ).loc Cert.KernelIdeal3.main_arg0) = m ((c.tc : Thread Cert.KernelIdeal3.nD Cert.KernelIdeal3.τ).loc Cert.KernelIdeal3.main_arg0)
          ∧ r.2.mem ((c.tc : Thread Cert.KernelIdeal3.nD Cert.KernelIdeal3.τ).loc Cert.KernelIdeal3.main_arg1) = m ((c.tc : Thread Cert.KernelIdeal3.nD Cert.KernelIdeal3.τ).loc Cert.KernelIdeal3.main_arg1)
          ∧ r.2.mem ((c.tc : Thread Cert.KernelIdeal3.nD Cert.KernelIdeal3.τ).loc Cert.KernelIdeal3.main_arg2) = m ((c.tc : Thread Cert.KernelIdeal3.nD Cert.KernelIdeal3.τ).loc Cert.KernelIdeal3.main_arg2)
          ∧ r.2.mem ((c.tc : Thread Cert.KernelIdeal3.nD Cert.KernelIdeal3.τ).loc Cert.KernelIdeal3.main_arg3) = m ((c.tc : Thread Cert.KernelIdeal3.nD Cert.KernelIdeal3.τ).loc Cert.KernelIdeal3.main_arg3)
          ∧ r.2.mem ((c.tc : Thread Cert.KernelIdeal3.nD Cert.KernelIdeal3.τ).loc Cert.KernelIdeal3.main_arg4) = m ((c.tc : Thread Cert.KernelIdeal3.nD Cert.KernelIdeal3.τ).loc Cert.KernelIdeal3.main_arg4)
          ∧ r.2.mem ((c.tc : Thread Cert.KernelIdeal3.nD Cert.KernelIdeal3.τ).loc Cert.KernelIdeal3.main_arg5) = m ((c.tc : Thread Cert.KernelIdeal3.nD Cert.KernelIdeal3.τ).loc Cert.KernelIdeal3.main_arg5)
          ∧ r.2.mem ((c.tc : Thread Cert.KernelIdeal3.nD Cert.KernelIdeal3.τ).loc Cert.KernelIdeal3.main_arg6) = m ((c.tc : Thread Cert.KernelIdeal3.nD Cert.KernelIdeal3.τ).loc Cert.KernelIdeal3.main_arg6)
          ∧ r.2.mem ((c.tc : Thread Cert.KernelIdeal3.nD Cert.KernelIdeal3.τ).loc Cert.KernelIdeal3.main_arg7) = m ((c.tc : Thread Cert.KernelIdeal3.nD Cert.KernelIdeal3.τ).loc Cert.KernelIdeal3.main_arg7)
          ∧ r.2.mem ((c.tc : Thread Cert.KernelIdeal3.nD Cert.KernelIdeal3.τ).loc Cert.KernelIdeal3.main_arg8) = m ((c.tc : Thread Cert.KernelIdeal3.nD Cert.KernelIdeal3.τ).loc Cert.KernelIdeal3.main_arg8)
          ∧ r.2.mem ((c.tc : Thread Cert.KernelIdeal3.nD Cert.KernelIdeal3.τ).loc Cert.KernelIdeal3.main_arg9) = m ((c.tc : Thread Cert.KernelIdeal3.nD Cert.KernelIdeal3.τ).loc Cert.KernelIdeal3.main_arg9)
          ∧ r.2.mem ((c.tc : Thread Cert.KernelIdeal3.nD Cert.KernelIdeal3.τ).loc Cert.KernelIdeal3.main_arg10) = m ((c.tc : Thread Cert.KernelIdeal3.nD Cert.KernelIdeal3.τ).loc Cert.KernelIdeal3.main_arg10)
          ∧ r.2.mem ((c.tc : Thread Cert.KernelIdeal3.nD Cert.KernelIdeal3.τ).loc Cert.KernelIdeal3.main_arg11) = m ((c.tc : Thread Cert.KernelIdeal3.nD Cert.KernelIdeal3.τ).loc Cert.KernelIdeal3.main_arg11))
      ∧ θ_run (Cert.ReferenceIdeal3.defs (F := Ideal)) (onTc (τ := Cert.ReferenceIdeal3.τ) (Cert.ReferenceIdeal3.main (F := Ideal))) ⟨m', fun _ => 0, g'⟩ (fun r => ∀ c : Dev Cert.ReferenceIdeal3.nD,
          r.2.mem ((c.tc : Thread Cert.ReferenceIdeal3.nD Cert.ReferenceIdeal3.τ).loc Cert.ReferenceIdeal3.main_v182) = v0 c
          ∧ r.2.mem ((c.tc : Thread Cert.ReferenceIdeal3.nD Cert.ReferenceIdeal3.τ).loc Cert.ReferenceIdeal3.main_v185) = v1 c
          ∧ r.2.mem ((c.tc : Thread Cert.ReferenceIdeal3.nD Cert.ReferenceIdeal3.τ).loc Cert.ReferenceIdeal3.main_v114) = v2 c
          ∧ r.2.mem ((c.tc : Thread Cert.ReferenceIdeal3.nD Cert.ReferenceIdeal3.τ).loc Cert.ReferenceIdeal3.main_v179) = v3 c
          ∧ r.2.mem ((c.tc : Thread Cert.ReferenceIdeal3.nD Cert.ReferenceIdeal3.τ).loc Cert.ReferenceIdeal3.main_arg0) = m' ((c.tc : Thread Cert.ReferenceIdeal3.nD Cert.ReferenceIdeal3.τ).loc Cert.ReferenceIdeal3.main_arg0)
          ∧ r.2.mem ((c.tc : Thread Cert.ReferenceIdeal3.nD Cert.ReferenceIdeal3.τ).loc Cert.ReferenceIdeal3.main_arg1) = m' ((c.tc : Thread Cert.ReferenceIdeal3.nD Cert.ReferenceIdeal3.τ).loc Cert.ReferenceIdeal3.main_arg1)
          ∧ r.2.mem ((c.tc : Thread Cert.ReferenceIdeal3.nD Cert.ReferenceIdeal3.τ).loc Cert.ReferenceIdeal3.main_arg2) = m' ((c.tc : Thread Cert.ReferenceIdeal3.nD Cert.ReferenceIdeal3.τ).loc Cert.ReferenceIdeal3.main_arg2)
          ∧ r.2.mem ((c.tc : Thread Cert.ReferenceIdeal3.nD Cert.ReferenceIdeal3.τ).loc Cert.ReferenceIdeal3.main_arg3) = m' ((c.tc : Thread Cert.ReferenceIdeal3.nD Cert.ReferenceIdeal3.τ).loc Cert.ReferenceIdeal3.main_arg3)
          ∧ r.2.mem ((c.tc : Thread Cert.ReferenceIdeal3.nD Cert.ReferenceIdeal3.τ).loc Cert.ReferenceIdeal3.main_arg4) = m' ((c.tc : Thread Cert.ReferenceIdeal3.nD Cert.ReferenceIdeal3.τ).loc Cert.ReferenceIdeal3.main_arg4)
          ∧ r.2.mem ((c.tc : Thread Cert.ReferenceIdeal3.nD Cert.ReferenceIdeal3.τ).loc Cert.ReferenceIdeal3.main_arg5) = m' ((c.tc : Thread Cert.ReferenceIdeal3.nD Cert.ReferenceIdeal3.τ).loc Cert.ReferenceIdeal3.main_arg5)
          ∧ r.2.mem ((c.tc : Thread Cert.ReferenceIdeal3.nD Cert.ReferenceIdeal3.τ).loc Cert.ReferenceIdeal3.main_arg6) = m' ((c.tc : Thread Cert.ReferenceIdeal3.nD Cert.ReferenceIdeal3.τ).loc Cert.ReferenceIdeal3.main_arg6)
          ∧ r.2.mem ((c.tc : Thread Cert.ReferenceIdeal3.nD Cert.ReferenceIdeal3.τ).loc Cert.ReferenceIdeal3.main_arg7) = m' ((c.tc : Thread Cert.ReferenceIdeal3.nD Cert.ReferenceIdeal3.τ).loc Cert.ReferenceIdeal3.main_arg7)
          ∧ r.2.mem ((c.tc : Thread Cert.ReferenceIdeal3.nD Cert.ReferenceIdeal3.τ).loc Cert.ReferenceIdeal3.main_arg8) = m' ((c.tc : Thread Cert.ReferenceIdeal3.nD Cert.ReferenceIdeal3.τ).loc Cert.ReferenceIdeal3.main_arg8)
          ∧ r.2.mem ((c.tc : Thread Cert.ReferenceIdeal3.nD Cert.ReferenceIdeal3.τ).loc Cert.ReferenceIdeal3.main_arg9) = m' ((c.tc : Thread Cert.ReferenceIdeal3.nD Cert.ReferenceIdeal3.τ).loc Cert.ReferenceIdeal3.main_arg9)
          ∧ r.2.mem ((c.tc : Thread Cert.ReferenceIdeal3.nD Cert.ReferenceIdeal3.τ).loc Cert.ReferenceIdeal3.main_arg10) = m' ((c.tc : Thread Cert.ReferenceIdeal3.nD Cert.ReferenceIdeal3.τ).loc Cert.ReferenceIdeal3.main_arg10)
          ∧ r.2.mem ((c.tc : Thread Cert.ReferenceIdeal3.nD Cert.ReferenceIdeal3.τ).loc Cert.ReferenceIdeal3.main_arg11) = m' ((c.tc : Thread Cert.ReferenceIdeal3.nD Cert.ReferenceIdeal3.τ).loc Cert.ReferenceIdeal3.main_arg11))

def preserves_Kernel4_KernelIdeal4 : Prop :=
  IdealRules.bf16_pair.BufferStatement Cert.KernelIdeal4.S16384x2x512 Cert.KernelIdeal4.S16384x1x512
  ∧ IdealRules.bf16_pair.BufferStatement Cert.KernelIdeal4.S1024x2x512 Cert.KernelIdeal4.S1024x1x512
  ∧ IdealRules.bf16_pair.PackStatement Cert.KernelIdeal4.S1024x512
  ∧ IdealRules.bf16_pair.Statement Cert.KernelIdeal4.S1024x2x512 Cert.KernelIdeal4.S1024x1x512

def algebraic_KernelIdeal4_ReferenceIdeal4 [hKernelIdeal4 : Cert.KernelIdeal4.Facts] [hReferenceIdeal4 : Cert.ReferenceIdeal4.Facts] : Prop :=
  ∀ (m : (ℓ : Loc Cert.KernelIdeal4.nD Cert.KernelIdeal4.τ Cert.KernelIdeal4.sig) → Buf (Elt Ideal) ℓ) (g : Dev Cert.KernelIdeal4.nD → PrngReg)
    (m' : (ℓ : Loc Cert.ReferenceIdeal4.nD Cert.ReferenceIdeal4.τ Cert.ReferenceIdeal4.sig) → Buf (Elt Ideal) ℓ) (g' : Dev Cert.ReferenceIdeal4.nD → PrngReg), Pre_KernelIdeal4 m →
    (∀ c : Dev Cert.KernelIdeal4.nD,
      m' ((c.tc : Thread Cert.ReferenceIdeal4.nD Cert.ReferenceIdeal4.τ).loc Cert.ReferenceIdeal4.main_arg0) = m ((c.tc : Thread Cert.KernelIdeal4.nD Cert.KernelIdeal4.τ).loc Cert.KernelIdeal4.main_arg0)
      ∧ m' ((c.tc : Thread Cert.ReferenceIdeal4.nD Cert.ReferenceIdeal4.τ).loc Cert.ReferenceIdeal4.main_arg1) = m ((c.tc : Thread Cert.KernelIdeal4.nD Cert.KernelIdeal4.τ).loc Cert.KernelIdeal4.main_arg1)
      ∧ m' ((c.tc : Thread Cert.ReferenceIdeal4.nD Cert.ReferenceIdeal4.τ).loc Cert.ReferenceIdeal4.main_arg2) = m ((c.tc : Thread Cert.KernelIdeal4.nD Cert.KernelIdeal4.τ).loc Cert.KernelIdeal4.main_arg2)
      ∧ m' ((c.tc : Thread Cert.ReferenceIdeal4.nD Cert.ReferenceIdeal4.τ).loc Cert.ReferenceIdeal4.main_arg3) = m ((c.tc : Thread Cert.KernelIdeal4.nD Cert.KernelIdeal4.τ).loc Cert.KernelIdeal4.main_arg3)
      ∧ m' ((c.tc : Thread Cert.ReferenceIdeal4.nD Cert.ReferenceIdeal4.τ).loc Cert.ReferenceIdeal4.main_arg4) = m ((c.tc : Thread Cert.KernelIdeal4.nD Cert.KernelIdeal4.τ).loc Cert.KernelIdeal4.main_arg4)
      ∧ m' ((c.tc : Thread Cert.ReferenceIdeal4.nD Cert.ReferenceIdeal4.τ).loc Cert.ReferenceIdeal4.main_arg5) = m ((c.tc : Thread Cert.KernelIdeal4.nD Cert.KernelIdeal4.τ).loc Cert.KernelIdeal4.main_arg5)
      ∧ m' ((c.tc : Thread Cert.ReferenceIdeal4.nD Cert.ReferenceIdeal4.τ).loc Cert.ReferenceIdeal4.main_arg6) = m ((c.tc : Thread Cert.KernelIdeal4.nD Cert.KernelIdeal4.τ).loc Cert.KernelIdeal4.main_arg6)
      ∧ m' ((c.tc : Thread Cert.ReferenceIdeal4.nD Cert.ReferenceIdeal4.τ).loc Cert.ReferenceIdeal4.main_arg7) = m ((c.tc : Thread Cert.KernelIdeal4.nD Cert.KernelIdeal4.τ).loc Cert.KernelIdeal4.main_arg7)) →
    ∃ (v0 : (c : Dev Cert.KernelIdeal4.nD) → Buf (Elt Ideal) ((c.tc : Thread Cert.KernelIdeal4.nD Cert.KernelIdeal4.τ).loc Cert.KernelIdeal4.main_v11_0)) (v1 : (c : Dev Cert.KernelIdeal4.nD) → Buf (Elt Ideal) ((c.tc : Thread Cert.KernelIdeal4.nD Cert.KernelIdeal4.τ).loc Cert.KernelIdeal4.main_v11_3)),
      θ_run (Cert.KernelIdeal4.defs (F := Ideal)) (onTc (τ := Cert.KernelIdeal4.τ) (Cert.KernelIdeal4.main (F := Ideal))) ⟨m, fun _ => 0, g⟩ (fun r => ∀ c : Dev Cert.KernelIdeal4.nD,
          r.2.mem ((c.tc : Thread Cert.KernelIdeal4.nD Cert.KernelIdeal4.τ).loc Cert.KernelIdeal4.main_v11_0) = v0 c
          ∧ r.2.mem ((c.tc : Thread Cert.KernelIdeal4.nD Cert.KernelIdeal4.τ).loc Cert.KernelIdeal4.main_v11_3) = v1 c
          ∧ r.2.mem ((c.tc : Thread Cert.KernelIdeal4.nD Cert.KernelIdeal4.τ).loc Cert.KernelIdeal4.main_arg0) = m ((c.tc : Thread Cert.KernelIdeal4.nD Cert.KernelIdeal4.τ).loc Cert.KernelIdeal4.main_arg0)
          ∧ r.2.mem ((c.tc : Thread Cert.KernelIdeal4.nD Cert.KernelIdeal4.τ).loc Cert.KernelIdeal4.main_arg1) = m ((c.tc : Thread Cert.KernelIdeal4.nD Cert.KernelIdeal4.τ).loc Cert.KernelIdeal4.main_arg1)
          ∧ r.2.mem ((c.tc : Thread Cert.KernelIdeal4.nD Cert.KernelIdeal4.τ).loc Cert.KernelIdeal4.main_arg2) = m ((c.tc : Thread Cert.KernelIdeal4.nD Cert.KernelIdeal4.τ).loc Cert.KernelIdeal4.main_arg2)
          ∧ r.2.mem ((c.tc : Thread Cert.KernelIdeal4.nD Cert.KernelIdeal4.τ).loc Cert.KernelIdeal4.main_arg3) = m ((c.tc : Thread Cert.KernelIdeal4.nD Cert.KernelIdeal4.τ).loc Cert.KernelIdeal4.main_arg3)
          ∧ r.2.mem ((c.tc : Thread Cert.KernelIdeal4.nD Cert.KernelIdeal4.τ).loc Cert.KernelIdeal4.main_arg4) = m ((c.tc : Thread Cert.KernelIdeal4.nD Cert.KernelIdeal4.τ).loc Cert.KernelIdeal4.main_arg4)
          ∧ r.2.mem ((c.tc : Thread Cert.KernelIdeal4.nD Cert.KernelIdeal4.τ).loc Cert.KernelIdeal4.main_arg5) = m ((c.tc : Thread Cert.KernelIdeal4.nD Cert.KernelIdeal4.τ).loc Cert.KernelIdeal4.main_arg5)
          ∧ r.2.mem ((c.tc : Thread Cert.KernelIdeal4.nD Cert.KernelIdeal4.τ).loc Cert.KernelIdeal4.main_arg6) = m ((c.tc : Thread Cert.KernelIdeal4.nD Cert.KernelIdeal4.τ).loc Cert.KernelIdeal4.main_arg6)
          ∧ r.2.mem ((c.tc : Thread Cert.KernelIdeal4.nD Cert.KernelIdeal4.τ).loc Cert.KernelIdeal4.main_arg7) = m ((c.tc : Thread Cert.KernelIdeal4.nD Cert.KernelIdeal4.τ).loc Cert.KernelIdeal4.main_arg7))
      ∧ θ_run (Cert.ReferenceIdeal4.defs (F := Ideal)) (onTc (τ := Cert.ReferenceIdeal4.τ) (Cert.ReferenceIdeal4.main (F := Ideal))) ⟨m', fun _ => 0, g'⟩ (fun r => ∀ c : Dev Cert.ReferenceIdeal4.nD,
          r.2.mem ((c.tc : Thread Cert.ReferenceIdeal4.nD Cert.ReferenceIdeal4.τ).loc Cert.ReferenceIdeal4.main_v19) = v0 c
          ∧ r.2.mem ((c.tc : Thread Cert.ReferenceIdeal4.nD Cert.ReferenceIdeal4.τ).loc Cert.ReferenceIdeal4.main_v53) = v1 c
          ∧ r.2.mem ((c.tc : Thread Cert.ReferenceIdeal4.nD Cert.ReferenceIdeal4.τ).loc Cert.ReferenceIdeal4.main_arg0) = m' ((c.tc : Thread Cert.ReferenceIdeal4.nD Cert.ReferenceIdeal4.τ).loc Cert.ReferenceIdeal4.main_arg0)
          ∧ r.2.mem ((c.tc : Thread Cert.ReferenceIdeal4.nD Cert.ReferenceIdeal4.τ).loc Cert.ReferenceIdeal4.main_arg1) = m' ((c.tc : Thread Cert.ReferenceIdeal4.nD Cert.ReferenceIdeal4.τ).loc Cert.ReferenceIdeal4.main_arg1)
          ∧ r.2.mem ((c.tc : Thread Cert.ReferenceIdeal4.nD Cert.ReferenceIdeal4.τ).loc Cert.ReferenceIdeal4.main_arg2) = m' ((c.tc : Thread Cert.ReferenceIdeal4.nD Cert.ReferenceIdeal4.τ).loc Cert.ReferenceIdeal4.main_arg2)
          ∧ r.2.mem ((c.tc : Thread Cert.ReferenceIdeal4.nD Cert.ReferenceIdeal4.τ).loc Cert.ReferenceIdeal4.main_arg3) = m' ((c.tc : Thread Cert.ReferenceIdeal4.nD Cert.ReferenceIdeal4.τ).loc Cert.ReferenceIdeal4.main_arg3)
          ∧ r.2.mem ((c.tc : Thread Cert.ReferenceIdeal4.nD Cert.ReferenceIdeal4.τ).loc Cert.ReferenceIdeal4.main_arg4) = m' ((c.tc : Thread Cert.ReferenceIdeal4.nD Cert.ReferenceIdeal4.τ).loc Cert.ReferenceIdeal4.main_arg4)
          ∧ r.2.mem ((c.tc : Thread Cert.ReferenceIdeal4.nD Cert.ReferenceIdeal4.τ).loc Cert.ReferenceIdeal4.main_arg5) = m' ((c.tc : Thread Cert.ReferenceIdeal4.nD Cert.ReferenceIdeal4.τ).loc Cert.ReferenceIdeal4.main_arg5)
          ∧ r.2.mem ((c.tc : Thread Cert.ReferenceIdeal4.nD Cert.ReferenceIdeal4.τ).loc Cert.ReferenceIdeal4.main_arg6) = m' ((c.tc : Thread Cert.ReferenceIdeal4.nD Cert.ReferenceIdeal4.τ).loc Cert.ReferenceIdeal4.main_arg6)
          ∧ r.2.mem ((c.tc : Thread Cert.ReferenceIdeal4.nD Cert.ReferenceIdeal4.τ).loc Cert.ReferenceIdeal4.main_arg7) = m' ((c.tc : Thread Cert.ReferenceIdeal4.nD Cert.ReferenceIdeal4.τ).loc Cert.ReferenceIdeal4.main_arg7))

def preserves_Kernel5_KernelIdeal5 : Prop :=
  IdealRules.bf16_pair.BufferStatement Cert.KernelIdeal5.S16384x2x512 Cert.KernelIdeal5.S16384x1x512
  ∧ IdealRules.bf16_pair.BufferStatement Cert.KernelIdeal5.S1024x2x512 Cert.KernelIdeal5.S1024x1x512
  ∧ IdealRules.bf16_pair.PackStatement Cert.KernelIdeal5.S1024x512
  ∧ IdealRules.bf16_pair.Statement Cert.KernelIdeal5.S1024x2x512 Cert.KernelIdeal5.S1024x1x512

def algebraic_KernelIdeal5_ReferenceIdeal5_pre_logits_above_bottom [hKernelIdeal5 : Cert.KernelIdeal5.Facts] [hReferenceIdeal5 : Cert.ReferenceIdeal5.Facts] [hPre_logits_above_bottom : Cert.Pre_logits_above_bottom.Facts] : Prop :=
  ∀ (m : (ℓ : Loc Cert.KernelIdeal5.nD Cert.KernelIdeal5.τ Cert.KernelIdeal5.sig) → Buf (Elt Ideal) ℓ) (g : Dev Cert.KernelIdeal5.nD → PrngReg)
    (m' : (ℓ : Loc Cert.ReferenceIdeal5.nD Cert.ReferenceIdeal5.τ Cert.ReferenceIdeal5.sig) → Buf (Elt Ideal) ℓ) (g' : Dev Cert.ReferenceIdeal5.nD → PrngReg), Pre_KernelIdeal5_logits_above_bottom m →
    (∀ c : Dev Cert.KernelIdeal5.nD,
      m' ((c.tc : Thread Cert.ReferenceIdeal5.nD Cert.ReferenceIdeal5.τ).loc Cert.ReferenceIdeal5.main_arg0) = m ((c.tc : Thread Cert.KernelIdeal5.nD Cert.KernelIdeal5.τ).loc Cert.KernelIdeal5.main_arg0)
      ∧ m' ((c.tc : Thread Cert.ReferenceIdeal5.nD Cert.ReferenceIdeal5.τ).loc Cert.ReferenceIdeal5.main_arg1) = m ((c.tc : Thread Cert.KernelIdeal5.nD Cert.KernelIdeal5.τ).loc Cert.KernelIdeal5.main_arg1)
      ∧ m' ((c.tc : Thread Cert.ReferenceIdeal5.nD Cert.ReferenceIdeal5.τ).loc Cert.ReferenceIdeal5.main_arg2) = m ((c.tc : Thread Cert.KernelIdeal5.nD Cert.KernelIdeal5.τ).loc Cert.KernelIdeal5.main_arg2)
      ∧ m' ((c.tc : Thread Cert.ReferenceIdeal5.nD Cert.ReferenceIdeal5.τ).loc Cert.ReferenceIdeal5.main_arg3) = m ((c.tc : Thread Cert.KernelIdeal5.nD Cert.KernelIdeal5.τ).loc Cert.KernelIdeal5.main_arg3)
      ∧ m' ((c.tc : Thread Cert.ReferenceIdeal5.nD Cert.ReferenceIdeal5.τ).loc Cert.ReferenceIdeal5.main_arg4) = m ((c.tc : Thread Cert.KernelIdeal5.nD Cert.KernelIdeal5.τ).loc Cert.KernelIdeal5.main_arg4)
      ∧ m' ((c.tc : Thread Cert.ReferenceIdeal5.nD Cert.ReferenceIdeal5.τ).loc Cert.ReferenceIdeal5.main_arg5) = m ((c.tc : Thread Cert.KernelIdeal5.nD Cert.KernelIdeal5.τ).loc Cert.KernelIdeal5.main_arg5)
      ∧ m' ((c.tc : Thread Cert.ReferenceIdeal5.nD Cert.ReferenceIdeal5.τ).loc Cert.ReferenceIdeal5.main_arg6) = m ((c.tc : Thread Cert.KernelIdeal5.nD Cert.KernelIdeal5.τ).loc Cert.KernelIdeal5.main_arg6)
      ∧ m' ((c.tc : Thread Cert.ReferenceIdeal5.nD Cert.ReferenceIdeal5.τ).loc Cert.ReferenceIdeal5.main_arg7) = m ((c.tc : Thread Cert.KernelIdeal5.nD Cert.KernelIdeal5.τ).loc Cert.KernelIdeal5.main_arg7)) →
    ∃ (v0 : (c : Dev Cert.KernelIdeal5.nD) → Buf (Elt Ideal) ((c.tc : Thread Cert.KernelIdeal5.nD Cert.KernelIdeal5.τ).loc Cert.KernelIdeal5.main_v11_2)) (v1 : (c : Dev Cert.KernelIdeal5.nD) → Buf (Elt Ideal) ((c.tc : Thread Cert.KernelIdeal5.nD Cert.KernelIdeal5.τ).loc Cert.KernelIdeal5.main_v11_4)) (v2 : (c : Dev Cert.KernelIdeal5.nD) → Buf (Elt Ideal) ((c.tc : Thread Cert.KernelIdeal5.nD Cert.KernelIdeal5.τ).loc Cert.KernelIdeal5.main_v11_5)),
      θ_run (Cert.KernelIdeal5.defs (F := Ideal)) (onTc (τ := Cert.KernelIdeal5.τ) (Cert.KernelIdeal5.main (F := Ideal))) ⟨m, fun _ => 0, g⟩ (fun r => ∀ c : Dev Cert.KernelIdeal5.nD,
          r.2.mem ((c.tc : Thread Cert.KernelIdeal5.nD Cert.KernelIdeal5.τ).loc Cert.KernelIdeal5.main_v11_2) = v0 c
          ∧ r.2.mem ((c.tc : Thread Cert.KernelIdeal5.nD Cert.KernelIdeal5.τ).loc Cert.KernelIdeal5.main_v11_4) = v1 c
          ∧ r.2.mem ((c.tc : Thread Cert.KernelIdeal5.nD Cert.KernelIdeal5.τ).loc Cert.KernelIdeal5.main_v11_5) = v2 c
          ∧ r.2.mem ((c.tc : Thread Cert.KernelIdeal5.nD Cert.KernelIdeal5.τ).loc Cert.KernelIdeal5.main_arg0) = m ((c.tc : Thread Cert.KernelIdeal5.nD Cert.KernelIdeal5.τ).loc Cert.KernelIdeal5.main_arg0)
          ∧ r.2.mem ((c.tc : Thread Cert.KernelIdeal5.nD Cert.KernelIdeal5.τ).loc Cert.KernelIdeal5.main_arg1) = m ((c.tc : Thread Cert.KernelIdeal5.nD Cert.KernelIdeal5.τ).loc Cert.KernelIdeal5.main_arg1)
          ∧ r.2.mem ((c.tc : Thread Cert.KernelIdeal5.nD Cert.KernelIdeal5.τ).loc Cert.KernelIdeal5.main_arg2) = m ((c.tc : Thread Cert.KernelIdeal5.nD Cert.KernelIdeal5.τ).loc Cert.KernelIdeal5.main_arg2)
          ∧ r.2.mem ((c.tc : Thread Cert.KernelIdeal5.nD Cert.KernelIdeal5.τ).loc Cert.KernelIdeal5.main_arg3) = m ((c.tc : Thread Cert.KernelIdeal5.nD Cert.KernelIdeal5.τ).loc Cert.KernelIdeal5.main_arg3)
          ∧ r.2.mem ((c.tc : Thread Cert.KernelIdeal5.nD Cert.KernelIdeal5.τ).loc Cert.KernelIdeal5.main_arg4) = m ((c.tc : Thread Cert.KernelIdeal5.nD Cert.KernelIdeal5.τ).loc Cert.KernelIdeal5.main_arg4)
          ∧ r.2.mem ((c.tc : Thread Cert.KernelIdeal5.nD Cert.KernelIdeal5.τ).loc Cert.KernelIdeal5.main_arg5) = m ((c.tc : Thread Cert.KernelIdeal5.nD Cert.KernelIdeal5.τ).loc Cert.KernelIdeal5.main_arg5)
          ∧ r.2.mem ((c.tc : Thread Cert.KernelIdeal5.nD Cert.KernelIdeal5.τ).loc Cert.KernelIdeal5.main_arg6) = m ((c.tc : Thread Cert.KernelIdeal5.nD Cert.KernelIdeal5.τ).loc Cert.KernelIdeal5.main_arg6)
          ∧ r.2.mem ((c.tc : Thread Cert.KernelIdeal5.nD Cert.KernelIdeal5.τ).loc Cert.KernelIdeal5.main_arg7) = m ((c.tc : Thread Cert.KernelIdeal5.nD Cert.KernelIdeal5.τ).loc Cert.KernelIdeal5.main_arg7))
      ∧ θ_run (Cert.ReferenceIdeal5.defs (F := Ideal)) (onTc (τ := Cert.ReferenceIdeal5.τ) (Cert.ReferenceIdeal5.main (F := Ideal))) ⟨m', fun _ => 0, g'⟩ (fun r => ∀ c : Dev Cert.ReferenceIdeal5.nD,
          r.2.mem ((c.tc : Thread Cert.ReferenceIdeal5.nD Cert.ReferenceIdeal5.τ).loc Cert.ReferenceIdeal5.main_v66) = v0 c
          ∧ r.2.mem ((c.tc : Thread Cert.ReferenceIdeal5.nD Cert.ReferenceIdeal5.τ).loc Cert.ReferenceIdeal5.main_v67) = v1 c
          ∧ r.2.mem ((c.tc : Thread Cert.ReferenceIdeal5.nD Cert.ReferenceIdeal5.τ).loc Cert.ReferenceIdeal5.main_v69) = v2 c
          ∧ r.2.mem ((c.tc : Thread Cert.ReferenceIdeal5.nD Cert.ReferenceIdeal5.τ).loc Cert.ReferenceIdeal5.main_arg0) = m' ((c.tc : Thread Cert.ReferenceIdeal5.nD Cert.ReferenceIdeal5.τ).loc Cert.ReferenceIdeal5.main_arg0)
          ∧ r.2.mem ((c.tc : Thread Cert.ReferenceIdeal5.nD Cert.ReferenceIdeal5.τ).loc Cert.ReferenceIdeal5.main_arg1) = m' ((c.tc : Thread Cert.ReferenceIdeal5.nD Cert.ReferenceIdeal5.τ).loc Cert.ReferenceIdeal5.main_arg1)
          ∧ r.2.mem ((c.tc : Thread Cert.ReferenceIdeal5.nD Cert.ReferenceIdeal5.τ).loc Cert.ReferenceIdeal5.main_arg2) = m' ((c.tc : Thread Cert.ReferenceIdeal5.nD Cert.ReferenceIdeal5.τ).loc Cert.ReferenceIdeal5.main_arg2)
          ∧ r.2.mem ((c.tc : Thread Cert.ReferenceIdeal5.nD Cert.ReferenceIdeal5.τ).loc Cert.ReferenceIdeal5.main_arg3) = m' ((c.tc : Thread Cert.ReferenceIdeal5.nD Cert.ReferenceIdeal5.τ).loc Cert.ReferenceIdeal5.main_arg3)
          ∧ r.2.mem ((c.tc : Thread Cert.ReferenceIdeal5.nD Cert.ReferenceIdeal5.τ).loc Cert.ReferenceIdeal5.main_arg4) = m' ((c.tc : Thread Cert.ReferenceIdeal5.nD Cert.ReferenceIdeal5.τ).loc Cert.ReferenceIdeal5.main_arg4)
          ∧ r.2.mem ((c.tc : Thread Cert.ReferenceIdeal5.nD Cert.ReferenceIdeal5.τ).loc Cert.ReferenceIdeal5.main_arg5) = m' ((c.tc : Thread Cert.ReferenceIdeal5.nD Cert.ReferenceIdeal5.τ).loc Cert.ReferenceIdeal5.main_arg5)
          ∧ r.2.mem ((c.tc : Thread Cert.ReferenceIdeal5.nD Cert.ReferenceIdeal5.τ).loc Cert.ReferenceIdeal5.main_arg6) = m' ((c.tc : Thread Cert.ReferenceIdeal5.nD Cert.ReferenceIdeal5.τ).loc Cert.ReferenceIdeal5.main_arg6)
          ∧ r.2.mem ((c.tc : Thread Cert.ReferenceIdeal5.nD Cert.ReferenceIdeal5.τ).loc Cert.ReferenceIdeal5.main_arg7) = m' ((c.tc : Thread Cert.ReferenceIdeal5.nD Cert.ReferenceIdeal5.τ).loc Cert.ReferenceIdeal5.main_arg7))

def Claim : Prop :=
  ∃ (hKernel : Cert.Kernel.Facts) (hKernelIdeal : Cert.KernelIdeal.Facts) (hReferenceIdeal : Cert.ReferenceIdeal.Facts) (hKernel2 : Cert.Kernel2.Facts) (hKernelIdeal2 : Cert.KernelIdeal2.Facts) (hReferenceIdeal2 : Cert.ReferenceIdeal2.Facts) (hKernel3 : Cert.Kernel3.Facts) (hKernelIdeal3 : Cert.KernelIdeal3.Facts) (hReferenceIdeal3 : Cert.ReferenceIdeal3.Facts) (hKernel4 : Cert.Kernel4.Facts) (hKernelIdeal4 : Cert.KernelIdeal4.Facts) (hReferenceIdeal4 : Cert.ReferenceIdeal4.Facts) (hKernel5 : Cert.Kernel5.Facts) (hKernelIdeal5 : Cert.KernelIdeal5.Facts) (hReferenceIdeal5 : Cert.ReferenceIdeal5.Facts) (hPre_logits_above_bottom : Cert.Pre_logits_above_bottom.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_KernelIdeal2 (hKernelIdeal2 := hKernelIdeal2)
    ∧ quiescent_ReferenceIdeal2 (hReferenceIdeal2 := hReferenceIdeal2)
    ∧ quiescent_Kernel3 (hKernel3 := hKernel3)
    ∧ quiescent_KernelIdeal3 (hKernelIdeal3 := hKernelIdeal3)
    ∧ quiescent_ReferenceIdeal3 (hReferenceIdeal3 := hReferenceIdeal3)
    ∧ quiescent_Kernel4 (hKernel4 := hKernel4)
    ∧ quiescent_KernelIdeal4 (hKernelIdeal4 := hKernelIdeal4)
    ∧ quiescent_ReferenceIdeal4 (hReferenceIdeal4 := hReferenceIdeal4)
    ∧ quiescent_Kernel5 (hKernel5 := hKernel5)
    ∧ quiescent_KernelIdeal5 (hKernelIdeal5 := hKernelIdeal5)
    ∧ quiescent_KernelIdeal5_pre_logits_above_bottom (hKernelIdeal5 := hKernelIdeal5) (hPre_logits_above_bottom := hPre_logits_above_bottom)
    ∧ quiescent_ReferenceIdeal5 (hReferenceIdeal5 := hReferenceIdeal5)
    ∧ quiescent_ReferenceIdeal5_pre_logits_above_bottom (hReferenceIdeal5 := hReferenceIdeal5) (hPre_logits_above_bottom := hPre_logits_above_bottom)
    ∧ preserves_Kernel_KernelIdeal
    ∧ algebraic_KernelIdeal_ReferenceIdeal (hKernelIdeal := hKernelIdeal) (hReferenceIdeal := hReferenceIdeal)
    ∧ preserves_Kernel2_KernelIdeal2
    ∧ algebraic_KernelIdeal2_ReferenceIdeal2 (hKernelIdeal2 := hKernelIdeal2) (hReferenceIdeal2 := hReferenceIdeal2)
    ∧ preserves_Kernel3_KernelIdeal3
    ∧ algebraic_KernelIdeal3_ReferenceIdeal3 (hKernelIdeal3 := hKernelIdeal3) (hReferenceIdeal3 := hReferenceIdeal3)
    ∧ preserves_Kernel4_KernelIdeal4
    ∧ algebraic_KernelIdeal4_ReferenceIdeal4 (hKernelIdeal4 := hKernelIdeal4) (hReferenceIdeal4 := hReferenceIdeal4)
    ∧ preserves_Kernel5_KernelIdeal5
    ∧ algebraic_KernelIdeal5_ReferenceIdeal5_pre_logits_above_bottom (hKernelIdeal5 := hKernelIdeal5) (hReferenceIdeal5 := hReferenceIdeal5) (hPre_logits_above_bottom := hPre_logits_above_bottom)
-- ==== Pre_logits_above_bottom.lean ====
abbrev S2x8192x1024 : Shape := ⟨3, ![2, 8192, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x32 : Shape := ⟨2, ![1024, 32]⟩
abbrev S16384x32 : Shape := ⟨2, ![16384, 32]⟩
abbrev S32 : Shape := ⟨1, ![32]⟩

class Facts : Prop where
  shapeCasts_S2x8192x1024_S16384x1024 : S2x8192x1024.ShapeCasts S16384x1024
  concatenates_S16384x512_S16384x512_S16384x1024_d1 : Shape.Concatenates [S16384x512, S16384x512] S16384x1024 1
  shapeCasts_S1x1024x1024_S1024x1024 : S1x1024x1024.ShapeCasts S1024x1024
  bitsLt_bf16_f32 : FTy.bits .bf16 < FTy.bits .f32
  shapeCasts_S1x1024_S1024 : S1x1024.ShapeCasts S1024
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S1x1024x32_S1024x32 : S1x1024x32.ShapeCasts S1024x32
  shapeCasts_S1x32_S32 : S1x32.ShapeCasts S32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  dot_S16384x1024_S1024x1024_S16384x1024_1_0_0_1_n_n_wf : DotDims.WF S16384x1024 S1024x1024 S16384x1024 [1] [0] [0] [1] [] []
  dot_S16384x1024_S1024x32_S16384x32_1_0_0_1_n_n_wf : DotDims.WF S16384x1024 S1024x32 S16384x32 [1] [0] [0] [1] [] []

variable [Facts]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x32_S16384x32_1_0_0_1_n_n : DotDims S16384x1024 S1024x32 S16384x32 where
  lhsContracting := [1]
  rhsContracting := [0]
  lhsNonContracting := [0]
  rhsNonContracting := [1]
  lhsBatch := []
  rhsBatch := []
  wf := dot_S16384x1024_S1024x32_S16384x32_1_0_0_1_n_n_wf
def fn_part2 {F : FTy → Type} [FloatOps F] (main_v41 : FVec F S16384x32 .f32) : IVec S16384x32 1 :=
  let main_cst_5 : FVec F S_ .f32 := constant S_ .f32 0xFF800000#32
  let main_v42 : FVec F S16384x32 .f32 := broadcastInDim S16384x32 ![] bcast_S_S16384x32 main_cst_5
  let main_v43 : IVec S16384x32 1 := cmpf .ogt main_v41 main_v42
  main_v43

def fn_part1 {F : FTy → Type} [FloatOps F] (main_arg6 : FVec F S1x1024x32 .f32) (main_arg7 : FVec F S1x32 .f32) (main_v19 : FVec F S16384x1024 .f32) (main_v20 : FVec F S1024 .f32) : IVec S16384x32 1 :=
  let main_v21 : FVec F S16384x1024 .f32 := mulf main_v19 main_v19
  let main_cst_2 : FVec F S_ .f32 := constant S_ .f32 0x00000000#32
  let main_v22 : FVec F S16384 .f32 := (fun x v => Host.reduceAdd x v reducesTo_S16384x1024_S16384_d1 h_S_) main_v21 main_cst_2
  let main_v23 : FVec F S16384x1 .f32 := broadcastInDim S16384x1 ![0] bcast_S16384_S16384x1_0 main_v22
  let main_cst_3 : FVec F S_ .f32 := constant S_ .f32 0x44800000#32
  let main_v24 : FVec F S16384x1 .f32 := broadcastInDim S16384x1 ![] bcast_S_S16384x1 main_cst_3
  let main_v25 : FVec F S16384x1 .f32 := Host.divf main_v23 main_v24
  let main_cst_4 : FVec F S_ .f32 := constant S_ .f32 0x358637BD#32
  let main_v26 : FVec F S16384x1 .f32 := broadcastInDim S16384x1 ![] bcast_S_S16384x1 main_cst_4
  let main_v27 : FVec F S16384x1 .f32 := addf main_v25 main_v26
  let main_v28 : FVec F S16384x1 .f32 := Host.rsqrt main_v27
  let main_v29 : FVec F S16384x1024 .f32 := broadcastInDim S16384x1024 ![0, 1] bcast_S16384x1_S16384x1024_0_1 main_v28
  let main_v30 : FVec F S16384x1024 .f32 := mulf main_v19 main_v29
  let main_v31 : FVec F S1x1024 .f32 := broadcastInDim S1x1024 ![1] bcast_S1024_S1x1024_1 main_v20
  let main_v32 : FVec F S16384x1024 .f32 := broadcastInDim S16384x1024 ![0, 1] bcast_S1x1024_S16384x1024_0_1 main_v31
  let main_v33 : FVec F S16384x1024 .f32 := mulf main_v30 main_v32
  let main_v34 : FVec F S1024x32 .f32 := shapeCast S1024x32 main_arg6 shapeCasts_S1x1024x32_S1024x32
  let main_v35 : FVec F S16384x1024 .bf16 := (truncf .bf16 · bitsLt_bf16_f32) main_v33
  let main_v36 : FVec F S1024x32 .bf16 := (truncf .bf16 · bitsLt_bf16_f32) main_v34
  let main_v37 : FVec F S16384x32 .f32 := (fun l r => Host.dotGeneral dot_S16384x1024_S1024x32_S16384x32_1_0_0_1_n_n none l r) main_v35 main_v36
  let main_v38 : FVec F S32 .f32 := shapeCast S32 main_arg7 shapeCasts_S1x32_S32
  let main_v39 : FVec F S1x32 .f32 := broadcastInDim S1x32 ![1] bcast_S32_S1x32_1 main_v38
  let main_v40 : FVec F S16384x32 .f32 := broadcastInDim S16384x32 ![0, 1] bcast_S1x32_S16384x32_0_1 main_v39
  let main_v41 : FVec F S16384x32 .f32 := addf main_v37 main_v40
  fn_part2 (F := F) main_v41

def fn {F : FTy → Type} [FloatOps F] (main_arg0 : FVec F S2x8192x1024 .f32) (main_arg1 : FVec F S16384x512 .bf16) (main_arg2 : FVec F S16384x512 .bf16) (main_arg3 : FVec F S1x1024x1024 .f32) (main_arg4 : FVec F S1x1024 .f32) (main_arg5 : FVec F S1x1024 .f32) (main_arg6 : FVec F S1x1024x32 .f32) (main_arg7 : FVec F S1x32 .f32) : IVec S16384x32 1 :=
  let main_v0 : FVec F S16384x1024 .f32 := shapeCast S16384x1024 main_arg0 shapeCasts_S2x8192x1024_S16384x1024
  let main_v1 : FVec F S16384x1024 .bf16 := (fun a b => concatenate S16384x1024 1 [⟨S16384x512, a⟩, ⟨S16384x512, b⟩] concatenates_S16384x512_S16384x512_S16384x1024_d1) main_arg1 main_arg2
  let main_v2 : FVec F S1024x1024 .f32 := shapeCast S1024x1024 main_arg3 shapeCasts_S1x1024x1024_S1024x1024
  let main_v3 : FVec F S1024x1024 .bf16 := (truncf .bf16 · bitsLt_bf16_f32) main_v2
  let main_v4 : FVec F S16384x1024 .f32 := (fun l r => Host.dotGeneral dot_S16384x1024_S1024x1024_S16384x1024_1_0_0_1_n_n none l r) main_v1 main_v3
  let main_v5 : FVec F S1024 .f32 := shapeCast S1024 main_arg4 shapeCasts_S1x1024_S1024
  let main_v6 : FVec F S16384x1024 .f32 := mulf main_v4 main_v4
  let main_cst : FVec F S_ .f32 := constant S_ .f32 0x00000000#32
  let main_v7 : FVec F S16384 .f32 := (fun x v => Host.reduceAdd x v reducesTo_S16384x1024_S16384_d1 h_S_) main_v6 main_cst
  let main_v8 : FVec F S16384x1 .f32 := broadcastInDim S16384x1 ![0] bcast_S16384_S16384x1_0 main_v7
  let main_cst_0 : FVec F S_ .f32 := constant S_ .f32 0x44800000#32
  let main_v9 : FVec F S16384x1 .f32 := broadcastInDim S16384x1 ![] bcast_S_S16384x1 main_cst_0
  let main_v10 : FVec F S16384x1 .f32 := Host.divf main_v8 main_v9
  let main_cst_1 : FVec F S_ .f32 := constant S_ .f32 0x358637BD#32
  let main_v11 : FVec F S16384x1 .f32 := broadcastInDim S16384x1 ![] bcast_S_S16384x1 main_cst_1
  let main_v12 : FVec F S16384x1 .f32 := addf main_v10 main_v11
  let main_v13 : FVec F S16384x1 .f32 := Host.rsqrt main_v12
  let main_v14 : FVec F S16384x1024 .f32 := broadcastInDim S16384x1024 ![0, 1] bcast_S16384x1_S16384x1024_0_1 main_v13
  let main_v15 : FVec F S16384x1024 .f32 := mulf main_v4 main_v14
  let main_v16 : FVec F S1x1024 .f32 := broadcastInDim S1x1024 ![1] bcast_S1024_S1x1024_1 main_v5
  let main_v17 : FVec F S16384x1024 .f32 := broadcastInDim S16384x1024 ![0, 1] bcast_S1x1024_S16384x1024_0_1 main_v16
  let main_v18 : FVec F S16384x1024 .f32 := mulf main_v15 main_v17
  let main_v19 : FVec F S16384x1024 .f32 := addf main_v0 main_v18
  let main_v20 : FVec F S1024 .f32 := shapeCast S1024 main_arg5 shapeCasts_S1x1024_S1024
  fn_part1 (F := F) main_arg6 main_arg7 main_v19 main_v20
-- ==== Kernel.lean ====
abbrev S16384x1024 : Shape := ⟨2, ![16384, 1024]⟩
abbrev S4x16384x512 : Shape := ⟨3, ![4, 16384, 512]⟩
abbrev S4x16384 : Shape := ⟨2, ![4, 16384]⟩
abbrev S1x2x8192x256 : Shape := ⟨4, ![1, 2, 8192, 256]⟩
abbrev S1x1024 : Shape := ⟨2, ![1, 1024]⟩
abbrev S1x1024x1024 : Shape := ⟨3, ![1, 1024, 1024]⟩
abbrev S1x256x1024 : Shape := ⟨3, ![1, 256, 1024]⟩
abbrev S16384x4 : Shape := ⟨2, ![16384, 4]⟩
abbrev S2x8192x256 : Shape := ⟨3, ![2, 8192, 256]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S4x1024x512 : Shape := ⟨3, ![4, 1024, 512]⟩
abbrev S1024x4 : Shape := ⟨2, ![1024, 4]⟩
abbrev S1024x256 : Shape := ⟨2, ![1024, 256]⟩
abbrev S1x1024x512 : Shape := ⟨3, ![1, 1024, 512]⟩
abbrev S1024x512 : Shape := ⟨2, ![1024, 512]⟩
abbrev S1024x1 : Shape := ⟨2, ![1024, 1]⟩

abbrev nBuf : Space → Nat
  | .hbm => 21
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S4x16384x512, .i32⟩
  | .hbm, ⟨2, _⟩ => ⟨S4x16384, .f32⟩
  | .hbm, ⟨3, _⟩ => ⟨S1x2x8192x256, .f32⟩
  | .hbm, ⟨4, _⟩ => ⟨S1x1024, .f32⟩
  | .hbm, ⟨5, _⟩ => ⟨S1x1024x1024, .f32⟩
  | .hbm, ⟨6, _⟩ => ⟨S1x1024, .f32⟩
  | .hbm, ⟨7, _⟩ => ⟨S1x256x1024, .f32⟩
  | .hbm, ⟨8, _⟩ => ⟨S1x1024, .f32⟩
  | .hbm, ⟨9, _⟩ => ⟨S16384x4, .f32⟩
  | .hbm, ⟨10, _⟩ => ⟨S2x8192x256, .f32⟩
  | .hbm, ⟨11, _⟩ => ⟨S16384x256, .f32⟩
  | .hbm, ⟨12, _⟩ => ⟨S1024, .f32⟩
  | .hbm, ⟨13, _⟩ => ⟨S1x1024, .f32⟩
  | .hbm, ⟨14, _⟩ => ⟨S1024x1024, .f32⟩
  | .hbm, ⟨15, _⟩ => ⟨S1024, .f32⟩
  | .hbm, ⟨16, _⟩ => ⟨S1x1024, .f32⟩
  | .hbm, ⟨17, _⟩ => ⟨S256x1024, .f32⟩
  | .hbm, ⟨18, _⟩ => ⟨S1024, .f32⟩
  | .hbm, ⟨19, _⟩ => ⟨S1x1024, .f32⟩
  | .hbm, ⟨20, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S4x1024x512, .i32⟩
  | .local _ .vmem, ⟨3, _⟩ => ⟨S4x1024x512, .i32⟩
  | .local _ .vmem, ⟨4, _⟩ => ⟨S1024x4, .f32⟩
  | .local _ .vmem, ⟨5, _⟩ => ⟨S1024x4, .f32⟩
  | .local _ .vmem, ⟨6, _⟩ => ⟨S1024x256, .f32⟩
  | .local _ .vmem, ⟨7, _⟩ => ⟨S1024x256, .f32⟩
  | .local _ .vmem, ⟨8, _⟩ => ⟨S1x1024, .f32⟩
  | .local _ .vmem, ⟨9, _⟩ => ⟨S1024x1024, .f32⟩
  | .local _ .vmem, ⟨10, _⟩ => ⟨S1x1024, .f32⟩
  | .local _ .vmem, ⟨11, _⟩ => ⟨S256x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x1024 : Shape := ⟨2, ![16384, 1024]⟩
abbrev S4x16384x512 : Shape := ⟨3, ![4, 16384, 512]⟩
abbrev S4x16384 : Shape := ⟨2, ![4, 16384]⟩
abbrev S1x2x8192x256 : Shape := ⟨4, ![1, 2, 8192, 256]⟩
abbrev S1x1024 : Shape := ⟨2, ![1, 1024]⟩
abbrev S1x1024x1024 : Shape := ⟨3, ![1, 1024, 1024]⟩
abbrev S1x256x1024 : Shape := ⟨3, ![1, 256, 1024]⟩
abbrev S4x16384x512x2 : Shape := ⟨4, ![4, 16384, 512, 2]⟩
abbrev S4x16384x512x1 : Shape := ⟨4, ![4, 16384, 512, 1]⟩
abbrev S4x16384x1024 : Shape := ⟨3, ![4, 16384, 1024]⟩
abbrev S4x16384x1 : Shape := ⟨3, ![4, 16384, 1]⟩
abbrev S_ : Shape := ⟨0, ![]⟩
abbrev S1024 : Shape := ⟨1, ![1024]⟩
abbrev S16384 : Shape := ⟨1, ![16384]⟩
abbrev S16384x1 : Shape := ⟨2, ![16384, 1]⟩
abbrev S1024x1024 : Shape := ⟨2, ![1024, 1024]⟩
abbrev S2x8192x256 : Shape := ⟨3, ![2, 8192, 256]⟩
abbrev S16384x256 : Shape := ⟨2, ![16384, 256]⟩
abbrev S256x1024 : Shape := ⟨2, ![256, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x16384x512, .i32⟩
  | .hbm, ⟨2, _⟩ => ⟨S4x16384, .f32⟩
  | .hbm, ⟨3, _⟩ => ⟨S1x2x8192x256, .f32⟩
  | .hbm, ⟨4, _⟩ => ⟨S1x1024, .f32⟩
  | .hbm, ⟨5, _⟩ => ⟨S1x1024x1024, .f32⟩
  | .hbm, ⟨6, _⟩ => ⟨S1x1024, .f32⟩
  | .hbm, ⟨7, _⟩ => ⟨S1x256x1024, .f32⟩
  | .hbm, ⟨8, _⟩ => ⟨S1x1024, .f32⟩
  | .hbm, ⟨9, _⟩ => ⟨S4x16384x512x2, .bf16⟩
  | .hbm, ⟨10, _⟩ => ⟨S4x16384x512x2, .f32⟩
  | .hbm, ⟨11, _⟩ => ⟨S4x16384x512x1, .f32⟩
  | .hbm, ⟨12, _⟩ => ⟨S4x16384x512, .f32⟩
  | .hbm, ⟨13, _⟩ => ⟨S4x16384x512x1, .f32⟩
  | .hbm, ⟨14, _⟩ => ⟨S4x16384x512, .f32⟩
  | .hbm, ⟨15, _⟩ => ⟨S4x16384x1024, .f32⟩
  | .hbm, ⟨16, _⟩ => ⟨S4x16384x1, .f32⟩
  | .hbm, ⟨17, _⟩ => ⟨S4x16384x1024, .f32⟩
  | .hbm, ⟨18, _⟩ => ⟨S4x16384x1024, .f32⟩
  | .hbm, ⟨19, _⟩ => ⟨S_, .f32⟩
  | .hbm, ⟨20, _⟩ => ⟨S16384x1024, .f32⟩
  | .hbm, ⟨21, _⟩ => ⟨S1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S1024x1024, .f32⟩
  | .hbm, ⟨40, _⟩ => ⟨S16384x1024, .f32⟩
  | .hbm, ⟨41, _⟩ => ⟨S1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S2x8192x256, .f32⟩
  | .hbm, ⟨54, _⟩ => ⟨S16384x256, .f32⟩
  | .hbm, ⟨55, _⟩ => ⟨S256x1024, .f32⟩
  | .hbm, ⟨56, _⟩ => ⟨S16384x1024, .f32⟩
  | .hbm, ⟨57, _⟩ => ⟨S16384x1024, .f32⟩
  | .hbm, ⟨58, _⟩ => ⟨S1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Kernel2.lean ====
abbrev S16384x1024 : Shape := ⟨2, ![16384, 1024]⟩
abbrev S512x16384 : Shape := ⟨2, ![512, 16384]⟩
abbrev S1x512 : Shape := ⟨2, ![1, 512]⟩
abbrev S512 : Shape := ⟨1, ![512]⟩
abbrev S16384x512 : Shape := ⟨2, ![16384, 512]⟩
abbrev S512x1024 : Shape := ⟨2, ![512, 1024]⟩
abbrev S8192x1024 : Shape := ⟨2, ![8192, 1024]⟩
abbrev S512x8192 : Shape := ⟨2, ![512, 8192]⟩
abbrev S512x512 : Shape := ⟨2, ![512, 512]⟩
abbrev S8x512 : Shape := ⟨2, ![8, 512]⟩
abbrev S16x1024 : Shape := ⟨2, ![16, 1024]⟩
abbrev S1024x128 : Shape := ⟨2, ![1024, 128]⟩
abbrev S512x128 : Shape := ⟨2, ![512, 128]⟩
abbrev S1024x512 : Shape := ⟨2, ![1024, 512]⟩
abbrev S64x1024 : Shape := ⟨2, ![64, 1024]⟩
abbrev S80x1024 : Shape := ⟨2, ![80, 1024]⟩
abbrev S80x512 : Shape := ⟨2, ![80, 512]⟩
abbrev S64x512 : Shape := ⟨2, ![64, 512]⟩
abbrev S16x512 : Shape := ⟨2, ![16, 512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S512x16384, .bf16⟩
  | .hbm, ⟨3, _⟩ => ⟨S1x512, .f32⟩
  | .hbm, ⟨4, _⟩ => ⟨S512, .f32⟩
  | .hbm, ⟨5, _⟩ => ⟨S1x512, .f32⟩
  | .hbm, ⟨6, _⟩ => ⟨S16384x512, .bf16⟩
  | .local _ .vmem, ⟨0, _⟩ => ⟨S512x1024, .bf16⟩
  | .local _ .vmem, ⟨1, _⟩ => ⟨S512x1024, .bf16⟩
  | .local _ .vmem, ⟨2, _⟩ => ⟨S8192x1024, .bf16⟩
  | .local _ .vmem, ⟨3, _⟩ => ⟨S512x8192, .bf16⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | .local _ .vmem, ⟨7, _⟩ => ⟨S8x512, .f32⟩
  | .local _ .vmem, ⟨8, _⟩ => ⟨S8x512, .f32⟩
  | .local _ .vmem, ⟨9, _⟩ => ⟨S512x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_14 : BitVec 32 := 1#32
  ⟨c0_i32_12, v34, c1_i32_14⟩
def k0_mult1 (i : grid0.Coords) (k0_t1 : Fin (k0_t1_loop i).trips) : BitVec 32 :=
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  v445
def k0_off1 (i : grid0.Coords) (k0_t1 : Fin (k0_t1_loop i).trips) : Fin 2 → Nat :=
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v448 : Index := Scalar.indexCast v446
  let c0_217 : Index := 0#32
  ![v448.toNat, 0]
def k0_off2 (i : grid0.Coords) (k0_t1 : Fin (k0_t1_loop i).trips) : Fin 2 → Nat :=
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v452 : Index := Scalar.indexCast v446
  let c128_221 : Index := 128#32
  ![v452.toNat, 128]
def k0_off3 (i : grid0.Coords) (k0_t1 : Fin (k0_t1_loop i).trips) : Fin 2 → Nat :=
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v456 : Index := Scalar.indexCast v446
  let c256_225 : Index := 256#32
  ![v456.toNat, 256]
def k0_off4 (i : grid0.Coords) (k0_t1 : Fin (k0_t1_loop i).trips) : Fin 2 → Nat :=
  let c0_232 : Index := 0#32
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v470 : Index := Scalar.indexCast v446
  ![0, v470.toNat]
def k0_off5 (i : grid0.Coords) (k0_t1 : Fin (k0_t1_loop i).trips) : Fin 2 → Nat :=
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v492 : Index := Scalar.indexCast v446
  let c384_244 : Index := 384#32
  ![v492.toNat, 384]
def k0_off6 (i : grid0.Coords) (k0_t1 : Fin (k0_t1_loop i).trips) : Fin 2 → Nat :=
  let c64_251 : Index := 64#32
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v506 : Index := Scalar.indexCast v446
  ![64, v506.toNat]
def k0_off7 (i : grid0.Coords) (k0_t1 : Fin (k0_t1_loop i).trips) : Fin 2 → Nat :=
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v528 : Index := Scalar.indexCast v446
  let c512_263 : Index := 512#32
  ![v528.toNat, 512]
def k0_off8 (i : grid0.Coords) (k0_t1 : Fin (k0_t1_loop i).trips) : Fin 2 → Nat :=
  let c128_270 : Index := 128#32
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v542 : Index := Scalar.indexCast v446
  ![128, v542.toNat]
def k0_off9 (i : grid0.Coords) (k0_t1 : Fin (k0_t1_loop i).trips) : Fin 2 → Nat :=
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v564 : Index := Scalar.indexCast v446
  let c640_282 : Index := 640#32
  ![v564.toNat, 640]
def k0_off10 (i : grid0.Coords) (k0_t1 : Fin (k0_t1_loop i).trips) : Fin 2 → Nat :=
  let c192_289 : Index := 192#32
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v578 : Index := Scalar.indexCast v446
  ![192, v578.toNat]
def k0_off11 (i : grid0.Coords) (k0_t1 : Fin (k0_t1_loop i).trips) : Fin 2 → Nat :=
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v600 : Index := Scalar.indexCast v446
  let c768_301 : Index := 768#32
  ![v600.toNat, 768]
def k0_off12 (i : grid0.Coords) (k0_t1 : Fin (k0_t1_loop i).trips) : Fin 2 → Nat :=
  let c256_308 : Index := 256#32
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v614 : Index := Scalar.indexCast v446
  ![256, v614.toNat]
def k0_off13 (i : grid0.Coords) (k0_t1 : Fin (k0_t1_loop i).trips) : Fin 2 → Nat :=
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v636 : Index := Scalar.indexCast v446
  let c896_320 : Index := 896#32
  ![v636.toNat, 896]
def k0_off14 (i : grid0.Coords) (k0_t1 : Fin (k0_t1_loop i).trips) : Fin 2 → Nat :=
  let c320_327 : Index := 320#32
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v650 : Index := Scalar.indexCast v446
  ![320, v650.toNat]
def k0_off15 (i : grid0.Coords) (k0_t1 : Fin (k0_t1_loop i).trips) : Fin 2 → Nat :=
  let c384_342 : Index := 384#32
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v682 : Index := Scalar.indexCast v446
  ![384, v682.toNat]
def k0_off16 (i : grid0.Coords) (k0_t1 : Fin (k0_t1_loop i).trips) : Fin 2 → Nat :=
  let c448_357 : Index := 448#32
  let c0_i32_12 : BitVec 32 := 0#32
  let c1_i32_14 : BitVec 32 := 1#32
  let arg10 : BitVec 32 := Scf.iv c0_i32_12 c1_i32_14 k0_t1
  let c1024_i32_215 : BitVec 32 := 1024#32
  let v445 : BitVec 32 := Scalar.muli arg10 c1024_i32_215
  let v446 : BitVec 32 := v445
  let v714 : Index := Scalar.indexCast v446
  ![448, v714.toNat]
@[reducible] def k0_t2_loop (i : grid0.Coords) : Scf.Loop 32 :=
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let v31 : BitVec 32 := Scalar.addi c0_i32_12 v30
  let c1_i32_15 : BitVec 32 := 1#32
  ⟨v34, v31, c1_i32_15⟩
def k0_mult2 (i : grid0.Coords) (k0_t2 : Fin (k0_t2_loop i).trips) : BitVec 32 :=
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  v445
def k0_off17 (i : grid0.Coords) (k0_t2 : Fin (k0_t2_loop i).trips) : Fin 2 → Nat :=
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v448 : Index := Scalar.indexCast v446
  let c0_217 : Index := 0#32
  ![v448.toNat, 0]
def k0_off18 (i : grid0.Coords) (k0_t2 : Fin (k0_t2_loop i).trips) : Fin 2 → Nat :=
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v452 : Index := Scalar.indexCast v446
  let c128_221 : Index := 128#32
  ![v452.toNat, 128]
def k0_off19 (i : grid0.Coords) (k0_t2 : Fin (k0_t2_loop i).trips) : Fin 2 → Nat :=
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v456 : Index := Scalar.indexCast v446
  let c256_225 : Index := 256#32
  ![v456.toNat, 256]
def k0_off20 (i : grid0.Coords) (k0_t2 : Fin (k0_t2_loop i).trips) : Fin 2 → Nat :=
  let c0_232 : Index := 0#32
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v470 : Index := Scalar.indexCast v446
  ![0, v470.toNat]
def k0_off21 (i : grid0.Coords) (k0_t2 : Fin (k0_t2_loop i).trips) : Fin 2 → Nat :=
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v492 : Index := Scalar.indexCast v446
  let c384_244 : Index := 384#32
  ![v492.toNat, 384]
def k0_off22 (i : grid0.Coords) (k0_t2 : Fin (k0_t2_loop i).trips) : Fin 2 → Nat :=
  let c64_251 : Index := 64#32
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v506 : Index := Scalar.indexCast v446
  ![64, v506.toNat]
def k0_off23 (i : grid0.Coords) (k0_t2 : Fin (k0_t2_loop i).trips) : Fin 2 → Nat :=
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v528 : Index := Scalar.indexCast v446
  let c512_263 : Index := 512#32
  ![v528.toNat, 512]
def k0_off24 (i : grid0.Coords) (k0_t2 : Fin (k0_t2_loop i).trips) : Fin 2 → Nat :=
  let c128_270 : Index := 128#32
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v542 : Index := Scalar.indexCast v446
  ![128, v542.toNat]
def k0_off25 (i : grid0.Coords) (k0_t2 : Fin (k0_t2_loop i).trips) : Fin 2 → Nat :=
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v564 : Index := Scalar.indexCast v446
  let c640_282 : Index := 640#32
  ![v564.toNat, 640]
def k0_off26 (i : grid0.Coords) (k0_t2 : Fin (k0_t2_loop i).trips) : Fin 2 → Nat :=
  let c192_289 : Index := 192#32
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v578 : Index := Scalar.indexCast v446
  ![192, v578.toNat]
def k0_off27 (i : grid0.Coords) (k0_t2 : Fin (k0_t2_loop i).trips) : Fin 2 → Nat :=
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v600 : Index := Scalar.indexCast v446
  let c768_301 : Index := 768#32
  ![v600.toNat, 768]
def k0_off28 (i : grid0.Coords) (k0_t2 : Fin (k0_t2_loop i).trips) : Fin 2 → Nat :=
  let c256_308 : Index := 256#32
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v614 : Index := Scalar.indexCast v446
  ![256, v614.toNat]
def k0_off29 (i : grid0.Coords) (k0_t2 : Fin (k0_t2_loop i).trips) : Fin 2 → Nat :=
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v636 : Index := Scalar.indexCast v446
  let c896_320 : Index := 896#32
  ![v636.toNat, 896]
def k0_off30 (i : grid0.Coords) (k0_t2 : Fin (k0_t2_loop i).trips) : Fin 2 → Nat :=
  let c320_327 : Index := 320#32
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v650 : Index := Scalar.indexCast v446
  ![320, v650.toNat]
def k0_off31 (i : grid0.Coords) (k0_t2 : Fin (k0_t2_loop i).trips) : Fin 2 → Nat :=
  let c384_342 : Index := 384#32
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v682 : Index := Scalar.indexCast v446
  ![384, v682.toNat]
def k0_off32 (i : grid0.Coords) (k0_t2 : Fin (k0_t2_loop i).trips) : Fin 2 → Nat :=
  let c448_357 : Index := 448#32
  let c0_i32_12 : BitVec 32 := 0#32
  let arg1 : BitVec 32 := BitVec.ofNat 32 (i 1).val
  let c512_i32 : BitVec 32 := 512#32
  let v12 : BitVec 32 := Scalar.muli arg1 c512_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg10 : BitVec 32 := Scf.iv v34 c1_i32_15 k0_t2
  let c1024_i32_215 : BitVec 32 := 1024#32
  let v445 : BitVec 32 := Scalar.muli arg10 c1024_i32_215
  let v446 : BitVec 32 := v445
  let v714 : Index := Scalar.indexCast v446
  ![448, v714.toNat]
def k0_cond1 (i : grid0.Coords) : BitVec 1 :=
  let arg1 : BitVec 32 := BitVec.ofNat 32 (i 1).val
  let c512_i32 : BitVec 32 := 512#32
  let v12 : BitVec 32 := Scalar.muli arg1 c512_i32
  let c1024_i32_16 : BitVec 32 := 1024#32
  let c0_i32_17 : BitVec 32 := 0#32
  let v35 : BitVec 1 := Scalar.cmpi .eq c1024_i32_16 c0_i32_17
  let c1_i32_18 : BitVec 32 := 1#32
  let v36 : BitVec 32 := Scalar.select v35 c1_i32_18 c1024_i32_16
  let v37 : BitVec 32 := Scalar.remsi v12 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c512_i32_22 : BitVec 32 := 512#32
  let v45 : BitVec 1 := Scalar.cmpi .sge v44 c512_i32_22
  let v46 : BitVec 32 := Scalar.extui v45
  let c0_i32_23 : BitVec 32 := 0#32
  let v47 : BitVec 1 := Scalar.cmpi .ne v46 c0_i32_23
  v47

def k0_mult3 (i : grid0.Coords) : BitVec 32 :=
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  v446
def k0_off33 (i : grid0.Coords) : Fin 2 → Nat :=
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v449 : Index := Scalar.indexCast v447
  let c0_218 : Index := 0#32
  ![v449.toNat, 0]
def k0_off34 (i : grid0.Coords) : Fin 2 → Nat :=
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v453 : Index := Scalar.indexCast v447
  let c128_222 : Index := 128#32
  ![v453.toNat, 128]
def k0_off35 (i : grid0.Coords) : Fin 2 → Nat :=
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v457 : Index := Scalar.indexCast v447
  let c256_226 : Index := 256#32
  ![v457.toNat, 256]
def k0_off36 (i : grid0.Coords) : Fin 2 → Nat :=
  let c0_233 : Index := 0#32
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v471 : Index := Scalar.indexCast v447
  ![0, v471.toNat]
def k0_off37 (i : grid0.Coords) : Fin 2 → Nat :=
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v493 : Index := Scalar.indexCast v447
  let c384_245 : Index := 384#32
  ![v493.toNat, 384]
def k0_off38 (i : grid0.Coords) : Fin 2 → Nat :=
  let c64_252 : Index := 64#32
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v507 : Index := Scalar.indexCast v447
  ![64, v507.toNat]
def k0_off39 (i : grid0.Coords) : Fin 2 → Nat :=
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v529 : Index := Scalar.indexCast v447
  let c512_264 : Index := 512#32
  ![v529.toNat, 512]
def k0_off40 (i : grid0.Coords) : Fin 2 → Nat :=
  let c128_271 : Index := 128#32
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v543 : Index := Scalar.indexCast v447
  ![128, v543.toNat]
def k0_off41 (i : grid0.Coords) : Fin 2 → Nat :=
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v565 : Index := Scalar.indexCast v447
  let c640_283 : Index := 640#32
  ![v565.toNat, 640]
def k0_off42 (i : grid0.Coords) : Fin 2 → Nat :=
  let c192_290 : Index := 192#32
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v579 : Index := Scalar.indexCast v447
  ![192, v579.toNat]
def k0_off43 (i : grid0.Coords) : Fin 2 → Nat :=
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v601 : Index := Scalar.indexCast v447
  let c768_302 : Index := 768#32
  ![v601.toNat, 768]
def k0_off44 (i : grid0.Coords) : Fin 2 → Nat :=
  let c256_309 : Index := 256#32
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v615 : Index := Scalar.indexCast v447
  ![256, v615.toNat]
def k0_off45 (i : grid0.Coords) : Fin 2 → Nat :=
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v637 : Index := Scalar.indexCast v447
  let c896_321 : Index := 896#32
  ![v637.toNat, 896]
def k0_off46 (i : grid0.Coords) : Fin 2 → Nat :=
  let c320_328 : Index := 320#32
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v651 : Index := Scalar.indexCast v447
  ![320, v651.toNat]
def k0_off47 (i : grid0.Coords) : Fin 2 → Nat :=
  let c384_343 : Index := 384#32
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v683 : Index := Scalar.indexCast v447
  ![384, v683.toNat]
def k0_off48 (i : grid0.Coords) : Fin 2 → Nat :=
  let c448_358 : Index := 448#32
  let arg1 : BitVec 32 := BitVec.ofNat 32 (i 1).val
  let c1_i32_215 : BitVec 32 := 1#32
  let v445 : BitVec 32 := Scalar.subi arg1 c1_i32_215
  let c512_i32_216 : BitVec 32 := 512#32
  let v446 : BitVec 32 := Scalar.muli v445 c512_i32_216
  let v447 : BitVec 32 := v446
  let v715 : Index := Scalar.indexCast v447
  ![448, v715.toNat]
def k0_mult4 (i : grid0.Coords) : BitVec 32 :=
  let arg1 : BitVec 32 := BitVec.ofNat 32 (i 1).val
  let c512_i32_24 : BitVec 32 := 512#32
  let v48 : BitVec 32 := Scalar.muli arg1 c512_i32_24
  v48
def k0_off49 (i : grid0.Coords) : Fin 2 → Nat :=
  let arg1 : BitVec 32 := BitVec.ofNat 32 (i 1).val
  let c512_i32_24 : BitVec 32 := 512#32
  let v48 : BitVec 32 := Scalar.muli arg1 c512_i32_24
  let v49 : BitVec 32 := v48
  let v51 : Index := Scalar.indexCast v49
  let c0_26 : Index := 0#32
  ![v51.toNat, 0]
def k0_off50 (i : grid0.Coords) : Fin 2 → Nat :=
  let arg1 : BitVec 32 := BitVec.ofNat 32 (i 1).val
  let c512_i32_24 : BitVec 32 := 512#32
  let v48 : BitVec 32 := Scalar.muli arg1 c512_i32_24
  let v49 : BitVec 32 := v48
  let v55 : Index := Scalar.indexCast v49
  let c128 : Index := 128#32
  ![v55.toNat, 128]
def k0_off51 (i : grid0.Coords) : Fin 2 → Nat :=
  let arg1 : BitVec 32 := BitVec.ofNat 32 (i 1).val
  let c512_i32_24 : BitVec 32 := 512#32
  let v48 : BitVec 32 := Scalar.muli arg1 c512_i32_24
  let v49 : BitVec 32 := v48
  let v59 : Index := Scalar.indexCast v49
  let c256 : Index := 256#32
  ![v59.toNat, 256]
def k0_off52 (i : grid0.Coords) : Fin 2 → Nat :=
  let c0_40 : Index := 0#32
  let arg1 : BitVec 32 := BitVec.ofNat 32 (i 1).val
  let c512_i32_24 : BitVec 32 := 512#32
  let v48 : BitVec 32 := Scalar.muli arg1 c512_i32_24
  let v49 : BitVec 32 := v48
  let v78 : Index := Scalar.indexCast v49
  ![0, v78.toNat]
def k0_off53 (i : grid0.Coords) : Fin 2 → Nat :=
  let arg1 : BitVec 32 := BitVec.ofNat 32 (i 1).val
  let c512_i32_24 : BitVec 32 := 512#32
  let v48 : BitVec 32 := Scalar.muli arg1 c512_i32_24
  let v49 : BitVec 32 := v48
  let v100 : Index := Scalar.indexCast v49
  let c384 : Index := 384#32
  ![v100.toNat, 384]
def k0_off54 (i : grid0.Coords) : Fin 2 → Nat :=
  let c64 : Index := 64#32
  let arg1 : BitVec 32 := BitVec.ofNat 32 (i 1).val
  let c512_i32_24 : BitVec 32 := 512#32
  let v48 : BitVec 32 := Scalar.muli arg1 c512_i32_24
  let v49 : BitVec 32 := v48
  let v119 : Index := Scalar.indexCast v49
  ![64, v119.toNat]
def k0_off55 (i : grid0.Coords) : Fin 2 → Nat :=
  let arg1 : BitVec 32 := BitVec.ofNat 32 (i 1).val
  let c512_i32_24 : BitVec 32 := 512#32
  let v48 : BitVec 32 := Scalar.muli arg1 c512_i32_24
  let v49 : BitVec 32 := v48
  let v141 : Index := Scalar.indexCast v49
  let c512 : Index := 512#32
  ![v141.toNat, 512]
def k0_off56 (i : grid0.Coords) : Fin 2 → Nat :=
  let c128_75 : Index := 128#32
  let arg1 : BitVec 32 := BitVec.ofNat 32 (i 1).val
  let c512_i32_24 : BitVec 32 := 512#32
  let v48 : BitVec 32 := Scalar.muli arg1 c512_i32_24
  let v49 : BitVec 32 := v48
  let v160 : Index := Scalar.indexCast v49
  ![128, v160.toNat]
def k0_off57 (i : grid0.Coords) : Fin 2 → Nat :=
  let arg1 : BitVec 32 := BitVec.ofNat 32 (i 1).val
  let c512_i32_24 : BitVec 32 := 512#32
  let v48 : BitVec 32 := Scalar.muli arg1 c512_i32_24
  let v49 : BitVec 32 := v48
  let v182 : Index := Scalar.indexCast v49
  let c640 : Index := 640#32
  ![v182.toNat, 640]
def k0_off58 (i : grid0.Coords) : Fin 2 → Nat :=
  let c192 : Index := 192#32
  let arg1 : BitVec 32 := BitVec.ofNat 32 (i 1).val
  let c512_i32_24 : BitVec 32 := 512#32
  let v48 : BitVec 32 := Scalar.muli arg1 c512_i32_24
  let v49 : BitVec 32 := v48
  let v201 : Index := Scalar.indexCast v49
  ![192, v201.toNat]
def k0_off59 (i : grid0.Coords) : Fin 2 → Nat :=
  let arg1 : BitVec 32 := BitVec.ofNat 32 (i 1).val
  let c512_i32_24 : BitVec 32 := 512#32
  let v48 : BitVec 32 := Scalar.muli arg1 c512_i32_24
  let v49 : BitVec 32 := v48
  let v223 : Index := Scalar.indexCast v49
  let c768 : Index := 768#32
  ![v223.toNat, 768]
def k0_off60 (i : grid0.Coords) : Fin 2 → Nat :=
  let c256_110 : Index := 256#32
  let arg1 : BitVec 32 := BitVec.ofNat 32 (i 1).val
  let c512_i32_24 : BitVec 32 := 512#32
  let v48 : BitVec 32 := Scalar.muli arg1 c512_i32_24
  let v49 : BitVec 32 := v48
  let v242 : Index := Scalar.indexCast v49
  ![256, v242.toNat]
def k0_off61 (i : grid0.Coords) : Fin 2 → Nat :=
  let arg1 : BitVec 32 := BitVec.ofNat 32 (i 1).val
  let c512_i32_24 : BitVec 32 := 512#32
  let v48 : BitVec 32 := Scalar.muli arg1 c512_i32_24
  let v49 : BitVec 32 := v48
  let v264 : Index := Scalar.indexCast v49
  let c896 : Index := 896#32
  ![v264.toNat, 896]
def k0_off62 (i : grid0.Coords) : Fin 2 → Nat :=
  let c320 : Index := 320#32
  let arg1 : BitVec 32 := BitVec.ofNat 32 (i 1).val
  let c512_i32_24 : BitVec 32 := 512#32
  let v48 : BitVec 32 := Scalar.muli arg1 c512_i32_24
  let v49 : BitVec 32 := v48
  let v283 : Index := Scalar.indexCast v49
  ![320, v283.toNat]
def k0_off63 (i : grid0.Coords) : Fin 2 → Nat :=
  let c384_142 : Index := 384#32
  let arg1 : BitVec 32 := BitVec.ofNat 32 (i 1).val
  let c512_i32_24 : BitVec 32 := 512#32
  let v48 : BitVec 32 := Scalar.muli arg1 c512_i32_24
  let v49 : BitVec 32 := v48
  let v320 : Index := Scalar.indexCast v49
  ![384, v320.toNat]
def k0_off64 (i : grid0.Coords) : Fin 2 → Nat :=
  let c448 : Index := 448#32
  let arg1 : BitVec 32 := BitVec.ofNat 32 (i 1).val
  let c512_i32_24 : BitVec 32 := 512#32
  let v48 : BitVec 32 := Scalar.muli arg1 c512_i32_24
  let v49 : BitVec 32 := v48
  let v357 : Index := Scalar.indexCast v49
  ![448, v357.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal2.lean ====
abbrev S16384x1024 : Shape := ⟨2, ![16384, 1024]⟩
abbrev S512x16384 : Shape := ⟨2, ![512, 16384]⟩
abbrev S1x512 : Shape := ⟨2, ![1, 512]⟩
abbrev S2x8192x8x128 : Shape := ⟨4, ![2, 8192, 8, 128]⟩
abbrev S16384x512 : Shape := ⟨2, ![16384, 512]⟩
abbrev S2x8192x8x64 : Shape := ⟨4, ![2, 8192, 8, 64]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S16384 : Shape := ⟨1, ![16384]⟩
abbrev S16384x1 : Shape := ⟨2, ![16384, 1]⟩
abbrev S512 : Shape := ⟨1, ![512]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S512x16384, .bf16⟩
  | .hbm, ⟨3, _⟩ => ⟨S1x512, .f32⟩
  | .hbm, ⟨4, _⟩ => ⟨S2x8192x8x128, .bf16⟩
  | .hbm, ⟨5, _⟩ => ⟨S2x8192x8x128, .bf16⟩
  | .hbm, ⟨6, _⟩ => ⟨S16384x512, .bf16⟩
  | .hbm, ⟨7, _⟩ => ⟨S2x8192x8x64, .bf16⟩
  | .hbm, ⟨8, _⟩ => ⟨S2x8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S2x8x8192x8192, .i1⟩
  | .hbm, ⟨18, _⟩ => ⟨S2x8x8192x8192, .f32⟩
  | .hbm, ⟨19, _⟩ => ⟨S2x8x8192x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x8x8192, .f32⟩
  | .hbm, ⟨24, _⟩ => ⟨S2x8x8192x1, .f32⟩
  | .hbm, ⟨25, _⟩ => ⟨S2x8x8192x8192, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S_, .f32⟩
  | .hbm, ⟨31, _⟩ => ⟨S2x8x8192, .f32⟩
  | .hbm, ⟨32, _⟩ => ⟨S2x8x8192x1, .f32⟩
  | .hbm, ⟨33, _⟩ => ⟨S_, .f32⟩
  | .hbm, ⟨34, _⟩ => ⟨S2x8x8192x1, .f32⟩
  | .hbm, ⟨35, _⟩ => ⟨S2x8x8192x1, .f32⟩
  | .hbm, ⟨36, _⟩ => ⟨S2x8x8192x8192, .f32⟩
  | .hbm, ⟨37, _⟩ => ⟨S2x8x8192x8192, .f32⟩
  | .hbm, ⟨38, _⟩ => ⟨S2x8x8192x8192, .bf16⟩
  | .hbm, ⟨39, _⟩ => ⟨S2x8x64x8192, .f32⟩
  | .hbm, ⟨40, _⟩ => ⟨S2x8192x8x64, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x512, .f32⟩
  | .hbm, ⟨54, _⟩ => ⟨S16384x512, .f32⟩
  | .hbm, ⟨55, _⟩ => ⟨S512, .f32⟩
  | .hbm, ⟨56, _⟩ => ⟨S1x512, .f32⟩
  | .hbm, ⟨57, _⟩ => ⟨S16384x512, .f32⟩
  | .hbm, ⟨58, _⟩ => ⟨S16384x512, .f32⟩
  | .hbm, ⟨59, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192 : Shape := ⟨2, ![2, 8192]⟩
abbrev S1x1024 : Shape := ⟨2, ![1, 1024]⟩
abbrev S1x1024x1440 : Shape := ⟨3, ![1, 1024, 1440]⟩
abbrev S1x256 : Shape := ⟨2, ![1, 256]⟩
abbrev S1x256x8x96 : Shape := ⟨4, ![1, 256, 8, 96]⟩
abbrev S1x128 : Shape := ⟨2, ![1, 128]⟩
abbrev S1x128x8x128 : Shape := ⟨4, ![1, 128, 8, 128]⟩
abbrev S1x8x64 : Shape := ⟨3, ![1, 8, 64]⟩
abbrev S1x8x128x128 : Shape := ⟨4, ![1, 8, 128, 128]⟩
abbrev S1x8x128 : Shape := ⟨3, ![1, 8, 128]⟩
abbrev S1x512 : Shape := ⟨2, ![1, 512]⟩
abbrev S16 : Shape := ⟨1, ![16]⟩
abbrev S_ : Shape := ⟨0, ![]⟩
abbrev S16x1 : Shape := ⟨2, ![16, 1]⟩
abbrev S1x16384 : Shape := ⟨2, ![1, 16384]⟩
abbrev S16x16384 : Shape := ⟨2, ![16, 16384]⟩
abbrev S1024 : Shape := ⟨1, ![1024]⟩
abbrev S1024x1440 : Shape := ⟨2, ![1024, 1440]⟩
abbrev S256 : Shape := ⟨1, ![256]⟩
abbrev S256x8x96 : Shape := ⟨3, ![256, 8, 96]⟩
abbrev S128 : Shape := ⟨1, ![128]⟩
abbrev S128x8x128 : Shape := ⟨3, ![128, 8, 128]⟩
abbrev S8x64 : Shape := ⟨2, ![8, 64]⟩
abbrev S8x128x128 : Shape := ⟨3, ![8, 128, 128]⟩
abbrev S8x128 : Shape := ⟨2, ![8, 128]⟩
abbrev S512 : Shape := ⟨1, ![512]⟩
abbrev S16384x1024 : Shape := ⟨2, ![16384, 1024]⟩
abbrev S1024x32 : Shape := ⟨2, ![1024, 32]⟩
abbrev S1024x384 : Shape := ⟨2, ![1024, 384]⟩
abbrev S1024x128 : Shape := ⟨2, ![1024, 128]⟩
abbrev S1024x1024 : Shape := ⟨2, ![1024, 1024]⟩
abbrev S1024x1536 : Shape := ⟨2, ![1024, 1536]⟩
abbrev S256x8x128 : Shape := ⟨3, ![256, 8, 128]⟩
abbrev S256x1024 : Shape := ⟨2, ![256, 1024]⟩
abbrev S128x8x64 : Shape := ⟨3, ![128, 8, 64]⟩
abbrev S128x1024 : Shape := ⟨2, ![128, 1024]⟩
abbrev S128x512 : Shape := ⟨2, ![128, 512]⟩
abbrev S512x128 : Shape := ⟨2, ![512, 128]⟩
abbrev S512x1 : Shape := ⟨2, ![512, 1]⟩
abbrev S512x512 : Shape := ⟨2, ![512, 512]⟩
abbrev S128x8 : Shape := ⟨2, ![128, 8]⟩
abbrev S512x16384 : Shape := ⟨2, ![512, 16384]⟩
abbrev S16384x512 : Shape := ⟨2, ![16384, 512]⟩
abbrev S16x1024 : Shape := ⟨2, ![16, 1024]⟩
abbrev S512x1024 : Shape := ⟨2, ![512, 1024]⟩
abbrev S1024x512 : Shape := ⟨2, ![1024, 512]⟩
abbrev S1024x1 : Shape := ⟨2, ![1024, 1]⟩
abbrev S64x1024 : Shape := ⟨2, ![64, 1024]⟩
abbrev S32x1024 : Shape := ⟨2, ![32, 1024]⟩
abbrev S1024x256 : Shape := ⟨2, ![1024, 256]⟩
abbrev S128x1 : Shape := ⟨2, ![128, 1]⟩

abbrev nBuf : Space → Nat
  | .hbm => 107
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1x1024, .f32⟩
  | .hbm, ⟨3, _⟩ => ⟨S1x1024x1440, .f32⟩
  | .hbm, ⟨4, _⟩ => ⟨S1x256, .f32⟩
  | .hbm, ⟨5, _⟩ => ⟨S1x256x8x96, .f32⟩
  | .hbm, ⟨6, _⟩ => ⟨S1x128, .f32⟩
  | .hbm, ⟨7, _⟩ => ⟨S1x128x8x128, .f32⟩
  | .hbm, ⟨8, _⟩ => ⟨S1x8x64, .f32⟩
  | .hbm, ⟨9, _⟩ => ⟨S1x8x128x128, .f32⟩
  | .hbm, ⟨10, _⟩ => ⟨S1x8x128, .f32⟩
  | .hbm, ⟨11, _⟩ => ⟨S1x512, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S16x1, .f32⟩
  | .hbm, ⟨29, _⟩ => ⟨S2x8192, .f32⟩
  | .hbm, ⟨30, _⟩ => ⟨S1x16384, .f32⟩
  | .hbm, ⟨31, _⟩ => ⟨S16x16384, .f32⟩
  | .hbm, ⟨32, _⟩ => ⟨S16x16384, .f32⟩
  | .hbm, ⟨33, _⟩ => ⟨S16x16384, .f32⟩
  | .hbm, ⟨34, _⟩ => ⟨S1024, .f32⟩
  | .hbm, ⟨35, _⟩ => ⟨S1024x1440, .f32⟩
  | .hbm, ⟨36, _⟩ => ⟨S256, .f32⟩
  | .hbm, ⟨37, _⟩ => ⟨S256x8x96, .f32⟩
  | .hbm, ⟨38, _⟩ => ⟨S128, .f32⟩
  | .hbm, ⟨39, _⟩ => ⟨S128x8x128, .f32⟩
  | .hbm, ⟨40, _⟩ => ⟨S8x64, .f32⟩
  | .hbm, ⟨41, _⟩ => ⟨S8x128x128, .f32⟩
  | .hbm, ⟨42, _⟩ => ⟨S8x128, .f32⟩
  | .hbm, ⟨43, _⟩ => ⟨S512, .f32⟩
  | .hbm, ⟨44, _⟩ => ⟨S16384x1024, .f32⟩
  | .hbm, ⟨45, _⟩ => ⟨S1024x32, .f32⟩
  | .hbm, ⟨46, _⟩ => ⟨S1024x384, .f32⟩
  | .hbm, ⟨47, _⟩ => ⟨S_, .i32⟩
  | .hbm, ⟨48, _⟩ => ⟨S_, .f32⟩
  | .hbm, ⟨49, _⟩ => ⟨S1024x128, .f32⟩
  | .hbm, ⟨50, _⟩ => ⟨S1024x1024, .f32⟩
  | .hbm, ⟨51, _⟩ => ⟨S1024x1536, .f32⟩
  | .hbm, ⟨52, _⟩ => ⟨S1024x1536, .bf16⟩
  | .hbm, ⟨53, _⟩ => ⟨S_, .i32⟩
  | .hbm, ⟨54, _⟩ => ⟨S_, .f32⟩
  | .hbm, ⟨55, _⟩ => ⟨S256x8x128, .f32⟩
  | .hbm, ⟨56, _⟩ => ⟨S256x1024, .f32⟩
  | .hbm, ⟨57, _⟩ => ⟨S256x1024, .bf16⟩
  | .hbm, ⟨58, _⟩ => ⟨S128x8x64, .f32⟩
  | .hbm, ⟨59, _⟩ => ⟨S_, .i32⟩
  | .hbm, ⟨60, _⟩ => ⟨S_, .f32⟩
  | .hbm, ⟨61, _⟩ => ⟨S128x8x128, .f32⟩
  | .hbm, ⟨62, _⟩ => ⟨S128x1024, .f32⟩
  | .hbm, ⟨63, _⟩ => ⟨S128x1024, .bf16⟩
  | .hbm, ⟨64, _⟩ => ⟨S128x8x64, .f32⟩
  | .hbm, ⟨65, _⟩ => ⟨S128x512, .f32⟩
  | .hbm, ⟨66, _⟩ => ⟨S512x128, .f32⟩
  | .hbm, ⟨67, _⟩ => ⟨S512x128, .bf16⟩
  | .hbm, ⟨68, _⟩ => ⟨S512, .i32⟩
  | .hbm, ⟨69, _⟩ => ⟨S_, .i32⟩
  | .hbm, ⟨70, _⟩ => ⟨S_, .i32⟩
  | .hbm, ⟨71, _⟩ => ⟨S512, .i32⟩
  | .hbm, ⟨72, _⟩ => ⟨S512, .i32⟩
  | .hbm, ⟨73, _⟩ => ⟨S512, .i32⟩
  | .hbm, ⟨74, _⟩ => ⟨S_, .i32⟩
  | .hbm, ⟨75, _⟩ => ⟨S512, .i32⟩
  | .hbm, ⟨76, _⟩ => ⟨S512, .i1⟩
  | .hbm, ⟨77, _⟩ => ⟨S512, .i32⟩
  | .hbm, ⟨78, _⟩ => ⟨S512, .i32⟩
  | .hbm, ⟨79, _⟩ => ⟨S_, .i32⟩
  | .hbm, ⟨80, _⟩ => ⟨S512, .i32⟩
  | .hbm, ⟨81, _⟩ => ⟨S512, .i1⟩
  | .hbm, ⟨82, _⟩ => ⟨S512, .i1⟩
  | .hbm, ⟨83, _⟩ => ⟨S_, .i32⟩
  | .hbm, ⟨84, _⟩ => ⟨S512, .i32⟩
  | .hbm, ⟨85, _⟩ => ⟨S512, .i32⟩
  | .hbm, ⟨86, _⟩ => ⟨S512, .i32⟩
  | .hbm, ⟨87, _⟩ => ⟨S512x1, .i32⟩
  | .hbm, ⟨88, _⟩ => ⟨S1x512, .i32⟩
  | .hbm, ⟨89, _⟩ => ⟨S512x512, .i32⟩
  | .hbm, ⟨90, _⟩ => ⟨S512x512, .i32⟩
  | .hbm, ⟨91, _⟩ => ⟨S512x512, .i1⟩
  | .hbm, ⟨92, _⟩ => ⟨S512x512, .bf16⟩
  | .hbm, ⟨93, _⟩ => ⟨S128x8x128, .f32⟩
  | .hbm, ⟨94, _⟩ => ⟨S128x1024, .f32⟩
  | .hbm, ⟨95, _⟩ => ⟨S128x8, .f32⟩
  | .hbm, ⟨96, _⟩ => ⟨S128x8x64, .f32⟩
  | .hbm, ⟨97, _⟩ => ⟨S128x512, .f32⟩
  | .hbm, ⟨98, _⟩ => ⟨S1x1024, .f32⟩
  | .hbm, ⟨99, _⟩ => ⟨S1x256, .f32⟩
  | .hbm, ⟨100, _⟩ => ⟨S1x128, .f32⟩
  | .hbm, ⟨101, _⟩ => ⟨S1x512, .f32⟩
  | .hbm, ⟨102, _⟩ => ⟨S1x512, .f32⟩
  | .hbm, ⟨103, _⟩ => ⟨S16384x1024, .bf16⟩
  | .hbm, ⟨104, _⟩ => ⟨S16384x1024, .bf16⟩
  | .hbm, ⟨105, _⟩ => ⟨S512x16384, .bf16⟩
  | .hbm, ⟨106, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x1536, .bf16⟩
  | .local _ .vmem, ⟨6, _⟩ => ⟨S1x256, .f32⟩
  | .local _ .vmem, ⟨7, _⟩ => ⟨S256x1024, .bf16⟩
  | .local _ .vmem, ⟨8, _⟩ => ⟨S1x128, .f32⟩
  | .local _ .vmem, ⟨9, _⟩ => ⟨S128x1024, .bf16⟩
  | .local _ .vmem, ⟨10, _⟩ => ⟨S512x128, .bf16⟩
  | .local _ .vmem, ⟨11, _⟩ => ⟨S1x512, .f32⟩
  | .local _ .vmem, ⟨12, _⟩ => ⟨S512x512, .bf16⟩
  | .local _ .vmem, ⟨13, _⟩ => ⟨S128x1024, .f32⟩
  | .local _ .vmem, ⟨14, _⟩ => ⟨S128x512, .f32⟩
  | .local _ .vmem, ⟨15, _⟩ => ⟨S1x512, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S512x1024, .bf16⟩
  | .local _ .vmem, ⟨21, _⟩ => ⟨S512x1024, .bf16⟩
  | .local _ .vmem, ⟨22, _⟩ => ⟨S1024x512, .bf16⟩
  | .local _ .vmem, ⟨23, _⟩ => ⟨S1024x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c : Ref sig .tc := ⟨.hbm, 47, rfl⟩
abbrev main_call0_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_call1_v0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_call2_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_6 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_c : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_0 : Ref sig .tc := ⟨.hbm, 83, rfl⟩
abbrev main_call3_v12 : Ref sig .tc := ⟨.hbm, 84, rfl⟩
abbrev main_call3_v13 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63_0 : Ref sig .tc := ⟨.hbm, 103, rfl⟩
abbrev main_v63_1 : Ref sig .tc := ⟨.hbm, 104, rfl⟩
abbrev main_v63_2 : Ref sig .tc := ⟨.hbm, 105, rfl⟩
abbrev main_v63_3 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal3.lean ====
abbrev S2x8192x1024 : Shape := ⟨3, ![2, 8192, 1024]⟩
abbrev S2x8192 : Shape := ⟨2, ![2, 8192]⟩
abbrev S1x1024 : Shape := ⟨2, ![1, 1024]⟩
abbrev S1x1024x1440 : Shape := ⟨3, ![1, 1024, 1440]⟩
abbrev S1x256 : Shape := ⟨2, ![1, 256]⟩
abbrev S1x256x8x96 : Shape := ⟨4, ![1, 256, 8, 96]⟩
abbrev S1x128 : Shape := ⟨2, ![1, 128]⟩
abbrev S1x128x8x128 : Shape := ⟨4, ![1, 128, 8, 128]⟩
abbrev S1x8x64 : Shape := ⟨3, ![1, 8, 64]⟩
abbrev S1x8x128x128 : Shape := ⟨4, ![1, 8, 128, 128]⟩
abbrev S1x8x128 : Shape := ⟨3, ![1, 8, 128]⟩
abbrev S1x512 : Shape := ⟨2, ![1, 512]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S16384x1024 : Shape := ⟨2, ![16384, 1024]⟩
abbrev S1024 : Shape := ⟨1, ![1024]⟩
abbrev S16384 : Shape := ⟨1, ![16384]⟩
abbrev S1024x1440 : Shape := ⟨2, ![1024, 1440]⟩
abbrev S16384x1440 : Shape := ⟨2, ![16384, 1440]⟩
abbrev S16384x256 : Shape := ⟨2, ![16384, 256]⟩
abbrev S16384x128 : Shape := ⟨2, ![16384, 128]⟩
abbrev S16384x32 : Shape := ⟨2, ![16384, 32]⟩
abbrev S256 : Shape := ⟨1, ![256]⟩
abbrev S256x8x96 : Shape := ⟨3, ![256, 8, 96]⟩
abbrev S16384x8x96 : Shape := ⟨3, ![16384, 8, 96]⟩
abbrev S16384x8x64 : Shape := ⟨3, ![16384, 8, 64]⟩
abbrev S16384x8x32 : Shape := ⟨3, ![16384, 8, 32]⟩
abbrev S16384x8x16 : Shape := ⟨3, ![16384, 8, 16]⟩
abbrev S128 : Shape := ⟨1, ![128]⟩
abbrev S128x8x128 : Shape := ⟨3, ![128, 8, 128]⟩
abbrev S16384x8x128 : Shape := ⟨3, ![16384, 8, 128]⟩
abbrev S16384x1x32 : Shape := ⟨3, ![16384, 1, 32]⟩
abbrev S16384x512 : Shape := ⟨2, ![16384, 512]⟩
abbrev S512x16384 : Shape := ⟨2, ![512, 16384]⟩
abbrev S128x128x8x64 : Shape := ⟨4, ![128, 128, 8, 64]⟩
abbrev S8x64 : Shape := ⟨2, ![8, 64]⟩
abbrev S128x128x8 : Shape := ⟨3, ![128, 128, 8]⟩
abbrev S128x128x8x1 : Shape := ⟨4, ![128, 128, 8, 1]⟩
abbrev S1x1x8x64 : Shape := ⟨4, ![1, 1, 8, 64]⟩
abbrev S128x1 : Shape := ⟨2, ![128, 1]⟩
abbrev S128x128 : Shape := ⟨2, ![128, 128]⟩
abbrev S8x128x128 : Shape := ⟨3, ![8, 128, 128]⟩
abbrev S8x128x64x128 : Shape := ⟨4, ![8, 128, 64, 128]⟩
abbrev S8x128 : Shape := ⟨2, ![8, 128]⟩
abbrev S128x8 : Shape := ⟨2, ![128, 8]⟩
abbrev S1x128x8x1 : Shape := ⟨4, ![1, 128, 8, 1]⟩
abbrev S512 : Shape := ⟨1, ![512]⟩

abbrev nBuf : Space → Nat
  | .hbm => 231
  | .vmem => 0
  | .smem => 0
  | _ => 0

abbrev hbmTy0_0 (i : Nat) : BufTy := match i % 128 with
  | 0 => ⟨S2x8192x1024, .f32⟩
  | 1 => ⟨S2x8192, .i32⟩
  | 2 => ⟨S1x1024, .f32⟩
  | 3 => ⟨S1x1024x1440, .f32⟩
  | 4 => ⟨S1x256, .f32⟩
  | 5 => ⟨S1x256x8x96, .f32⟩
  | 6 => ⟨S1x128, .f32⟩
  | 7 => ⟨S1x128x8x128, .f32⟩
  | 8 => ⟨S1x8x64, .f32⟩
  | 9 => ⟨S1x8x128x128, .f32⟩
  | 10 => ⟨S1x8x128, .f32⟩
  | 11 => ⟨S1x512, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S2x8192, .f32⟩
  | 29 => ⟨S16384x1, .f32⟩
  | 30 => ⟨S1x16, .f32⟩
  | 31 => ⟨S16384x16, .f32⟩
  | 32 => ⟨S16384x16, .f32⟩
  | 33 => ⟨S16384x16, .f32⟩
  | 34 => ⟨S16384x16, .f32⟩
  | 35 => ⟨S16384x1x16, .f32⟩
  | 36 => ⟨S16384x16, .f32⟩
  | 37 => ⟨S16384x1x16, .f32⟩
  | 38 => ⟨S16384x1024, .f32⟩
  | 39 => ⟨S1024, .f32⟩
  | 40 => ⟨S16384x1024, .f32⟩
  | 41 => ⟨S_, .f32⟩
  | 42 => ⟨S16384, .f32⟩
  | 43 => ⟨S16384x1, .f32⟩
  | 44 => ⟨S_, .f32⟩
  | 45 => ⟨S16384x1, .f32⟩
  | 46 => ⟨S16384x1, .f32⟩
  | 47 => ⟨S_, .f32⟩
  | 48 => ⟨S16384x1, .f32⟩
  | 49 => ⟨S16384x1, .f32⟩
  | 50 => ⟨S16384x1, .f32⟩
  | 51 => ⟨S16384x1024, .f32⟩
  | 52 => ⟨S16384x1024, .f32⟩
  | 53 => ⟨S1x1024, .f32⟩
  | 54 => ⟨S16384x1024, .f32⟩
  | 55 => ⟨S16384x1024, .f32⟩
  | 56 => ⟨S1024x1440, .f32⟩
  | 57 => ⟨S16384x1024, .bf16⟩
  | 58 => ⟨S1024x1440, .bf16⟩
  | 59 => ⟨S16384x1440, .f32⟩
  | 60 => ⟨S16384x256, .f32⟩
  | 61 => ⟨S16384x128, .f32⟩
  | 62 => ⟨S16384x32, .f32⟩
  | 63 => ⟨S16384x1024, .f32⟩
  | 64 => ⟨S256, .f32⟩
  | 65 => ⟨S16384x256, .f32⟩
  | 66 => ⟨S_, .f32⟩
  | 67 => ⟨S16384, .f32⟩
  | 68 => ⟨S16384x1, .f32⟩
  | 69 => ⟨S_, .f32⟩
  | 70 => ⟨S16384x1, .f32⟩
  | 71 => ⟨S16384x1, .f32⟩
  | 72 => ⟨S_, .f32⟩
  | 73 => ⟨S16384x1, .f32⟩
  | 74 => ⟨S16384x1, .f32⟩
  | 75 => ⟨S16384x1, .f32⟩
  | 76 => ⟨S16384x256, .f32⟩
  | 77 => ⟨S16384x256, .f32⟩
  | 78 => ⟨S1x256, .f32⟩
  | 79 => ⟨S16384x256, .f32⟩
  | 80 => ⟨S16384x256, .f32⟩
  | 81 => ⟨S256x8x96, .f32⟩
  | 82 => ⟨S16384x256, .bf16⟩
  | 83 => ⟨S256x8x96, .bf16⟩
  | 84 => ⟨S16384x8x96, .f32⟩
  | 85 => ⟨S16384x8x64, .f32⟩
  | 86 => ⟨S16384x8x32, .f32⟩
  | 87 => ⟨S16384x8x16, .f32⟩
  | 88 => ⟨S16384x8x16, .f32⟩
  | 89 => ⟨S16384x8x16, .f32⟩
  | 90 => ⟨S16384x8x16, .f32⟩
  | 91 => ⟨S16384x8x16, .f32⟩
  | 92 => ⟨S16384x8x16, .f32⟩
  | 93 => ⟨S16384x8x16, .f32⟩
  | 94 => ⟨S16384x8x16, .f32⟩
  | 95 => ⟨S16384x8x16, .f32⟩
  | 96 => ⟨S16384x8x16, .f32⟩
  | 97 => ⟨S16384x8x16, .f32⟩
  | 98 => ⟨S16384x8x16, .f32⟩
  | 99 => ⟨S16384x8x32, .f32⟩
  | 100 => ⟨S16384x8x96, .f32⟩
  | 101 => ⟨S_, .f32⟩
  | 102 => ⟨S16384x8x96, .f32⟩
  | 103 => ⟨S16384x8x96, .f32⟩
  | 104 => ⟨S128, .f32⟩
  | 105 => ⟨S16384x128, .f32⟩
  | 106 => ⟨S_, .f32⟩
  | 107 => ⟨S16384, .f32⟩
  | 108 => ⟨S16384x1, .f32⟩
  | 109 => ⟨S_, .f32⟩
  | 110 => ⟨S16384x1, .f32⟩
  | 111 => ⟨S16384x1, .f32⟩
  | 112 => ⟨S_, .f32⟩
  | 113 => ⟨S16384x1, .f32⟩
  | 114 => ⟨S16384x1, .f32⟩
  | 115 => ⟨S16384x1, .f32⟩
  | 116 => ⟨S16384x128, .f32⟩
  | 117 => ⟨S16384x128, .f32⟩
  | 118 => ⟨S1x128, .f32⟩
  | 119 => ⟨S16384x128, .f32⟩
  | 120 => ⟨S16384x128, .f32⟩
  | 121 => ⟨S128x8x128, .f32⟩
  | 122 => ⟨S16384x128, .bf16⟩
  | 123 => ⟨S128x8x128, .bf16⟩
  | 124 => ⟨S16384x8x128, .f32⟩
  | 125 => ⟨S16384x8x64, .f32⟩
  | 126 => ⟨S16384x1x32, .f32⟩
  | 127 => ⟨S16384x1x16, .f32⟩
  | _ => ⟨S2x8192x1024, .f32⟩

abbrev hbmTy0_1 (i : Nat) : BufTy := match i % 128 with
  | 0 => ⟨S16384x1x16, .f32⟩
  | 1 => ⟨S16384x1x16, .f32⟩
  | 2 => ⟨S16384x1x16, .f32⟩
  | 3 => ⟨S16384x1x16, .f32⟩
  | 4 => ⟨S16384x1x16, .f32⟩
  | 5 => ⟨S16384x1x16, .f32⟩
  | 6 => ⟨S16384x1x16, .f32⟩
  | 7 => ⟨S16384x1x32, .f32⟩
  | 8 => ⟨S16384x8x32, .f32⟩
  | 9 => ⟨S16384x8x96, .f32⟩
  | 10 => ⟨S16384x8x64, .f32⟩
  | 11 => ⟨S16384x512, .f32⟩
  | 12 => ⟨S512x16384, .f32⟩
  | 13 => ⟨S512x16384, .bf16⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S16384x1024, .f32⟩
  | 20 => ⟨S_, .f32⟩
  | 21 => ⟨S16384x1024, .f32⟩
  | 22 => ⟨S16384x1024, .f32⟩
  | 23 => ⟨S16384x1024, .f32⟩
  | 24 => ⟨S_, .f32⟩
  | 25 => ⟨S16384x1024, .f32⟩
  | 26 => ⟨S16384x1024, .f32⟩
  | 27 => ⟨S_, .f32⟩
  | 28 => ⟨S16384x1024, .f32⟩
  | 29 => ⟨S16384x1024, .f32⟩
  | 30 => ⟨S16384x1024, .f32⟩
  | 31 => ⟨S16384x512, .f32⟩
  | 32 => ⟨S128x128x8x64, .f32⟩
  | 33 => ⟨S16384x512, .f32⟩
  | 34 => ⟨S128x128x8x64, .f32⟩
  | 35 => ⟨S8x64, .f32⟩
  | 36 => ⟨S128x128x8x64, .f32⟩
  | 37 => ⟨S_, .f32⟩
  | 38 => ⟨S128x128x8, .f32⟩
  | 39 => ⟨S128x128x8x1, .f32⟩
  | 40 => ⟨S_, .f32⟩
  | 41 => ⟨S128x128x8x1, .f32⟩
  | 42 => ⟨S128x128x8x1, .f32⟩
  | 43 => ⟨S_, .f32⟩
  | 44 => ⟨S128x128x8x1, .f32⟩
  | 45 => ⟨S128x128x8x1, .f32⟩
  | 46 => ⟨S128x128x8x1, .f32⟩
  | 47 => ⟨S128x128x8x64, .f32⟩
  | 48 => ⟨S128x128x8x64, .f32⟩
  | 49 => ⟨S1x1x8x64, .f32⟩
  | 50 => ⟨S128x128x8x64, .f32⟩
  | 51 => ⟨S128x128x8x64, .f32⟩
  | 52 => ⟨S128, .i32⟩
  | 53 => ⟨S1x128, .i32⟩
  | 54 => ⟨S128x1, .i32⟩
  | 55 => ⟨S128x128, .i32⟩
  | 56 => ⟨S128x128, .i32⟩
  | 57 => ⟨S128x128, .i1⟩
  | 58 => ⟨S8x128x128, .f32⟩
  | 59 => ⟨S_, .f32⟩
  | 60 => ⟨S_, .f32⟩
  | 61 => ⟨S8x128x128, .i1⟩
  | 62 => ⟨S8x128x128, .f32⟩
  | 63 => ⟨S8x128x128, .f32⟩
  | 64 => ⟨S8x128x128, .bf16⟩
  | 65 => ⟨S128x128x8x64, .bf16⟩
  | 66 => ⟨S8x128x64x128, .f32⟩
  | 67 => ⟨S128x128x8x64, .f32⟩
  | 68 => ⟨S8x128, .f32⟩
  | 69 => ⟨S128x8, .f32⟩
  | 70 => ⟨S1x128x8x1, .f32⟩
  | 71 => ⟨S128x128x8x64, .f32⟩
  | 72 => ⟨S128x128x8x64, .f32⟩
  | 73 => ⟨S128x128x8x64, .f32⟩
  | 74 => ⟨S16384x512, .f32⟩
  | 75 => ⟨S512, .f32⟩
  | 76 => ⟨S16384x512, .f32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S_, .f32⟩
  | 84 => ⟨S16384x1, .f32⟩
  | 85 => ⟨S16384x1, .f32⟩
  | 86 => ⟨S16384x1, .f32⟩
  | 87 => ⟨S16384x512, .f32⟩
  | 88 => ⟨S16384x512, .f32⟩
  | 89 => ⟨S1x512, .f32⟩
  | 90 => ⟨S16384x512, .f32⟩
  | 91 => ⟨S16384x512, .f32⟩
  | 92 => ⟨S16384x512, .bf16⟩
  | 93 => ⟨S_, .i32⟩
  | 94 => ⟨S_, .f32⟩
  | 95 => ⟨S16384x8x128, .f32⟩
  | 96 => ⟨S16384x8x128, .bf16⟩
  | 97 => ⟨S16384x1024, .bf16⟩
  | 98 => ⟨S_, .i32⟩
  | 99 => ⟨S_, .f32⟩
  | 100 => ⟨S16384x8x128, .f32⟩
  | 101 => ⟨S16384x8x128, .bf16⟩
  | 102 => ⟨S16384x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_11 : Ref sig .tc := ⟨.hbm, 106, rfl⟩
abbrev main_v82 : Ref sig .tc := ⟨.hbm, 107, rfl⟩
abbrev main_v83 : Ref sig .tc := ⟨.hbm, 108, rfl⟩
abbrev main_cst_12 : Ref sig .tc := ⟨.hbm, 109, rfl⟩
abbrev main_v84 : Ref sig .tc := ⟨.hbm, 110, rfl⟩
abbrev main_v85 : Ref sig .tc := ⟨.hbm, 111, rfl⟩
abbrev main_cst_13 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_14 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_15 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_16 : Ref sig .tc := ⟨.hbm, 152, rfl⟩
abbrev main_v123 : Ref sig .tc := ⟨.hbm, 153, rfl⟩
abbrev main_v124 : Ref sig .tc := ⟨.hbm, 154, rfl⟩
abbrev main_cst_17 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_cst_18 : Ref sig .tc := ⟨.hbm, 165, rfl⟩
abbrev main_v134 : Ref sig .tc := ⟨.hbm, 166, rfl⟩
abbrev main_v135 : Ref sig .tc := ⟨.hbm, 167, rfl⟩
abbrev main_cst_19 : Ref sig .tc := ⟨.hbm, 168, rfl⟩
abbrev main_v136 : Ref sig .tc := ⟨.hbm, 169, rfl⟩
abbrev main_v137 : Ref sig .tc := ⟨.hbm, 170, rfl⟩
abbrev main_cst_20 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_21 : Ref sig .tc := ⟨.hbm, 187, rfl⟩
abbrev main_call0_v0 : Ref sig .tc := ⟨.hbm, 188, rfl⟩
abbrev main_call0_v1 : Ref sig .tc := ⟨.hbm, 189, rfl⟩
abbrev main_call0_v2 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_cst_22 : Ref sig .tc := ⟨.hbm, 205, rfl⟩
abbrev main_v167 : Ref sig .tc := ⟨.hbm, 206, rfl⟩
abbrev main_v168 : Ref sig .tc := ⟨.hbm, 207, rfl⟩
abbrev main_cst_23 : Ref sig .tc := ⟨.hbm, 208, rfl⟩
abbrev main_v169 : Ref sig .tc := ⟨.hbm, 209, rfl⟩
abbrev main_v170 : Ref sig .tc := ⟨.hbm, 210, rfl⟩
abbrev main_cst_24 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_c : Ref sig .tc := ⟨.hbm, 221, rfl⟩
abbrev main_call1_v0 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_c_25 : Ref sig .tc := ⟨.hbm, 226, rfl⟩
abbrev main_call2_v0 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩

abbrev nD : Nat := 1
abbrev τ : Topo := Topo.v7x

variable {F : FTy → Type} [FloatOps F]
-- ==== Kernel4.lean ====
abbrev S2x8192x1024 : Shape := ⟨3, ![2, 8192, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S16384x1024 : Shape := ⟨2, ![16384, 1024]⟩
abbrev S1024x1024 : Shape := ⟨2, ![1024, 1024]⟩
abbrev S1024 : Shape := ⟨1, ![1024]⟩
abbrev S1024x32 : Shape := ⟨2, ![1024, 32]⟩
abbrev S32x1024 : Shape := ⟨2, ![32, 1024]⟩
abbrev S32 : Shape := ⟨1, ![32]⟩
abbrev S32x1 : Shape := ⟨2, ![32, 1]⟩
abbrev S4x16384 : Shape := ⟨2, ![4, 16384]⟩
abbrev S32x128 : Shape := ⟨2, ![32, 128]⟩
abbrev S1024x512 : Shape := ⟨2, ![1024, 512]⟩
abbrev S4x1024 : Shape := ⟨2, ![4, 1024]⟩
abbrev S512x1024 : Shape := ⟨2, ![512, 1024]⟩
abbrev S1024x1 : Shape := ⟨2, ![1024, 1]⟩

abbrev nBuf : Space → Nat
  | .hbm => 25
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x32, .f32⟩
  | .hbm, ⟨7, _⟩ => ⟨S1x32, .f32⟩
  | .hbm, ⟨8, _⟩ => ⟨S16384x1024, .f32⟩
  | .hbm, ⟨9, _⟩ => ⟨S1024x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024x32, .f32⟩
  | .hbm, ⟨15, _⟩ => ⟨S32x1024, .f32⟩
  | .hbm, ⟨16, _⟩ => ⟨S32x1024, .bf16⟩
  | .hbm, ⟨17, _⟩ => ⟨S32, .f32⟩
  | .hbm, ⟨18, _⟩ => ⟨S32x1, .f32⟩
  | .hbm, ⟨19, _⟩ => ⟨S16384x1024, .f32⟩
  | .hbm, ⟨20, _⟩ => ⟨S16384x512, .i32⟩
  | .hbm, ⟨21, _⟩ => ⟨S4x16384, .i32⟩
  | .hbm, ⟨22, _⟩ => ⟨S4x16384, .f32⟩
  | .hbm, ⟨23, _⟩ => ⟨S4x16384, .i32⟩
  | .hbm, ⟨24, _⟩ => ⟨S32x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S32x1024, .bf16⟩
  | .local _ .vmem, ⟨10, _⟩ => ⟨S32x1, .f32⟩
  | .local _ .vmem, ⟨11, _⟩ => ⟨S1024x1024, .f32⟩
  | .local _ .vmem, ⟨12, _⟩ => ⟨S1024x1024, .f32⟩
  | .local _ .vmem, ⟨13, _⟩ => ⟨S1024x512, .i32⟩
  | .local _ .vmem, ⟨14, _⟩ => ⟨S1024x512, .i32⟩
  | .local _ .vmem, ⟨15, _⟩ => ⟨S4x1024, .i32⟩
  | .local _ .vmem, ⟨16, _⟩ => ⟨S4x1024, .i32⟩
  | .local _ .vmem, ⟨17, _⟩ => ⟨S4x1024, .f32⟩
  | .local _ .vmem, ⟨18, _⟩ => ⟨S4x1024, .f32⟩
  | .local _ .vmem, ⟨19, _⟩ => ⟨S4x1024, .i32⟩
  | .local _ .vmem, ⟨20, _⟩ => ⟨S4x1024, .i32⟩
  | .local _ .vmem, ⟨21, _⟩ => ⟨S32x128, .f32⟩
  | .local _ .vmem, ⟨22, _⟩ => ⟨S32x1, .f32⟩
  | .local _ .vmem, ⟨23, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1024 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal4.lean ====
abbrev S2x8192x1024 : Shape := ⟨3, ![2, 8192, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S16384x1024 : Shape := ⟨2, ![16384, 1024]⟩
abbrev S1024x1024 : Shape := ⟨2, ![1024, 1024]⟩
abbrev S1024 : Shape := ⟨1, ![1024]⟩
abbrev S1024x32 : Shape := ⟨2, ![1024, 32]⟩
abbrev S32x1024 : Shape := ⟨2, ![32, 1024]⟩
abbrev S32 : Shape := ⟨1, ![32]⟩
abbrev S32x1 : Shape := ⟨2, ![32, 1]⟩
abbrev S16384x2x512 : Shape := ⟨3, ![16384, 2, 512]⟩
abbrev S4x16384 : Shape := ⟨2, ![4, 16384]⟩
abbrev S32x128 : Shape := ⟨2, ![32, 128]⟩
abbrev S16384x1x512 : Shape := ⟨3, ![16384, 1, 512]⟩
abbrev S1024x512 : Shape := ⟨2, ![1024, 512]⟩
abbrev S1024x2x512 : Shape := ⟨3, ![1024, 2, 512]⟩
abbrev S1024x1x512 : Shape := ⟨3, ![1024, 1, 512]⟩
abbrev S4x1024 : Shape := ⟨2, ![4, 1024]⟩
abbrev S512x1024 : Shape := ⟨2, ![512, 1024]⟩
abbrev S1024x1 : Shape := ⟨2, ![1024, 1]⟩

abbrev nBuf : Space → Nat
  | .hbm => 25
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x32, .f32⟩
  | .hbm, ⟨7, _⟩ => ⟨S1x32, .f32⟩
  | .hbm, ⟨8, _⟩ => ⟨S16384x1024, .f32⟩
  | .hbm, ⟨9, _⟩ => ⟨S1024x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024x32, .f32⟩
  | .hbm, ⟨15, _⟩ => ⟨S32x1024, .f32⟩
  | .hbm, ⟨16, _⟩ => ⟨S32x1024, .bf16⟩
  | .hbm, ⟨17, _⟩ => ⟨S32, .f32⟩
  | .hbm, ⟨18, _⟩ => ⟨S32x1, .f32⟩
  | .hbm, ⟨19, _⟩ => ⟨S16384x1024, .f32⟩
  | .hbm, ⟨20, _⟩ => ⟨S16384x2x512, .bf16⟩
  | .hbm, ⟨21, _⟩ => ⟨S4x16384, .i32⟩
  | .hbm, ⟨22, _⟩ => ⟨S4x16384, .f32⟩
  | .hbm, ⟨23, _⟩ => ⟨S4x16384, .i32⟩
  | .hbm, ⟨24, _⟩ => ⟨S32x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S32x1024, .bf16⟩
  | .local _ .vmem, ⟨10, _⟩ => ⟨S32x1, .f32⟩
  | .local _ .vmem, ⟨11, _⟩ => ⟨S1024x1024, .f32⟩
  | .local _ .vmem, ⟨12, _⟩ => ⟨S1024x1024, .f32⟩
  | .local _ .vmem, ⟨13, _⟩ => ⟨S1024x2x512, .bf16⟩
  | .local _ .vmem, ⟨14, _⟩ => ⟨S1024x2x512, .bf16⟩
  | .local _ .vmem, ⟨15, _⟩ => ⟨S4x1024, .i32⟩
  | .local _ .vmem, ⟨16, _⟩ => ⟨S4x1024, .i32⟩
  | .local _ .vmem, ⟨17, _⟩ => ⟨S4x1024, .f32⟩
  | .local _ .vmem, ⟨18, _⟩ => ⟨S4x1024, .f32⟩
  | .local _ .vmem, ⟨19, _⟩ => ⟨S4x1024, .i32⟩
  | .local _ .vmem, ⟨20, _⟩ => ⟨S4x1024, .i32⟩
  | .local _ .vmem, ⟨21, _⟩ => ⟨S32x128, .f32⟩
  | .local _ .vmem, ⟨22, _⟩ => ⟨S32x1, .f32⟩
  | .local _ .vmem, ⟨23, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x2x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1024 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal4.lean ====
abbrev S2x8192x1024 : Shape := ⟨3, ![2, 8192, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x32 : Shape := ⟨2, ![1024, 32]⟩
abbrev S16384x32 : Shape := ⟨2, ![16384, 32]⟩
abbrev S32 : Shape := ⟨1, ![32]⟩
abbrev S16384x4 : Shape := ⟨2, ![16384, 4]⟩
abbrev S4x16384 : Shape := ⟨2, ![4, 16384]⟩

abbrev nBuf : Space → Nat
  | .hbm => 73
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x32, .f32⟩
  | .hbm, ⟨7, _⟩ => ⟨S1x32, .f32⟩
  | .hbm, ⟨8, _⟩ => ⟨S16384x1024, .f32⟩
  | .hbm, ⟨9, _⟩ => ⟨S16384x1024, .bf16⟩
  | .hbm, ⟨10, _⟩ => ⟨S1024x1024, .f32⟩
  | .hbm, ⟨11, _⟩ => ⟨S1024x1024, .bf16⟩
  | .hbm, ⟨12, _⟩ => ⟨S16384x1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S1024x32, .f32⟩
  | .hbm, ⟨49, _⟩ => ⟨S16384x1024, .bf16⟩
  | .hbm, ⟨50, _⟩ => ⟨S1024x32, .bf16⟩
  | .hbm, ⟨51, _⟩ => ⟨S16384x32, .f32⟩
  | .hbm, ⟨52, _⟩ => ⟨S32, .f32⟩
  | .hbm, ⟨53, _⟩ => ⟨S1x32, .f32⟩
  | .hbm, ⟨54, _⟩ => ⟨S16384x32, .f32⟩
  | .hbm, ⟨55, _⟩ => ⟨S16384x32, .f32⟩
  | .hbm, ⟨56, _⟩ => ⟨S16384x4, .f32⟩
  | .hbm, ⟨57, _⟩ => ⟨S16384x4, .i32⟩
  | .hbm, ⟨58, _⟩ => ⟨S_, .f32⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S16384x1, .f32⟩
  | .hbm, ⟨64, _⟩ => ⟨S16384x4, .f32⟩
  | .hbm, ⟨65, _⟩ => ⟨S16384x4, .f32⟩
  | .hbm, ⟨66, _⟩ => ⟨S16384x4, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S16384x4, .f32⟩
  | .hbm, ⟨71, _⟩ => ⟨S16384x4, .f32⟩
  | .hbm, ⟨72, _⟩ => ⟨S4x16384, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_values : Ref sig .tc := ⟨.hbm, 56, rfl⟩
abbrev main_indices : Ref sig .tc := ⟨.hbm, 57, rfl⟩
abbrev main_cst_5 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel5.lean ====
abbrev S2x8192x1024 : Shape := ⟨3, ![2, 8192, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S16384x1024 : Shape := ⟨2, ![16384, 1024]⟩
abbrev S1024x1024 : Shape := ⟨2, ![1024, 1024]⟩
abbrev S1024 : Shape := ⟨1, ![1024]⟩
abbrev S1024x32 : Shape := ⟨2, ![1024, 32]⟩
abbrev S32x1024 : Shape := ⟨2, ![32, 1024]⟩
abbrev S32 : Shape := ⟨1, ![32]⟩
abbrev S32x1 : Shape := ⟨2, ![32, 1]⟩
abbrev S4x16384 : Shape := ⟨2, ![4, 16384]⟩
abbrev S32x128 : Shape := ⟨2, ![32, 128]⟩
abbrev S1024x512 : Shape := ⟨2, ![1024, 512]⟩
abbrev S4x1024 : Shape := ⟨2, ![4, 1024]⟩
abbrev S512x1024 : Shape := ⟨2, ![512, 1024]⟩
abbrev S1024x1 : Shape := ⟨2, ![1024, 1]⟩

abbrev nBuf : Space → Nat
  | .hbm => 25
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x32, .f32⟩
  | .hbm, ⟨7, _⟩ => ⟨S1x32, .f32⟩
  | .hbm, ⟨8, _⟩ => ⟨S16384x1024, .f32⟩
  | .hbm, ⟨9, _⟩ => ⟨S1024x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024x32, .f32⟩
  | .hbm, ⟨15, _⟩ => ⟨S32x1024, .f32⟩
  | .hbm, ⟨16, _⟩ => ⟨S32x1024, .bf16⟩
  | .hbm, ⟨17, _⟩ => ⟨S32, .f32⟩
  | .hbm, ⟨18, _⟩ => ⟨S32x1, .f32⟩
  | .hbm, ⟨19, _⟩ => ⟨S16384x1024, .f32⟩
  | .hbm, ⟨20, _⟩ => ⟨S16384x512, .i32⟩
  | .hbm, ⟨21, _⟩ => ⟨S4x16384, .i32⟩
  | .hbm, ⟨22, _⟩ => ⟨S4x16384, .f32⟩
  | .hbm, ⟨23, _⟩ => ⟨S4x16384, .i32⟩
  | .hbm, ⟨24, _⟩ => ⟨S32x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S32x1024, .bf16⟩
  | .local _ .vmem, ⟨10, _⟩ => ⟨S32x1, .f32⟩
  | .local _ .vmem, ⟨11, _⟩ => ⟨S1024x1024, .f32⟩
  | .local _ .vmem, ⟨12, _⟩ => ⟨S1024x1024, .f32⟩
  | .local _ .vmem, ⟨13, _⟩ => ⟨S1024x512, .i32⟩
  | .local _ .vmem, ⟨14, _⟩ => ⟨S1024x512, .i32⟩
  | .local _ .vmem, ⟨15, _⟩ => ⟨S4x1024, .i32⟩
  | .local _ .vmem, ⟨16, _⟩ => ⟨S4x1024, .i32⟩
  | .local _ .vmem, ⟨17, _⟩ => ⟨S4x1024, .f32⟩
  | .local _ .vmem, ⟨18, _⟩ => ⟨S4x1024, .f32⟩
  | .local _ .vmem, ⟨19, _⟩ => ⟨S4x1024, .i32⟩
  | .local _ .vmem, ⟨20, _⟩ => ⟨S4x1024, .i32⟩
  | .local _ .vmem, ⟨21, _⟩ => ⟨S32x128, .f32⟩
  | .local _ .vmem, ⟨22, _⟩ => ⟨S32x1, .f32⟩
  | .local _ .vmem, ⟨23, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1024 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal5.lean ====
abbrev S2x8192x1024 : Shape := ⟨3, ![2, 8192, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S16384x1024 : Shape := ⟨2, ![16384, 1024]⟩
abbrev S1024x1024 : Shape := ⟨2, ![1024, 1024]⟩
abbrev S1024 : Shape := ⟨1, ![1024]⟩
abbrev S1024x32 : Shape := ⟨2, ![1024, 32]⟩
abbrev S32x1024 : Shape := ⟨2, ![32, 1024]⟩
abbrev S32 : Shape := ⟨1, ![32]⟩
abbrev S32x1 : Shape := ⟨2, ![32, 1]⟩
abbrev S16384x2x512 : Shape := ⟨3, ![16384, 2, 512]⟩
abbrev S4x16384 : Shape := ⟨2, ![4, 16384]⟩
abbrev S32x128 : Shape := ⟨2, ![32, 128]⟩
abbrev S16384x1x512 : Shape := ⟨3, ![16384, 1, 512]⟩
abbrev S1024x512 : Shape := ⟨2, ![1024, 512]⟩
abbrev S1024x2x512 : Shape := ⟨3, ![1024, 2, 512]⟩
abbrev S1024x1x512 : Shape := ⟨3, ![1024, 1, 512]⟩
abbrev S4x1024 : Shape := ⟨2, ![4, 1024]⟩
abbrev S512x1024 : Shape := ⟨2, ![512, 1024]⟩
abbrev S1024x1 : Shape := ⟨2, ![1024, 1]⟩

abbrev nBuf : Space → Nat
  | .hbm => 25
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x32, .f32⟩
  | .hbm, ⟨7, _⟩ => ⟨S1x32, .f32⟩
  | .hbm, ⟨8, _⟩ => ⟨S16384x1024, .f32⟩
  | .hbm, ⟨9, _⟩ => ⟨S1024x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024x32, .f32⟩
  | .hbm, ⟨15, _⟩ => ⟨S32x1024, .f32⟩
  | .hbm, ⟨16, _⟩ => ⟨S32x1024, .bf16⟩
  | .hbm, ⟨17, _⟩ => ⟨S32, .f32⟩
  | .hbm, ⟨18, _⟩ => ⟨S32x1, .f32⟩
  | .hbm, ⟨19, _⟩ => ⟨S16384x1024, .f32⟩
  | .hbm, ⟨20, _⟩ => ⟨S16384x2x512, .bf16⟩
  | .hbm, ⟨21, _⟩ => ⟨S4x16384, .i32⟩
  | .hbm, ⟨22, _⟩ => ⟨S4x16384, .f32⟩
  | .hbm, ⟨23, _⟩ => ⟨S4x16384, .i32⟩
  | .hbm, ⟨24, _⟩ => ⟨S32x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S32x1024, .bf16⟩
  | .local _ .vmem, ⟨10, _⟩ => ⟨S32x1, .f32⟩
  | .local _ .vmem, ⟨11, _⟩ => ⟨S1024x1024, .f32⟩
  | .local _ .vmem, ⟨12, _⟩ => ⟨S1024x1024, .f32⟩
  | .local _ .vmem, ⟨13, _⟩ => ⟨S1024x2x512, .bf16⟩
  | .local _ .vmem, ⟨14, _⟩ => ⟨S1024x2x512, .bf16⟩
  | .local _ .vmem, ⟨15, _⟩ => ⟨S4x1024, .i32⟩
  | .local _ .vmem, ⟨16, _⟩ => ⟨S4x1024, .i32⟩
  | .local _ .vmem, ⟨17, _⟩ => ⟨S4x1024, .f32⟩
  | .local _ .vmem, ⟨18, _⟩ => ⟨S4x1024, .f32⟩
  | .local _ .vmem, ⟨19, _⟩ => ⟨S4x1024, .i32⟩
  | .local _ .vmem, ⟨20, _⟩ => ⟨S4x1024, .i32⟩
  | .local _ .vmem, ⟨21, _⟩ => ⟨S32x128, .f32⟩
  | .local _ .vmem, ⟨22, _⟩ => ⟨S32x1, .f32⟩
  | .local _ .vmem, ⟨23, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x2x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1024 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal5.lean ====
abbrev S2x8192x1024 : Shape := ⟨3, ![2, 8192, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x32 : Shape := ⟨2, ![1024, 32]⟩
abbrev S16384x32 : Shape := ⟨2, ![16384, 32]⟩
abbrev S32 : Shape := ⟨1, ![32]⟩
abbrev S16384x4 : Shape := ⟨2, ![16384, 4]⟩
abbrev S16384x4x1 : Shape := ⟨3, ![16384, 4, 1]⟩
abbrev S1x1x32 : Shape := ⟨3, ![1, 1, 32]⟩
abbrev S16384x4x32 : Shape := ⟨3, ![16384, 4, 32]⟩
abbrev S1x16384 : Shape := ⟨2, ![1, 16384]⟩
abbrev S16384x16384 : Shape := ⟨2, ![16384, 16384]⟩
abbrev S16384x1x32 : Shape := ⟨3, ![16384, 1, 32]⟩
abbrev S4x16384 : Shape := ⟨2, ![4, 16384]⟩
abbrev S32x1 : Shape := ⟨2, ![32, 1]⟩
abbrev S32x128 : Shape := ⟨2, ![32, 128]⟩

abbrev nBuf : Space → Nat
  | .hbm => 90
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x32, .f32⟩
  | .hbm, ⟨7, _⟩ => ⟨S1x32, .f32⟩
  | .hbm, ⟨8, _⟩ => ⟨S16384x1024, .f32⟩
  | .hbm, ⟨9, _⟩ => ⟨S16384x1024, .bf16⟩
  | .hbm, ⟨10, _⟩ => ⟨S1024x1024, .f32⟩
  | .hbm, ⟨11, _⟩ => ⟨S1024x1024, .bf16⟩
  | .hbm, ⟨12, _⟩ => ⟨S16384x1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S1024x32, .f32⟩
  | .hbm, ⟨49, _⟩ => ⟨S16384x1024, .bf16⟩
  | .hbm, ⟨50, _⟩ => ⟨S1024x32, .bf16⟩
  | .hbm, ⟨51, _⟩ => ⟨S16384x32, .f32⟩
  | .hbm, ⟨52, _⟩ => ⟨S32, .f32⟩
  | .hbm, ⟨53, _⟩ => ⟨S1x32, .f32⟩
  | .hbm, ⟨54, _⟩ => ⟨S16384x32, .f32⟩
  | .hbm, ⟨55, _⟩ => ⟨S16384x32, .f32⟩
  | .hbm, ⟨56, _⟩ => ⟨S16384x4, .f32⟩
  | .hbm, ⟨57, _⟩ => ⟨S16384x4, .i32⟩
  | .hbm, ⟨58, _⟩ => ⟨S16384x4x1, .i32⟩
  | .hbm, ⟨59, _⟩ => ⟨S32, .i32⟩
  | .hbm, ⟨60, _⟩ => ⟨S1x1x32, .i32⟩
  | .hbm, ⟨61, _⟩ => ⟨S16384x4x32, .i32⟩
  | .hbm, ⟨62, _⟩ => ⟨S16384x4x32, .i32⟩
  | .hbm, ⟨63, _⟩ => ⟨S16384x4x32, .i1⟩
  | .hbm, ⟨64, _⟩ => ⟨S16384x4x32, .f32⟩
  | .hbm, ⟨65, _⟩ => ⟨S_, .f32⟩
  | .hbm, ⟨66, _⟩ => ⟨S16384x32, .f32⟩
  | .hbm, ⟨67, _⟩ => ⟨S_, .f32⟩
  | .hbm, ⟨68, _⟩ => ⟨S32, .f32⟩
  | .hbm, ⟨69, _⟩ => ⟨S16384, .i32⟩
  | .hbm, ⟨70, _⟩ => ⟨S1x16384, .i32⟩
  | .hbm, ⟨71, _⟩ => ⟨S16384, .i32⟩
  | .hbm, ⟨72, _⟩ => ⟨S16384x1, .i32⟩
  | .hbm, ⟨73, _⟩ => ⟨S16384x16384, .i32⟩
  | .hbm, ⟨74, _⟩ => ⟨S16384x16384, .i32⟩
  | .hbm, ⟨75, _⟩ => ⟨S16384x16384, .i1⟩
  | .hbm, ⟨76, _⟩ => ⟨S16384x16384, .f32⟩
  | .hbm, ⟨77, _⟩ => ⟨S_, .f32⟩
  | .hbm, ⟨78, _⟩ => ⟨S16384x32, .f32⟩
  | .hbm, ⟨79, _⟩ => ⟨S16384x32, .f32⟩
  | .hbm, ⟨80, _⟩ => ⟨S16384x1x32, .f32⟩
  | .hbm, ⟨81, _⟩ => ⟨S16384x4x32, .f32⟩
  | .hbm, ⟨82, _⟩ => ⟨S16384x4x32, .f32⟩
  | .hbm, ⟨83, _⟩ => ⟨S_, .f32⟩
  | .hbm, ⟨84, _⟩ => ⟨S16384x4, .f32⟩
  | .hbm, ⟨85, _⟩ => ⟨S16384x4, .i32⟩
  | .hbm, ⟨86, _⟩ => ⟨S4x16384, .i32⟩
  | .hbm, ⟨87, _⟩ => ⟨S4x16384, .i32⟩
  | .hbm, ⟨88, _⟩ => ⟨S32x1, .f32⟩
  | .hbm, ⟨89, _⟩ => ⟨S32x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_values : Ref sig .tc := ⟨.hbm, 56, rfl⟩
abbrev main_indices : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== Proof.Ref.lean ====
module

public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem

namespace Cert.ReferenceIdeal.Layer

open Cert.ReferenceIdeal Cert.ReferenceIdeal.Gen Cert.ReferenceIdeal.Value

/-- The rows the words hold: the low halves of a row's words, then the high halves. -/
def rows (yg : IVec S4x16384x512 32) : FVec Ideal S4x16384x1024 .f32 :=
  concatenate S4x16384x1024 2 [⟨S4x16384x512, (shapeCast _ (extractStridedSlice S4x16384x512x1 ![0, 0, 0, 0] (extf .f32 (bitcastToFloat (F := Ideal) .bf16 (Host.bitcastConvertNarrow S4x16384x512x2 16 yg splits_S4x16384x512_w32_S4x16384x512x2_w16)) bitsLt_bf16_f32) slices_S4x16384x512x2_S4x16384x512x1_0_0_0_0) shapeCasts_S4x16384x512x1_S4x16384x512)⟩, ⟨S4x16384x512, (shapeCast _ (extractStridedSlice S4x16384x512x1 ![0, 0, 0, 1] (extf .f32 (bitcastToFloat (F := Ideal) .bf16 (Host.bitcastConvertNarrow S4x16384x512x2 16 yg splits_S4x16384x512_w32_S4x16384x512x2_w16)) bitsLt_bf16_f32) slices_S4x16384x512x2_S4x16384x512x1_0_0_0_1) shapeCasts_S4x16384x512x1_S4x16384x512)⟩] concatenates_S4x16384x512_S4x16384x512_S4x16384x1024_d2

/-- The four experts' rows mixed by the gates. -/
def mixed (yg : IVec S4x16384x512 32) (gate : FVec Ideal S4x16384 .f32) : FVec Ideal S16384x1024 .f32 :=
  Host.reduceAdd (mulf (rows yg) (broadcastInDim S4x16384x1024 ![0, 1, 2] bcast_S4x16384x1_S4x16384x1024_0_1_2 (broadcastInDim S4x16384x1 ![0, 1] bcast_S4x16384_S4x16384x1_0_1 gate))) (constant S_ .f32 0x00000000#32) reducesTo_S4x16384x1024_S16384x1024_d0 h_S_

/-- A row scaled by the inverse root of its mean square, then by the gain. -/
def normed (y : FVec Ideal S16384x1024 .f32) (g : FVec Ideal S1x1024 .f32) : FVec Ideal S16384x1024 .f32 :=
  mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast S1024 g shapeCasts_S1x1024_S1024)))

/-- The sigmoid gate of the rows `x`. -/
def gated (x : FVec Ideal S16384x1024 .f32) (w : FVec Ideal S1x1024x1024 .f32) (b : FVec Ideal S1x1024 .f32) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (Host.dotGeneral dot_S16384x1024_S1024x1024_S16384x1024_1_0_0_1_n_n none x (shapeCast S1024x1024 w shapeCasts_S1x1024x1024_S1024x1024)) (broadcastInDim S16384x1024 ![0, 1] bcast_S1x1024_S16384x1024_0_1 (broadcastInDim S1x1024 ![1] bcast_S1024_S1x1024_1 (shapeCast S1024 b shapeCasts_S1x1024_S1024)))))))

/-- The per-layer embedding's rows under the gate. -/
def embedded (x : FVec Ideal S16384x1024 .f32) (w : FVec Ideal S1x1024x1024 .f32) (b : FVec Ideal S1x1024 .f32)
    (p : FVec Ideal S1x2x8192x256 .f32) (u : FVec Ideal S1x256x1024 .f32) : FVec Ideal S16384x1024 .f32 :=
  mulf (gated x w b) (Host.dotGeneral dot_S16384x256_S256x1024_S16384x1024_1_0_0_1_n_n none (shapeCast S16384x256 (shapeCast S2x8192x256 p shapeCasts_S1x2x8192x256_S2x8192x256) shapeCasts_S2x8192x256_S16384x256) (shapeCast S256x1024 u shapeCasts_S1x256x1024_S256x1024))

/-- The rows after the experts' residual. -/
def mid (x1 : FVec Ideal S16384x1024 .f32) (yg : IVec S4x16384x512 32) (gate : FVec Ideal S4x16384 .f32)
    (g : FVec Ideal S1x1024 .f32) : FVec Ideal S16384x1024 .f32 :=
  addf x1 (normed (mixed yg gate) g)

/-- What the reference returns, over its arguments. -/
theorem res_eq (m : (ℓ : Loc nD τ sig) → Buf (Elt Ideal) ℓ) (c : Dev nD) :
    res_main_v57 m c =
      addf (mid (m ((c.tc : Thread nD τ).loc main_arg0)) (m ((c.tc : Thread nD τ).loc main_arg1)) (m ((c.tc : Thread nD τ).loc main_arg2)) (m ((c.tc : Thread nD τ).loc main_arg4)))
        (normed (embedded (mid (m ((c.tc : Thread nD τ).loc main_arg0)) (m ((c.tc : Thread nD τ).loc main_arg1)) (m ((c.tc : Thread nD τ).loc main_arg2)) (m ((c.tc : Thread nD τ).loc main_arg4)))
          (m ((c.tc : Thread nD τ).loc main_arg5)) (m ((c.tc : Thread nD τ).loc main_arg6)) (m ((c.tc : Thread nD τ).loc main_arg3)) (m ((c.tc : Thread nD τ).loc main_arg7)))
          (m ((c.tc : Thread nD τ).loc main_arg8))) := by
  unfold res_main_v57 mid embedded gated normed mixed rows
  rfl

end Cert.ReferenceIdeal.Layer
-- ==== Proof.Block.lean ====
module

public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen Cert.KernelIdeal.Value

variable {F : FTy → Type} [FloatOps F]

/-- Slab `k` of the gathered words' block: the packed rows of the `k`-th chosen expert. -/
abbrev slab (x : Vec F S4x1024x512 .i32) (k : Fin 4) : Vec F S1x1024x512 .i32 :=
  View.ld x (Rect.unit (s := S4x1024x512) ![k.val, 0, 0] ![1, 1024, 512] (fun a => by have := k.isLt; match a with
    | ⟨0, _⟩ => show k.val + (1 - 1) * 1 < 4; omega
    | ⟨1, _⟩ => show 0 + (1024 - 1) * 1 < 1024; omega
    | ⟨2, _⟩ => show 0 + (512 - 1) * 1 < 512; omega))

/-- The block a point stores, over the blocks it reads and the two weights as the scratch holds them. -/
def rowBlock (x0 : Vec F S1024x1024 .f32) (x1 : Vec F S4x1024x512 .i32) (x2 : Vec F S1024x4 .f32) (x3 : Vec F S1024x256 .f32)
    (x4 x6 x8 : Vec F S1x1024 .f32) (w : Vec F S1024x1024 .bf16) (u : Vec F S256x1024 .bf16) : Vec F S1024x1024 .f32 :=
  k0_pay1 (k0_pay5 (k0_pay4 x2 (slab x1 0) (slab x1 1) (slab x1 2) (slab x1 3)) x0 x4)
    (k0_pay6 (k0_pay4 x2 (slab x1 0) (slab x1 1) (slab x1 2) (slab x1 3)) x0 x4 w x6 x3 u) (k0_pay7 x8)
    (k0_pay8 (k0_pay4 x2 (slab x1 0) (slab x1 1) (slab x1 2) (slab x1 3)) x0 x4 w x6 x3 u)

theorem out_first (c : Dev nD) (i : grid0.Coords) (a1 : Memref sig .tc .vmem S1024x1024 .f32) (h1 : a1.IsWhole) (a2 : Memref sig .tc .vmem S4x1024x512 .i32) (h2 : a2.IsWhole) (a3 : Memref sig .tc .vmem S1024x4 .f32) (h3 : a3.IsWhole) (a4 : Memref sig .tc .vmem S1024x256 .f32) (h4 : a4.IsWhole) (a5 : Memref sig .tc .vmem S1x1024 .f32) (h5 : a5.IsWhole) (a6 : Memref sig .tc .vmem S1024x1024 .f32) (h6 : a6.IsWhole) (a7 : Memref sig .tc .vmem S1x1024 .f32) (h7 : a7.IsWhole) (a8 : Memref sig .tc .vmem S256x1024 .f32) (h8 : a8.IsWhole) (a9 : Memref sig .tc .vmem S1x1024 .f32) (h9 : a9.IsWhole) (a10 : Memref sig .tc .vmem S1024x1024 .f32) (h10 : a10.IsWhole) (a11 : Memref sig .tc .vmem S1024x1024 .bf16) (h11 : a11.IsWhole) (a12 : Memref sig .tc .vmem S256x1024 .bf16) (h12 : a12.IsWhole) (hc : cond0_0 i) (x0 : Vec F S1024x1024 .f32) (x1 : Vec F S4x1024x512 .i32) (x2 : Vec F S1024x4 .f32) (x3 : Vec F S1024x256 .f32) (x4 : Vec F S1x1024 .f32) (x5 : Vec F S1024x1024 .f32) (x6 : Vec F S1x1024 .f32) (x7 : Vec F S256x1024 .f32) (x8 : Vec F S1x1024 .f32) :
    out0_A_9 c i a1 h1 a2 h2 a3 h3 a4 h4 a5 h5 a6 h6 a7 h7 a8 h8 a9 h9 a10 h10 a11 h11 a12 h12 hc x0 x1 x2 x3 x4 x5 x6 x7 x8 = rowBlock x0 x1 x2 x3 x4 x6 x8 (k0_pay2 x5) (k0_pay3 x7) := by
  frame_out
  rfl

theorem out_later (c : Dev nD) (i : grid0.Coords) (a1 : Memref sig .tc .vmem S1024x1024 .f32) (h1 : a1.IsWhole) (a2 : Memref sig .tc .vmem S4x1024x512 .i32) (h2 : a2.IsWhole) (a3 : Memref sig .tc .vmem S1024x4 .f32) (h3 : a3.IsWhole) (a4 : Memref sig .tc .vmem S1024x256 .f32) (h4 : a4.IsWhole) (a5 : Memref sig .tc .vmem S1x1024 .f32) (h5 : a5.IsWhole) (a6 : Memref sig .tc .vmem S1024x1024 .f32) (h6 : a6.IsWhole) (a7 : Memref sig .tc .vmem S1x1024 .f32) (h7 : a7.IsWhole) (a8 : Memref sig .tc .vmem S256x1024 .f32) (h8 : a8.IsWhole) (a9 : Memref sig .tc .vmem S1x1024 .f32) (h9 : a9.IsWhole) (a10 : Memref sig .tc .vmem S1024x1024 .f32) (h10 : a10.IsWhole) (a11 : Memref sig .tc .vmem S1024x1024 .bf16) (h11 : a11.IsWhole) (a12 : Memref sig .tc .vmem S256x1024 .bf16) (h12 : a12.IsWhole) (hc : ¬cond0_0 i) (x0 : Vec F S1024x1024 .f32) (x1 : Vec F S4x1024x512 .i32) (x2 : Vec F S1024x4 .f32) (x3 : Vec F S1024x256 .f32) (x4 : Vec F S1x1024 .f32) (x5 : Vec F S1024x1024 .f32) (x6 : Vec F S1x1024 .f32) (x7 : Vec F S256x1024 .f32) (x8 : Vec F S1x1024 .f32) (s0 : Vec F S1024x1024 .bf16) (s1 : Vec F S256x1024 .bf16) :
    out0_B_9 c i a1 h1 a2 h2 a3 h3 a4 h4 a5 h5 a6 h6 a7 h7 a8 h8 a9 h9 a10 h10 a11 h11 a12 h12 hc x0 x1 x2 x3 x4 x5 x6 x7 x8 s0 s1 = rowBlock x0 x1 x2 x3 x4 x6 x8 s0 s1 := by
  frame_out
  rfl

theorem scratch_first0 (c : Dev nD) (i : grid0.Coords) (a1 : Memref sig .tc .vmem S1024x1024 .f32) (h1 : a1.IsWhole) (a2 : Memref sig .tc .vmem S4x1024x512 .i32) (h2 : a2.IsWhole) (a3 : Memref sig .tc .vmem S1024x4 .f32) (h3 : a3.IsWhole) (a4 : Memref sig .tc .vmem S1024x256 .f32) (h4 : a4.IsWhole) (a5 : Memref sig .tc .vmem S1x1024 .f32) (h5 : a5.IsWhole) (a6 : Memref sig .tc .vmem S1024x1024 .f32) (h6 : a6.IsWhole) (a7 : Memref sig .tc .vmem S1x1024 .f32) (h7 : a7.IsWhole) (a8 : Memref sig .tc .vmem S256x1024 .f32) (h8 : a8.IsWhole) (a9 : Memref sig .tc .vmem S1x1024 .f32) (h9 : a9.IsWhole) (a10 : Memref sig .tc .vmem S1024x1024 .f32) (h10 : a10.IsWhole) (a11 : Memref sig .tc .vmem S1024x1024 .bf16) (h11 : a11.IsWhole) (a12 : Memref sig .tc .vmem S256x1024 .bf16) (h12 : a12.IsWhole) (hc : cond0_0 i) (x0 : Vec F S1024x1024 .f32) (x1 : Vec F S4x1024x512 .i32) (x2 : Vec F S1024x4 .f32) (x3 : Vec F S1024x256 .f32) (x4 : Vec F S1x1024 .f32) (x5 : Vec F S1024x1024 .f32) (x6 : Vec F S1x1024 .f32) (x7 : Vec F S256x1024 .f32) (x8 : Vec F S1x1024 .f32) :
    sout0_A_0 c i a1 h1 a2 h2 a3 h3 a4 h4 a5 h5 a6 h6 a7 h7 a8 h8 a9 h9 a10 h10 a11 h11 a12 h12 hc x0 x1 x2 x3 x4 x5 x6 x7 x8 = k0_pay2 x5 := by
  frame_out

theorem scratch_first1 (c : Dev nD) (i : grid0.Coords) (a1 : Memref sig .tc .vmem S1024x1024 .f32) (h1 : a1.IsWhole) (a2 : Memref sig .tc .vmem S4x1024x512 .i32) (h2 : a2.IsWhole) (a3 : Memref sig .tc .vmem S1024x4 .f32) (h3 : a3.IsWhole) (a4 : Memref sig .tc .vmem S1024x256 .f32) (h4 : a4.IsWhole) (a5 : Memref sig .tc .vmem S1x1024 .f32) (h5 : a5.IsWhole) (a6 : Memref sig .tc .vmem S1024x1024 .f32) (h6 : a6.IsWhole) (a7 : Memref sig .tc .vmem S1x1024 .f32) (h7 : a7.IsWhole) (a8 : Memref sig .tc .vmem S256x1024 .f32) (h8 : a8.IsWhole) (a9 : Memref sig .tc .vmem S1x1024 .f32) (h9 : a9.IsWhole) (a10 : Memref sig .tc .vmem S1024x1024 .f32) (h10 : a10.IsWhole) (a11 : Memref sig .tc .vmem S1024x1024 .bf16) (h11 : a11.IsWhole) (a12 : Memref sig .tc .vmem S256x1024 .bf16) (h12 : a12.IsWhole) (hc : cond0_0 i) (x0 : Vec F S1024x1024 .f32) (x1 : Vec F S4x1024x512 .i32) (x2 : Vec F S1024x4 .f32) (x3 : Vec F S1024x256 .f32) (x4 : Vec F S1x1024 .f32) (x5 : Vec F S1024x1024 .f32) (x6 : Vec F S1x1024 .f32) (x7 : Vec F S256x1024 .f32) (x8 : Vec F S1x1024 .f32) :
    sout0_A_1 c i a1 h1 a2 h2 a3 h3 a4 h4 a5 h5 a6 h6 a7 h7 a8 h8 a9 h9 a10 h10 a11 h11 a12 h12 hc x0 x1 x2 x3 x4 x5 x6 x7 x8 = k0_pay3 x7 := by
  frame_out

end Cert.KernelIdeal.Layer
-- ==== Proof.Rowwise.lean ====
module

public import proofs.«01_k».proof.Proof.Ref
public import proofs.«01_k».proof.Proof.Block
public import Idealize.ShloMosaic.Lib.BitcastConvert

@[expose] public section

set_option maxRecDepth 16384

noncomputable section

open Idealize.ShloMosaic Idealize.ShloMosaic.TcCoe Idealize.SL.Sem

namespace Cert.Layer

open Cert.KernelIdeal.Gen Cert.KernelIdeal.Layer Cert.ReferenceIdeal.Layer

variable (r : Fin 1024) (R : Fin 16384)

/-- Row `r` of the block of mixed rows is row `R` of the mixed rows, where the words' and the gates' rows are. -/
theorem mixed_row (x1 : IVec Cert.KernelIdeal.S4x1024x512 32) (x2 : FVec Ideal Cert.KernelIdeal.S1024x4 .f32)
    (yg : IVec Cert.ReferenceIdeal.S4x16384x512 32) (gate : FVec Ideal Cert.ReferenceIdeal.S4x16384 .f32)
    (hy : ∀ (k : Fin 4) (l : Fin 512), x1 (ix3 k r l) = yg (ix3 k R l)) (hg : ∀ k : Fin 4, x2 (ix2 r k) = gate (ix2 k R)) (j : Fin 1024) :
    k0_pay4 x2 (slab (F := Ideal) x1 0) (slab (F := Ideal) x1 1) (slab (F := Ideal) x1 2) (slab (F := Ideal) x1 3) (ix2 r j) = mixed yg gate (ix2 R j) := by
  have drop_at (k : Fin 4) (l : Fin 512) (q : Fin 2) :
      Cert.ReferenceIdeal.Gen.splits_S4x16384x512_w32_S4x16384x512x2_w16.drop (ix4 k R l q) = ix3 k R l := by
    funext a; match a with | ⟨0, _⟩ => rfl | ⟨1, _⟩ => rfl | ⟨2, _⟩ => rfl
  pointwise [k0_pay4, slab, mixed, rows]
  by_cases h : j.val < 512
  · simp only [h, dite_true, hy, hg, drop_at, Fin.sum_univ_four, mul_comm]
  · simp only [h, dite_false, hy, hg, drop_at, Fin.sum_univ_four, mul_comm]

theorem mid_row (y x0 : FVec Ideal Cert.KernelIdeal.S1024x1024 .f32) (x4 : FVec Ideal Cert.KernelIdeal.S1x1024 .f32)
    (yg : IVec Cert.ReferenceIdeal.S4x16384x512 32) (gate : FVec Ideal Cert.ReferenceIdeal.S4x16384 .f32)
    (x1 : FVec Ideal Cert.ReferenceIdeal.S16384x1024 .f32) (hy : ∀ j : Fin 1024, y (ix2 r j) = mixed yg gate (ix2 R j))
    (hx : ∀ j : Fin 1024, x0 (ix2 r j) = x1 (ix2 R j)) (j : Fin 1024) :
    k0_pay5 y x0 x4 (ix2 r j) = mid x1 yg gate x4 (ix2 R j) := by
  pointwise [k0_pay5, mid, normed]
  simp only [hy, hx]

theorem embedded_row (y x0 : FVec Ideal Cert.KernelIdeal.S1024x1024 .f32) (x4 x6 : FVec Ideal Cert.KernelIdeal.S1x1024 .f32)
    (x3 : FVec Ideal Cert.KernelIdeal.S1024x256 .f32) (x5 : FVec Ideal Cert.KernelIdeal.S1024x1024 .f32) (x7 : FVec Ideal Cert.KernelIdeal.S256x1024 .f32)
    (x : FVec Ideal Cert.ReferenceIdeal.S16384x1024 .f32) (w : FVec Ideal Cert.ReferenceIdeal.S1x1024x1024 .f32)
    (p : FVec Ideal Cert.ReferenceIdeal.S1x2x8192x256 .f32) (u : FVec Ideal Cert.ReferenceIdeal.S1x256x1024 .f32)
    (hx : ∀ j : Fin 1024, k0_pay5 y x0 x4 (ix2 r j) = x (ix2 R j))
    (hw : ∀ k j : Fin 1024, x5 (ix2 k j) = w (ix3 0 k j)) (hu : ∀ (k : Fin 256) (j : Fin 1024), x7 (ix2 k j) = u (ix3 0 k j))
    (hp : ∀ k : Fin 256, x3 (ix2 r k) = p (ix4 0 ⟨R.val / 8192, by omega⟩ ⟨R.val % 8192, by omega⟩ k)) (j : Fin 1024) :
    k0_pay6 y x0 x4 (k0_pay2 (F := Ideal) x5) x6 x3 (k0_pay3 (F := Ideal) x7) (ix2 r j) = embedded x w x6 p u (ix2 R j) := by
  pointwise [k0_pay6, k0_pay2, k0_pay3, embedded, gated]
  simp only [hx, hw, hu, hp, Ideal.logistic]

/-- Row `r` of the block a point stores is row `R` of the reference's result. -/
theorem rowBlock_row (x0 : FVec Ideal Cert.KernelIdeal.S1024x1024 .f32) (x1 : IVec Cert.KernelIdeal.S4x1024x512 32)
    (x2 : FVec Ideal Cert.KernelIdeal.S1024x4 .f32) (x3 : FVec Ideal Cert.KernelIdeal.S1024x256 .f32)
    (x4 x6 x8 : FVec Ideal Cert.KernelIdeal.S1x1024 .f32) (x5 : FVec Ideal Cert.KernelIdeal.S1024x1024 .f32) (x7 : FVec Ideal Cert.KernelIdeal.S256x1024 .f32)
    (a0 : FVec Ideal Cert.ReferenceIdeal.S16384x1024 .f32) (yg : IVec Cert.ReferenceIdeal.S4x16384x512 32)
    (gate : FVec Ideal Cert.ReferenceIdeal.S4x16384 .f32) (w : FVec Ideal Cert.ReferenceIdeal.S1x1024x1024 .f32)
    (p : FVec Ideal Cert.ReferenceIdeal.S1x2x8192x256 .f32) (u : FVec Ideal Cert.ReferenceIdeal.S1x256x1024 .f32)
    (h0 : ∀ j : Fin 1024, x0 (ix2 r j) = a0 (ix2 R j))
    (h1 : ∀ (k : Fin 4) (l : Fin 512), x1 (ix3 k r l) = yg (ix3 k R l)) (h2 : ∀ k : Fin 4, x2 (ix2 r k) = gate (ix2 k R))
    (h3 : ∀ k : Fin 256, x3 (ix2 r k) = p (ix4 0 ⟨R.val / 8192, by omega⟩ ⟨R.val % 8192, by omega⟩ k))
    (h5 : ∀ k j : Fin 1024, x5 (ix2 k j) = w (ix3 0 k j)) (h7 : ∀ (k : Fin 256) (j : Fin 1024), x7 (ix2 k j) = u (ix3 0 k j)) (j : Fin 1024) :
    rowBlock (F := Ideal) x0 x1 x2 x3 x4 x6 x8 (k0_pay2 (F := Ideal) x5) (k0_pay3 (F := Ideal) x7) (ix2 r j)
      = addf (mid a0 yg gate x4) (normed (embedded (mid a0 yg gate x4) w x6 p u) x8) (ix2 R j) := by
  have hm := mixed_row r R x1 x2 yg gate h1 h2
  have hx := mid_row r R _ x0 x4 yg gate a0 hm h0
  have he := embedded_row r R _ x0 x4 x6 x3 x5 x7 _ w p u hx h5 h7 h3
  unfold rowBlock
  generalize embedded _ _ _ _ _ = E at he ⊢
  generalize mid _ _ _ _ = M at hx ⊢
  pointwise [k0_pay1, k0_pay7, k0_pay8, normed]
  simp only [hx, he]

end Cert.Layer
-- ==== Proof.Array.lean ====
module

public import proofs.«01_k».proof.Proof.Rowwise

@[expose] public section

set_option maxRecDepth 16384

noncomputable section

open Idealize.ShloMosaic Idealize.ShloMosaic.TcCoe Idealize.SL.Sem

namespace Cert.KernelIdeal.Layer

open Cert.KernelIdeal Cert.KernelIdeal.Gen Cert.KernelIdeal.Value

variable (m : (ℓ : Loc nD τ sig) → Buf (Elt Ideal) ℓ)

/-- Where each window's block lies at point `t`. -/
theorem index_at : ∀ t : Fin cfg0.N, win0_0.index t = ![t.val, 0] ∧ win0_1.index t = ![0, t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

theorem index_at9 : ∀ t : Fin cfg0.N, win0_9.index t = ![t.val, 0] := (by decide +kernel : ∀ t : Fin grid0.N, _)

/-- The row of the array that row `r` of block `t` is. -/
abbrev rowOf (t : Fin cfg0.N) (r : Fin 1024) : Fin 16384 := ⟨t.val * 1024 + r.val, by have := lt_of_lt_of_eq t.isLt (show cfg0.N = 16 from N_0); omega⟩

theorem read0 (c : Dev nD) (t : Fin cfg0.N) (r j : Fin 1024) :
    (iblk m c 0 t : Vec Ideal S1024x1024 .f32) (ix2 r j) = m ((c : Thread nD τ).loc main_arg0) (ix2 (rowOf t r) j) := by
  blk_point [iblk, V, index_at t]

theorem read1 (c : Dev nD) (t : Fin cfg0.N) (r : Fin 1024) (k : Fin 4) (l : Fin 512) :
    (iblk m c 1 t : Vec Ideal S4x1024x512 .i32) (ix3 k r l) = m ((c : Thread nD τ).loc main_arg1) (ix3 k (rowOf t r) l) := by
  blk_point [iblk, V, index_at t]

theorem read2 (c : Dev nD) (t : Fin cfg0.N) (r : Fin 1024) (k : Fin 4) :
    (iblk m c 2 t : Vec Ideal S1024x4 .f32) (ix2 r k) = m ((c : Thread nD τ).loc main_arg2) (ix2 k (rowOf t r)) := by
  blk_simp [iblk, index_at t]
  entry_read
  pointwise
  blk_point [index_at t]

theorem read3 (c : Dev nD) (t : Fin cfg0.N) (r : Fin 1024) (k : Fin 256) :
    (iblk m c 3 t : Vec Ideal S1024x256 .f32) (ix2 r k) = m ((c : Thread nD τ).loc main_arg3)
      (ix4 0 ⟨(rowOf t r).val / 8192, by omega⟩ ⟨(rowOf t r).val % 8192, by omega⟩ k) := by
  blk_simp [iblk, index_at t]
  entry_read
  pointwise
  blk_point [index_at t]

theorem read4 (c : Dev nD) (t : Fin cfg0.N) : (iblk m c 4 t : Vec Ideal S1x1024 .f32) = m ((c : Thread nD τ).loc main_arg4) := by
  funext y
  blk_simp [iblk, index_at t]
  entry_read
  pointwise
  blk_point [index_at t]

theorem read5 (c : Dev nD) (t : Fin cfg0.N) (k j : Fin 1024) :
    (iblk m c 5 t : Vec Ideal S1024x1024 .f32) (ix2 k j) = m ((c : Thread nD τ).loc main_arg5) (ix3 0 k j) := by
  blk_simp [iblk, index_at t]
  entry_read
  pointwise
  blk_point [index_at t]

theorem read6 (c : Dev nD) (t : Fin cfg0.N) : (iblk m c 6 t : Vec Ideal S1x1024 .f32) = m ((c : Thread nD τ).loc main_arg6) := by
  funext y
  blk_simp [iblk, index_at t]
  entry_read
  pointwise
  blk_point [index_at t]

theorem read7 (c : Dev nD) (t : Fin cfg0.N) (k : Fin 256) (j : Fin 1024) :
    (iblk m c 7 t : Vec Ideal S256x1024 .f32) (ix2 k j) = m ((c : Thread nD τ).loc main_arg7) (ix3 0 k j) := by
  blk_simp [iblk, index_at t]
  entry_read
  pointwise
  blk_point [index_at t]

theorem read8 (c : Dev nD) (t : Fin cfg0.N) : (iblk m c 8 t : Vec Ideal S1x1024 .f32) = m ((c : Thread nD τ).loc main_arg8) := by
  funext y
  blk_simp [iblk, index_at t]
  entry_read
  pointwise
  blk_point [index_at t]

/-- The weights' blocks are the same at every point: each is its whole array. -/
theorem whole5 (c : Dev nD) (t t' : Fin cfg0.N) : (iblk m c 5 t : Vec Ideal S1024x1024 .f32) = iblk m c 5 t' := by
  funext y
  obtain ⟨a, b, rfl⟩ : ∃ a b, y = ix2 a b := ⟨y 0, y 1, by funext q; match q with | ⟨0, _⟩ => rfl | ⟨1, _⟩ => rfl⟩
  exact (read5 m c t a b).trans (read5 m c t' a b).symm

theorem whole7 (c : Dev nD) (t t' : Fin cfg0.N) : (iblk m c 7 t : Vec Ideal S256x1024 .f32) = iblk m c 7 t' := by
  funext y
  obtain ⟨a, b, rfl⟩ : ∃ (a : Fin 256) (b : Fin 1024), y = ix2 a b := ⟨y 0, y 1, by funext q; match q with | ⟨0, _⟩ => rfl | ⟨1, _⟩ => rfl⟩
  exact (read7 m c t a b).trans (read7 m c t' a b).symm

/-- What the scratch holds after a later point is what it held before it. -/
theorem scratch_kept (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  dsimp only
  unfold sout0_B_0 sout0_B_1
  rfl

/-- After every point the scratch holds the two weights, stored once at the first point. -/
theorem scratch_after (c : Dev nD) (n : ℕ) : ∀ (h : n < cfg0.N) (t' : Fin cfg0.N),
    (outsAt0 m c n h).2 = (k0_pay2 (F := Ideal) (iblk m c 5 t'), k0_pay3 (F := Ideal) (iblk m c 7 t')) := by
  induction n with
  | zero =>
    intro h t'
    rw [outsAt0_A m c ⟨0, h⟩ rfl]
    dsimp only
    rw [scratch_first0, scratch_first1, whole5 m c _ t', whole7 m c _ t']
  | succ n ih =>
    intro h t'
    have hN := lt_of_lt_of_eq h (show cfg0.N = 16 from N_0)
    rw [scratch_kept m c ⟨n + 1, h⟩ (by dsimp only; omega)]
    exact ih (Nat.lt_of_succ_lt h) t'

/-- The block point `t` leaves for writing back. -/
theorem block_after (c : Dev nD) (t : Fin cfg0.N) : (outsAt0 m c t.val t.isLt).1 =
    rowBlock (F := Ideal) (iblk m c 0 t) (iblk m c 1 t) (iblk m c 2 t) (iblk m c 3 t) (iblk m c 4 t) (iblk m c 6 t) (iblk m c 8 t)
      (k0_pay2 (F := Ideal) (iblk m c 5 t)) (k0_pay3 (F := Ideal) (iblk m c 7 t)) := by
  by_cases h0 : t.val % 16 = 0
  · rw [outsAt0_A m c t h0]
    dsimp only
    rw [out_first]
  · have hs := scratch_after m c (t.val - 1) (Nat.lt_of_le_of_lt (Nat.sub_le _ _) t.isLt) t
    rw [outsAt0_B m c t h0]
    dsimp only
    rw [out_later, hs]

open Cert.ReferenceIdeal.Layer in
/-- The result array after the run is what the reference returns of the same arguments. -/
theorem result (c : Dev nD) : (dats m 0 c).arrAt 9 cfg0.N =
    addf (mid (m ((c : Thread nD τ).loc main_arg0)) (m ((c : Thread nD τ).loc main_arg1)) (m ((c : Thread nD τ).loc main_arg2)) (m ((c : Thread nD τ).loc main_arg4)))
      (normed (embedded (mid (m ((c : Thread nD τ).loc main_arg0)) (m ((c : Thread nD τ).loc main_arg1)) (m ((c : Thread nD τ).loc main_arg2)) (m ((c : Thread nD τ).loc main_arg4)))
        (m ((c : Thread nD τ).loc main_arg5)) (m ((c : Thread nD τ).loc main_arg6)) (m ((c : Thread nD τ).loc main_arg3)) (m ((c : Thread nD τ).loc main_arg7)))
        (m ((c : Thread nD τ).loc main_arg8))) := by
  refine (dats m 0 c).arrAt_eq_of_covers 9 _ (by decide +kernel) fun t _ y => ?_
  blk_simp
  rw [after0_9, block_after, read4, read6, read8]
  have e : (win0_9.blk t).view.emb y = ix2 (rowOf t (y 0)) (y 1) := by
    blk_ext [index_at9 t]
  have ey : y = ix2 (y 0) (y 1) := by funext a; match a with | ⟨0, _⟩ => rfl | ⟨1, _⟩ => rfl
  rw [e, ey]
  exact Cert.Layer.rowBlock_row (y 0) (rowOf t (y 0)) _ _ _ _ _ _ _ _ _ _ _ _ _ _ _ (read0 m c t _) (fun k l => read1 m c t _ k l) (read2 m c t _) (read3 m c t _)
    (read5 m c t) (read7 m c t) (y 1)

end Cert.KernelIdeal.Layer
-- ==== Proof.Online.lean ====
module

public import Idealize.ShloMosaic.Lib.Pipeline.ValueKit

@[expose] public section

noncomputable section

namespace Cert.Online

open Idealize.ShloMosaic

/-- The largest of the first `n` scores. -/
def top (S : ℕ → EReal) (n : ℕ) : EReal := (Finset.range n).sup S

/-- The first `n` keys' weights, each times its score's power of two, all relative to the largest of those scores. -/
def mass (w S : ℕ → EReal) (n : ℕ) : EReal := ∑ k ∈ Finset.range n, w k * Ideal.exp2 (S k - top S n)

theorem exp2_real (r : ℝ) : Ideal.exp2 (r : EReal) = ((Real.rpow 2 r : ℝ) : EReal) := rfl

theorem exp2_bottom : Ideal.exp2 ⊥ = 0 := rfl

theorem exp2_nonneg (x : EReal) : 0 ≤ Ideal.exp2 x := by
  induction x with
  | bot => exact le_refl _
  | top => exact le_top
  | coe r => exact EReal.coe_nonneg.mpr (Real.rpow_nonneg (by norm_num) r)

/-- The power of two of a difference that is not positive is finite. -/
theorem exp2_sub_ne_top {s m : EReal} (h : s ≤ m) : Ideal.exp2 (s - m) ≠ ⊤ := by
  induction m with
  | bot => rw [le_bot_iff.mp h]; simp [exp2_bottom]
  | top => simp [exp2_bottom]
  | coe m =>
    induction s with
    | bot => simp [exp2_bottom]
    | top => exact absurd h (not_le_of_gt (EReal.coe_lt_top m))
    | coe s => rw [← EReal.coe_sub, exp2_real]; exact EReal.coe_ne_top _

/-- Moving the maximum up from `m` to `m'` multiplies by a power of two. -/
theorem exp2_shift {s m m' : EReal} (h : s ≤ m) (h' : m ≤ m') :
    Ideal.exp2 (m - m') * Ideal.exp2 (s - m) = Ideal.exp2 (s - m') := by
  induction m' with
  | bot => rw [le_bot_iff.mp h', le_bot_iff.mp (h.trans h')]; simp [exp2_bottom]
  | top => simp [exp2_bottom]
  | coe t =>
    induction m with
    | bot => rw [le_bot_iff.mp h]; simp [exp2_bottom]
    | top => exact absurd h' (not_le_of_gt (EReal.coe_lt_top t))
    | coe m =>
      induction s with
      | bot => simp [exp2_bottom]
      | top => exact absurd h (not_le_of_gt (EReal.coe_lt_top m))
      | coe s =>
        rw [← EReal.coe_sub, ← EReal.coe_sub, ← EReal.coe_sub, exp2_real, exp2_real, exp2_real, ← EReal.coe_mul]
        congr 1
        show (2 : ℝ) ^ (m - t) * (2 : ℝ) ^ (s - m) = (2 : ℝ) ^ (s - t)
        rw [← Real.rpow_add (by norm_num)]
        congr 1; ring

theorem mul_sum {ι : Type} (c : EReal) (h0 : 0 ≤ c) (h1 : c ≠ ⊤) (s : Finset ι) (f : ι → EReal) :
    c * ∑ k ∈ s, f k = ∑ k ∈ s, c * f k := by
  classical
  induction s using Finset.induction_on with
  | empty => simp
  | insert a s ha ih => rw [Finset.sum_insert ha, Finset.sum_insert ha, EReal.left_distrib_of_nonneg_of_ne_top h0 h1, ih]

theorem le_top {S : ℕ → EReal} {n k : ℕ} (h : k < n) : S k ≤ top S n := Finset.le_sup (Finset.mem_range.mpr h)

theorem fold_max_eq_sup {c : ℕ} (f : Fin c → EReal) : Finset.univ.fold max ⊥ f = Finset.univ.sup f := rfl

theorem top_zero (S : ℕ → EReal) : top S 0 = ⊥ := rfl

theorem mass_zero (w S : ℕ → EReal) : mass w S 0 = 0 := rfl

theorem top_add (S : ℕ → EReal) (n c : ℕ) :
    top S (n + c) = max (top S n) (Finset.univ.fold max ⊥ fun k : Fin c => S (n + k)) := by
  rw [fold_max_eq_sup]
  apply le_antisymm
  · refine Finset.sup_le fun k hk => ?_
    by_cases h : k < n
    · exact (le_top h).trans (le_max_left _ _)
    · have hk' : k < n + c := Finset.mem_range.mp hk
      have := Finset.le_sup (f := fun k : Fin c => S (n + k)) (Finset.mem_univ ⟨k - n, by omega⟩)
      simp only [show n + (k - n) = k by omega] at this
      exact this.trans (le_max_right _ _)
  · refine max_le (Finset.sup_le fun k hk => le_top ?_) (Finset.sup_le fun k _ => le_top ?_)
    · have := Finset.mem_range.mp hk; omega
    · have := k.isLt; omega

theorem mass_add (w S : ℕ → EReal) (n c : ℕ) :
    mass w S (n + c) = Ideal.exp2 (top S n - top S (n + c)) * mass w S n
      + ∑ k : Fin c, w (n + k) * Ideal.exp2 (S (n + k) - top S (n + c)) := by
  have hm : top S n ≤ top S (n + c) := by rw [top_add]; exact le_max_left _ _
  rw [mass, Finset.sum_range_add, mass, mul_sum _ (exp2_nonneg _) (exp2_sub_ne_top hm)]
  congr 1
  · refine Finset.sum_congr rfl fun k hk => ?_
    rw [mul_left_comm, exp2_shift (le_top (Finset.mem_range.mp hk)) hm]
  · exact Finset.sum_range (fun k => w (n + k) * Ideal.exp2 (S (n + k) - top S (n + c)))

/-- Keys whose score is −∞ change nothing. -/
theorem top_pad {S : ℕ → EReal} {n c : ℕ} (h : ∀ k, n ≤ k → S k = ⊥) : top S (n + c) = top S n := by
  rw [top_add, fold_max_eq_sup]
  exact max_eq_left (Finset.sup_le fun k _ => (h (n + k) (by omega)).le.trans bot_le)

theorem mass_pad (w : ℕ → EReal) {S : ℕ → EReal} {n c : ℕ} (h : ∀ k, n ≤ k → S k = ⊥) : mass w S (n + c) = mass w S n := by
  rw [mass, mass, top_pad h, Finset.sum_range_add]
  have : ∀ k ∈ Finset.range c, w (n + k) * Ideal.exp2 (S (n + k) - top S n) = 0 := fun k _ => by
    rw [h (n + k) (by omega), EReal.bot_sub, exp2_bottom, mul_zero]
  rw [Finset.sum_eq_zero this, add_zero]

/-- The reciprocal of the total, taken once or at each key, leaves the same weighted sum. -/
theorem mass_div (w S : ℕ → EReal) (n : ℕ) :
    mass w S n * Ideal.div 1 (mass (fun _ => 1) S n)
      = ∑ k ∈ Finset.range n, Ideal.exp2 (S k - top S n) * Ideal.div 1 (mass (fun _ => 1) S n) * w k := by
  have e : mass (fun _ => 1) S n = ∑ k ∈ Finset.range n, Ideal.exp2 (S k - top S n) := by simp only [mass, one_mul]
  by_cases hz : mass (fun _ => 1) S n = 0
  · have h0 : ∀ k ∈ Finset.range n, Ideal.exp2 (S k - top S n) = 0 := by
      rw [e] at hz
      exact (Finset.sum_eq_zero_iff_of_nonneg fun k _ => exp2_nonneg _).mp hz
    rw [Finset.sum_eq_zero fun k hk => by rw [h0 k hk, zero_mul, zero_mul], mass,
      Finset.sum_eq_zero fun k hk => by rw [h0 k hk, mul_zero], zero_mul]
  · have hn : 0 ≤ mass (fun _ => 1) S n := by rw [e]; exact Finset.sum_nonneg fun k _ => exp2_nonneg _
    have hd : Ideal.div 1 (mass (fun _ => 1) S n) = (mass (fun _ => 1) S n)⁻¹ := by rw [Ideal.div, if_neg hz, one_mul]
    have hp : 0 < mass (fun _ => 1) S n := lt_of_le_of_ne hn (Ne.symm hz)
    have c0 : 0 ≤ Ideal.div 1 (mass (fun _ => 1) S n) := by rw [hd]; exact EReal.inv_nonneg_of_nonneg hn
    have c1 : Ideal.div 1 (mass (fun _ => 1) S n) ≠ ⊤ := by
      rw [hd]
      generalize mass (fun _ => 1) S n = l at hp
      induction l with
      | bot => simp
      | top => simp
      | coe r => rw [← EReal.coe_inv]; exact EReal.coe_ne_top _
    generalize Ideal.div 1 (mass (fun _ => 1) S n) = c at c0 c1
    rw [mul_comm, mass, mul_sum _ c0 c1]
    refine Finset.sum_congr rfl fun k _ => ?_
    rw [mul_comm (w k), ← mul_assoc, mul_comm c]

/-- A power of two is an exponential of the exponent times the logarithm of two. -/
theorem exp_log_two (x : EReal) : Ideal.exp (((Real.log 2 : ℝ) : EReal) * x) = Ideal.exp2 x := by
  have h2 : (0 : ℝ) < Real.log 2 := Real.log_pos (by norm_num)
  induction x with
  | bot => rw [EReal.coe_mul_bot_of_pos h2]; rfl
  | top => rw [EReal.coe_mul_top_of_pos h2]; rfl
  | coe r =>
    rw [← EReal.coe_mul, exp2_real]
    show ((Real.exp (Real.log 2 * r) : ℝ) : EReal) = (((2 : ℝ) ^ r : ℝ) : EReal)
    rw [Real.rpow_def_of_pos (by norm_num)]

end Cert.Online
-- ==== Proof.Cells.lean ====
module

public import proofs.«01_k».proof.Proof.Gen.KernelIdeal2.Value
public import proofs.«01_k».proof.Proof.Online
public import Idealize.ShloMosaic.Lib.Pipeline.ValueKit

@[expose] public section

set_option maxRecDepth 16384

noncomputable section

namespace Cert.KernelIdeal2.Layer

open Cert.KernelIdeal2 Cert.KernelIdeal2.Gen Idealize.ShloMosaic Idealize.ShloMosaic.TcCoe Idealize.SL.Sem

/-- The entry of a matrix at two numbers, 0 outside the matrix. -/
def cell {p q : ℕ} (f : (⟨2, ![p, q]⟩ : Shape).Idx → EReal) (a b : ℕ) : EReal :=
  if h : a < p ∧ b < q then f (ix2 ⟨a, h.1⟩ ⟨b, h.2⟩) else 0

theorem cell_eq {p q : ℕ} (f : (⟨2, ![p, q]⟩ : Shape).Idx → EReal) {a b : ℕ} (ha : a < p) (hb : b < q) :
    cell f a b = f (ix2 ⟨a, ha⟩ ⟨b, hb⟩) := dif_pos ⟨ha, hb⟩

theorem cell_ix {p q : ℕ} (f : (⟨2, ![p, q]⟩ : Shape).Idx → EReal) (a : Fin p) (b : Fin q) : f (ix2 a b) = cell f a b :=
  (cell_eq f a.isLt b.isLt).symm

/-- What a load of a box reads, entry by entry. -/
theorem cell_load {p q m n : ℕ} (f : (⟨2, ![p, q]⟩ : Shape).Idx → EReal) (off : Fin 2 → ℕ)
    (inb : ∀ a : Fin 2, off a + (![m, n] : Fin 2 → ℕ) a ≤ (![p, q] : Fin 2 → ℕ) a) {a b : ℕ} (ha : a < m) (hb : b < n) :
    cell (p := m) (q := n) (fun j => f ((Rect.unit (s := ⟨2, ![p, q]⟩) off ![m, n] inb).toLoadRect.idx j)) a b
      = cell f (off 0 + a) (off 1 + b) := by
  have h0 : off 0 + m ≤ p := inb 0
  have h1 : off 1 + n ≤ q := inb 1
  rw [cell_eq _ ha hb, cell_eq f (a := off 0 + a) (b := off 1 + b) (by omega) (by omega)]
  congr 1
  funext d
  match d with
  | ⟨0, _⟩ => exact Fin.ext (by show off 0 + 1 * a = off 0 + a; omega)
  | ⟨1, _⟩ => exact Fin.ext (by show off 1 + 1 * b = off 1 + b; omega)

/-- An entry under the last store is the store's; -/
theorem cell_hit {p q m n : ℕ} (o : ℕ) (inb : ∀ a : Fin 2, (![o, 0] : Fin 2 → ℕ) a + (![m, n] : Fin 2 → ℕ) a ≤ (![p, q] : Fin 2 → ℕ) a)
    (w : (⟨2, ![m, n]⟩ : Shape).Idx → EReal) (L : List (View.Piece (Elt Ideal) (⟨2, ![p, q]⟩ : Shape) .f32)) {a b : ℕ}
    (h : o ≤ a) (h' : a < o + m) (hb : b < n) :
    cell (View.canon (⟨Rect.unit (s := ⟨2, ![p, q]⟩) ![o, 0] ![m, n] inb, w⟩ :: L)) a b = cell w (a - o) b := by
  have h0 : o + m ≤ p := inb 0
  have h1 : 0 + n ≤ q := inb 1
  rw [cell_eq _ (a := a) (b := b) (by omega) (by omega), cell_eq w (a := a - o) (by omega) hb]
  have e : (ix2 ⟨a, by omega⟩ ⟨b, by omega⟩ : (⟨2, ![p, q]⟩ : Shape).Idx)
      = (Rect.unit (s := ⟨2, ![p, q]⟩) ![o, 0] ![m, n] inb).emb (ix2 ⟨a - o, by omega⟩ ⟨b, hb⟩) := by
    funext d
    match d with
    | ⟨0, _⟩ => exact Fin.ext (by show a = o + 1 * (a - o); omega)
    | ⟨1, _⟩ => exact Fin.ext (by show b = 0 + 1 * b; omega)
  rw [e]
  exact View.canon_cons_emb _ _ L _

/-- off it, the earlier stores'. -/
theorem cell_skip {p q m n : ℕ} (o : ℕ) (inb : ∀ a : Fin 2, (![o, 0] : Fin 2 → ℕ) a + (![m, n] : Fin 2 → ℕ) a ≤ (![p, q] : Fin 2 → ℕ) a)
    (w : (⟨2, ![m, n]⟩ : Shape).Idx → EReal) (L : List (View.Piece (Elt Ideal) (⟨2, ![p, q]⟩ : Shape) .f32)) {a b : ℕ}
    (h : a < o ∨ o + m ≤ a) :
    cell (View.canon (⟨Rect.unit (s := ⟨2, ![p, q]⟩) ![o, 0] ![m, n] inb, w⟩ :: L)) a b = cell (View.canon L) a b := by
  unfold cell
  split
  · rename_i hab
    refine View.canon_cons_of_not_mem _ L fun hm => ?_
    have hm' := (Rect.mem_set_unit (inb := inb)).mp hm
    have h0 : o ≤ a ∧ a < o + m := hm' 0
    omega
  · rfl

end Cert.KernelIdeal2.Layer
-- ==== Proof.Heads.lean ====
module

public import proofs.«01_k».proof.Proof.Cells

@[expose] public section

set_option maxRecDepth 16384

noncomputable section

namespace Cert.KernelIdeal2.Layer

open Cert.KernelIdeal2 Cert.KernelIdeal2.Gen Idealize.ShloMosaic Idealize.ShloMosaic.TcCoe Idealize.SL.Sem

/-! ## One block of 1024 keys -/

/-- The scores of 1024 keys against the block's queries. -/
def sc (kb : Vec Ideal S1024x128 .bf16) (qb : Vec Ideal S512x128 .bf16) : Vec Ideal S1024x512 .f32 := k0_pay4 kb qb

/-- The maxima after the keys, -/
def upM (s : Vec Ideal S1024x512 .f32) (m : Vec Ideal S1x512 .f32) : Vec Ideal S1x512 .f32 := k0_pay18 (k0_pay13 s m)

/-- the totals after them, -/
def upL (s : Vec Ideal S1024x512 .f32) (m l : Vec Ideal S1x512 .f32) (v : Vec Ideal S64x1024 .bf16) : Vec Ideal S1x512 .f32 :=
  k0_pay16 k0_pay2 s m v l

/-- and the weighted sums of the values. -/
def upA (s : Vec Ideal S1024x512 .f32) (m : Vec Ideal S1x512 .f32) (a : Vec Ideal S64x512 .f32) (v : Vec Ideal S64x1024 .bf16) :
    Vec Ideal S64x512 .f32 := k0_pay17 (k0_pay14 s m) (k0_pay15 k0_pay2 s m v) a

/-! ## One block of 512 keys -/

def sc' (kb : Vec Ideal S512x128 .bf16) (qb : Vec Ideal S512x128 .bf16) : Vec Ideal S512x512 .f32 := k0_pay112 kb qb

/-- The scores of the query block's own keys, −∞ at a key after the query. -/
def mask (s : Vec Ideal S512x512 .f32) : Vec Ideal S512x512 .f32 := k0_pay193 (F := Ideal) s k0_pay191 k0_pay192

def upM' (s : Vec Ideal S512x512 .f32) (m : Vec Ideal S1x512 .f32) : Vec Ideal S1x512 .f32 := k0_pay127 (k0_pay122 s m)

def upL' (s : Vec Ideal S512x512 .f32) (m l : Vec Ideal S1x512 .f32) (v : Vec Ideal S64x512 .bf16) : Vec Ideal S1x512 .f32 :=
  k0_pay125 k0_pay110 s m v l

def upA' (s : Vec Ideal S512x512 .f32) (m : Vec Ideal S1x512 .f32) (a : Vec Ideal S64x512 .f32) (v : Vec Ideal S64x512 .bf16) :
    Vec Ideal S64x512 .f32 := k0_pay126 (k0_pay123 s m) (k0_pay124 k0_pay110 s m v) a

/-! ## Every head's block is the same block -/

section

theorem tri_s1 (kb : Vec Ideal S1024x128 .bf16) (qb : Vec Ideal S512x128 .bf16) : k0_pay4 (F := Ideal) kb qb = sc kb qb := rfl
theorem tri_s2 (kb : Vec Ideal S1024x128 .bf16) (qb : Vec Ideal S512x128 .bf16) : k0_pay5 (F := Ideal) kb qb = sc kb qb := rfl
theorem tri_s3 (kb : Vec Ideal S1024x128 .bf16) (qb : Vec Ideal S512x128 .bf16) : k0_pay12 (F := Ideal) kb qb = sc kb qb := rfl
theorem tri_s4 (kb : Vec Ideal S1024x128 .bf16) (qb : Vec Ideal S512x128 .bf16) : k0_pay19 (F := Ideal) kb qb = sc kb qb := rfl
theorem tri_s5 (kb : Vec Ideal S1024x128 .bf16) (qb : Vec Ideal S512x128 .bf16) : k0_pay26 (F := Ideal) kb qb = sc kb qb := rfl
theorem tri_s6 (kb : Vec Ideal S1024x128 .bf16) (qb : Vec Ideal S512x128 .bf16) : k0_pay34 (F := Ideal) kb qb = sc kb qb := rfl
theorem tri_s7 (kb : Vec Ideal S1024x128 .bf16) (qb : Vec Ideal S512x128 .bf16) : k0_pay42 (F := Ideal) kb qb = sc kb qb := rfl
theorem tri_m0 (kb : Vec Ideal S1024x128 .bf16) (qb : Vec Ideal S512x128 .bf16) (m : Vec Ideal S1x512 .f32) : k0_pay11 (k0_pay6 (F := Ideal) kb qb m) = upM (sc kb qb) m := rfl
theorem tri_m1 (s : Vec Ideal S1024x512 .f32) (m : Vec Ideal S1x512 .f32) : k0_pay18 (k0_pay13 (F := Ideal) s m) = upM s m := rfl
theorem tri_m2 (s : Vec Ideal S1024x512 .f32) (m : Vec Ideal S1x512 .f32) : k0_pay25 (k0_pay20 (F := Ideal) s m) = upM s m := rfl
theorem tri_m3 (s : Vec Ideal S1024x512 .f32) (m : Vec Ideal S1x512 .f32) : k0_pay33 (k0_pay27 (F := Ideal) s m) = upM s m := rfl
theorem tri_m4 (s : Vec Ideal S1024x512 .f32) (m : Vec Ideal S1x512 .f32) : k0_pay41 (k0_pay35 (F := Ideal) s m) = upM s m := rfl
theorem tri_m5 (s : Vec Ideal S1024x512 .f32) (m : Vec Ideal S1x512 .f32) : k0_pay49 (k0_pay43 (F := Ideal) s m) = upM s m := rfl
theorem tri_m6 (s : Vec Ideal S1024x512 .f32) (m : Vec Ideal S1x512 .f32) : k0_pay55 (F := Ideal) s m = upM s m := rfl
theorem tri_m7 (s : Vec Ideal S1024x512 .f32) (m : Vec Ideal S1x512 .f32) : k0_pay174 (F := Ideal) s m = upM s m := rfl
theorem tri_l0 (kb : Vec Ideal S1024x128 .bf16) (qb : Vec Ideal S512x128 .bf16) (m : Vec Ideal S1x512 .f32) (l : Vec Ideal S1x512 .f32) (v : Vec Ideal S64x1024 .bf16) : k0_pay9 (F := Ideal) kb qb m v l = upL (sc kb qb) m l v := rfl
theorem tri_l1 (s : Vec Ideal S1024x512 .f32) (m : Vec Ideal S1x512 .f32) (l : Vec Ideal S1x512 .f32) (v : Vec Ideal S64x1024 .bf16) : k0_pay16 (F := Ideal) k0_pay2 s m v l = upL s m l v := rfl
theorem tri_l2 (s : Vec Ideal S1024x512 .f32) (m : Vec Ideal S1x512 .f32) (l : Vec Ideal S1x512 .f32) (v : Vec Ideal S64x1024 .bf16) : k0_pay23 (F := Ideal) k0_pay2 s m v l = upL s m l v := rfl
theorem tri_l3 (s : Vec Ideal S1024x512 .f32) (m : Vec Ideal S1x512 .f32) (l : Vec Ideal S1x512 .f32) (v : Vec Ideal S64x1024 .bf16) : k0_pay30 (F := Ideal) k0_pay2 s m v l = upL s m l v := rfl
theorem tri_l4 (s : Vec Ideal S1024x512 .f32) (m : Vec Ideal S1x512 .f32) (l : Vec Ideal S1x512 .f32) (v : Vec Ideal S64x1024 .bf16) : k0_pay38 (F := Ideal) k0_pay2 s m v l = upL s m l v := rfl
theorem tri_l5 (s : Vec Ideal S1024x512 .f32) (m : Vec Ideal S1x512 .f32) (l : Vec Ideal S1x512 .f32) (v : Vec Ideal S64x1024 .bf16) : k0_pay46 (F := Ideal) k0_pay2 s m v l = upL s m l v := rfl
theorem tri_l6 (s : Vec Ideal S1024x512 .f32) (m : Vec Ideal S1x512 .f32) (l : Vec Ideal S1x512 .f32) (v : Vec Ideal S64x1024 .bf16) : k0_pay53 (F := Ideal) k0_pay2 s m v l = upL s m l v := rfl
theorem tri_l7 (s : Vec Ideal S1024x512 .f32) (m : Vec Ideal S1x512 .f32) (l : Vec Ideal S1x512 .f32) (v : Vec Ideal S64x1024 .bf16) : k0_pay172 (F := Ideal) k0_pay2 s m v l = upL s m l v := rfl
theorem tri_a0 (kb : Vec Ideal S1024x128 .bf16) (qb : Vec Ideal S512x128 .bf16) (m : Vec Ideal S1x512 .f32) (a : Vec Ideal S64x512 .f32) (v : Vec Ideal S64x1024 .bf16) : k0_pay10 (k0_pay7 (F := Ideal) kb qb m) (k0_pay8 (F := Ideal) kb qb m v) a = upA (sc kb qb) m a v := rfl
theorem tri_a1 (s : Vec Ideal S1024x512 .f32) (m : Vec Ideal S1x512 .f32) (a : Vec Ideal S64x512 .f32) (v : Vec Ideal S64x1024 .bf16) : k0_pay17 (k0_pay14 (F := Ideal) s m) (k0_pay15 (F := Ideal) k0_pay2 s m v) a = upA s m a v := rfl
theorem tri_a2 (s : Vec Ideal S1024x512 .f32) (m : Vec Ideal S1x512 .f32) (a : Vec Ideal S64x512 .f32) (v : Vec Ideal S64x1024 .bf16) : k0_pay24 (k0_pay21 (F := Ideal) s m) (k0_pay22 (F := Ideal) k0_pay2 s m v) a = upA s m a v := rfl
theorem tri_a3 (s : Vec Ideal S1024x512 .f32) (m : Vec Ideal S1x512 .f32) (a : Vec Ideal S64x512 .f32) (v : Vec Ideal S64x1024 .bf16) : k0_pay32 (k0_pay29 (F := Ideal) k0_pay2 s m v) (k0_pay31 (F := Ideal) s m a) = upA s m a v := rfl
theorem tri_a4 (s : Vec Ideal S1024x512 .f32) (m : Vec Ideal S1x512 .f32) (a : Vec Ideal S64x512 .f32) (v : Vec Ideal S64x1024 .bf16) : k0_pay40 (k0_pay39 (F := Ideal) k0_pay2 s m v a) = upA s m a v := rfl
theorem tri_a5 (s : Vec Ideal S1024x512 .f32) (m : Vec Ideal S1x512 .f32) (a : Vec Ideal S64x512 .f32) (v : Vec Ideal S64x1024 .bf16) : k0_pay48 (k0_pay47 (F := Ideal) k0_pay2 s m v a) = upA s m a v := rfl
theorem tri_a6 (s : Vec Ideal S1024x512 .f32) (m : Vec Ideal S1x512 .f32) (a : Vec Ideal S64x512 .f32) (v : Vec Ideal S64x1024 .bf16) : k0_pay54 (F := Ideal) k0_pay2 s m v a = upA s m a v := rfl
theorem tri_a7 (s : Vec Ideal S1024x512 .f32) (m : Vec Ideal S1x512 .f32) (a : Vec Ideal S64x512 .f32) (v : Vec Ideal S64x1024 .bf16) : k0_pay173 (F := Ideal) k0_pay2 s m v a = upA s m a v := rfl
theorem odd_s1 (kb : Vec Ideal S512x128 .bf16) (qb : Vec Ideal S512x128 .bf16) : k0_pay112 (F := Ideal) kb qb = sc' kb qb := rfl
theorem odd_s2 (kb : Vec Ideal S512x128 .bf16) (qb : Vec Ideal S512x128 .bf16) : k0_pay113 (F := Ideal) kb qb = sc' kb qb := rfl
theorem odd_s3 (kb : Vec Ideal S512x128 .bf16) (qb : Vec Ideal S512x128 .bf16) : k0_pay121 (F := Ideal) kb qb = sc' kb qb := rfl
theorem odd_s4 (kb : Vec Ideal S512x128 .bf16) (qb : Vec Ideal S512x128 .bf16) : k0_pay128 (F := Ideal) kb qb = sc' kb qb := rfl
theorem odd_s5 (kb : Vec Ideal S512x128 .bf16) (qb : Vec Ideal S512x128 .bf16) : k0_pay135 (F := Ideal) kb qb = sc' kb qb := rfl
theorem odd_s6 (kb : Vec Ideal S512x128 .bf16) (qb : Vec Ideal S512x128 .bf16) : k0_pay143 (F := Ideal) kb qb = sc' kb qb := rfl
theorem odd_s7 (kb : Vec Ideal S512x128 .bf16) (qb : Vec Ideal S512x128 .bf16) : k0_pay152 (F := Ideal) kb qb = sc' kb qb := rfl
theorem odd_m0 (kb : Vec Ideal S512x128 .bf16) (qb : Vec Ideal S512x128 .bf16) (m : Vec Ideal S1x512 .f32) : k0_pay120 (k0_pay114 (F := Ideal) kb qb m) = upM' (sc' kb qb) m := rfl
theorem odd_m1 (s : Vec Ideal S512x512 .f32) (m : Vec Ideal S1x512 .f32) : k0_pay127 (k0_pay122 (F := Ideal) s m) = upM' s m := rfl
theorem odd_m2 (s : Vec Ideal S512x512 .f32) (m : Vec Ideal S1x512 .f32) : k0_pay134 (k0_pay129 (F := Ideal) s m) = upM' s m := rfl
theorem odd_m3 (s : Vec Ideal S512x512 .f32) (m : Vec Ideal S1x512 .f32) : k0_pay142 (k0_pay136 (F := Ideal) s m) = upM' s m := rfl
theorem odd_m4 (s : Vec Ideal S512x512 .f32) (m : Vec Ideal S1x512 .f32) : k0_pay151 (k0_pay144 (F := Ideal) s m) = upM' s m := rfl
theorem odd_m5 (s : Vec Ideal S512x512 .f32) (m : Vec Ideal S1x512 .f32) : k0_pay159 (k0_pay153 (F := Ideal) s m) = upM' s m := rfl
theorem odd_m6 (s : Vec Ideal S512x512 .f32) (m : Vec Ideal S1x512 .f32) : k0_pay165 (F := Ideal) s m = upM' s m := rfl
theorem odd_m7 (s : Vec Ideal S512x512 .f32) (m : Vec Ideal S1x512 .f32) : k0_pay186 (F := Ideal) s m = upM' s m := rfl
theorem odd_l0 (kb : Vec Ideal S512x128 .bf16) (qb : Vec Ideal S512x128 .bf16) (m : Vec Ideal S1x512 .f32) (l : Vec Ideal S1x512 .f32) (v : Vec Ideal S64x512 .bf16) : k0_pay118 (k0_pay117 (F := Ideal) kb qb m v l) = upL' (sc' kb qb) m l v := rfl
theorem odd_l1 (s : Vec Ideal S512x512 .f32) (m : Vec Ideal S1x512 .f32) (l : Vec Ideal S1x512 .f32) (v : Vec Ideal S64x512 .bf16) : k0_pay125 (F := Ideal) k0_pay110 s m v l = upL' s m l v := rfl
theorem odd_l2 (s : Vec Ideal S512x512 .f32) (m : Vec Ideal S1x512 .f32) (l : Vec Ideal S1x512 .f32) (v : Vec Ideal S64x512 .bf16) : k0_pay132 (F := Ideal) k0_pay110 s m v l = upL' s m l v := rfl
theorem odd_l3 (s : Vec Ideal S512x512 .f32) (m : Vec Ideal S1x512 .f32) (l : Vec Ideal S1x512 .f32) (v : Vec Ideal S64x512 .bf16) : k0_pay139 (F := Ideal) k0_pay110 s m v l = upL' s m l v := rfl
theorem odd_l4 (s : Vec Ideal S512x512 .f32) (m : Vec Ideal S1x512 .f32) (l : Vec Ideal S1x512 .f32) (v : Vec Ideal S64x512 .bf16) : k0_pay147 (F := Ideal) k0_pay110 s m v l = upL' s m l v := rfl
theorem odd_l5 (s : Vec Ideal S512x512 .f32) (m : Vec Ideal S1x512 .f32) (l : Vec Ideal S1x512 .f32) (v : Vec Ideal S64x512 .bf16) : k0_pay156 (F := Ideal) k0_pay110 s m v l = upL' s m l v := rfl
theorem odd_l6 (s : Vec Ideal S512x512 .f32) (m : Vec Ideal S1x512 .f32) (l : Vec Ideal S1x512 .f32) (v : Vec Ideal S64x512 .bf16) : k0_pay163 (F := Ideal) k0_pay110 s m v l = upL' s m l v := rfl
theorem odd_l7 (s : Vec Ideal S512x512 .f32) (m : Vec Ideal S1x512 .f32) (l : Vec Ideal S1x512 .f32) (v : Vec Ideal S64x512 .bf16) : k0_pay184 (F := Ideal) k0_pay110 s m v l = upL' s m l v := rfl
theorem odd_a0 (kb : Vec Ideal S512x128 .bf16) (qb : Vec Ideal S512x128 .bf16) (m : Vec Ideal S1x512 .f32) (a : Vec Ideal S64x512 .f32) (v : Vec Ideal S64x512 .bf16) : k0_pay119 (k0_pay115 (F := Ideal) kb qb m) (k0_pay116 (F := Ideal) kb qb m v) a = upA' (sc' kb qb) m a v := rfl
theorem odd_a1 (s : Vec Ideal S512x512 .f32) (m : Vec Ideal S1x512 .f32) (a : Vec Ideal S64x512 .f32) (v : Vec Ideal S64x512 .bf16) : k0_pay126 (k0_pay123 (F := Ideal) s m) (k0_pay124 (F := Ideal) k0_pay110 s m v) a = upA' s m a v := rfl
theorem odd_a2 (s : Vec Ideal S512x512 .f32) (m : Vec Ideal S1x512 .f32) (a : Vec Ideal S64x512 .f32) (v : Vec Ideal S64x512 .bf16) : k0_pay133 (k0_pay130 (F := Ideal) s m) (k0_pay131 (F := Ideal) k0_pay110 s m v) a = upA' s m a v := rfl
theorem odd_a3 (s : Vec Ideal S512x512 .f32) (m : Vec Ideal S1x512 .f32) (a : Vec Ideal S64x512 .f32) (v : Vec Ideal S64x512 .bf16) : k0_pay141 (k0_pay138 (F := Ideal) k0_pay110 s m v) a (k0_pay140 (F := Ideal) s m) = upA' s m a v := rfl
theorem odd_a4 (s : Vec Ideal S512x512 .f32) (m : Vec Ideal S1x512 .f32) (a : Vec Ideal S64x512 .f32) (v : Vec Ideal S64x512 .bf16) : k0_pay150 (k0_pay148 (F := Ideal) s m a) (k0_pay149 (F := Ideal) k0_pay110 s m v) = upA' s m a v := rfl
theorem odd_a5 (s : Vec Ideal S512x512 .f32) (m : Vec Ideal S1x512 .f32) (a : Vec Ideal S64x512 .f32) (v : Vec Ideal S64x512 .bf16) : k0_pay158 (k0_pay157 (F := Ideal) k0_pay110 s m v a) = upA' s m a v := rfl
theorem odd_a6 (s : Vec Ideal S512x512 .f32) (m : Vec Ideal S1x512 .f32) (a : Vec Ideal S64x512 .f32) (v : Vec Ideal S64x512 .bf16) : k0_pay164 (F := Ideal) k0_pay110 s m v a = upA' s m a v := rfl
theorem odd_a7 (s : Vec Ideal S512x512 .f32) (m : Vec Ideal S1x512 .f32) (a : Vec Ideal S64x512 .f32) (v : Vec Ideal S64x512 .bf16) : k0_pay185 (F := Ideal) k0_pay110 s m v a = upA' s m a v := rfl
theorem dia_s0 (kb : Vec Ideal S512x128 .bf16) (qb : Vec Ideal S512x128 .bf16) : k0_pay188 (F := Ideal) kb qb = sc' kb qb := rfl
theorem dia_s1 (kb : Vec Ideal S512x128 .bf16) (qb : Vec Ideal S512x128 .bf16) : k0_pay189 (F := Ideal) kb qb = sc' kb qb := rfl
theorem dia_s2 (kb : Vec Ideal S512x128 .bf16) (qb : Vec Ideal S512x128 .bf16) : k0_pay190 (F := Ideal) kb qb = sc' kb qb := rfl
theorem dia_s3 (kb : Vec Ideal S512x128 .bf16) (qb : Vec Ideal S512x128 .bf16) : k0_pay200 (F := Ideal) kb qb = sc' kb qb := rfl
theorem dia_s4 (kb : Vec Ideal S512x128 .bf16) (qb : Vec Ideal S512x128 .bf16) : k0_pay208 (F := Ideal) kb qb = sc' kb qb := rfl
theorem dia_s5 (kb : Vec Ideal S512x128 .bf16) (qb : Vec Ideal S512x128 .bf16) : k0_pay216 (F := Ideal) kb qb = sc' kb qb := rfl
theorem dia_s6 (kb : Vec Ideal S512x128 .bf16) (qb : Vec Ideal S512x128 .bf16) : k0_pay224 (F := Ideal) kb qb = sc' kb qb := rfl
theorem dia_s7 (kb : Vec Ideal S512x128 .bf16) (qb : Vec Ideal S512x128 .bf16) : k0_pay232 (F := Ideal) kb qb = sc' kb qb := rfl
theorem dia_m0 (s : Vec Ideal S512x512 .f32) (m : Vec Ideal S1x512 .f32) : k0_pay199 (F := Ideal) s k0_pay191 k0_pay192 m = upM' (mask s) m := rfl
theorem dia_m1 (s : Vec Ideal S512x512 .f32) (m : Vec Ideal S1x512 .f32) : k0_pay207 (F := Ideal) s (iota Kind.tc S512x512 32 [0] iota_S512x512_d0_w32) m = upM' (mask s) m := rfl
theorem dia_m2 (s : Vec Ideal S512x512 .f32) (m : Vec Ideal S1x512 .f32) : k0_pay215 (F := Ideal) s m = upM' (mask s) m := rfl
theorem dia_m3 (s : Vec Ideal S512x512 .f32) (m : Vec Ideal S1x512 .f32) : k0_pay223 (k0_pay218 (F := Ideal) s m) = upM' (mask s) m := rfl
theorem dia_m4 (s : Vec Ideal S512x512 .f32) (m : Vec Ideal S1x512 .f32) : k0_pay231 (k0_pay226 (F := Ideal) s m) = upM' (mask s) m := rfl
theorem dia_m5 (s : Vec Ideal S512x512 .f32) (m : Vec Ideal S1x512 .f32) : k0_pay240 (k0_pay234 (F := Ideal) s m) = upM' (mask s) m := rfl
theorem dia_m6 (s : Vec Ideal S512x512 .f32) (m : Vec Ideal S1x512 .f32) : k0_pay247 (k0_pay242 (F := Ideal) s m) = upM' (mask s) m := rfl
theorem dia_l0 (s : Vec Ideal S512x512 .f32) (m : Vec Ideal S1x512 .f32) (l : Vec Ideal S1x512 .f32) (v : Vec Ideal S64x512 .bf16) : k0_pay197 (F := Ideal) k0_pay187 s k0_pay191 k0_pay192 m v l = upL' (mask s) m l v := rfl
theorem dia_l1 (s : Vec Ideal S512x512 .f32) (m : Vec Ideal S1x512 .f32) (l : Vec Ideal S1x512 .f32) (v : Vec Ideal S64x512 .bf16) : k0_pay205 (F := Ideal) k0_pay187 s (iota Kind.tc S512x512 32 [0] iota_S512x512_d0_w32) m v l = upL' (mask s) m l v := rfl
theorem dia_l2 (s : Vec Ideal S512x512 .f32) (m : Vec Ideal S1x512 .f32) (l : Vec Ideal S1x512 .f32) (v : Vec Ideal S64x512 .bf16) : k0_pay213 (F := Ideal) k0_pay187 s m v l = upL' (mask s) m l v := rfl
theorem dia_l3 (s : Vec Ideal S512x512 .f32) (m : Vec Ideal S1x512 .f32) (l : Vec Ideal S1x512 .f32) (v : Vec Ideal S64x512 .bf16) : k0_pay221 (F := Ideal) k0_pay187 s m v l = upL' (mask s) m l v := rfl
theorem dia_l4 (s : Vec Ideal S512x512 .f32) (m : Vec Ideal S1x512 .f32) (l : Vec Ideal S1x512 .f32) (v : Vec Ideal S64x512 .bf16) : k0_pay229 (F := Ideal) k0_pay187 s m v l = upL' (mask s) m l v := rfl
theorem dia_l5 (s : Vec Ideal S512x512 .f32) (m : Vec Ideal S1x512 .f32) (l : Vec Ideal S1x512 .f32) (v : Vec Ideal S64x512 .bf16) : k0_pay237 (F := Ideal) k0_pay187 s m v l = upL' (mask s) m l v := rfl
theorem dia_l6 (s : Vec Ideal S512x512 .f32) (m : Vec Ideal S1x512 .f32) (l : Vec Ideal S1x512 .f32) (v : Vec Ideal S64x512 .bf16) : k0_pay245 (F := Ideal) k0_pay187 s m v l = upL' (mask s) m l v := rfl
theorem dia_l7 (s : Vec Ideal S512x512 .f32) (m : Vec Ideal S1x512 .f32) (l : Vec Ideal S1x512 .f32) (v : Vec Ideal S64x512 .bf16) : k0_pay252 (F := Ideal) k0_pay187 s m v l = upL' (mask s) m l v := rfl
theorem dia_a0 (s : Vec Ideal S512x512 .f32) (m : Vec Ideal S1x512 .f32) (a : Vec Ideal S64x512 .f32) (v : Vec Ideal S64x512 .bf16) : k0_pay198 (F := Ideal) k0_pay187 s k0_pay191 k0_pay192 m v a = upA' (mask s) m a v := rfl
theorem dia_a1 (s : Vec Ideal S512x512 .f32) (m : Vec Ideal S1x512 .f32) (a : Vec Ideal S64x512 .f32) (v : Vec Ideal S64x512 .bf16) : k0_pay206 (F := Ideal) k0_pay187 s (iota Kind.tc S512x512 32 [0] iota_S512x512_d0_w32) m v a = upA' (mask s) m a v := rfl
theorem dia_a2 (s : Vec Ideal S512x512 .f32) (m : Vec Ideal S1x512 .f32) (a : Vec Ideal S64x512 .f32) (v : Vec Ideal S64x512 .bf16) : k0_pay214 (F := Ideal) k0_pay187 s m v a = upA' (mask s) m a v := rfl
theorem dia_a3 (s : Vec Ideal S512x512 .f32) (m : Vec Ideal S1x512 .f32) (a : Vec Ideal S64x512 .f32) (v : Vec Ideal S64x512 .bf16) : k0_pay222 (F := Ideal) k0_pay187 s m v a = upA' (mask s) m a v := rfl
theorem dia_a4 (s : Vec Ideal S512x512 .f32) (m : Vec Ideal S1x512 .f32) (a : Vec Ideal S64x512 .f32) (v : Vec Ideal S64x512 .bf16) : k0_pay230 (F := Ideal) k0_pay187 s m v a = upA' (mask s) m a v := rfl
theorem dia_a5 (s : Vec Ideal S512x512 .f32) (m : Vec Ideal S1x512 .f32) (a : Vec Ideal S64x512 .f32) (v : Vec Ideal S64x512 .bf16) : k0_pay239 (k0_pay238 (F := Ideal) k0_pay187 s m v a) = upA' (mask s) m a v := rfl
theorem dia_a6 (s : Vec Ideal S512x512 .f32) (m : Vec Ideal S1x512 .f32) (a : Vec Ideal S64x512 .f32) (v : Vec Ideal S64x512 .bf16) : k0_pay246 (F := Ideal) k0_pay187 s m v a = upA' (mask s) m a v := rfl
theorem dia_a7 (s : Vec Ideal S512x512 .f32) (m : Vec Ideal S1x512 .f32) (a : Vec Ideal S64x512 .f32) (v : Vec Ideal S64x512 .bf16) : k0_pay253 (F := Ideal) k0_pay187 s m v a = upA' (mask s) m a v := rfl

end

/-! ## A block, entry by entry -/

theorem neg_inf : Ideal.ofBits FTy.f32 4286578688#32 = ⊥ := by
  simp [Ideal.ofBits, Ideal.ieee]

theorem sc_cell (kb : Vec Ideal S1024x128 .bf16) (qb : Vec Ideal S512x128 .bf16) (k : Fin 1024) (x : Fin 512) :
    cell (sc kb qb) k x = ∑ d : Fin 128, cell kb k d * cell qb x d := by
  rw [← cell_ix (sc kb qb)]
  simp only [← cell_ix kb, ← cell_ix qb]
  pointwise [sc, k0_pay4]

theorem upM_cell (s : Vec Ideal S1024x512 .f32) (m : Vec Ideal S1x512 .f32) (x : Fin 512) :
    cell (upM s m) 0 x = max (cell m 0 x) (Finset.univ.fold max ⊥ fun k : Fin 1024 => cell s k x) := by
  rw [cell_eq _ (a := 0) (by omega) x.isLt, cell_eq m (a := 0) (by omega) x.isLt]
  simp only [← cell_ix s]
  pointwise [upM, k0_pay18, k0_pay13]
  rw [neg_inf]

theorem upL_cell (s : Vec Ideal S1024x512 .f32) (m l : Vec Ideal S1x512 .f32) (v : Vec Ideal S64x1024 .bf16) (x : Fin 512) :
    cell (upL s m l v) 0 x = Ideal.exp2 (cell m 0 x - cell (upM s m) 0 x) * cell l 0 x
      + ∑ k : Fin 1024, 1 * Ideal.exp2 (cell s k x - cell (upM s m) 0 x) := by
  rw [upM_cell, cell_eq _ (a := 0) (by omega) x.isLt, cell_eq m (a := 0) (by omega) x.isLt, cell_eq l (a := 0) (by omega) x.isLt]
  simp only [← cell_ix s, one_mul]
  pointwise [upL, k0_pay16, k0_pay14, k0_pay15, k0_pay13, k0_pay2]
  rw [neg_inf]
  rfl

theorem upA_cell (s : Vec Ideal S1024x512 .f32) (m : Vec Ideal S1x512 .f32) (a : Vec Ideal S64x512 .f32) (v : Vec Ideal S64x1024 .bf16)
    (z : Fin 64) (x : Fin 512) :
    cell (upA s m a v) z x = Ideal.exp2 (cell m 0 x - cell (upM s m) 0 x) * cell a z x
      + ∑ k : Fin 1024, cell v z k * Ideal.exp2 (cell s k x - cell (upM s m) 0 x) := by
  rw [upM_cell, ← cell_ix (upA s m a v), cell_eq m (a := 0) (by omega) x.isLt]
  simp only [← cell_ix s, ← cell_ix a, ← cell_ix v]
  pointwise [upA, k0_pay17, k0_pay14, k0_pay15, k0_pay13, k0_pay2]
  rw [neg_inf]
  rfl

theorem sc'_cell (kb : Vec Ideal S512x128 .bf16) (qb : Vec Ideal S512x128 .bf16) (k : Fin 512) (x : Fin 512) :
    cell (sc' kb qb) k x = ∑ d : Fin 128, cell kb k d * cell qb x d := by
  rw [← cell_ix (sc' kb qb)]
  simp only [← cell_ix kb, ← cell_ix qb]
  pointwise [sc', k0_pay112]

theorem upM'_cell (s : Vec Ideal S512x512 .f32) (m : Vec Ideal S1x512 .f32) (x : Fin 512) :
    cell (upM' s m) 0 x = max (cell m 0 x) (Finset.univ.fold max ⊥ fun k : Fin 512 => cell s k x) := by
  rw [cell_eq _ (a := 0) (by omega) x.isLt, cell_eq m (a := 0) (by omega) x.isLt]
  simp only [← cell_ix s]
  pointwise [upM', k0_pay127, k0_pay122]
  rw [neg_inf]

theorem upL'_cell (s : Vec Ideal S512x512 .f32) (m l : Vec Ideal S1x512 .f32) (v : Vec Ideal S64x512 .bf16) (x : Fin 512) :
    cell (upL' s m l v) 0 x = Ideal.exp2 (cell m 0 x - cell (upM' s m) 0 x) * cell l 0 x
      + ∑ k : Fin 512, 1 * Ideal.exp2 (cell s k x - cell (upM' s m) 0 x) := by
  rw [upM'_cell, cell_eq _ (a := 0) (by omega) x.isLt, cell_eq m (a := 0) (by omega) x.isLt, cell_eq l (a := 0) (by omega) x.isLt]
  simp only [← cell_ix s, one_mul]
  pointwise [upL', k0_pay125, k0_pay123, k0_pay124, k0_pay122, k0_pay110]
  rw [neg_inf]
  rfl

theorem upA'_cell (s : Vec Ideal S512x512 .f32) (m : Vec Ideal S1x512 .f32) (a : Vec Ideal S64x512 .f32) (v : Vec Ideal S64x512 .bf16)
    (z : Fin 64) (x : Fin 512) :
    cell (upA' s m a v) z x = Ideal.exp2 (cell m 0 x - cell (upM' s m) 0 x) * cell a z x
      + ∑ k : Fin 512, cell v z k * Ideal.exp2 (cell s k x - cell (upM' s m) 0 x) := by
  rw [upM'_cell, ← cell_ix (upA' s m a v), cell_eq m (a := 0) (by omega) x.isLt]
  simp only [← cell_ix s, ← cell_ix a, ← cell_ix v]
  pointwise [upA', k0_pay126, k0_pay123, k0_pay124, k0_pay122, k0_pay110]
  rw [neg_inf]
  rfl

theorem mask_cell (s : Vec Ideal S512x512 .f32) (k x : Fin 512) :
    cell (mask s) k x = if k.val ≤ x.val then cell s k x else ⊥ := by
  rw [← cell_ix (mask s), ← cell_ix s]
  pointwise [mask, k0_pay193, k0_pay191, k0_pay192]
  rw [WordCmp.cmpi_sle_ofNat (by omega) (by omega), WordCmp.select_ofBool, neg_inf]
  simp only [decide_eq_true_eq]

end Cert.KernelIdeal2.Layer
-- ==== Proof.Steps.lean ====
module

public import proofs.«01_k».proof.Proof.Heads

@[expose] public section

set_option maxRecDepth 16384

noncomputable section

namespace Cert.KernelIdeal2.Layer

open Cert.KernelIdeal2 Cert.KernelIdeal2.Gen Cert.Online Idealize.ShloMosaic Idealize.ShloMosaic.TcCoe Idealize.SL.Sem

/-! ## Where the loops stop and the loads start -/

theorem trips_t1 (i : grid0.Coords) : (k0_t1_loop i).trips = (i 1).val / 2 := by
  revert i; decide +kernel

/-- The loop over what full pairs of key blocks leave is empty. -/
theorem trips_t2 (i : grid0.Coords) : (k0_t2_loop i).trips = 0 := by
  revert i; decide +kernel

theorem start_pair (i : grid0.Coords) (k : Fin (k0_t1_loop i).trips) :
    (Scalar.muli (Scf.iv 0#32 1#32 k.val) 1024#32).toNat = 1024 * k.val := by
  have h8 : k.val < 8 := by have h1 := k.isLt; have h2 := trips_t1 i; have h3 : (i 1).val < 16 := (i 1).isLt; omega
  have : ∀ k : Fin 8, (Scalar.muli (Scf.iv 0#32 1#32 k.val) 1024#32).toNat = 1024 * k.val := by decide +kernel
  exact this ⟨k.val, h8⟩

theorem start_own (i : grid0.Coords) : (Scalar.muli (BitVec.ofNat 32 (i 1).val) 512#32).toNat = 512 * (i 1).val := by
  have : ∀ n : Fin 16, (Scalar.muli (BitVec.ofNat 32 n.val) 512#32).toNat = 512 * n.val := by decide +kernel
  exact this (i 1)

theorem start_odd (i : grid0.Coords) (h : 1 ≤ (i 1).val) :
    (Scalar.muli (Scalar.subi (BitVec.ofNat 32 (i 1).val) 1#32) 512#32).toNat = 512 * ((i 1).val - 1) := by
  have : ∀ n : Fin 16, 1 ≤ n.val → (Scalar.muli (Scalar.subi (BitVec.ofNat 32 n.val) 1#32) 512#32).toNat = 512 * (n.val - 1) := by
    decide +kernel
  exact this (i 1) h

/-! ## Loads, entry by entry -/

theorem read_cell {κ : Kind} {sp : Space} {p q m n : ℕ} (v : View sig κ sp (⟨2, ![p, q]⟩ : Shape) .bf16) (X : v.ty.Contents (Elt Ideal))
    (off : Fin 2 → ℕ) (inb : ∀ a : Fin 2, off a + (![m, n] : Fin 2 → ℕ) a ≤ (![p, q] : Fin 2 → ℕ) a) {a b : ℕ} (ha : a < m) (hb : b < n) :
    cell (p := m) (q := n) (v.readAt (Elt Ideal) (Rect.unit (s := ⟨2, ![p, q]⟩) off ![m, n] inb).toLoadRect X) a b
      = cell (v.read (Elt Ideal) X) (off 0 + a) (off 1 + b) := by
  rw [← cell_load (v.read (Elt Ideal) X) off inb ha hb]
  rfl

theorem read_cell32 {κ : Kind} {sp : Space} {p q m n : ℕ} (v : View sig κ sp (⟨2, ![p, q]⟩ : Shape) .f32) (X : v.ty.Contents (Elt Ideal))
    (off : Fin 2 → ℕ) (inb : ∀ a : Fin 2, off a + (![m, n] : Fin 2 → ℕ) a ≤ (![p, q] : Fin 2 → ℕ) a) {a b : ℕ} (ha : a < m) (hb : b < n) :
    cell (p := m) (q := n) (v.readAt (Elt Ideal) (Rect.unit (s := ⟨2, ![p, q]⟩) off ![m, n] inb).toLoadRect X) a b
      = cell (v.read (Elt Ideal) X) (off 0 + a) (off 1 + b) := by
  rw [← cell_load (v.read (Elt Ideal) X) off inb ha hb]
  rfl

theorem cov_cell {κ : Kind} {sp : Space} {p q m n : ℕ} (v : View sig κ sp (⟨2, ![p, q]⟩ : Shape) .f32)
    (L : List (View.Piece (Elt Ideal) (⟨2, ![p, q]⟩ : Shape) .f32))
    (off : Fin 2 → ℕ) (inb : ∀ a : Fin 2, off a + (![m, n] : Fin 2 → ℕ) a ≤ (![p, q] : Fin 2 → ℕ) a) {a b : ℕ} (ha : a < m) (hb : b < n) :
    cell (p := m) (q := n) (v.readCov L (Rect.unit (s := ⟨2, ![p, q]⟩) off ![m, n] inb).toLoadRect) a b
      = cell (View.canon L) (off 0 + a) (off 1 + b) := by
  rw [View.readCov_eq_canon', ← cell_load (View.canon L) off inb ha hb]
  rfl

/-! ## One more block of keys -/

section

variable (S : ℕ → EReal) (W : ℕ → EReal) (n : ℕ) (x : Fin 512)

theorem step_m (s : Vec Ideal S1024x512 .f32) (m : Vec Ideal S1x512 .f32) (hs : ∀ k : Fin 1024, cell s k x = S (n + k))
    (hm : cell m 0 x = top S n) : cell (upM s m) 0 x = top S (n + 1024) := by
  rw [upM_cell, top_add, hm]
  simp only [hs]

theorem step_l (s : Vec Ideal S1024x512 .f32) (m l : Vec Ideal S1x512 .f32) (v : Vec Ideal S64x1024 .bf16)
    (hs : ∀ k : Fin 1024, cell s k x = S (n + k)) (hm : cell m 0 x = top S n) (hl : cell l 0 x = mass (fun _ => 1) S n) :
    cell (upL s m l v) 0 x = mass (fun _ => 1) S (n + 1024) := by
  rw [upL_cell, step_m S n x s m hs hm, mass_add, hm, hl]
  simp only [hs]

theorem step_a (s : Vec Ideal S1024x512 .f32) (m : Vec Ideal S1x512 .f32) (a : Vec Ideal S64x512 .f32) (v : Vec Ideal S64x1024 .bf16)
    (z : Fin 64) (hs : ∀ k : Fin 1024, cell s k x = S (n + k)) (hm : cell m 0 x = top S n) (ha : cell a z x = mass W S n)
    (hv : ∀ k : Fin 1024, cell v z k = W (n + k)) : cell (upA s m a v) z x = mass W S (n + 1024) := by
  rw [upA_cell, step_m S n x s m hs hm, mass_add, hm, ha]
  simp only [hs, hv]

theorem step_m' (s : Vec Ideal S512x512 .f32) (m : Vec Ideal S1x512 .f32) (hs : ∀ k : Fin 512, cell s k x = S (n + k))
    (hm : cell m 0 x = top S n) : cell (upM' s m) 0 x = top S (n + 512) := by
  rw [upM'_cell, top_add, hm]
  simp only [hs]

theorem step_l' (s : Vec Ideal S512x512 .f32) (m l : Vec Ideal S1x512 .f32) (v : Vec Ideal S64x512 .bf16)
    (hs : ∀ k : Fin 512, cell s k x = S (n + k)) (hm : cell m 0 x = top S n) (hl : cell l 0 x = mass (fun _ => 1) S n) :
    cell (upL' s m l v) 0 x = mass (fun _ => 1) S (n + 512) := by
  rw [upL'_cell, step_m' S n x s m hs hm, mass_add, hm, hl]
  simp only [hs]

theorem step_a' (s : Vec Ideal S512x512 .f32) (m : Vec Ideal S1x512 .f32) (a : Vec Ideal S64x512 .f32) (v : Vec Ideal S64x512 .bf16)
    (z : Fin 64) (hs : ∀ k : Fin 512, cell s k x = S (n + k)) (hm : cell m 0 x = top S n) (ha : cell a z x = mass W S n)
    (hv : ∀ k : Fin 512, cell v z k = W (n + k)) : cell (upA' s m a v) z x = mass W S (n + 512) := by
  rw [upA'_cell, step_m' S n x s m hs hm, mass_add, hm, ha]
  simp only [hs, hv]

end

/-! ## The state after the first `n` keys -/

/-- Head `h`'s score of a key for the query at row `r0 + x`, −∞ at a key after the query. -/
def score (Q : Vec Ideal S512x1024 .bf16) (K : Vec Ideal S8192x1024 .bf16) (r0 : ℕ) (h : Fin 8) (x : Fin 512) (k : ℕ) : EReal :=
  if k ≤ r0 + x then ∑ d : Fin 128, cell K k (128 * h + d) * cell Q x (128 * h + d) else ⊥

/-- A key's value in one of head `h`'s lanes. -/
def val (V : Vec Ideal S512x8192 .bf16) (h : Fin 8) (z : Fin 64) (k : ℕ) : EReal := cell V (64 * h + z) k

/-- The three running buffers hold the maxima, the totals and the weighted sums over the first `n` keys. -/
structure Inv (Q : Vec Ideal S512x1024 .bf16) (K : Vec Ideal S8192x1024 .bf16) (V : Vec Ideal S512x8192 .bf16) (r0 n : ℕ)
    (M : (⟨2, ![8, 512]⟩ : Shape).Idx → EReal) (L : (⟨2, ![8, 512]⟩ : Shape).Idx → EReal) (A : (⟨2, ![512, 512]⟩ : Shape).Idx → EReal) : Prop where
  hm : ∀ (h : Fin 8) (x : Fin 512), cell M h x = top (score Q K r0 h x) n
  hl : ∀ (h : Fin 8) (x : Fin 512), cell L h x = mass (fun _ => 1) (score Q K r0 h x) n
  ha : ∀ (h : Fin 8) (x : Fin 512) (z : Fin 64), cell A (64 * h + z) x = mass (val V h z) (score Q K r0 h x) n

end Cert.KernelIdeal2.Layer
-- ==== Proof.Trip.lean ====
module

public import proofs.«01_k».proof.Proof.Steps

@[expose] public section

set_option maxRecDepth 16384

noncomputable section

namespace Cert.KernelIdeal2.Layer

open Cert.KernelIdeal2 Cert.KernelIdeal2.Gen Cert.Online Idealize.ShloMosaic Idealize.ShloMosaic.TcCoe Idealize.SL.Sem

variable (c : Dev nD) (i : grid0.Coords) (arg2 : Memref sig .tc .vmem S512x1024 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x512 .f32) (harg9 : arg9.IsWhole)
theorem koff_0 (k : Fin (k0_t1_loop i).trips) : k0_off1 i k = ![1024 * k.val, 0] := by rw [← start_pair i k]; rfl
theorem koff_1 (k : Fin (k0_t1_loop i).trips) : k0_off2 i k = ![1024 * k.val, 128] := by rw [← start_pair i k]; rfl
theorem koff_2 (k : Fin (k0_t1_loop i).trips) : k0_off3 i k = ![1024 * k.val, 256] := by rw [← start_pair i k]; rfl
theorem koff_3 (k : Fin (k0_t1_loop i).trips) : k0_off5 i k = ![1024 * k.val, 384] := by rw [← start_pair i k]; rfl
theorem koff_4 (k : Fin (k0_t1_loop i).trips) : k0_off7 i k = ![1024 * k.val, 512] := by rw [← start_pair i k]; rfl
theorem koff_5 (k : Fin (k0_t1_loop i).trips) : k0_off9 i k = ![1024 * k.val, 640] := by rw [← start_pair i k]; rfl
theorem koff_6 (k : Fin (k0_t1_loop i).trips) : k0_off11 i k = ![1024 * k.val, 768] := by rw [← start_pair i k]; rfl
theorem koff_7 (k : Fin (k0_t1_loop i).trips) : k0_off13 i k = ![1024 * k.val, 896] := by rw [← start_pair i k]; rfl
theorem voff_0 (k : Fin (k0_t1_loop i).trips) : k0_off4 i k = ![0, 1024 * k.val] := by rw [← start_pair i k]; rfl
theorem voff_1 (k : Fin (k0_t1_loop i).trips) : k0_off6 i k = ![64, 1024 * k.val] := by rw [← start_pair i k]; rfl
theorem voff_2 (k : Fin (k0_t1_loop i).trips) : k0_off8 i k = ![128, 1024 * k.val] := by rw [← start_pair i k]; rfl
theorem voff_3 (k : Fin (k0_t1_loop i).trips) : k0_off10 i k = ![192, 1024 * k.val] := by rw [← start_pair i k]; rfl
theorem voff_4 (k : Fin (k0_t1_loop i).trips) : k0_off12 i k = ![256, 1024 * k.val] := by rw [← start_pair i k]; rfl
theorem voff_5 (k : Fin (k0_t1_loop i).trips) : k0_off14 i k = ![320, 1024 * k.val] := by rw [← start_pair i k]; rfl
theorem voff_6 (k : Fin (k0_t1_loop i).trips) : k0_off15 i k = ![384, 1024 * k.val] := by rw [← start_pair i k]; rfl
theorem voff_7 (k : Fin (k0_t1_loop i).trips) : k0_off16 i k = ![448, 1024 * k.val] := by rw [← start_pair i k]; rfl

/-- One trip of the loop: the state after 1024 more keys. -/
theorem trip_inv (arg1 v12 c0_i32_12 v34 : BitVec 32) (Q : Vec Ideal S512x1024 .bf16) (K : Vec Ideal S8192x1024 .bf16) (V : Vec Ideal S512x8192 .bf16)
    (k : Fin (k0_t1_loop i).trips) (X2 : BufTy.Contents (Elt Ideal) arg2.view.ty) (X3 : BufTy.Contents (Elt Ideal) arg3.view.ty) (X4 : BufTy.Contents (Elt Ideal) arg4.view.ty)
    (hQ : arg2.view.read (Elt Ideal) X2 = Q) (hK : arg3.view.read (Elt Ideal) X3 = K) (hV : arg4.view.read (Elt Ideal) X4 = V)
    (L7 L8 : List (View.Piece (Elt Ideal) S8x512 .f32)) (L9 : List (View.Piece (Elt Ideal) S512x512 .f32))
    (f7 : BufTy.Contents (Elt Ideal) arg7.view.ty) (f8 : BufTy.Contents (Elt Ideal) arg8.view.ty) (f9 : BufTy.Contents (Elt Ideal) arg9.view.ty)
    (h7 : arg7.view.read (Elt Ideal) f7 = View.canon L7) (h8 : arg8.view.read (Elt Ideal) f8 = View.canon L8) (h9 : arg9.view.read (Elt Ideal) f9 = View.canon L9)
    (H : Inv Q K V (512 * (i 1).val) (1024 * k.val) (View.canon L7) (View.canon L8) (View.canon L9)) :
    Inv Q K V (512 * (i 1).val) (1024 * k.val + 1024)
      (View.canon ((tripL_k0_t1 (F := Ideal) Variants.none c none i arg2 harg2 arg3 harg3 arg4 harg4 arg5 harg5 arg6 harg6 arg7 harg7 arg8 harg8 arg9 harg9 arg1 v12 c0_i32_12 v34 X2 X3 X4 k f7 f8 f9).1 ++ L7))
      (View.canon ((tripL_k0_t1 (F := Ideal) Variants.none c none i arg2 harg2 arg3 harg3 arg4 harg4 arg5 harg5 arg6 harg6 arg7 harg7 arg8 harg8 arg9 harg9 arg1 v12 c0_i32_12 v34 X2 X3 X4 k f7 f8 f9).2.1 ++ L8))
      (View.canon ((tripL_k0_t1 (F := Ideal) Variants.none c none i arg2 harg2 arg3 harg3 arg4 harg4 arg5 harg5 arg6 harg6 arg7 harg7 arg8 harg8 arg9 harg9 arg1 v12 c0_i32_12 v34 X2 X3 X4 k f7 f8 f9).2.2 ++ L9)) := by
  have hk : 1024 * k.val + 1024 ≤ 512 * (i 1).val := by
    have h1 := k.isLt; have h2 := trips_t1 i; omega
  have hs (h : Fin 8) (x : Fin 512) (kb : Vec Ideal S1024x128 .bf16) (qb : Vec Ideal S512x128 .bf16)
      (e1 : ∀ (a : Fin 1024) (d : Fin 128), cell kb a d = cell K (1024 * k.val + a) (128 * h + d))
      (e2 : ∀ d : Fin 128, cell qb x d = cell Q x (128 * h + d)) (a : Fin 1024) :
      cell (sc kb qb) a x = score Q K (512 * (i 1).val) h x (1024 * k.val + a) := by
    rw [sc_cell, score, if_pos (by omega)]
    simp only [e1, e2]
  unfold tripL_k0_t1 trip_k0_t1
  dsimp only
  refine ⟨fun h x => ?_, fun h x => ?_, fun h x z => ?_⟩
  · have hm := H.hm h x
    fin_cases h
    all_goals
      simp (disch := omega) only [List.cons_append, List.nil_append, cell_hit, cell_skip, Nat.sub_self, Nat.add_sub_cancel_left, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_23, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v496, trip_k0_t1.sl.v510, trip_k0_t1.sl.v517, trip_k0_t1.sl.v532, trip_k0_t1.sl.v546, trip_k0_t1.sl.v553, trip_k0_t1.sl.v568, trip_k0_t1.sl.v582, trip_k0_t1.sl.v589, trip_k0_t1.sl.v604, trip_k0_t1.sl.v618, trip_k0_t1.sl.v625, trip_k0_t1.sl.v640, trip_k0_t1.sl.v654, trip_k0_t1.sl.v661, trip_k0_t1.sl.v672, trip_k0_t1.sl.v686, trip_k0_t1.sl.v693, trip_k0_t1.sl.v704, trip_k0_t1.sl.v718, trip_k0_t1.sl.v725, tri_m0, tri_m1, tri_m2, tri_m3, tri_m4, tri_m5, tri_m6, tri_m7, tri_s1, tri_s2, tri_s3, tri_s4, tri_s5, tri_s6, tri_s7]
      refine step_m _ _ x _ _ (hs _ x _ _ (fun a d => ?_) (fun d => ?_)) ?_
      · simp (disch := omega) only [read_cell, hK, koff_0, koff_1, koff_2, koff_3, koff_4, koff_5, koff_6, koff_7, Matrix.cons_val_zero, Matrix.cons_val_one, zero_add, add_zero, Nat.reduceMul, mul_zero]
      · simp (disch := omega) only [read_cell, hQ, Matrix.cons_val_zero, Matrix.cons_val_one, zero_add, add_zero, Nat.reduceMul, mul_zero]
      · simp (disch := omega) only [read_cell32, h7, Matrix.cons_val_zero, Matrix.cons_val_one, zero_add, add_zero]; exact hm
  · have hm := H.hm h x
    have hl := H.hl h x
    fin_cases h
    all_goals
      simp (disch := omega) only [List.cons_append, List.nil_append, cell_hit, cell_skip, Nat.sub_self, Nat.add_sub_cancel_left, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_23, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v496, trip_k0_t1.sl.v510, trip_k0_t1.sl.v517, trip_k0_t1.sl.v532, trip_k0_t1.sl.v546, trip_k0_t1.sl.v553, trip_k0_t1.sl.v568, trip_k0_t1.sl.v582, trip_k0_t1.sl.v589, trip_k0_t1.sl.v604, trip_k0_t1.sl.v618, trip_k0_t1.sl.v625, trip_k0_t1.sl.v640, trip_k0_t1.sl.v654, trip_k0_t1.sl.v661, trip_k0_t1.sl.v672, trip_k0_t1.sl.v686, trip_k0_t1.sl.v693, trip_k0_t1.sl.v704, trip_k0_t1.sl.v718, trip_k0_t1.sl.v725, tri_l0, tri_l1, tri_l2, tri_l3, tri_l4, tri_l5, tri_l6, tri_l7, tri_s1, tri_s2, tri_s3, tri_s4, tri_s5, tri_s6, tri_s7]
      refine step_l _ _ x _ _ _ _ (hs _ x _ _ (fun a d => ?_) (fun d => ?_)) ?_ ?_
      · simp (disch := omega) only [read_cell, hK, koff_0, koff_1, koff_2, koff_3, koff_4, koff_5, koff_6, koff_7, Matrix.cons_val_zero, Matrix.cons_val_one, zero_add, add_zero, Nat.reduceMul, mul_zero]
      · simp (disch := omega) only [read_cell, hQ, Matrix.cons_val_zero, Matrix.cons_val_one, zero_add, add_zero, Nat.reduceMul, mul_zero]
      · simp (disch := omega) only [read_cell32, h7, Matrix.cons_val_zero, Matrix.cons_val_one, zero_add, add_zero]; exact hm
      · simp (disch := omega) only [read_cell32, h8, Matrix.cons_val_zero, Matrix.cons_val_one, zero_add, add_zero]; exact hl
  · have hm := H.hm h x
    have ha := H.ha h x z
    fin_cases h
    all_goals
      simp (disch := omega) only [List.cons_append, List.nil_append, cell_hit, cell_skip, Nat.sub_self, Nat.add_sub_cancel_left, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_23, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v496, trip_k0_t1.sl.v510, trip_k0_t1.sl.v517, trip_k0_t1.sl.v532, trip_k0_t1.sl.v546, trip_k0_t1.sl.v553, trip_k0_t1.sl.v568, trip_k0_t1.sl.v582, trip_k0_t1.sl.v589, trip_k0_t1.sl.v604, trip_k0_t1.sl.v618, trip_k0_t1.sl.v625, trip_k0_t1.sl.v640, trip_k0_t1.sl.v654, trip_k0_t1.sl.v661, trip_k0_t1.sl.v672, trip_k0_t1.sl.v686, trip_k0_t1.sl.v693, trip_k0_t1.sl.v704, trip_k0_t1.sl.v718, trip_k0_t1.sl.v725, tri_a0, tri_a1, tri_a2, tri_a3, tri_a4, tri_a5, tri_a6, tri_a7, tri_s1, tri_s2, tri_s3, tri_s4, tri_s5, tri_s6, tri_s7, Nat.reduceMul, mul_zero, zero_add]
      refine step_a _ _ _ x _ _ _ _ z (hs _ x _ _ (fun a d => ?_) (fun d => ?_)) ?_ ?_ (fun a => ?_)
      · simp (disch := omega) only [read_cell, hK, koff_0, koff_1, koff_2, koff_3, koff_4, koff_5, koff_6, koff_7, Matrix.cons_val_zero, Matrix.cons_val_one, zero_add, add_zero, Nat.reduceMul, mul_zero]
      · simp (disch := omega) only [read_cell, hQ, Matrix.cons_val_zero, Matrix.cons_val_one, zero_add, add_zero, Nat.reduceMul, mul_zero]
      · simp (disch := omega) only [read_cell32, h7, Matrix.cons_val_zero, Matrix.cons_val_one, zero_add, add_zero]; exact hm
      · simp (disch := omega) only [read_cell32, h9, Matrix.cons_val_zero, Matrix.cons_val_one, zero_add, add_zero]; first | exact ha | (simp only [mul_zero, zero_add] at ha; exact ha)
      · simp (disch := omega) only [read_cell, hV, voff_0, voff_1, voff_2, voff_3, voff_4, voff_5, voff_6, voff_7, Matrix.cons_val_zero, Matrix.cons_val_one, zero_add, add_zero, val, Nat.reduceMul, mul_zero]

end Cert.KernelIdeal2.Layer
-- ==== Proof.Loop.lean ====
module

public import proofs.«01_k».proof.Proof.Trip

@[expose] public section

set_option maxRecDepth 16384

noncomputable section

namespace Cert.KernelIdeal2.Layer

open Cert.KernelIdeal2 Cert.KernelIdeal2.Gen Cert.Online Idealize.ShloMosaic Idealize.ShloMosaic.TcCoe Idealize.SL.Sem

variable (c : Dev nD) (i : grid0.Coords) (arg2 : Memref sig .tc .vmem S512x1024 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x512 .f32) (harg9 : arg9.IsWhole)

/-- The loop's first `n` trips: the state after `1024 n` keys. -/
theorem loop_inv (a1 v12 v34 : BitVec 32) (Q : Vec Ideal S512x1024 .bf16) (K : Vec Ideal S8192x1024 .bf16) (V : Vec Ideal S512x8192 .bf16)
    (X2 : BufTy.Contents (Elt Ideal) arg2.view.ty) (X3 : BufTy.Contents (Elt Ideal) arg3.view.ty) (X4 : BufTy.Contents (Elt Ideal) arg4.view.ty)
    (hQ : arg2.view.read (Elt Ideal) X2 = Q) (hK : arg3.view.read (Elt Ideal) X3 = K) (hV : arg4.view.read (Elt Ideal) X4 = V)
    (F7 F8 : List (View.Piece (Elt Ideal) S8x512 .f32)) (F9 : List (View.Piece (Elt Ideal) S512x512 .f32))
    (H : Inv Q K V (512 * (i 1).val) 0 (View.canon F7) (View.canon F8) (View.canon F9)) (n : ℕ) (hn : n ≤ (k0_t1_loop i).trips) :
    Inv Q K V (512 * (i 1).val) (1024 * n)
      (View.canon ((pb_k0_t1 (F := Ideal) Variants.none c none i arg2 harg2 arg3 harg3 arg4 harg4 arg5 harg5 arg6 harg6 arg7 harg7 arg8 harg8 arg9 harg9 a1 v12 0#32 v34 X2 X3 X4 (arg7.view.writes (Elt Ideal) arg7.view.junk F7) (arg8.view.writes (Elt Ideal) arg8.view.junk F8) (arg9.view.writes (Elt Ideal) arg9.view.junk F9) n).1 ++ F7))
      (View.canon ((pb_k0_t1 (F := Ideal) Variants.none c none i arg2 harg2 arg3 harg3 arg4 harg4 arg5 harg5 arg6 harg6 arg7 harg7 arg8 harg8 arg9 harg9 a1 v12 0#32 v34 X2 X3 X4 (arg7.view.writes (Elt Ideal) arg7.view.junk F7) (arg8.view.writes (Elt Ideal) arg8.view.junk F8) (arg9.view.writes (Elt Ideal) arg9.view.junk F9) n).2.1 ++ F8))
      (View.canon ((pb_k0_t1 (F := Ideal) Variants.none c none i arg2 harg2 arg3 harg3 arg4 harg4 arg5 harg5 arg6 harg6 arg7 harg7 arg8 harg8 arg9 harg9 a1 v12 0#32 v34 X2 X3 X4 (arg7.view.writes (Elt Ideal) arg7.view.junk F7) (arg8.view.writes (Elt Ideal) arg8.view.junk F8) (arg9.view.writes (Elt Ideal) arg9.view.junk F9) n).2.2 ++ F9)) := by
  induction n with
  | zero => exact H
  | succ n ih =>
    have e := pb_k0_t1_succ (F := Ideal) Variants.none c none i arg2 harg2 arg3 harg3 arg4 harg4 arg5 harg5 arg6 harg6 arg7 harg7 arg8 harg8 arg9 harg9 a1 v12 0#32 v34 X2 X3 X4 (arg7.view.writes (Elt Ideal) arg7.view.junk F7) (arg8.view.writes (Elt Ideal) arg8.view.junk F8) (arg9.view.writes (Elt Ideal) arg9.view.junk F9) ⟨n, by omega⟩
    rw [e]
    simp only [List.append_assoc]
    exact trip_inv c i arg2 harg2 arg3 harg3 arg4 harg4 arg5 harg5 arg6 harg6 arg7 harg7 arg8 harg8 arg9 harg9 a1 v12 0#32 v34 Q K V ⟨n, by omega⟩ X2 X3 X4 hQ hK hV _ _ _ _ _ _
      (by rw [← View.writes_append, View.read_writes_junk_eq_canon]) (by rw [← View.writes_append, View.read_writes_junk_eq_canon])
      (by rw [← View.writes_append, View.read_writes_junk_eq_canon]) (ih (by omega))

/-- The loop over the remainder writes nothing. -/
theorem rest_nil (a1 v12 v34 : BitVec 32) (X2 : BufTy.Contents (Elt Ideal) arg2.view.ty) (X3 : BufTy.Contents (Elt Ideal) arg3.view.ty) (X4 : BufTy.Contents (Elt Ideal) arg4.view.ty)
    (f7 : BufTy.Contents (Elt Ideal) arg7.view.ty) (f8 : BufTy.Contents (Elt Ideal) arg8.view.ty) (f9 : BufTy.Contents (Elt Ideal) arg9.view.ty) :
    pb_k0_t2 (F := Ideal) Variants.none c none i arg2 harg2 arg3 harg3 arg4 harg4 arg5 harg5 arg6 harg6 arg7 harg7 arg8 harg8 arg9 harg9 a1 v12 0#32 v34 X2 X3 X4 f7 f8 f9 (Scf.trips (k0_t2_loop i).lb (k0_t2_loop i).ub (k0_t2_loop i).st) = ([], [], []) := by
  rw [show Scf.trips (k0_t2_loop i).lb (k0_t2_loop i).ub (k0_t2_loop i).st = 0 from trips_t2 i]
  rfl

/-- Before any key: maxima −∞, totals and sums 0. -/
theorem fill_inv (Q : Vec Ideal S512x1024 .bf16) (K : Vec Ideal S8192x1024 .bf16) (V : Vec Ideal S512x8192 .bf16) (r0 : ℕ) :
    Inv Q K V r0 0
      (View.canon [(⟨Rect.unit (s := S8x512) ![0, 0] S8x512.size inb_S8x512_S8x512_0_0, k0_pay166 (F := Ideal)⟩ : View.Piece (Elt Ideal) S8x512 .f32)])
      (View.canon [(⟨Rect.unit (s := S8x512) ![0, 0] S8x512.size inb_S8x512_S8x512_0_0, k0_pay167 (F := Ideal)⟩ : View.Piece (Elt Ideal) S8x512 .f32)])
      (View.canon [(⟨Rect.unit (s := S512x512) ![0, 0] S512x512.size inb_S512x512_S512x512_0_0, k0_pay168 (F := Ideal)⟩ : View.Piece (Elt Ideal) S512x512 .f32)]) := by
  refine ⟨fun h x => ?_, fun h x => ?_, fun h x z => ?_⟩
  · rw [cell_hit 0 _ _ _ (by omega) (by omega) x.isLt, top_zero, cell_eq _ (a := h.val - 0) (by omega) x.isLt]
    pointwise [k0_pay166]
    rw [neg_inf]
  · rw [cell_hit 0 _ _ _ (by omega) (by omega) x.isLt, mass_zero, cell_eq _ (a := h.val - 0) (by omega) x.isLt]
    pointwise [k0_pay167]
  · rw [cell_hit 0 _ _ _ (by omega) (by omega) x.isLt, mass_zero, cell_eq _ (a := 64 * h.val + z.val - 0) (by omega) x.isLt]
    pointwise [k0_pay168]

theorem oddkf_0 (hi : 1 ≤ (i 1).val) : k0_off33 i = ![512 * ((i 1).val - 1), 0] := by rw [← start_odd i hi]; rfl
theorem oddkf_1 (hi : 1 ≤ (i 1).val) : k0_off34 i = ![512 * ((i 1).val - 1), 128] := by rw [← start_odd i hi]; rfl
theorem oddkf_2 (hi : 1 ≤ (i 1).val) : k0_off35 i = ![512 * ((i 1).val - 1), 256] := by rw [← start_odd i hi]; rfl
theorem oddkf_3 (hi : 1 ≤ (i 1).val) : k0_off37 i = ![512 * ((i 1).val - 1), 384] := by rw [← start_odd i hi]; rfl
theorem oddkf_4 (hi : 1 ≤ (i 1).val) : k0_off39 i = ![512 * ((i 1).val - 1), 512] := by rw [← start_odd i hi]; rfl
theorem oddkf_5 (hi : 1 ≤ (i 1).val) : k0_off41 i = ![512 * ((i 1).val - 1), 640] := by rw [← start_odd i hi]; rfl
theorem oddkf_6 (hi : 1 ≤ (i 1).val) : k0_off43 i = ![512 * ((i 1).val - 1), 768] := by rw [← start_odd i hi]; rfl
theorem oddkf_7 (hi : 1 ≤ (i 1).val) : k0_off45 i = ![512 * ((i 1).val - 1), 896] := by rw [← start_odd i hi]; rfl
theorem oddvf_0 (hi : 1 ≤ (i 1).val) : k0_off36 i = ![0, 512 * ((i 1).val - 1)] := by rw [← start_odd i hi]; rfl
theorem oddvf_1 (hi : 1 ≤ (i 1).val) : k0_off38 i = ![64, 512 * ((i 1).val - 1)] := by rw [← start_odd i hi]; rfl
theorem oddvf_2 (hi : 1 ≤ (i 1).val) : k0_off40 i = ![128, 512 * ((i 1).val - 1)] := by rw [← start_odd i hi]; rfl
theorem oddvf_3 (hi : 1 ≤ (i 1).val) : k0_off42 i = ![192, 512 * ((i 1).val - 1)] := by rw [← start_odd i hi]; rfl
theorem oddvf_4 (hi : 1 ≤ (i 1).val) : k0_off44 i = ![256, 512 * ((i 1).val - 1)] := by rw [← start_odd i hi]; rfl
theorem oddvf_5 (hi : 1 ≤ (i 1).val) : k0_off46 i = ![320, 512 * ((i 1).val - 1)] := by rw [← start_odd i hi]; rfl
theorem oddvf_6 (hi : 1 ≤ (i 1).val) : k0_off47 i = ![384, 512 * ((i 1).val - 1)] := by rw [← start_odd i hi]; rfl
theorem oddvf_7 (hi : 1 ≤ (i 1).val) : k0_off48 i = ![448, 512 * ((i 1).val - 1)] := by rw [← start_odd i hi]; rfl
theorem ownkf_0 : k0_off49 i = ![512 * (i 1).val, 0] := by rw [← start_own i]; rfl
theorem ownkf_1 : k0_off50 i = ![512 * (i 1).val, 128] := by rw [← start_own i]; rfl
theorem ownkf_2 : k0_off51 i = ![512 * (i 1).val, 256] := by rw [← start_own i]; rfl
theorem ownkf_3 : k0_off53 i = ![512 * (i 1).val, 384] := by rw [← start_own i]; rfl
theorem ownkf_4 : k0_off55 i = ![512 * (i 1).val, 512] := by rw [← start_own i]; rfl
theorem ownkf_5 : k0_off57 i = ![512 * (i 1).val, 640] := by rw [← start_own i]; rfl
theorem ownkf_6 : k0_off59 i = ![512 * (i 1).val, 768] := by rw [← start_own i]; rfl
theorem ownkf_7 : k0_off61 i = ![512 * (i 1).val, 896] := by rw [← start_own i]; rfl
theorem ownvf_0 : k0_off52 i = ![0, 512 * (i 1).val] := by rw [← start_own i]; rfl
theorem ownvf_1 : k0_off54 i = ![64, 512 * (i 1).val] := by rw [← start_own i]; rfl
theorem ownvf_2 : k0_off56 i = ![128, 512 * (i 1).val] := by rw [← start_own i]; rfl
theorem ownvf_3 : k0_off58 i = ![192, 512 * (i 1).val] := by rw [← start_own i]; rfl
theorem ownvf_4 : k0_off60 i = ![256, 512 * (i 1).val] := by rw [← start_own i]; rfl
theorem ownvf_5 : k0_off62 i = ![320, 512 * (i 1).val] := by rw [← start_own i]; rfl
theorem ownvf_6 : k0_off63 i = ![384, 512 * (i 1).val] := by rw [← start_own i]; rfl
theorem ownvf_7 : k0_off64 i = ![448, 512 * (i 1).val] := by rw [← start_own i]; rfl

/-- The extra block is taken where the query block's number is odd. -/
theorem cond_odd (i : grid0.Coords) : cond0_0 i ↔ (i 1).val % 2 = 1 := by
  revert i; decide +kernel

end Cert.KernelIdeal2.Layer
-- ==== Proof.Before.lean ====
module

public import proofs.«01_k».proof.Proof.Loop

@[expose] public section

set_option maxRecDepth 16384

noncomputable section

namespace Cert.KernelIdeal2.Layer

open Cert.KernelIdeal2 Cert.KernelIdeal2.Gen Cert.Online Idealize.ShloMosaic Idealize.ShloMosaic.TcCoe Idealize.SL.Sem

variable (c : Dev nD) (i : grid0.Coords) (arg2 : Memref sig .tc .vmem S512x1024 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x512 .f32) (harg9 : arg9.IsWhole)

/-- The writes before the extra block. -/
def b_base0 (x0 : Vec Ideal S512x1024 .bf16) (x1 : Vec Ideal S8192x1024 .bf16) (x2 : Vec Ideal S512x8192 .bf16) : List (View.Piece (Elt Ideal) S8x512 .f32) :=
  (pb_k0_t1 (F := Ideal) Variants.none c none i arg2 harg2 arg3 harg3 arg4 harg4 arg5 harg5 arg6 harg6 arg7 harg7 arg8 harg8 arg9 harg9 (BitVec.ofNat 32 (i 1).val) (kernelRun0_B.sl.v12 i) 0#32 (kernelRun0_B.sl.v34 i) (harg2.unread x0) (harg3.unread x1) (harg4.unread x2) (arg7.view.writes (Elt Ideal) arg7.view.junk kernelRun0_B.sl.HS0_1) (arg8.view.writes (Elt Ideal) arg8.view.junk kernelRun0_B.sl.HS1_1) (arg9.view.writes (Elt Ideal) arg9.view.junk kernelRun0_B.sl.HS2_1) (Scf.trips (k0_t1_loop i).lb (k0_t1_loop i).ub (k0_t1_loop i).st)).1 ++ kernelRun0_B.sl.HS0_1

theorem b_load0 (x0 : Vec Ideal S512x1024 .bf16) (x1 : Vec Ideal S8192x1024 .bf16) (x2 : Vec Ideal S512x8192 .bf16) :
    kernelRun0_B.sl.v461 (F := Ideal) c i arg2 harg2 arg3 harg3 arg4 harg4 arg5 harg5 arg6 harg6 arg7 harg7 arg8 harg8 arg9 harg9 x0 x1 x2 = arg7.view.readCov (b_base0 c i arg2 harg2 arg3 harg3 arg4 harg4 arg5 harg5 arg6 harg6 arg7 harg7 arg8 harg8 arg9 harg9 x0 x1 x2) (Rect.unit (s := S8x512) ![0, 0] S1x512.size inb_S8x512_S1x512_0_0).toLoadRect := by
  unfold kernelRun0_B.sl.v461
  rw [rest_nil]
  rfl

theorem b_skip0 (hc0 : cond0_0 i) (x0 : Vec Ideal S512x1024 .bf16) (x1 : Vec Ideal S8192x1024 .bf16) (x2 : Vec Ideal S512x8192 .bf16) {a b : ℕ} (h : 1 ≤ a) :
    cell (View.canon (kernelRun0_B.sl.HS0_1_1 (F := Ideal) c i arg2 harg2 arg3 harg3 arg4 harg4 arg5 harg5 arg6 harg6 arg7 harg7 arg8 harg8 arg9 harg9 hc0 x0 x1 x2)) a b = cell (View.canon (b_base0 c i arg2 harg2 arg3 harg3 arg4 harg4 arg5 harg5 arg6 harg6 arg7 harg7 arg8 harg8 arg9 harg9 x0 x1 x2)) a b := by
  unfold kernelRun0_B.sl.HS0_1_1
  rw [cell_skip _ _ _ _ (Or.inr (by omega)), rest_nil]
  rfl

/-- The writes before the extra block. -/
def b_base1 (x0 : Vec Ideal S512x1024 .bf16) (x1 : Vec Ideal S8192x1024 .bf16) (x2 : Vec Ideal S512x8192 .bf16) : List (View.Piece (Elt Ideal) S8x512 .f32) :=
  (pb_k0_t1 (F := Ideal) Variants.none c none i arg2 harg2 arg3 harg3 arg4 harg4 arg5 harg5 arg6 harg6 arg7 harg7 arg8 harg8 arg9 harg9 (BitVec.ofNat 32 (i 1).val) (kernelRun0_B.sl.v12 i) 0#32 (kernelRun0_B.sl.v34 i) (harg2.unread x0) (harg3.unread x1) (harg4.unread x2) (arg7.view.writes (Elt Ideal) arg7.view.junk kernelRun0_B.sl.HS0_1) (arg8.view.writes (Elt Ideal) arg8.view.junk kernelRun0_B.sl.HS1_1) (arg9.view.writes (Elt Ideal) arg9.view.junk kernelRun0_B.sl.HS2_1) (Scf.trips (k0_t1_loop i).lb (k0_t1_loop i).ub (k0_t1_loop i).st)).2.1 ++ kernelRun0_B.sl.HS1_1

theorem b_load1 (x0 : Vec Ideal S512x1024 .bf16) (x1 : Vec Ideal S8192x1024 .bf16) (x2 : Vec Ideal S512x8192 .bf16) :
    kernelRun0_B.sl.v475 (F := Ideal) c i arg2 harg2 arg3 harg3 arg4 harg4 arg5 harg5 arg6 harg6 arg7 harg7 arg8 harg8 arg9 harg9 x0 x1 x2 = arg8.view.readCov (b_base1 c i arg2 harg2 arg3 harg3 arg4 harg4 arg5 harg5 arg6 harg6 arg7 harg7 arg8 harg8 arg9 harg9 x0 x1 x2) (Rect.unit (s := S8x512) ![0, 0] S1x512.size inb_S8x512_S1x512_0_0).toLoadRect := by
  unfold kernelRun0_B.sl.v475
  rw [rest_nil]
  rfl

theorem b_skip1 (hc0 : cond0_0 i) (x0 : Vec Ideal S512x1024 .bf16) (x1 : Vec Ideal S8192x1024 .bf16) (x2 : Vec Ideal S512x8192 .bf16) {a b : ℕ} (h : 1 ≤ a) :
    cell (View.canon (kernelRun0_B.sl.HS1_1_1 (F := Ideal) c i arg2 harg2 arg3 harg3 arg4 harg4 arg5 harg5 arg6 harg6 arg7 harg7 arg8 harg8 arg9 harg9 hc0 x0 x1 x2)) a b = cell (View.canon (b_base1 c i arg2 harg2 arg3 harg3 arg4 harg4 arg5 harg5 arg6 harg6 arg7 harg7 arg8 harg8 arg9 harg9 x0 x1 x2)) a b := by
  unfold kernelRun0_B.sl.HS1_1_1
  rw [cell_skip _ _ _ _ (Or.inr (by omega)), rest_nil]
  rfl

/-- The writes before the extra block. -/
def b_base2 (x0 : Vec Ideal S512x1024 .bf16) (x1 : Vec Ideal S8192x1024 .bf16) (x2 : Vec Ideal S512x8192 .bf16) : List (View.Piece (Elt Ideal) S512x512 .f32) :=
  (pb_k0_t1 (F := Ideal) Variants.none c none i arg2 harg2 arg3 harg3 arg4 harg4 arg5 harg5 arg6 harg6 arg7 harg7 arg8 harg8 arg9 harg9 (BitVec.ofNat 32 (i 1).val) (kernelRun0_B.sl.v12 i) 0#32 (kernelRun0_B.sl.v34 i) (harg2.unread x0) (harg3.unread x1) (harg4.unread x2) (arg7.view.writes (Elt Ideal) arg7.view.junk kernelRun0_B.sl.HS0_1) (arg8.view.writes (Elt Ideal) arg8.view.junk kernelRun0_B.sl.HS1_1) (arg9.view.writes (Elt Ideal) arg9.view.junk kernelRun0_B.sl.HS2_1) (Scf.trips (k0_t1_loop i).lb (k0_t1_loop i).ub (k0_t1_loop i).st)).2.2 ++ kernelRun0_B.sl.HS2_1

theorem b_load2 (x0 : Vec Ideal S512x1024 .bf16) (x1 : Vec Ideal S8192x1024 .bf16) (x2 : Vec Ideal S512x8192 .bf16) :
    kernelRun0_B.sl.v482 (F := Ideal) c i arg2 harg2 arg3 harg3 arg4 harg4 arg5 harg5 arg6 harg6 arg7 harg7 arg8 harg8 arg9 harg9 x0 x1 x2 = arg9.view.readCov (b_base2 c i arg2 harg2 arg3 harg3 arg4 harg4 arg5 harg5 arg6 harg6 arg7 harg7 arg8 harg8 arg9 harg9 x0 x1 x2) (Rect.unit (s := S512x512) ![0, 0] S64x512.size inb_S512x512_S64x512_0_0).toLoadRect := by
  unfold kernelRun0_B.sl.v482
  rw [rest_nil]
  rfl

theorem b_skip2 (hc0 : cond0_0 i) (x0 : Vec Ideal S512x1024 .bf16) (x1 : Vec Ideal S8192x1024 .bf16) (x2 : Vec Ideal S512x8192 .bf16) {a b : ℕ} (h : 64 ≤ a) :
    cell (View.canon (kernelRun0_B.sl.HS2_1_1 (F := Ideal) c i arg2 harg2 arg3 harg3 arg4 harg4 arg5 harg5 arg6 harg6 arg7 harg7 arg8 harg8 arg9 harg9 hc0 x0 x1 x2)) a b = cell (View.canon (b_base2 c i arg2 harg2 arg3 harg3 arg4 harg4 arg5 harg5 arg6 harg6 arg7 harg7 arg8 harg8 arg9 harg9 x0 x1 x2)) a b := by
  unfold kernelRun0_B.sl.HS2_1_1
  rw [cell_skip _ _ _ _ (Or.inr (by omega)), rest_nil]
  rfl

/-- An odd-numbered query block: the state after the block of 512 keys before its own. -/
theorem runB_before (hc0 : cond0_0 i) (x0 : Vec Ideal S512x1024 .bf16) (x1 : Vec Ideal S8192x1024 .bf16) (x2 : Vec Ideal S512x8192 .bf16) :
    Inv x0 x1 x2 (512 * (i 1).val) (512 * (i 1).val)
      (View.canon (kernelRun0_B.sl.HS0_8 (F := Ideal) c i arg2 harg2 arg3 harg3 arg4 harg4 arg5 harg5 arg6 harg6 arg7 harg7 arg8 harg8 arg9 harg9 hc0  x0 x1 x2))
      (View.canon (kernelRun0_B.sl.HS1_8 (F := Ideal) c i arg2 harg2 arg3 harg3 arg4 harg4 arg5 harg5 arg6 harg6 arg7 harg7 arg8 harg8 arg9 harg9 hc0  x0 x1 x2))
      (View.canon (kernelRun0_B.sl.HS2_8 (F := Ideal) c i arg2 harg2 arg3 harg3 arg4 harg4 arg5 harg5 arg6 harg6 arg7 harg7 arg8 harg8 arg9 harg9 hc0  x0 x1 x2)) := by
  have ho := (cond_odd i).1 hc0
  have hi : 1 ≤ (i 1).val := by omega
  have hQ := harg2.read_unread (Val := Elt Ideal) x0
  have hK := harg3.read_unread (Val := Elt Ideal) x1
  have hV := harg4.read_unread (Val := Elt Ideal) x2
  have hs (h : Fin 8) (x : Fin 512) (kb : Vec Ideal S512x128 .bf16) (qb : Vec Ideal S512x128 .bf16)
      (e1 : ∀ (a : Fin 512) (d : Fin 128), cell kb a d = cell x1 (512 * ((i 1).val - 1) + a) (128 * h + d))
      (e2 : ∀ d : Fin 128, cell qb x d = cell x0 x (128 * h + d)) (a : Fin 512) :
      cell (sc' kb qb) a x = score x0 x1 (512 * (i 1).val) h x (512 * ((i 1).val - 1) + a) := by
    rw [sc'_cell, score, if_pos (by omega)]
    simp only [e1, e2]
  have H : Inv x0 x1 x2 (512 * (i 1).val) (1024 * Scf.trips (k0_t1_loop i).lb (k0_t1_loop i).ub (k0_t1_loop i).st) (View.canon (b_base0 c i arg2 harg2 arg3 harg3 arg4 harg4 arg5 harg5 arg6 harg6 arg7 harg7 arg8 harg8 arg9 harg9 x0 x1 x2)) (View.canon (b_base1 c i arg2 harg2 arg3 harg3 arg4 harg4 arg5 harg5 arg6 harg6 arg7 harg7 arg8 harg8 arg9 harg9 x0 x1 x2)) (View.canon (b_base2 c i arg2 harg2 arg3 harg3 arg4 harg4 arg5 harg5 arg6 harg6 arg7 harg7 arg8 harg8 arg9 harg9 x0 x1 x2)) :=
    loop_inv c i arg2 harg2 arg3 harg3 arg4 harg4 arg5 harg5 arg6 harg6 arg7 harg7 arg8 harg8 arg9 harg9 (BitVec.ofNat 32 (i 1).val) (kernelRun0_B.sl.v12 i) (kernelRun0_B.sl.v34 i) x0 x1 x2 (harg2.unread x0) (harg3.unread x1) (harg4.unread x2) hQ hK hV
    kernelRun0_B.sl.HS0_1 kernelRun0_B.sl.HS1_1 kernelRun0_B.sl.HS2_1 (fill_inv x0 x1 x2 _) (Scf.trips (k0_t1_loop i).lb (k0_t1_loop i).ub (k0_t1_loop i).st) le_rfl
  rw [show 1024 * Scf.trips (k0_t1_loop i).lb (k0_t1_loop i).ub (k0_t1_loop i).st = 512 * ((i 1).val - 1) by
    have h1 : Scf.trips (k0_t1_loop i).lb (k0_t1_loop i).ub (k0_t1_loop i).st = _ := trips_t1 i; omega] at H
  have e : 512 * (i 1).val = 512 * ((i 1).val - 1) + 512 := by omega
  refine ⟨fun h x => ?_, fun h x => ?_, fun h x z => ?_⟩
  · have hm := H.hm h x
    fin_cases h
    all_goals
      simp (disch := omega) only [kernelRun0_B.sl.HS0_1_1, kernelRun0_B.sl.HS0_2, kernelRun0_B.sl.HS0_3, kernelRun0_B.sl.HS0_4, kernelRun0_B.sl.HS0_5, kernelRun0_B.sl.HS0_6, kernelRun0_B.sl.HS0_7, kernelRun0_B.sl.HS0_8, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, cell_hit, cell_skip, Nat.sub_self, Nat.add_sub_cancel_left, odd_m0, odd_m1, odd_m2, odd_m3, odd_m4, odd_m5, odd_m6, odd_m7, odd_s1, odd_s2, odd_s3, odd_s4, odd_s5, odd_s6, odd_s7]
      refine Eq.trans (step_m' _ (512 * ((i 1).val - 1)) x _ _ (hs _ x _ _ (fun a d => ?_) (fun d => ?_)) ?_) (by rw [← e])
      · simp (disch := omega) only [read_cell, hK, oddkf_0 i hi, oddkf_1 i hi, oddkf_2 i hi, oddkf_3 i hi, oddkf_4 i hi, oddkf_5 i hi, oddkf_6 i hi, oddkf_7 i hi, Matrix.cons_val_zero, Matrix.cons_val_one, zero_add, add_zero, Nat.reduceMul, mul_zero]
      · simp (disch := omega) only [read_cell, hQ, Matrix.cons_val_zero, Matrix.cons_val_one, zero_add, add_zero, Nat.reduceMul, mul_zero]
      · simp (disch := omega) only [b_load0, kernelRun0_B.sl.v497, kernelRun0_B.sl.v533, kernelRun0_B.sl.v569, kernelRun0_B.sl.v605, kernelRun0_B.sl.v641, kernelRun0_B.sl.v673, kernelRun0_B.sl.v705, cov_cell, b_skip0, kernelRun0_B.sl.HS0_2, kernelRun0_B.sl.HS0_3, kernelRun0_B.sl.HS0_4, kernelRun0_B.sl.HS0_5, kernelRun0_B.sl.HS0_6, kernelRun0_B.sl.HS0_7, kernelRun0_B.sl.HS0_8, cell_hit, cell_skip, Nat.sub_self, Nat.add_sub_cancel_left, Matrix.cons_val_zero, Matrix.cons_val_one, zero_add, add_zero]; exact hm
  · have hm := H.hm h x
    have hl := H.hl h x
    fin_cases h
    all_goals
      simp (disch := omega) only [kernelRun0_B.sl.HS1_1_1, kernelRun0_B.sl.HS1_2, kernelRun0_B.sl.HS1_3, kernelRun0_B.sl.HS1_4, kernelRun0_B.sl.HS1_5, kernelRun0_B.sl.HS1_6, kernelRun0_B.sl.HS1_7, kernelRun0_B.sl.HS1_8, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, cell_hit, cell_skip, Nat.sub_self, Nat.add_sub_cancel_left, odd_l0, odd_l1, odd_l2, odd_l3, odd_l4, odd_l5, odd_l6, odd_l7, odd_s1, odd_s2, odd_s3, odd_s4, odd_s5, odd_s6, odd_s7]
      refine Eq.trans (step_l' _ (512 * ((i 1).val - 1)) x _ _ _ _ (hs _ x _ _ (fun a d => ?_) (fun d => ?_)) ?_ ?_) (by rw [← e])
      · simp (disch := omega) only [read_cell, hK, oddkf_0 i hi, oddkf_1 i hi, oddkf_2 i hi, oddkf_3 i hi, oddkf_4 i hi, oddkf_5 i hi, oddkf_6 i hi, oddkf_7 i hi, Matrix.cons_val_zero, Matrix.cons_val_one, zero_add, add_zero, Nat.reduceMul, mul_zero]
      · simp (disch := omega) only [read_cell, hQ, Matrix.cons_val_zero, Matrix.cons_val_one, zero_add, add_zero, Nat.reduceMul, mul_zero]
      · simp (disch := omega) only [b_load0, kernelRun0_B.sl.v497, kernelRun0_B.sl.v533, kernelRun0_B.sl.v569, kernelRun0_B.sl.v605, kernelRun0_B.sl.v641, kernelRun0_B.sl.v673, kernelRun0_B.sl.v705, cov_cell, b_skip0, kernelRun0_B.sl.HS0_2, kernelRun0_B.sl.HS0_3, kernelRun0_B.sl.HS0_4, kernelRun0_B.sl.HS0_5, kernelRun0_B.sl.HS0_6, kernelRun0_B.sl.HS0_7, kernelRun0_B.sl.HS0_8, cell_hit, cell_skip, Nat.sub_self, Nat.add_sub_cancel_left, Matrix.cons_val_zero, Matrix.cons_val_one, zero_add, add_zero]; exact hm
      · simp (disch := omega) only [b_load1, kernelRun0_B.sl.v511, kernelRun0_B.sl.v547, kernelRun0_B.sl.v583, kernelRun0_B.sl.v619, kernelRun0_B.sl.v655, kernelRun0_B.sl.v687, kernelRun0_B.sl.v719, cov_cell, b_skip1, kernelRun0_B.sl.HS1_2, kernelRun0_B.sl.HS1_3, kernelRun0_B.sl.HS1_4, kernelRun0_B.sl.HS1_5, kernelRun0_B.sl.HS1_6, kernelRun0_B.sl.HS1_7, kernelRun0_B.sl.HS1_8, cell_hit, cell_skip, Nat.sub_self, Nat.add_sub_cancel_left, Matrix.cons_val_zero, Matrix.cons_val_one, zero_add, add_zero]; exact hl
  · have hm := H.hm h x
    have ha := H.ha h x z
    fin_cases h
    all_goals
      simp (disch := omega) only [kernelRun0_B.sl.HS2_1_1, kernelRun0_B.sl.HS2_2, kernelRun0_B.sl.HS2_3, kernelRun0_B.sl.HS2_4, kernelRun0_B.sl.HS2_5, kernelRun0_B.sl.HS2_6, kernelRun0_B.sl.HS2_7, kernelRun0_B.sl.HS2_8, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, cell_hit, cell_skip, Nat.sub_self, Nat.add_sub_cancel_left, odd_a0, odd_a1, odd_a2, odd_a3, odd_a4, odd_a5, odd_a6, odd_a7, odd_s1, odd_s2, odd_s3, odd_s4, odd_s5, odd_s6, odd_s7, Nat.reduceMul, mul_zero, zero_add]
      refine Eq.trans (step_a' _ _ (512 * ((i 1).val - 1)) x _ _ _ _ z (hs _ x _ _ (fun a d => ?_) (fun d => ?_)) ?_ ?_ (fun a => ?_)) (by rw [← e])
      · simp (disch := omega) only [read_cell, hK, oddkf_0 i hi, oddkf_1 i hi, oddkf_2 i hi, oddkf_3 i hi, oddkf_4 i hi, oddkf_5 i hi, oddkf_6 i hi, oddkf_7 i hi, Matrix.cons_val_zero, Matrix.cons_val_one, zero_add, add_zero, Nat.reduceMul, mul_zero]
      · simp (disch := omega) only [read_cell, hQ, Matrix.cons_val_zero, Matrix.cons_val_one, zero_add, add_zero, Nat.reduceMul, mul_zero]
      · simp (disch := omega) only [b_load0, kernelRun0_B.sl.v497, kernelRun0_B.sl.v533, kernelRun0_B.sl.v569, kernelRun0_B.sl.v605, kernelRun0_B.sl.v641, kernelRun0_B.sl.v673, kernelRun0_B.sl.v705, cov_cell, b_skip0, kernelRun0_B.sl.HS0_2, kernelRun0_B.sl.HS0_3, kernelRun0_B.sl.HS0_4, kernelRun0_B.sl.HS0_5, kernelRun0_B.sl.HS0_6, kernelRun0_B.sl.HS0_7, kernelRun0_B.sl.HS0_8, cell_hit, cell_skip, Nat.sub_self, Nat.add_sub_cancel_left, Matrix.cons_val_zero, Matrix.cons_val_one, zero_add, add_zero]; exact hm
      · simp (disch := omega) only [b_load2, kernelRun0_B.sl.v518, kernelRun0_B.sl.v554, kernelRun0_B.sl.v590, kernelRun0_B.sl.v626, kernelRun0_B.sl.v662, kernelRun0_B.sl.v694, kernelRun0_B.sl.v726, cov_cell, b_skip2, kernelRun0_B.sl.HS2_2, kernelRun0_B.sl.HS2_3, kernelRun0_B.sl.HS2_4, kernelRun0_B.sl.HS2_5, kernelRun0_B.sl.HS2_6, kernelRun0_B.sl.HS2_7, kernelRun0_B.sl.HS2_8, cell_hit, cell_skip, Nat.sub_self, Nat.add_sub_cancel_left, Matrix.cons_val_zero, Matrix.cons_val_one, zero_add, add_zero]; first | exact ha | (simp only [mul_zero, zero_add] at ha; exact ha)
      · simp (disch := omega) only [read_cell, hV, oddvf_0 i hi, oddvf_1 i hi, oddvf_2 i hi, oddvf_3 i hi, oddvf_4 i hi, oddvf_5 i hi, oddvf_6 i hi, oddvf_7 i hi, Matrix.cons_val_zero, Matrix.cons_val_one, zero_add, add_zero, val, Nat.reduceMul, mul_zero]

end Cert.KernelIdeal2.Layer
-- ==== Proof.Odd.lean ====
module

public import proofs.«01_k».proof.Proof.Before

@[expose] public section

set_option maxRecDepth 16384

noncomputable section

namespace Cert.KernelIdeal2.Layer

open Cert.KernelIdeal2 Cert.KernelIdeal2.Gen Cert.Online Idealize.ShloMosaic Idealize.ShloMosaic.TcCoe Idealize.SL.Sem

variable (c : Dev nD) (i : grid0.Coords) (arg2 : Memref sig .tc .vmem S512x1024 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x512 .f32) (harg9 : arg9.IsWhole)

/-- An odd-numbered query block: totals and weighted sums over all its keys. -/
theorem runB (hc0 : cond0_0 i) (x0 : Vec Ideal S512x1024 .bf16) (x1 : Vec Ideal S8192x1024 .bf16) (x2 : Vec Ideal S512x8192 .bf16) :
    (∀ (h : Fin 8) (x : Fin 512), cell (View.canon (kernelRun0_B.sl.HS1_16 (F := Ideal) c i arg2 harg2 arg3 harg3 arg4 harg4 arg5 harg5 arg6 harg6 arg7 harg7 arg8 harg8 arg9 harg9 hc0  x0 x1 x2)) h x = mass (fun _ => 1) (score x0 x1 (512 * (i 1).val) h x) (512 * (i 1).val + 512))
    ∧ ∀ (h : Fin 8) (x : Fin 512) (z : Fin 64), cell (View.canon (kernelRun0_B.sl.HS2_16 (F := Ideal) c i arg2 harg2 arg3 harg3 arg4 harg4 arg5 harg5 arg6 harg6 arg7 harg7 arg8 harg8 arg9 harg9 hc0  x0 x1 x2)) (64 * h.val + z) x = mass (val x2 h z) (score x0 x1 (512 * (i 1).val) h x) (512 * (i 1).val + 512) := by
  have hQ := harg2.read_unread (Val := Elt Ideal) x0
  have hK := harg3.read_unread (Val := Elt Ideal) x1
  have hV := harg4.read_unread (Val := Elt Ideal) x2
  have hs (h : Fin 8) (x : Fin 512) (kb : Vec Ideal S512x128 .bf16) (qb : Vec Ideal S512x128 .bf16)
      (e1 : ∀ (a : Fin 512) (d : Fin 128), cell kb a d = cell x1 (512 * (i 1).val + a) (128 * h + d))
      (e2 : ∀ d : Fin 128, cell qb x d = cell x0 x (128 * h + d)) (a : Fin 512) :
      cell (mask (sc' kb qb)) a x = score x0 x1 (512 * (i 1).val) h x (512 * (i 1).val + a) := by
    rw [mask_cell, sc'_cell, score]
    simp only [e1, e2, Nat.add_le_add_iff_left]
  have H := runB_before c i arg2 harg2 arg3 harg3 arg4 harg4 arg5 harg5 arg6 harg6 arg7 harg7 arg8 harg8 arg9 harg9 hc0 x0 x1 x2
  refine ⟨fun h x => ?_, fun h x z => ?_⟩
  · have hm := H.hm h x
    have hl := H.hl h x
    fin_cases h
    all_goals
      simp (disch := omega) only [kernelRun0_B.sl.v104, kernelRun0_B.sl.HS1_9, kernelRun0_B.sl.HS1_10, kernelRun0_B.sl.HS1_11, kernelRun0_B.sl.HS1_12, kernelRun0_B.sl.HS1_13, kernelRun0_B.sl.HS1_14, kernelRun0_B.sl.HS1_15, kernelRun0_B.sl.HS1_16, kernelRun0_B.sl.r_26, kernelRun0_B.sl.r_27, kernelRun0_B.sl.r_28, kernelRun0_B.sl.r_29, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, cell_hit, cell_skip, Nat.sub_self, Nat.add_sub_cancel_left, dia_l0, dia_l1, dia_l2, dia_l3, dia_l4, dia_l5, dia_l6, dia_l7, dia_s0, dia_s1, dia_s2, dia_s3, dia_s4, dia_s5, dia_s6, dia_s7]
      refine step_l' _ (512 * (i 1).val) x _ _ _ _ (hs _ x _ _ (fun a d => ?_) (fun d => ?_)) ?_ ?_
      · simp (disch := omega) only [kernelRun0_B.sl.r_30, read_cell, hK, ownkf_0, ownkf_1, ownkf_2, ownkf_3, ownkf_4, ownkf_5, ownkf_6, ownkf_7, Matrix.cons_val_zero, Matrix.cons_val_one, zero_add, add_zero, Nat.reduceMul, mul_zero]
      · simp (disch := omega) only [read_cell, hQ, Matrix.cons_val_zero, Matrix.cons_val_one, zero_add, add_zero, Nat.reduceMul, mul_zero]
      · simp (disch := omega) only [kernelRun0_B.sl.v68, kernelRun0_B.sl.v109, kernelRun0_B.sl.v150, kernelRun0_B.sl.v191, kernelRun0_B.sl.v232, kernelRun0_B.sl.v273, kernelRun0_B.sl.v310, kernelRun0_B.sl.v347, cov_cell, kernelRun0_B.sl.HS0_9, kernelRun0_B.sl.HS0_10, kernelRun0_B.sl.HS0_11, kernelRun0_B.sl.HS0_12, kernelRun0_B.sl.HS0_13, kernelRun0_B.sl.HS0_14, kernelRun0_B.sl.HS0_15, cell_hit, cell_skip, Nat.sub_self, Nat.add_sub_cancel_left, Matrix.cons_val_zero, Matrix.cons_val_one, zero_add, add_zero]; exact hm
      · simp (disch := omega) only [kernelRun0_B.sl.v82, kernelRun0_B.sl.v123, kernelRun0_B.sl.v164, kernelRun0_B.sl.v205, kernelRun0_B.sl.v246, kernelRun0_B.sl.v287, kernelRun0_B.sl.v324, kernelRun0_B.sl.v361, cov_cell, kernelRun0_B.sl.HS1_9, kernelRun0_B.sl.HS1_10, kernelRun0_B.sl.HS1_11, kernelRun0_B.sl.HS1_12, kernelRun0_B.sl.HS1_13, kernelRun0_B.sl.HS1_14, kernelRun0_B.sl.HS1_15, kernelRun0_B.sl.HS1_16, cell_hit, cell_skip, Nat.sub_self, Nat.add_sub_cancel_left, Matrix.cons_val_zero, Matrix.cons_val_one, zero_add, add_zero]; exact hl
  · have hm := H.hm h x
    have ha := H.ha h x z
    fin_cases h
    all_goals
      simp (disch := omega) only [kernelRun0_B.sl.v104, kernelRun0_B.sl.HS2_9, kernelRun0_B.sl.HS2_10, kernelRun0_B.sl.HS2_11, kernelRun0_B.sl.HS2_12, kernelRun0_B.sl.HS2_13, kernelRun0_B.sl.HS2_14, kernelRun0_B.sl.HS2_15, kernelRun0_B.sl.HS2_16, kernelRun0_B.sl.r_26, kernelRun0_B.sl.r_27, kernelRun0_B.sl.r_28, kernelRun0_B.sl.r_29, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, cell_hit, cell_skip, Nat.sub_self, Nat.add_sub_cancel_left, dia_a0, dia_a1, dia_a2, dia_a3, dia_a4, dia_a5, dia_a6, dia_a7, dia_s0, dia_s1, dia_s2, dia_s3, dia_s4, dia_s5, dia_s6, dia_s7, Nat.reduceMul, mul_zero, zero_add]
      refine step_a' _ _ (512 * (i 1).val) x _ _ _ _ z (hs _ x _ _ (fun a d => ?_) (fun d => ?_)) ?_ ?_ (fun a => ?_)
      · simp (disch := omega) only [kernelRun0_B.sl.r_30, read_cell, hK, ownkf_0, ownkf_1, ownkf_2, ownkf_3, ownkf_4, ownkf_5, ownkf_6, ownkf_7, Matrix.cons_val_zero, Matrix.cons_val_one, zero_add, add_zero, Nat.reduceMul, mul_zero]
      · simp (disch := omega) only [read_cell, hQ, Matrix.cons_val_zero, Matrix.cons_val_one, zero_add, add_zero, Nat.reduceMul, mul_zero]
      · simp (disch := omega) only [kernelRun0_B.sl.v68, kernelRun0_B.sl.v109, kernelRun0_B.sl.v150, kernelRun0_B.sl.v191, kernelRun0_B.sl.v232, kernelRun0_B.sl.v273, kernelRun0_B.sl.v310, kernelRun0_B.sl.v347, cov_cell, kernelRun0_B.sl.HS0_9, kernelRun0_B.sl.HS0_10, kernelRun0_B.sl.HS0_11, kernelRun0_B.sl.HS0_12, kernelRun0_B.sl.HS0_13, kernelRun0_B.sl.HS0_14, kernelRun0_B.sl.HS0_15, cell_hit, cell_skip, Nat.sub_self, Nat.add_sub_cancel_left, Matrix.cons_val_zero, Matrix.cons_val_one, zero_add, add_zero]; exact hm
      · simp (disch := omega) only [kernelRun0_B.sl.v89, kernelRun0_B.sl.v130, kernelRun0_B.sl.v171, kernelRun0_B.sl.v212, kernelRun0_B.sl.v253, kernelRun0_B.sl.v294, kernelRun0_B.sl.v331, kernelRun0_B.sl.v368, cov_cell, kernelRun0_B.sl.HS2_9, kernelRun0_B.sl.HS2_10, kernelRun0_B.sl.HS2_11, kernelRun0_B.sl.HS2_12, kernelRun0_B.sl.HS2_13, kernelRun0_B.sl.HS2_14, kernelRun0_B.sl.HS2_15, kernelRun0_B.sl.HS2_16, cell_hit, cell_skip, Nat.sub_self, Nat.add_sub_cancel_left, Matrix.cons_val_zero, Matrix.cons_val_one, zero_add, add_zero]; first | exact ha | (simp only [mul_zero, zero_add] at ha; exact ha)
      · simp (disch := omega) only [read_cell, hV, ownvf_0, ownvf_1, ownvf_2, ownvf_3, ownvf_4, ownvf_5, ownvf_6, ownvf_7, Matrix.cons_val_zero, Matrix.cons_val_one, zero_add, add_zero, val, Nat.reduceMul, mul_zero]

end Cert.KernelIdeal2.Layer
-- ==== Proof.Even.lean ====
module

public import proofs.«01_k».proof.Proof.Loop

@[expose] public section

set_option maxRecDepth 16384

noncomputable section

namespace Cert.KernelIdeal2.Layer

open Cert.KernelIdeal2 Cert.KernelIdeal2.Gen Cert.Online Idealize.ShloMosaic Idealize.ShloMosaic.TcCoe Idealize.SL.Sem

variable (c : Dev nD) (i : grid0.Coords) (arg2 : Memref sig .tc .vmem S512x1024 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x512 .f32) (harg9 : arg9.IsWhole)

/-- The writes before the masked block. -/
def a_base0 (x0 : Vec Ideal S512x1024 .bf16) (x1 : Vec Ideal S8192x1024 .bf16) (x2 : Vec Ideal S512x8192 .bf16) : List (View.Piece (Elt Ideal) S8x512 .f32) :=
  (pb_k0_t1 (F := Ideal) Variants.none c none i arg2 harg2 arg3 harg3 arg4 harg4 arg5 harg5 arg6 harg6 arg7 harg7 arg8 harg8 arg9 harg9 (BitVec.ofNat 32 (i 1).val) (kernelRun0_A.sl.v12 i) 0#32 (kernelRun0_A.sl.v34 i) (harg2.unread x0) (harg3.unread x1) (harg4.unread x2) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (Scf.trips (k0_t1_loop i).lb (k0_t1_loop i).ub (k0_t1_loop i).st)).1 ++ kernelRun0_A.sl.HS0_1

theorem a_load0 (x0 : Vec Ideal S512x1024 .bf16) (x1 : Vec Ideal S8192x1024 .bf16) (x2 : Vec Ideal S512x8192 .bf16) :
    kernelRun0_A.sl.v68 (F := Ideal) c i arg2 harg2 arg3 harg3 arg4 harg4 arg5 harg5 arg6 harg6 arg7 harg7 arg8 harg8 arg9 harg9 x0 x1 x2 = arg7.view.readCov (a_base0 c i arg2 harg2 arg3 harg3 arg4 harg4 arg5 harg5 arg6 harg6 arg7 harg7 arg8 harg8 arg9 harg9 x0 x1 x2) (Rect.unit (s := S8x512) ![0, 0] S1x512.size inb_S8x512_S1x512_0_0).toLoadRect := by
  unfold kernelRun0_A.sl.v68
  rw [rest_nil]
  rfl

theorem a_skip0 (x0 : Vec Ideal S512x1024 .bf16) (x1 : Vec Ideal S8192x1024 .bf16) (x2 : Vec Ideal S512x8192 .bf16) {a b : ℕ} (h : 1 ≤ a) :
    cell (View.canon (kernelRun0_A.sl.HS0_1_1 (F := Ideal) c i arg2 harg2 arg3 harg3 arg4 harg4 arg5 harg5 arg6 harg6 arg7 harg7 arg8 harg8 arg9 harg9 x0 x1 x2)) a b = cell (View.canon (a_base0 c i arg2 harg2 arg3 harg3 arg4 harg4 arg5 harg5 arg6 harg6 arg7 harg7 arg8 harg8 arg9 harg9 x0 x1 x2)) a b := by
  unfold kernelRun0_A.sl.HS0_1_1
  rw [cell_skip _ _ _ _ (Or.inr (by omega)), rest_nil]
  rfl

/-- The writes before the masked block. -/
def a_base1 (x0 : Vec Ideal S512x1024 .bf16) (x1 : Vec Ideal S8192x1024 .bf16) (x2 : Vec Ideal S512x8192 .bf16) : List (View.Piece (Elt Ideal) S8x512 .f32) :=
  (pb_k0_t1 (F := Ideal) Variants.none c none i arg2 harg2 arg3 harg3 arg4 harg4 arg5 harg5 arg6 harg6 arg7 harg7 arg8 harg8 arg9 harg9 (BitVec.ofNat 32 (i 1).val) (kernelRun0_A.sl.v12 i) 0#32 (kernelRun0_A.sl.v34 i) (harg2.unread x0) (harg3.unread x1) (harg4.unread x2) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (Scf.trips (k0_t1_loop i).lb (k0_t1_loop i).ub (k0_t1_loop i).st)).2.1 ++ kernelRun0_A.sl.HS1_1

theorem a_load1 (x0 : Vec Ideal S512x1024 .bf16) (x1 : Vec Ideal S8192x1024 .bf16) (x2 : Vec Ideal S512x8192 .bf16) :
    kernelRun0_A.sl.v82 (F := Ideal) c i arg2 harg2 arg3 harg3 arg4 harg4 arg5 harg5 arg6 harg6 arg7 harg7 arg8 harg8 arg9 harg9 x0 x1 x2 = arg8.view.readCov (a_base1 c i arg2 harg2 arg3 harg3 arg4 harg4 arg5 harg5 arg6 harg6 arg7 harg7 arg8 harg8 arg9 harg9 x0 x1 x2) (Rect.unit (s := S8x512) ![0, 0] S1x512.size inb_S8x512_S1x512_0_0).toLoadRect := by
  unfold kernelRun0_A.sl.v82
  rw [rest_nil]
  rfl

theorem a_skip1 (x0 : Vec Ideal S512x1024 .bf16) (x1 : Vec Ideal S8192x1024 .bf16) (x2 : Vec Ideal S512x8192 .bf16) {a b : ℕ} (h : 1 ≤ a) :
    cell (View.canon (kernelRun0_A.sl.HS1_1_1 (F := Ideal) c i arg2 harg2 arg3 harg3 arg4 harg4 arg5 harg5 arg6 harg6 arg7 harg7 arg8 harg8 arg9 harg9 x0 x1 x2)) a b = cell (View.canon (a_base1 c i arg2 harg2 arg3 harg3 arg4 harg4 arg5 harg5 arg6 harg6 arg7 harg7 arg8 harg8 arg9 harg9 x0 x1 x2)) a b := by
  unfold kernelRun0_A.sl.HS1_1_1
  rw [cell_skip _ _ _ _ (Or.inr (by omega)), rest_nil]
  rfl

/-- The writes before the masked block. -/
def a_base2 (x0 : Vec Ideal S512x1024 .bf16) (x1 : Vec Ideal S8192x1024 .bf16) (x2 : Vec Ideal S512x8192 .bf16) : List (View.Piece (Elt Ideal) S512x512 .f32) :=
  (pb_k0_t1 (F := Ideal) Variants.none c none i arg2 harg2 arg3 harg3 arg4 harg4 arg5 harg5 arg6 harg6 arg7 harg7 arg8 harg8 arg9 harg9 (BitVec.ofNat 32 (i 1).val) (kernelRun0_A.sl.v12 i) 0#32 (kernelRun0_A.sl.v34 i) (harg2.unread x0) (harg3.unread x1) (harg4.unread x2) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (Scf.trips (k0_t1_loop i).lb (k0_t1_loop i).ub (k0_t1_loop i).st)).2.2 ++ kernelRun0_A.sl.HS2_1

theorem a_load2 (x0 : Vec Ideal S512x1024 .bf16) (x1 : Vec Ideal S8192x1024 .bf16) (x2 : Vec Ideal S512x8192 .bf16) :
    kernelRun0_A.sl.v89 (F := Ideal) c i arg2 harg2 arg3 harg3 arg4 harg4 arg5 harg5 arg6 harg6 arg7 harg7 arg8 harg8 arg9 harg9 x0 x1 x2 = arg9.view.readCov (a_base2 c i arg2 harg2 arg3 harg3 arg4 harg4 arg5 harg5 arg6 harg6 arg7 harg7 arg8 harg8 arg9 harg9 x0 x1 x2) (Rect.unit (s := S512x512) ![0, 0] S64x512.size inb_S512x512_S64x512_0_0).toLoadRect := by
  unfold kernelRun0_A.sl.v89
  rw [rest_nil]
  rfl

theorem a_skip2 (x0 : Vec Ideal S512x1024 .bf16) (x1 : Vec Ideal S8192x1024 .bf16) (x2 : Vec Ideal S512x8192 .bf16) {a b : ℕ} (h : 64 ≤ a) :
    cell (View.canon (kernelRun0_A.sl.HS2_1_1 (F := Ideal) c i arg2 harg2 arg3 harg3 arg4 harg4 arg5 harg5 arg6 harg6 arg7 harg7 arg8 harg8 arg9 harg9 x0 x1 x2)) a b = cell (View.canon (a_base2 c i arg2 harg2 arg3 harg3 arg4 harg4 arg5 harg5 arg6 harg6 arg7 harg7 arg8 harg8 arg9 harg9 x0 x1 x2)) a b := by
  unfold kernelRun0_A.sl.HS2_1_1
  rw [cell_skip _ _ _ _ (Or.inr (by omega)), rest_nil]
  rfl

/-- An even-numbered query block: totals and weighted sums over all its keys. -/
theorem runA (hc0 : ¬cond0_0 i) (x0 : Vec Ideal S512x1024 .bf16) (x1 : Vec Ideal S8192x1024 .bf16) (x2 : Vec Ideal S512x8192 .bf16) :
    (∀ (h : Fin 8) (x : Fin 512), cell (View.canon (kernelRun0_A.sl.HS1_8 (F := Ideal) c i arg2 harg2 arg3 harg3 arg4 harg4 arg5 harg5 arg6 harg6 arg7 harg7 arg8 harg8 arg9 harg9 x0 x1 x2)) h x = mass (fun _ => 1) (score x0 x1 (512 * (i 1).val) h x) (512 * (i 1).val + 512))
    ∧ ∀ (h : Fin 8) (x : Fin 512) (z : Fin 64), cell (View.canon (kernelRun0_A.sl.HS2_8 (F := Ideal) c i arg2 harg2 arg3 harg3 arg4 harg4 arg5 harg5 arg6 harg6 arg7 harg7 arg8 harg8 arg9 harg9 x0 x1 x2)) (64 * h.val + z) x = mass (val x2 h z) (score x0 x1 (512 * (i 1).val) h x) (512 * (i 1).val + 512) := by
  have hQ := harg2.read_unread (Val := Elt Ideal) x0
  have hK := harg3.read_unread (Val := Elt Ideal) x1
  have hV := harg4.read_unread (Val := Elt Ideal) x2
  have hs (h : Fin 8) (x : Fin 512) (kb : Vec Ideal S512x128 .bf16) (qb : Vec Ideal S512x128 .bf16)
      (e1 : ∀ (a : Fin 512) (d : Fin 128), cell kb a d = cell x1 (512 * (i 1).val + a) (128 * h + d))
      (e2 : ∀ d : Fin 128, cell qb x d = cell x0 x (128 * h + d)) (a : Fin 512) :
      cell (mask (sc' kb qb)) a x = score x0 x1 (512 * (i 1).val) h x (512 * (i 1).val + a) := by
    rw [mask_cell, sc'_cell, score]
    simp only [e1, e2, Nat.add_le_add_iff_left]
  have H : Inv x0 x1 x2 (512 * (i 1).val) (1024 * Scf.trips (k0_t1_loop i).lb (k0_t1_loop i).ub (k0_t1_loop i).st) (View.canon (a_base0 c i arg2 harg2 arg3 harg3 arg4 harg4 arg5 harg5 arg6 harg6 arg7 harg7 arg8 harg8 arg9 harg9 x0 x1 x2)) (View.canon (a_base1 c i arg2 harg2 arg3 harg3 arg4 harg4 arg5 harg5 arg6 harg6 arg7 harg7 arg8 harg8 arg9 harg9 x0 x1 x2)) (View.canon (a_base2 c i arg2 harg2 arg3 harg3 arg4 harg4 arg5 harg5 arg6 harg6 arg7 harg7 arg8 harg8 arg9 harg9 x0 x1 x2)) :=
    loop_inv c i arg2 harg2 arg3 harg3 arg4 harg4 arg5 harg5 arg6 harg6 arg7 harg7 arg8 harg8 arg9 harg9 (BitVec.ofNat 32 (i 1).val) (kernelRun0_A.sl.v12 i) (kernelRun0_A.sl.v34 i) x0 x1 x2 (harg2.unread x0) (harg3.unread x1) (harg4.unread x2) hQ hK hV
    kernelRun0_A.sl.HS0_1 kernelRun0_A.sl.HS1_1 kernelRun0_A.sl.HS2_1 (fill_inv x0 x1 x2 _) (Scf.trips (k0_t1_loop i).lb (k0_t1_loop i).ub (k0_t1_loop i).st) le_rfl
  rw [show 1024 * Scf.trips (k0_t1_loop i).lb (k0_t1_loop i).ub (k0_t1_loop i).st = 512 * (i 1).val by
    have h1 : Scf.trips (k0_t1_loop i).lb (k0_t1_loop i).ub (k0_t1_loop i).st = _ := trips_t1 i; have h2 := mt (cond_odd i).2 hc0; omega] at H
  refine ⟨fun h x => ?_, fun h x z => ?_⟩
  · have hm := H.hm h x
    have hl := H.hl h x
    fin_cases h
    all_goals
      simp (disch := omega) only [kernelRun0_A.sl.v104, kernelRun0_A.sl.HS1_1_1, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.r, kernelRun0_A.sl.r_1, kernelRun0_A.sl.r_2, kernelRun0_A.sl.r_3, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, cell_hit, cell_skip, Nat.sub_self, Nat.add_sub_cancel_left, dia_l0, dia_l1, dia_l2, dia_l3, dia_l4, dia_l5, dia_l6, dia_l7, dia_s0, dia_s1, dia_s2, dia_s3, dia_s4, dia_s5, dia_s6, dia_s7]
      refine step_l' _ (512 * (i 1).val) x _ _ _ _ (hs _ x _ _ (fun a d => ?_) (fun d => ?_)) ?_ ?_
      · simp (disch := omega) only [kernelRun0_A.sl.r_4, read_cell, hK, ownkf_0, ownkf_1, ownkf_2, ownkf_3, ownkf_4, ownkf_5, ownkf_6, ownkf_7, Matrix.cons_val_zero, Matrix.cons_val_one, zero_add, add_zero, Nat.reduceMul, mul_zero]
      · simp (disch := omega) only [read_cell, hQ, Matrix.cons_val_zero, Matrix.cons_val_one, zero_add, add_zero, Nat.reduceMul, mul_zero]
      · simp (disch := omega) only [a_load0, kernelRun0_A.sl.v109, kernelRun0_A.sl.v150, kernelRun0_A.sl.v191, kernelRun0_A.sl.v232, kernelRun0_A.sl.v273, kernelRun0_A.sl.v310, kernelRun0_A.sl.v347, cov_cell, a_skip0, kernelRun0_A.sl.HS0_2, kernelRun0_A.sl.HS0_3, kernelRun0_A.sl.HS0_4, kernelRun0_A.sl.HS0_5, kernelRun0_A.sl.HS0_6, kernelRun0_A.sl.HS0_7, cell_hit, cell_skip, Nat.sub_self, Nat.add_sub_cancel_left, Matrix.cons_val_zero, Matrix.cons_val_one, zero_add, add_zero]; exact hm
      · simp (disch := omega) only [a_load1, kernelRun0_A.sl.v123, kernelRun0_A.sl.v164, kernelRun0_A.sl.v205, kernelRun0_A.sl.v246, kernelRun0_A.sl.v287, kernelRun0_A.sl.v324, kernelRun0_A.sl.v361, cov_cell, a_skip1, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, cell_hit, cell_skip, Nat.sub_self, Nat.add_sub_cancel_left, Matrix.cons_val_zero, Matrix.cons_val_one, zero_add, add_zero]; exact hl
  · have hm := H.hm h x
    have ha := H.ha h x z
    fin_cases h
    all_goals
      simp (disch := omega) only [kernelRun0_A.sl.v104, kernelRun0_A.sl.HS2_1_1, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.r, kernelRun0_A.sl.r_1, kernelRun0_A.sl.r_2, kernelRun0_A.sl.r_3, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, cell_hit, cell_skip, Nat.sub_self, Nat.add_sub_cancel_left, dia_a0, dia_a1, dia_a2, dia_a3, dia_a4, dia_a5, dia_a6, dia_a7, dia_s0, dia_s1, dia_s2, dia_s3, dia_s4, dia_s5, dia_s6, dia_s7, Nat.reduceMul, mul_zero, zero_add]
      refine step_a' _ _ (512 * (i 1).val) x _ _ _ _ z (hs _ x _ _ (fun a d => ?_) (fun d => ?_)) ?_ ?_ (fun a => ?_)
      · simp (disch := omega) only [kernelRun0_A.sl.r_4, read_cell, hK, ownkf_0, ownkf_1, ownkf_2, ownkf_3, ownkf_4, ownkf_5, ownkf_6, ownkf_7, Matrix.cons_val_zero, Matrix.cons_val_one, zero_add, add_zero, Nat.reduceMul, mul_zero]
      · simp (disch := omega) only [read_cell, hQ, Matrix.cons_val_zero, Matrix.cons_val_one, zero_add, add_zero, Nat.reduceMul, mul_zero]
      · simp (disch := omega) only [a_load0, kernelRun0_A.sl.v109, kernelRun0_A.sl.v150, kernelRun0_A.sl.v191, kernelRun0_A.sl.v232, kernelRun0_A.sl.v273, kernelRun0_A.sl.v310, kernelRun0_A.sl.v347, cov_cell, a_skip0, kernelRun0_A.sl.HS0_2, kernelRun0_A.sl.HS0_3, kernelRun0_A.sl.HS0_4, kernelRun0_A.sl.HS0_5, kernelRun0_A.sl.HS0_6, kernelRun0_A.sl.HS0_7, cell_hit, cell_skip, Nat.sub_self, Nat.add_sub_cancel_left, Matrix.cons_val_zero, Matrix.cons_val_one, zero_add, add_zero]; exact hm
      · simp (disch := omega) only [a_load2, kernelRun0_A.sl.v130, kernelRun0_A.sl.v171, kernelRun0_A.sl.v212, kernelRun0_A.sl.v253, kernelRun0_A.sl.v294, kernelRun0_A.sl.v331, kernelRun0_A.sl.v368, cov_cell, a_skip2, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, cell_hit, cell_skip, Nat.sub_self, Nat.add_sub_cancel_left, Matrix.cons_val_zero, Matrix.cons_val_one, zero_add, add_zero]; first | exact ha | (simp only [mul_zero, zero_add] at ha; exact ha)
      · simp (disch := omega) only [read_cell, hV, ownvf_0, ownvf_1, ownvf_2, ownvf_3, ownvf_4, ownvf_5, ownvf_6, ownvf_7, Matrix.cons_val_zero, Matrix.cons_val_one, zero_add, add_zero, val, Nat.reduceMul, mul_zero]

end Cert.KernelIdeal2.Layer
-- ==== Proof.Tile.lean ====
module

public import proofs.«01_k».proof.Proof.Odd
public import proofs.«01_k».proof.Proof.Even

@[expose] public section

set_option maxRecDepth 16384

noncomputable section

namespace Cert.KernelIdeal2.Layer

open Cert.KernelIdeal2 Cert.KernelIdeal2.Gen Cert.Online Idealize.ShloMosaic Idealize.ShloMosaic.TcCoe Idealize.SL.Sem

/-- The heads' sums, each divided by its total, queries along the rows. -/
def heads (a : Fin 8 → Vec Ideal S64x512 .f32) (l : Fin 8 → Vec Ideal S1x512 .f32) : Vec Ideal S512x512 .f32 :=
  k0_pay260 (k0_pay255 (a 0) (l 0)) (k0_pay256 (a 1) (l 1)) (k0_pay257 (a 2) (l 2)) (k0_pay258 (a 3) (l 3)) (k0_pay259 (a 4) (l 4))
    (a 5) (l 5) (a 6) (l 6) (a 7) (l 7)

/-- A block's result over its heads' sums and totals and the gain. -/
def tile (a : Fin 8 → Vec Ideal S64x512 .f32) (l : Fin 8 → Vec Ideal S1x512 .f32) (g : Vec Ideal S1x512 .f32) : Vec Ideal S512x512 .bf16 :=
  k0_pay1 (heads a l) (k0_pay261 g)
    (k0_pay262 (k0_pay255 (a 0) (l 0)) (k0_pay256 (a 1) (l 1)) (k0_pay257 (a 2) (l 2)) (k0_pay258 (a 3) (l 3)) (k0_pay259 (a 4) (l 4))
      (a 5) (l 5) (a 6) (l 6) (a 7) (l 7))

theorem heads_at (a : Fin 8 → Vec Ideal S64x512 .f32) (l : Fin 8 → Vec Ideal S1x512 .f32) (x : Fin 512) (h : Fin 8) (z : Fin 64) :
    heads a l (ix2 x ⟨64 * h.val + z.val, by omega⟩) = cell (a h) z x * Ideal.div 1 (cell (l h) 0 x) := by
  rw [← cell_ix (a h), show (0 : ℕ) = (0 : Fin 1).val from rfl, ← cell_ix (l h)]
  pointwise [heads, k0_pay260, k0_pay255, k0_pay256, k0_pay257, k0_pay258, k0_pay259]
  have hz := z.isLt
  fin_cases h
  all_goals
    simp (disch := omega) only [dif_pos, dif_neg, Nat.reduceMul, mul_zero, zero_add]
    exact congrArg₂ (· * ·) (congrArg (a _) (congrArg₂ ix2 (Fin.ext (by dsimp only <;> omega)) rfl)) rfl

theorem tile_at (a : Fin 8 → Vec Ideal S64x512 .f32) (l : Fin 8 → Vec Ideal S1x512 .f32) (g : Vec Ideal S1x512 .f32) (x j : Fin 512) :
    tile a l g (ix2 x j) = heads a l (ix2 x j) * Ideal.rsqrt (Ideal.div (∑ b : Fin 512, heads a l (ix2 x b) * heads a l (ix2 x b)) (Ideal.ofBits .f32 0x44000000#32) + Ideal.ofBits .f32 0x358637BD#32) * g (ix2 0 j) := by
  unfold tile k0_pay262
  rw [show k0_pay260 (k0_pay255 (a 0) (l 0)) (k0_pay256 (a 1) (l 1)) (k0_pay257 (a 2) (l 2)) (k0_pay258 (a 3) (l 3)) (k0_pay259 (a 4) (l 4))
    (a 5) (l 5) (a 6) (l 6) (a 7) (l 7) = heads a l from rfl]
  generalize heads a l = H
  pointwise [k0_pay1, k0_pay261]

end Cert.KernelIdeal2.Layer
-- ==== Proof.Out.lean ====
module

public import proofs.«01_k».proof.Proof.Tile

@[expose] public section

set_option maxRecDepth 16384

noncomputable section

namespace Cert.KernelIdeal2.Layer

open Cert.KernelIdeal2 Cert.KernelIdeal2.Gen Cert.Online Idealize.ShloMosaic Idealize.ShloMosaic.TcCoe Idealize.SL.Sem

/-- The gain read whole. -/
theorem gain_read (arg5 : Memref sig .tc .vmem S1x512 .f32) (harg5 : arg5.IsWhole) (x3 : Vec Ideal S1x512 .f32) :
    View.readAt (Elt Ideal) arg5.view (Rect.unit ![0, 0] S1x512.size inb_S1x512_S1x512_0_0).toLoadRect (harg5.unread x3) = x3 := by
  funext y
  obtain ⟨a, b, rfl⟩ : ∃ a b, y = ix2 a b := ⟨y 0, y 1, by funext d; match d with | ⟨0, _⟩ => rfl | ⟨1, _⟩ => rfl⟩
  rw [cell_ix x3]
  refine (cell_ix _ a b).trans ?_
  refine (read_cell32 arg5.view (harg5.unread x3) ![0, 0] inb_S1x512_S1x512_0_0 a.isLt b.isLt).trans ?_
  rw [harg5.read_unread (Val := Elt Ideal) x3]
  show cell x3 (0 + a) (0 + b) = _
  rw [Nat.zero_add, Nat.zero_add]

/-- A buffer stored whole holds what was stored. -/
theorem canon_full {p q : ℕ} (inb : ∀ a : Fin 2, (![0, 0] : Fin 2 → ℕ) a + (![p, q] : Fin 2 → ℕ) a ≤ (![p, q] : Fin 2 → ℕ) a)
    (w : (⟨2, ![p, q]⟩ : Shape).Idx → EReal) :
    View.canon [(⟨Rect.unit (s := ⟨2, ![p, q]⟩) ![0, 0] ![p, q] inb, w⟩ : View.Piece (Elt Ideal) (⟨2, ![p, q]⟩ : Shape) .bf16)] = w := by
  funext y
  have e : y = (Rect.unit (s := ⟨2, ![p, q]⟩) ![0, 0] ![p, q] inb).emb y := by
    funext d
    match d with
    | ⟨0, _⟩ => exact Fin.ext (by show (y 0).val = 0 + 1 * (y 0).val; omega)
    | ⟨1, _⟩ => exact Fin.ext (by show (y 1).val = 0 + 1 * (y 1).val; omega)
  refine (congrArg _ e).trans ?_
  exact View.canon_cons_emb _ _ [] _

/-- The output tile `o` of a point, as a normalised tile whose head `h` is the weighted values over the weights of every key not past the query's. -/
def Mixes (r0 : ℕ) (x0 : Vec Ideal S512x1024 .bf16) (x1 : Vec Ideal S8192x1024 .bf16) (x2 : Vec Ideal S512x8192 .bf16) (x3 : Vec Ideal S1x512 .f32) (o : Vec Ideal S512x512 .bf16) : Prop :=
  ∃ (a : Fin 8 → Vec Ideal S64x512 .f32) (l : Fin 8 → Vec Ideal S1x512 .f32), o = tile a l x3
    ∧ (∀ (h : Fin 8) (x : Fin 512) (z : Fin 64), cell (a h) z x = mass (val x2 h z) (score x0 x1 r0 h x) (r0 + 512))
    ∧ ∀ (h : Fin 8) (x : Fin 512), cell (l h) 0 x = mass (fun _ => 1) (score x0 x1 r0 h x) (r0 + 512)

variable (c : Dev nD) (i : grid0.Coords) (arg2 : Memref sig .tc .vmem S512x1024 .bf16) (harg2 : arg2.IsWhole) (arg3 : Memref sig .tc .vmem S8192x1024 .bf16) (harg3 : arg3.IsWhole) (arg4 : Memref sig .tc .vmem S512x8192 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x512 .f32) (harg9 : arg9.IsWhole)

theorem out_A (hc0 : ¬cond0_0 i) (x0 : Vec Ideal S512x1024 .bf16) (x1 : Vec Ideal S8192x1024 .bf16) (x2 : Vec Ideal S512x8192 .bf16) (x3 : Vec Ideal S1x512 .f32) :
    out0_A_4 (F := Ideal) c i arg2 harg2 arg3 harg3 arg4 harg4 arg5 harg5 arg6 harg6 arg7 harg7 arg8 harg8 arg9 harg9 hc0 x0 x1 x2 x3 = tile ![kernelRun0_A.sl.v379 c i arg2 harg2 arg3 harg3 arg4 harg4 arg5 harg5 arg6 harg6 arg7 harg7 arg8 harg8 arg9 harg9 x0 x1 x2, kernelRun0_A.sl.v385 c i arg2 harg2 arg3 harg3 arg4 harg4 arg5 harg5 arg6 harg6 arg7 harg7 arg8 harg8 arg9 harg9 x0 x1 x2, kernelRun0_A.sl.v391 c i arg2 harg2 arg3 harg3 arg4 harg4 arg5 harg5 arg6 harg6 arg7 harg7 arg8 harg8 arg9 harg9 x0 x1 x2, kernelRun0_A.sl.v397 c i arg2 harg2 arg3 harg3 arg4 harg4 arg5 harg5 arg6 harg6 arg7 harg7 arg8 harg8 arg9 harg9 x0 x1 x2, kernelRun0_A.sl.v403 c i arg2 harg2 arg3 harg3 arg4 harg4 arg5 harg5 arg6 harg6 arg7 harg7 arg8 harg8 arg9 harg9 x0 x1 x2, kernelRun0_A.sl.v409 c i arg2 harg2 arg3 harg3 arg4 harg4 arg5 harg5 arg6 harg6 arg7 harg7 arg8 harg8 arg9 harg9 x0 x1 x2, kernelRun0_A.sl.v415 c i arg2 harg2 arg3 harg3 arg4 harg4 arg5 harg5 arg6 harg6 arg7 harg7 arg8 harg8 arg9 harg9 x0 x1 x2, kernelRun0_A.sl.v421 c i arg2 harg2 arg3 harg3 arg4 harg4 arg5 harg5 arg6 harg6 arg7 harg7 arg8 harg8 arg9 harg9 x0 x1 x2] ![kernelRun0_A.sl.v380 c i arg2 harg2 arg3 harg3 arg4 harg4 arg5 harg5 arg6 harg6 arg7 harg7 arg8 harg8 arg9 harg9 x0 x1 x2, kernelRun0_A.sl.v386 c i arg2 harg2 arg3 harg3 arg4 harg4 arg5 harg5 arg6 harg6 arg7 harg7 arg8 harg8 arg9 harg9 x0 x1 x2, kernelRun0_A.sl.v392 c i arg2 harg2 arg3 harg3 arg4 harg4 arg5 harg5 arg6 harg6 arg7 harg7 arg8 harg8 arg9 harg9 x0 x1 x2, kernelRun0_A.sl.v398 c i arg2 harg2 arg3 harg3 arg4 harg4 arg5 harg5 arg6 harg6 arg7 harg7 arg8 harg8 arg9 harg9 x0 x1 x2, kernelRun0_A.sl.v404 c i arg2 harg2 arg3 harg3 arg4 harg4 arg5 harg5 arg6 harg6 arg7 harg7 arg8 harg8 arg9 harg9 x0 x1 x2, kernelRun0_A.sl.v410 c i arg2 harg2 arg3 harg3 arg4 harg4 arg5 harg5 arg6 harg6 arg7 harg7 arg8 harg8 arg9 harg9 x0 x1 x2, kernelRun0_A.sl.v416 c i arg2 harg2 arg3 harg3 arg4 harg4 arg5 harg5 arg6 harg6 arg7 harg7 arg8 harg8 arg9 harg9 x0 x1 x2, kernelRun0_A.sl.v422 c i arg2 harg2 arg3 harg3 arg4 harg4 arg5 harg5 arg6 harg6 arg7 harg7 arg8 harg8 arg9 harg9 x0 x1 x2] x3 := by
  refine Eq.trans ?_ (congrArg (tile _ _) (gain_read arg5 harg5 x3))
  refine (View.read_writes_junk_eq_canon _ _).trans ((canon_full _ _).trans ?_)
  unfold kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17
  rfl

theorem mixes_A (hc0 : ¬cond0_0 i) (x0 : Vec Ideal S512x1024 .bf16) (x1 : Vec Ideal S8192x1024 .bf16) (x2 : Vec Ideal S512x8192 .bf16) (x3 : Vec Ideal S1x512 .f32) :
    Mixes (512 * (i 1).val) x0 x1 x2 x3 (out0_A_4 (F := Ideal) c i arg2 harg2 arg3 harg3 arg4 harg4 arg5 harg5 arg6 harg6 arg7 harg7 arg8 harg8 arg9 harg9 hc0 x0 x1 x2 x3) := by
  obtain ⟨hl, ha⟩ := runA c i arg2 harg2 arg3 harg3 arg4 harg4 arg5 harg5 arg6 harg6 arg7 harg7 arg8 harg8 arg9 harg9 hc0 x0 x1 x2
  refine ⟨_, _, out_A c i arg2 harg2 arg3 harg3 arg4 harg4 arg5 harg5 arg6 harg6 arg7 harg7 arg8 harg8 arg9 harg9 hc0 x0 x1 x2 x3, fun h x z => ?_, fun h x => ?_⟩
  · have hz := z.isLt
    refine Eq.trans ?_ (ha h x z)
    fin_cases h
    · show cell (kernelRun0_A.sl.v379 (F := Ideal) c i arg2 harg2 arg3 harg3 arg4 harg4 arg5 harg5 arg6 harg6 arg7 harg7 arg8 harg8 arg9 harg9 x0 x1 x2) z x = _
      unfold kernelRun0_A.sl.v379
      exact (cov_cell arg9.view _ ![0, 0] inb_S512x512_S64x512_0_0 z.isLt x.isLt).trans (congrArg₂ (cell _) (by simp) (Nat.zero_add _))
    · show cell (kernelRun0_A.sl.v385 (F := Ideal) c i arg2 harg2 arg3 harg3 arg4 harg4 arg5 harg5 arg6 harg6 arg7 harg7 arg8 harg8 arg9 harg9 x0 x1 x2) z x = _
      unfold kernelRun0_A.sl.v385
      exact (cov_cell arg9.view _ ![64, 0] inb_S512x512_S64x512_64_0 z.isLt x.isLt).trans (congrArg₂ (cell _) (by simp) (Nat.zero_add _))
    · show cell (kernelRun0_A.sl.v391 (F := Ideal) c i arg2 harg2 arg3 harg3 arg4 harg4 arg5 harg5 arg6 harg6 arg7 harg7 arg8 harg8 arg9 harg9 x0 x1 x2) z x = _
      unfold kernelRun0_A.sl.v391
      exact (cov_cell arg9.view _ ![128, 0] inb_S512x512_S64x512_128_0 z.isLt x.isLt).trans (congrArg₂ (cell _) (by simp) (Nat.zero_add _))
    · show cell (kernelRun0_A.sl.v397 (F := Ideal) c i arg2 harg2 arg3 harg3 arg4 harg4 arg5 harg5 arg6 harg6 arg7 harg7 arg8 harg8 arg9 harg9 x0 x1 x2) z x = _
      unfold kernelRun0_A.sl.v397
      exact (cov_cell arg9.view _ ![192, 0] inb_S512x512_S64x512_192_0 z.isLt x.isLt).trans (congrArg₂ (cell _) (by simp) (Nat.zero_add _))
    · show cell (kernelRun0_A.sl.v403 (F := Ideal) c i arg2 harg2 arg3 harg3 arg4 harg4 arg5 harg5 arg6 harg6 arg7 harg7 arg8 harg8 arg9 harg9 x0 x1 x2) z x = _
      unfold kernelRun0_A.sl.v403
      exact (cov_cell arg9.view _ ![256, 0] inb_S512x512_S64x512_256_0 z.isLt x.isLt).trans (congrArg₂ (cell _) (by simp) (Nat.zero_add _))
    · show cell (kernelRun0_A.sl.v409 (F := Ideal) c i arg2 harg2 arg3 harg3 arg4 harg4 arg5 harg5 arg6 harg6 arg7 harg7 arg8 harg8 arg9 harg9 x0 x1 x2) z x = _
      unfold kernelRun0_A.sl.v409
      exact (cov_cell arg9.view _ ![320, 0] inb_S512x512_S64x512_320_0 z.isLt x.isLt).trans (congrArg₂ (cell _) (by simp) (Nat.zero_add _))
    · show cell (kernelRun0_A.sl.v415 (F := Ideal) c i arg2 harg2 arg3 harg3 arg4 harg4 arg5 harg5 arg6 harg6 arg7 harg7 arg8 harg8 arg9 harg9 x0 x1 x2) z x = _
      unfold kernelRun0_A.sl.v415
      exact (cov_cell arg9.view _ ![384, 0] inb_S512x512_S64x512_384_0 z.isLt x.isLt).trans (congrArg₂ (cell _) (by simp) (Nat.zero_add _))
    · show cell (kernelRun0_A.sl.v421 (F := Ideal) c i arg2 harg2 arg3 harg3 arg4 harg4 arg5 harg5 arg6 harg6 arg7 harg7 arg8 harg8 arg9 harg9 x0 x1 x2) z x = _
      unfold kernelRun0_A.sl.v421
      exact (cov_cell arg9.view _ ![448, 0] inb_S512x512_S64x512_448_0 z.isLt x.isLt).trans (congrArg₂ (cell _) (by simp) (Nat.zero_add _))
  · refine Eq.trans ?_ (hl h x)
    fin_cases h
    · show cell (kernelRun0_A.sl.v380 (F := Ideal) c i arg2 harg2 arg3 harg3 arg4 harg4 arg5 harg5 arg6 harg6 arg7 harg7 arg8 harg8 arg9 harg9 x0 x1 x2) 0 x = _
      unfold kernelRun0_A.sl.v380
      exact (cov_cell arg8.view _ ![0, 0] inb_S8x512_S1x512_0_0 Nat.one_pos x.isLt).trans (congrArg₂ (cell _) rfl (Nat.zero_add _))
    · show cell (kernelRun0_A.sl.v386 (F := Ideal) c i arg2 harg2 arg3 harg3 arg4 harg4 arg5 harg5 arg6 harg6 arg7 harg7 arg8 harg8 arg9 harg9 x0 x1 x2) 0 x = _
      unfold kernelRun0_A.sl.v386
      exact (cov_cell arg8.view _ ![1, 0] inb_S8x512_S1x512_1_0 Nat.one_pos x.isLt).trans (congrArg₂ (cell _) rfl (Nat.zero_add _))
    · show cell (kernelRun0_A.sl.v392 (F := Ideal) c i arg2 harg2 arg3 harg3 arg4 harg4 arg5 harg5 arg6 harg6 arg7 harg7 arg8 harg8 arg9 harg9 x0 x1 x2) 0 x = _
      unfold kernelRun0_A.sl.v392
      exact (cov_cell arg8.view _ ![2, 0] inb_S8x512_S1x512_2_0 Nat.one_pos x.isLt).trans (congrArg₂ (cell _) rfl (Nat.zero_add _))
    · show cell (kernelRun0_A.sl.v398 (F := Ideal) c i arg2 harg2 arg3 harg3 arg4 harg4 arg5 harg5 arg6 harg6 arg7 harg7 arg8 harg8 arg9 harg9 x0 x1 x2) 0 x = _
      unfold kernelRun0_A.sl.v398
      exact (cov_cell arg8.view _ ![3, 0] inb_S8x512_S1x512_3_0 Nat.one_pos x.isLt).trans (congrArg₂ (cell _) rfl (Nat.zero_add _))
    · show cell (kernelRun0_A.sl.v404 (F := Ideal) c i arg2 harg2 arg3 harg3 arg4 harg4 arg5 harg5 arg6 harg6 arg7 harg7 arg8 harg8 arg9 harg9 x0 x1 x2) 0 x = _
      unfold kernelRun0_A.sl.v404
      exact (cov_cell arg8.view _ ![4, 0] inb_S8x512_S1x512_4_0 Nat.one_pos x.isLt).trans (congrArg₂ (cell _) rfl (Nat.zero_add _))
    · show cell (kernelRun0_A.sl.v410 (F := Ideal) c i arg2 harg2 arg3 harg3 arg4 harg4 arg5 harg5 arg6 harg6 arg7 harg7 arg8 harg8 arg9 harg9 x0 x1 x2) 0 x = _
      unfold kernelRun0_A.sl.v410
      exact (cov_cell arg8.view _ ![5, 0] inb_S8x512_S1x512_5_0 Nat.one_pos x.isLt).trans (congrArg₂ (cell _) rfl (Nat.zero_add _))
    · show cell (kernelRun0_A.sl.v416 (F := Ideal) c i arg2 harg2 arg3 harg3 arg4 harg4 arg5 harg5 arg6 harg6 arg7 harg7 arg8 harg8 arg9 harg9 x0 x1 x2) 0 x = _
      unfold kernelRun0_A.sl.v416
      exact (cov_cell arg8.view _ ![6, 0] inb_S8x512_S1x512_6_0 Nat.one_pos x.isLt).trans (congrArg₂ (cell _) rfl (Nat.zero_add _))
    · show cell (kernelRun0_A.sl.v422 (F := Ideal) c i arg2 harg2 arg3 harg3 arg4 harg4 arg5 harg5 arg6 harg6 arg7 harg7 arg8 harg8 arg9 harg9 x0 x1 x2) 0 x = _
      unfold kernelRun0_A.sl.v422
      exact (cov_cell arg8.view _ ![7, 0] inb_S8x512_S1x512_7_0 Nat.one_pos x.isLt).trans (congrArg₂ (cell _) rfl (Nat.zero_add _))

theorem out_B (hc0 : cond0_0 i) (x0 : Vec Ideal S512x1024 .bf16) (x1 : Vec Ideal S8192x1024 .bf16) (x2 : Vec Ideal S512x8192 .bf16) (x3 : Vec Ideal S1x512 .f32) :
    out0_B_4 (F := Ideal) c i arg2 harg2 arg3 harg3 arg4 harg4 arg5 harg5 arg6 harg6 arg7 harg7 arg8 harg8 arg9 harg9 hc0 x0 x1 x2 x3 = tile ![kernelRun0_B.sl.v379 c i arg2 harg2 arg3 harg3 arg4 harg4 arg5 harg5 arg6 harg6 arg7 harg7 arg8 harg8 arg9 harg9 hc0 x0 x1 x2, kernelRun0_B.sl.v385 c i arg2 harg2 arg3 harg3 arg4 harg4 arg5 harg5 arg6 harg6 arg7 harg7 arg8 harg8 arg9 harg9 hc0 x0 x1 x2, kernelRun0_B.sl.v391 c i arg2 harg2 arg3 harg3 arg4 harg4 arg5 harg5 arg6 harg6 arg7 harg7 arg8 harg8 arg9 harg9 hc0 x0 x1 x2, kernelRun0_B.sl.v397 c i arg2 harg2 arg3 harg3 arg4 harg4 arg5 harg5 arg6 harg6 arg7 harg7 arg8 harg8 arg9 harg9 hc0 x0 x1 x2, kernelRun0_B.sl.v403 c i arg2 harg2 arg3 harg3 arg4 harg4 arg5 harg5 arg6 harg6 arg7 harg7 arg8 harg8 arg9 harg9 hc0 x0 x1 x2, kernelRun0_B.sl.v409 c i arg2 harg2 arg3 harg3 arg4 harg4 arg5 harg5 arg6 harg6 arg7 harg7 arg8 harg8 arg9 harg9 hc0 x0 x1 x2, kernelRun0_B.sl.v415 c i arg2 harg2 arg3 harg3 arg4 harg4 arg5 harg5 arg6 harg6 arg7 harg7 arg8 harg8 arg9 harg9 hc0 x0 x1 x2, kernelRun0_B.sl.v421 c i arg2 harg2 arg3 harg3 arg4 harg4 arg5 harg5 arg6 harg6 arg7 harg7 arg8 harg8 arg9 harg9 hc0 x0 x1 x2] ![kernelRun0_B.sl.v380 c i arg2 harg2 arg3 harg3 arg4 harg4 arg5 harg5 arg6 harg6 arg7 harg7 arg8 harg8 arg9 harg9 hc0 x0 x1 x2, kernelRun0_B.sl.v386 c i arg2 harg2 arg3 harg3 arg4 harg4 arg5 harg5 arg6 harg6 arg7 harg7 arg8 harg8 arg9 harg9 hc0 x0 x1 x2, kernelRun0_B.sl.v392 c i arg2 harg2 arg3 harg3 arg4 harg4 arg5 harg5 arg6 harg6 arg7 harg7 arg8 harg8 arg9 harg9 hc0 x0 x1 x2, kernelRun0_B.sl.v398 c i arg2 harg2 arg3 harg3 arg4 harg4 arg5 harg5 arg6 harg6 arg7 harg7 arg8 harg8 arg9 harg9 hc0 x0 x1 x2, kernelRun0_B.sl.v404 c i arg2 harg2 arg3 harg3 arg4 harg4 arg5 harg5 arg6 harg6 arg7 harg7 arg8 harg8 arg9 harg9 hc0 x0 x1 x2, kernelRun0_B.sl.v410 c i arg2 harg2 arg3 harg3 arg4 harg4 arg5 harg5 arg6 harg6 arg7 harg7 arg8 harg8 arg9 harg9 hc0 x0 x1 x2, kernelRun0_B.sl.v416 c i arg2 harg2 arg3 harg3 arg4 harg4 arg5 harg5 arg6 harg6 arg7 harg7 arg8 harg8 arg9 harg9 hc0 x0 x1 x2, kernelRun0_B.sl.v422 c i arg2 harg2 arg3 harg3 arg4 harg4 arg5 harg5 arg6 harg6 arg7 harg7 arg8 harg8 arg9 harg9 hc0 x0 x1 x2] x3 := by
  refine Eq.trans ?_ (congrArg (tile _ _) (gain_read arg5 harg5 x3))
  refine (View.read_writes_junk_eq_canon _ _).trans ((canon_full _ _).trans ?_)
  unfold kernelRun0_B.sl.r_50 kernelRun0_B.sl.r_49 kernelRun0_B.sl.r_48 kernelRun0_B.sl.r_47 kernelRun0_B.sl.r_46 kernelRun0_B.sl.r_45 kernelRun0_B.sl.r_44 kernelRun0_B.sl.r_43
  rfl

theorem mixes_B (hc0 : cond0_0 i) (x0 : Vec Ideal S512x1024 .bf16) (x1 : Vec Ideal S8192x1024 .bf16) (x2 : Vec Ideal S512x8192 .bf16) (x3 : Vec Ideal S1x512 .f32) :
    Mixes (512 * (i 1).val) x0 x1 x2 x3 (out0_B_4 (F := Ideal) c i arg2 harg2 arg3 harg3 arg4 harg4 arg5 harg5 arg6 harg6 arg7 harg7 arg8 harg8 arg9 harg9 hc0 x0 x1 x2 x3) := by
  obtain ⟨hl, ha⟩ := runB c i arg2 harg2 arg3 harg3 arg4 harg4 arg5 harg5 arg6 harg6 arg7 harg7 arg8 harg8 arg9 harg9 hc0 x0 x1 x2
  refine ⟨_, _, out_B c i arg2 harg2 arg3 harg3 arg4 harg4 arg5 harg5 arg6 harg6 arg7 harg7 arg8 harg8 arg9 harg9 hc0 x0 x1 x2 x3, fun h x z => ?_, fun h x => ?_⟩
  · have hz := z.isLt
    refine Eq.trans ?_ (ha h x z)
    fin_cases h
    · show cell (kernelRun0_B.sl.v379 (F := Ideal) c i arg2 harg2 arg3 harg3 arg4 harg4 arg5 harg5 arg6 harg6 arg7 harg7 arg8 harg8 arg9 harg9 hc0 x0 x1 x2) z x = _
      unfold kernelRun0_B.sl.v379
      exact (cov_cell arg9.view _ ![0, 0] inb_S512x512_S64x512_0_0 z.isLt x.isLt).trans (congrArg₂ (cell _) (by simp) (Nat.zero_add _))
    · show cell (kernelRun0_B.sl.v385 (F := Ideal) c i arg2 harg2 arg3 harg3 arg4 harg4 arg5 harg5 arg6 harg6 arg7 harg7 arg8 harg8 arg9 harg9 hc0 x0 x1 x2) z x = _
      unfold kernelRun0_B.sl.v385
      exact (cov_cell arg9.view _ ![64, 0] inb_S512x512_S64x512_64_0 z.isLt x.isLt).trans (congrArg₂ (cell _) (by simp) (Nat.zero_add _))
    · show cell (kernelRun0_B.sl.v391 (F := Ideal) c i arg2 harg2 arg3 harg3 arg4 harg4 arg5 harg5 arg6 harg6 arg7 harg7 arg8 harg8 arg9 harg9 hc0 x0 x1 x2) z x = _
      unfold kernelRun0_B.sl.v391
      exact (cov_cell arg9.view _ ![128, 0] inb_S512x512_S64x512_128_0 z.isLt x.isLt).trans (congrArg₂ (cell _) (by simp) (Nat.zero_add _))
    · show cell (kernelRun0_B.sl.v397 (F := Ideal) c i arg2 harg2 arg3 harg3 arg4 harg4 arg5 harg5 arg6 harg6 arg7 harg7 arg8 harg8 arg9 harg9 hc0 x0 x1 x2) z x = _
      unfold kernelRun0_B.sl.v397
      exact (cov_cell arg9.view _ ![192, 0] inb_S512x512_S64x512_192_0 z.isLt x.isLt).trans (congrArg₂ (cell _) (by simp) (Nat.zero_add _))
    · show cell (kernelRun0_B.sl.v403 (F := Ideal) c i arg2 harg2 arg3 harg3 arg4 harg4 arg5 harg5 arg6 harg6 arg7 harg7 arg8 harg8 arg9 harg9 hc0 x0 x1 x2) z x = _
      unfold kernelRun0_B.sl.v403
      exact (cov_cell arg9.view _ ![256, 0] inb_S512x512_S64x512_256_0 z.isLt x.isLt).trans (congrArg₂ (cell _) (by simp) (Nat.zero_add _))
    · show cell (kernelRun0_B.sl.v409 (F := Ideal) c i arg2 harg2 arg3 harg3 arg4 harg4 arg5 harg5 arg6 harg6 arg7 harg7 arg8 harg8 arg9 harg9 hc0 x0 x1 x2) z x = _
      unfold kernelRun0_B.sl.v409
      exact (cov_cell arg9.view _ ![320, 0] inb_S512x512_S64x512_320_0 z.isLt x.isLt).trans (congrArg₂ (cell _) (by simp) (Nat.zero_add _))
    · show cell (kernelRun0_B.sl.v415 (F := Ideal) c i arg2 harg2 arg3 harg3 arg4 harg4 arg5 harg5 arg6 harg6 arg7 harg7 arg8 harg8 arg9 harg9 hc0 x0 x1 x2) z x = _
      unfold kernelRun0_B.sl.v415
      exact (cov_cell arg9.view _ ![384, 0] inb_S512x512_S64x512_384_0 z.isLt x.isLt).trans (congrArg₂ (cell _) (by simp) (Nat.zero_add _))
    · show cell (kernelRun0_B.sl.v421 (F := Ideal) c i arg2 harg2 arg3 harg3 arg4 harg4 arg5 harg5 arg6 harg6 arg7 harg7 arg8 harg8 arg9 harg9 hc0 x0 x1 x2) z x = _
      unfold kernelRun0_B.sl.v421
      exact (cov_cell arg9.view _ ![448, 0] inb_S512x512_S64x512_448_0 z.isLt x.isLt).trans (congrArg₂ (cell _) (by simp) (Nat.zero_add _))
  · refine Eq.trans ?_ (hl h x)
    fin_cases h
    · show cell (kernelRun0_B.sl.v380 (F := Ideal) c i arg2 harg2 arg3 harg3 arg4 harg4 arg5 harg5 arg6 harg6 arg7 harg7 arg8 harg8 arg9 harg9 hc0 x0 x1 x2) 0 x = _
      unfold kernelRun0_B.sl.v380
      exact (cov_cell arg8.view _ ![0, 0] inb_S8x512_S1x512_0_0 Nat.one_pos x.isLt).trans (congrArg₂ (cell _) rfl (Nat.zero_add _))
    · show cell (kernelRun0_B.sl.v386 (F := Ideal) c i arg2 harg2 arg3 harg3 arg4 harg4 arg5 harg5 arg6 harg6 arg7 harg7 arg8 harg8 arg9 harg9 hc0 x0 x1 x2) 0 x = _
      unfold kernelRun0_B.sl.v386
      exact (cov_cell arg8.view _ ![1, 0] inb_S8x512_S1x512_1_0 Nat.one_pos x.isLt).trans (congrArg₂ (cell _) rfl (Nat.zero_add _))
    · show cell (kernelRun0_B.sl.v392 (F := Ideal) c i arg2 harg2 arg3 harg3 arg4 harg4 arg5 harg5 arg6 harg6 arg7 harg7 arg8 harg8 arg9 harg9 hc0 x0 x1 x2) 0 x = _
      unfold kernelRun0_B.sl.v392
      exact (cov_cell arg8.view _ ![2, 0] inb_S8x512_S1x512_2_0 Nat.one_pos x.isLt).trans (congrArg₂ (cell _) rfl (Nat.zero_add _))
    · show cell (kernelRun0_B.sl.v398 (F := Ideal) c i arg2 harg2 arg3 harg3 arg4 harg4 arg5 harg5 arg6 harg6 arg7 harg7 arg8 harg8 arg9 harg9 hc0 x0 x1 x2) 0 x = _
      unfold kernelRun0_B.sl.v398
      exact (cov_cell arg8.view _ ![3, 0] inb_S8x512_S1x512_3_0 Nat.one_pos x.isLt).trans (congrArg₂ (cell _) rfl (Nat.zero_add _))
    · show cell (kernelRun0_B.sl.v404 (F := Ideal) c i arg2 harg2 arg3 harg3 arg4 harg4 arg5 harg5 arg6 harg6 arg7 harg7 arg8 harg8 arg9 harg9 hc0 x0 x1 x2) 0 x = _
      unfold kernelRun0_B.sl.v404
      exact (cov_cell arg8.view _ ![4, 0] inb_S8x512_S1x512_4_0 Nat.one_pos x.isLt).trans (congrArg₂ (cell _) rfl (Nat.zero_add _))
    · show cell (kernelRun0_B.sl.v410 (F := Ideal) c i arg2 harg2 arg3 harg3 arg4 harg4 arg5 harg5 arg6 harg6 arg7 harg7 arg8 harg8 arg9 harg9 hc0 x0 x1 x2) 0 x = _
      unfold kernelRun0_B.sl.v410
      exact (cov_cell arg8.view _ ![5, 0] inb_S8x512_S1x512_5_0 Nat.one_pos x.isLt).trans (congrArg₂ (cell _) rfl (Nat.zero_add _))
    · show cell (kernelRun0_B.sl.v416 (F := Ideal) c i arg2 harg2 arg3 harg3 arg4 harg4 arg5 harg5 arg6 harg6 arg7 harg7 arg8 harg8 arg9 harg9 hc0 x0 x1 x2) 0 x = _
      unfold kernelRun0_B.sl.v416
      exact (cov_cell arg8.view _ ![6, 0] inb_S8x512_S1x512_6_0 Nat.one_pos x.isLt).trans (congrArg₂ (cell _) rfl (Nat.zero_add _))
    · show cell (kernelRun0_B.sl.v422 (F := Ideal) c i arg2 harg2 arg3 harg3 arg4 harg4 arg5 harg5 arg6 harg6 arg7 harg7 arg8 harg8 arg9 harg9 hc0 x0 x1 x2) 0 x = _
      unfold kernelRun0_B.sl.v422
      exact (cov_cell arg8.view _ ![7, 0] inb_S8x512_S1x512_7_0 Nat.one_pos x.isLt).trans (congrArg₂ (cell _) rfl (Nat.zero_add _))

end Cert.KernelIdeal2.Layer
-- ==== Proof.Ref2.lean ====
module

public import proofs.«01_k».proof.Proof.Gen.ReferenceIdeal2.Run
public import proofs.«01_k».proof.Proof.Online
public import Idealize.ShloMosaic.Lib.Pipeline.ValueKit
public import Idealize.ShloMosaic.Lib.WordCmp

@[expose] public section

set_option maxRecDepth 16384

noncomputable section

namespace Cert.ReferenceIdeal2.Layer

open Cert.ReferenceIdeal2 Cert.ReferenceIdeal2.Gen Cert.ReferenceIdeal2.Value Cert.Online Idealize.ShloMosaic Idealize.ShloMosaic.TcCoe Idealize.SL.Sem

/-- The scores, −∞ past the diagonal. -/
def masked (q k : FVec Ideal S16384x1024 .bf16) : FVec Ideal S2x8x8192x8192 .f32 :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.dotGeneral dot_S2x8192x8x128_S2x8192x8x128_S2x8x8192x8192_3_3_1_1_02_02 none (shapeCast S2x8192x8x128 q shapeCasts_S16384x1024_S2x8192x8x128) (shapeCast S2x8192x8x128 k shapeCasts_S16384x1024_S2x8192x8x128)) (broadcastInDim S2x8x8192x8192 ![] bcast_S_S2x8x8192x8192 (id (constant S_ .f32 0xFF800000#32)))

/-- Two to the scores less their maxima. -/
def powers (s : FVec Ideal S2x8x8192x8192 .f32) : FVec Ideal S2x8x8192x8192 .f32 :=
  Host.exp (mulf (broadcastInDim S2x8x8192x8192 ![] bcast_S_S2x8x8192x8192 (Host.log (constant S_ .f32 0x40000000#32))) (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduce FloatOps.maximumf s (constant S_ .f32 0xFF800000#32) reducesTo_S2x8x8192x8192_S2x8x8192_d3 h_S_)))))

/-- The values averaged under the powers' shares. -/
def mixed (s : FVec Ideal S2x8x8192x8192 .f32) (vt : FVec Ideal S512x16384 .bf16) : FVec Ideal S16384x512 .f32 :=
  shapeCast S16384x512 (transpose S2x8192x8x64 [0, 3, 1, 2] (Host.dotGeneral dot_S2x8192x8x64_S2x8x8192x8192_S2x8x64x8192_1_3_3_2_02_01 none (shapeCast S2x8192x8x64 (transpose S16384x512 [1, 0] vt transposes_S512x16384_S16384x512_1_0) shapeCasts_S16384x512_S2x8192x8x64) (truncf .bf16 (mulf (powers s) (broadcastInDim S2x8x8192x8192 ![0, 1, 2, 3] bcast_S2x8x8192x1_S2x8x8192x8192_0_1_2_3 (Host.divf (broadcastInDim S2x8x8192x1 ![] bcast_S_S2x8x8192x1 (constant S_ .f32 0x3F800000#32)) (broadcastInDim S2x8x8192x1 ![0, 1, 2] bcast_S2x8x8192_S2x8x8192x1_0_1_2 (Host.reduceAdd (powers s) (constant S_ .f32 0x00000000#32) reducesTo_S2x8x8192x8192_S2x8x8192_d3 h_S_))))) bitsLt_bf16_f32)) transposes_S2x8x64x8192_S2x8192x8x64_0_3_1_2) shapeCasts_S2x8192x8x64_S16384x512

/-- A row scaled by the inverse root of its mean square, then by the gain. -/
def normed (y : FVec Ideal S16384x512 .f32) (g : FVec Ideal S1x512 .f32) : FVec Ideal S16384x512 .bf16 :=
  truncf .bf16 (mulf (mulf y (broadcastInDim S16384x512 ![0, 1] bcast_S16384x1_S16384x512_0_1 (Host.rsqrt (addf (Host.divf (broadcastInDim S16384x1 ![0] bcast_S16384_S16384x1_0 (Host.reduceAdd (mulf y y) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 (shapeCast S512 g shapeCasts_S1x512_S512)))) bitsLt_bf16_f32

/-- What the reference returns, over its arguments. -/
theorem res_eq (m : (ℓ : Loc nD τ sig) → Buf (Elt Ideal) ℓ) (c : Dev nD) :
    res_out0 m c = normed (mixed (masked (m ((c.tc : Thread nD τ).loc main_arg0)) (m ((c.tc : Thread nD τ).loc main_arg1))) (m ((c.tc : Thread nD τ).loc main_arg2))) (m ((c.tc : Thread nD τ).loc main_arg3)) := by
  unfold res_out0 res_main_v44 normed mixed powers masked
  rfl

theorem neg_inf : (Ideal.ofBits .f32 0xFF800000#32 : EReal) = ⊥ := by
  simp [Ideal.ofBits, Ideal.ieee]

theorem log_two : Ideal.log (Ideal.ofBits .f32 0x40000000#32) = ((Real.log 2 : ℝ) : EReal) := by
  have h : (Ideal.ofBits .f32 0x40000000#32 : EReal) = ((2 : ℝ) : EReal) := by
    simp [Ideal.ofBits, Ideal.ieee, -EReal.coe_mul]
    norm_num
  rw [h]
  exact if_neg (show ¬(2 : ℝ) ≤ 0 by norm_num)

theorem masked_at (q k : FVec Ideal S16384x1024 .bf16) (b : Fin 2) (h : Fin 8) (x y : Fin 8192) :
    masked q k (ix4 b h x y) = if y.val ≤ x.val then
      ∑ d : Fin 128, k (ix2 ⟨b.val * 8192 + y.val, by omega⟩ ⟨h.val * 128 + d.val, by omega⟩) * q (ix2 ⟨b.val * 8192 + x.val, by omega⟩ ⟨h.val * 128 + d.val, by omega⟩) else ⊥ := by
  pointwise [masked]
  rw [WordCmp.cmpi_sle_ofNat (by omega) (by omega), WordCmp.select_ofBool]
  simp only [decide_eq_true_eq]
  exact ite_congr rfl (fun _ => Finset.sum_congr rfl fun d _ => mul_comm _ _) fun _ => neg_inf

theorem powers_at (s : FVec Ideal S2x8x8192x8192 .f32) (b : Fin 2) (h : Fin 8) (x y : Fin 8192) :
    powers s (ix4 b h x y) = Ideal.exp2 (s (ix4 b h x y) - Finset.univ.fold max ⊥ fun a : Fin 8192 => s (ix4 b h x a)) := by
  pointwise [powers]
  rw [log_two, neg_inf, exp_log_two]

/-- An entry of the averaged values, over its row's scores and its column's values by the key's number. -/
theorem mixed_at (s : FVec Ideal S2x8x8192x8192 .f32) (vt : FVec Ideal S512x16384 .bf16) (R : Fin 16384) (j : Fin 512) (S W : ℕ → EReal)
    (hS : ∀ y : Fin 8192, s (ix4 ⟨R.val / 8192, by omega⟩ ⟨j.val / 64, by omega⟩ ⟨R.val % 8192, by omega⟩ y) = S y)
    (hW : ∀ y : Fin 8192, vt (ix2 j ⟨R.val / 8192 * 8192 + y.val, by omega⟩) = W y) :
    mixed s vt (ix2 R j) = mass W S 8192 * Ideal.div 1 (mass (fun _ => 1) S 8192) := by
  have ht : (Finset.univ.fold max ⊥ fun a : Fin 8192 => S a) = top S 8192 := by
    have h := top_add S 0 8192
    simp only [Nat.zero_add, top_zero] at h
    rw [h, max_eq_right bot_le]
  have hm : mass (fun _ => 1) S 8192 = ∑ a : Fin 8192, Ideal.exp2 (S a - top S 8192) := by
    rw [mass, Finset.sum_range]
    simp only [one_mul]
  rw [mass_div, Finset.sum_range, hm]
  pointwise [mixed]
  simp only [powers_at, hS, hW, ht]
  exact Finset.sum_congr rfl fun a _ => mul_comm _ _

theorem normed_at (y : FVec Ideal S16384x512 .f32) (g : FVec Ideal S1x512 .f32) (R : Fin 16384) (j : Fin 512) :
    normed y g (ix2 R j) = y (ix2 R j) * Ideal.rsqrt (Ideal.div (∑ a : Fin 512, y (ix2 R a) * y (ix2 R a)) (Ideal.ofBits .f32 0x44000000#32) + Ideal.ofBits .f32 0x358637BD#32) * g (ix2 0 j) := by
  pointwise [normed]

end Cert.ReferenceIdeal2.Layer
-- ==== Proof.Attn.lean ====
module

public import proofs.«01_k».proof.Proof.Out
public import proofs.«01_k».proof.Proof.Ref2

@[expose] public section

set_option maxRecDepth 16384

noncomputable section

namespace Cert.KernelIdeal2.Layer

open Cert.KernelIdeal2 Cert.KernelIdeal2.Gen Cert.KernelIdeal2.Value Cert.Online Idealize.ShloMosaic Idealize.ShloMosaic.TcCoe Idealize.SL.Sem

variable (m : (ℓ : Loc nD τ sig) → Buf (Elt Ideal) ℓ)

/-- Where each window's block lies at point `t`: the queries of tile `t`, and the keys and values of its sequence. -/
theorem index_at : ∀ t : Fin cfg0.N, win0_0.index t = ![t.val, 0] ∧ win0_1.index t = ![t.val / 16, 0] ∧ win0_2.index t = ![0, t.val / 16]
    ∧ win0_3.index t = ![0, 0] ∧ win0_4.index t = ![t.val, 0] :=
  (by decide +kernel : ∀ t : Fin grid0.N, _)

theorem tile_at_point : ∀ t : Fin cfg0.N, ((grid0.coords t) 1).val = t.val % 16 := (by decide +kernel : ∀ t : Fin grid0.N, _)

theorem points (t : Fin cfg0.N) : t.val < 32 := lt_of_lt_of_eq t.isLt (show cfg0.N = 32 from N_0)

/-- The row of the array that row `x` of tile `t` is, and the row of the keys that key `y` of its sequence is. -/
abbrev rowOf (t : Fin cfg0.N) (x : Fin 512) : Fin 16384 := ⟨t.val * 512 + x.val, by have := points t; omega⟩
abbrev keyOf (t : Fin cfg0.N) (y : Fin 8192) : Fin 16384 := ⟨t.val / 16 * 8192 + y.val, by have := points t; omega⟩

theorem read_q (c : Dev nD) (t : Fin cfg0.N) (x : Fin 512) (d : Fin 1024) :
    (iblk m c 0 t : Vec Ideal S512x1024 .bf16) (ix2 x d) = m ((c : Thread nD τ).loc main_arg0) (ix2 (rowOf t x) d) := by
  blk_point [iblk, V, index_at t]

theorem read_k (c : Dev nD) (t : Fin cfg0.N) (y : Fin 8192) (d : Fin 1024) :
    (iblk m c 1 t : Vec Ideal S8192x1024 .bf16) (ix2 y d) = m ((c : Thread nD τ).loc main_arg1) (ix2 (keyOf t y) d) := by
  blk_point [iblk, V, index_at t]

theorem read_v (c : Dev nD) (t : Fin cfg0.N) (j : Fin 512) (y : Fin 8192) :
    (iblk m c 2 t : Vec Ideal S512x8192 .bf16) (ix2 j y) = m ((c : Thread nD τ).loc main_arg2) (ix2 j (keyOf t y)) := by
  blk_point [iblk, V, index_at t]

theorem read_g (c : Dev nD) (t : Fin cfg0.N) : (iblk m c 3 t : Vec Ideal S1x512 .f32) = m ((c : Thread nD τ).loc main_arg3) := by
  funext y
  blk_simp [iblk, index_at t]
  entry_read
  pointwise
  blk_point [index_at t]

/-- Every point's tile, whichever half of its keys' step it ends on. -/
theorem mixes_at (c : Dev nD) (t : Fin cfg0.N) :
    Mixes (512 * (t.val % 16)) (iblk m c 0 t) (iblk m c 1 t) (iblk m c 2 t) (iblk m c 3 t) (outsAt0 m c t.val t.isLt) := by
  rw [← tile_at_point t]
  by_cases h0 : t.val % 2 = 1
  · rw [outsAt0_B m c t h0]
    exact mixes_B ..
  · rw [outsAt0_A m c t h0]
    exact mixes_A ..

open Cert.ReferenceIdeal2.Layer in
/-- A row of a tile is the reference's row of the same queries, keys and values. -/
theorem Mixes.row {t : ℕ} (ht : t < 32) {x0 : Vec Ideal S512x1024 .bf16} {x1 : Vec Ideal S8192x1024 .bf16} {x2 : Vec Ideal S512x8192 .bf16}
    {x3 : Vec Ideal S1x512 .f32} {o : Vec Ideal S512x512 .bf16} (H : Mixes (512 * (t % 16)) x0 x1 x2 x3 o)
    (q k : FVec Ideal S16384x1024 .bf16) (v : FVec Ideal S512x16384 .bf16) (x : Fin 512) (R : Fin 16384) (hR : R.val = t * 512 + x.val)
    (hq : ∀ d : Fin 1024, x0 (ix2 x d) = q (ix2 R d))
    (hk : ∀ (y : Fin 8192) (d : Fin 1024), x1 (ix2 y d) = k (ix2 ⟨t / 16 * 8192 + y.val, by omega⟩ d))
    (hv : ∀ (j : Fin 512) (y : Fin 8192), x2 (ix2 j y) = v (ix2 j ⟨t / 16 * 8192 + y.val, by omega⟩)) (j : Fin 512) :
    o (ix2 x j) = normed (mixed (masked q k) v) x3 (ix2 R j) := by
  obtain ⟨a, l, rfl, ha, hl⟩ := H
  have hh' (h : Fin 8) (z : Fin 64) : heads a l (ix2 x ⟨64 * h.val + z.val, by omega⟩) = mixed (masked q k) v (ix2 R ⟨64 * h.val + z.val, by omega⟩) := by
    have hz := z.isLt
    have pad (y : ℕ) (hy : 512 * (t % 16) + 512 ≤ y) : score x0 x1 (512 * (t % 16)) h x y = ⊥ := if_neg (by omega)
    obtain ⟨e, he⟩ : ∃ e, 8192 = 512 * (t % 16) + 512 + e := ⟨8192 - (512 * (t % 16) + 512), by omega⟩
    rw [heads_at, ha, hl, mixed_at (masked q k) v R _ (score x0 x1 (512 * (t % 16)) h x) (val x2 h z), he, mass_pad _ pad, mass_pad _ pad]
    · intro y
      rw [masked_at, score]
      refine ite_congr (by dsimp only; rw [hR]; exact propext ⟨fun _ => by omega, fun _ => by omega⟩) (fun _ => ?_) fun _ => rfl
      refine Finset.sum_congr rfl fun d _ => ?_
      rw [cell_eq x1 (a := y.val) (b := 128 * h.val + d.val) (by omega) (by omega), cell_eq x0 (a := x.val) (b := 128 * h.val + d.val) (by omega) (by omega), hk, hq]
      refine congrArg₂ (· * ·) (congrArg k (congrArg₂ ix2 (Fin.ext ?_) (Fin.ext ?_))) (congrArg q (congrArg₂ ix2 (Fin.ext ?_) (Fin.ext ?_))) <;> dsimp only <;> omega
    · intro y
      rw [val, cell_eq x2 (a := 64 * h.val + z.val) (b := y.val) (by omega) y.isLt, hv]
      refine congrArg v (congrArg₂ ix2 rfl (Fin.ext ?_))
      dsimp only
      omega
  have hh (b : Fin 512) : heads a l (ix2 x b) = mixed (masked q k) v (ix2 R b) := by
    have e : b = ⟨64 * (b.val / 64) + b.val % 64, by omega⟩ := Fin.ext (Nat.div_add_mod b.val 64).symm
    rw [e]
    exact hh' ⟨b.val / 64, by omega⟩ ⟨b.val % 64, by omega⟩
  rw [tile_at, normed_at]
  simp only [hh]

open Cert.ReferenceIdeal2.Layer in
/-- The result array after the run is what the reference returns of the same arguments. -/
theorem result (c : Dev nD) : (dats m 0 c).arrAt 4 cfg0.N =
    normed (mixed (masked (m ((c : Thread nD τ).loc main_arg0)) (m ((c : Thread nD τ).loc main_arg1))) (m ((c : Thread nD τ).loc main_arg2))) (m ((c : Thread nD τ).loc main_arg3)) := by
  refine (dats m 0 c).arrAt_eq_of_covers 4 _ (by decide +kernel) fun t _ y => ?_
  blk_simp
  rw [after0_4]
  have e : (win0_4.blk t).view.emb y = ix2 (rowOf t (y 0)) (y 1) := by
    blk_ext [index_at t]
  have ey : y = ix2 (y 0) (y 1) := by funext a; match a with | ⟨0, _⟩ => rfl | ⟨1, _⟩ => rfl
  rw [e, ey]
  have H := mixes_at m c t
  rw [read_g] at H
  exact H.row (points t) _ _ _ (y 0) (rowOf t (y 0)) rfl (read_q m c t _) (read_k m c t) (read_v m c t) (y 1)

end Cert.KernelIdeal2.Layer
-- ==== Proof.Ref3.lean ====
module

public import proofs.«01_k».proof.Proof.Gen.ReferenceIdeal3.Run
public import Idealize.ShloMosaic.Lib.Pipeline.ValueKit
public import Idealize.ShloMosaic.Lib.WordCmp

@[expose] public section

set_option maxRecDepth 16384

noncomputable section

namespace Cert.ReferenceIdeal3.Layer

open Cert.ReferenceIdeal3 Cert.ReferenceIdeal3.Gen Cert.ReferenceIdeal3.Value Idealize.ShloMosaic Idealize.ShloMosaic.TcCoe Idealize.SL.Sem

/-- The angles: a position over the frequencies. -/
def angles (p : IVec S2x8192 32) : FVec Ideal S16384x16 .f32 :=
  mulf (broadcastInDim S16384x16 ![0, 1] bcast_S16384x1_S16384x16_0_1 (shapeCast S16384x1 (sitofp .f32 p) shapeCasts_S2x8192_S16384x1)) (broadcastInDim S16384x16 ![0, 1] bcast_S1x16_S16384x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (Host.divf (addf (broadcastInDim S16 ![] bcast_S_S16 (constant S_ .f32 0x00000000#32)) (mulf (broadcastInDim S16 ![] bcast_S_S16 (constant S_ .f32 0x40000000#32)) (sitofp .f32 (iotaInDim S16 32 0)))) (broadcastInDim S16 ![] bcast_S_S16 (constant S_ .f32 0x42000000#32)))))))

/-- The tokens as rows. -/
def rows (x : FVec Ideal S2x8192x1024 .f32) : FVec Ideal S16384x1024 .f32 :=
  shapeCast S16384x1024 x shapeCasts_S2x8192x1024_S16384x1024

/-- The normed rows against the first weights. -/
def projected (x : FVec Ideal S16384x1024 .f32) (g : FVec Ideal S1x1024 .f32) (w : FVec Ideal S1x1024x1440 .f32) : FVec Ideal S16384x1440 .f32 :=
  Host.dotGeneral dot_S16384x1024_S1024x1440_S16384x1440_1_0_0_1_n_n none (truncf .bf16 (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast S1024 g shapeCasts_S1x1024_S1024)))) bitsLt_bf16_f32) (truncf .bf16 (shapeCast S1024x1440 w shapeCasts_S1x1024x1440_S1024x1440) bitsLt_bf16_f32)

/-- The queries before their turning. -/
def queries (z : FVec Ideal S16384x1440 .f32) (g : FVec Ideal S1x256 .f32) (w : FVec Ideal S1x256x8x96 .f32) : FVec Ideal S16384x8x96 .f32 :=
  Host.dotGeneral dot_S16384x256_S256x8x96_S16384x8x96_1_0_0_12_n_n none (truncf .bf16 (mulf (mulf (extractStridedSlice S16384x256 ![0, 0] z slices_S16384x1440_S16384x256_0_0) (broadcastInDim S16384x256 ![0, 1] bcast_S16384x1_S16384x256_0_1 (Host.rsqrt (addf (Host.divf (broadcastInDim S16384x1 ![0] bcast_S16384_S16384x1_0 (Host.reduceAdd (mulf (extractStridedSlice S16384x256 ![0, 0] z slices_S16384x1440_S16384x256_0_0) (extractStridedSlice S16384x256 ![0, 0] z slices_S16384x1440_S16384x256_0_0)) (constant S_ .f32 0x00000000#32) reducesTo_S16384x256_S16384_d1 h_S_)) (broadcastInDim S16384x1 ![] bcast_S_S16384x1 (constant S_ .f32 0x43800000#32))) (broadcastInDim S16384x1 ![] bcast_S_S16384x1 (constant S_ .f32 0x358637BD#32)))))) (broadcastInDim S16384x256 ![0, 1] bcast_S1x256_S16384x256_0_1 (broadcastInDim S1x256 ![1] bcast_S256_S1x256_1 (shapeCast S256 g shapeCasts_S1x256_S256)))) bitsLt_bf16_f32) (truncf .bf16 (shapeCast S256x8x96 w shapeCasts_S1x256x8x96_S256x8x96) bitsLt_bf16_f32)

/-- Each head's key lanes, then its value lanes. -/
def pairs (z : FVec Ideal S16384x1440 .f32) (g : FVec Ideal S1x128 .f32) (w : FVec Ideal S1x128x8x128 .f32) : FVec Ideal S16384x8x128 .f32 :=
  Host.dotGeneral dot_S16384x128_S128x8x128_S16384x8x128_1_0_0_12_n_n none (truncf .bf16 (mulf (mulf (extractStridedSlice S16384x128 ![0, 256] z slices_S16384x1440_S16384x128_0_256) (broadcastInDim S16384x128 ![0, 1] bcast_S16384x1_S16384x128_0_1 (Host.rsqrt (addf (Host.divf (broadcastInDim S16384x1 ![0] bcast_S16384_S16384x1_0 (Host.reduceAdd (mulf (extractStridedSlice S16384x128 ![0, 256] z slices_S16384x1440_S16384x128_0_256) (extractStridedSlice S16384x128 ![0, 256] z slices_S16384x1440_S16384x128_0_256)) (constant S_ .f32 0x00000000#32) reducesTo_S16384x128_S16384_d1 h_S_)) (broadcastInDim S16384x1 ![] bcast_S_S16384x1 (constant S_ .f32 0x43000000#32))) (broadcastInDim S16384x1 ![] bcast_S_S16384x1 (constant S_ .f32 0x358637BD#32)))))) (broadcastInDim S16384x128 ![0, 1] bcast_S1x128_S16384x128_0_1 (broadcastInDim S1x128 ![1] bcast_S128_S1x128_1 (shapeCast S128 g shapeCasts_S1x128_S128)))) bitsLt_bf16_f32) (truncf .bf16 (shapeCast S128x8x128 w shapeCasts_S1x128x8x128_S128x8x128) bitsLt_bf16_f32)

/-- The gating lanes through the curve. -/
def curved (z : FVec Ideal S16384x1440 .f32) : FVec Ideal S16384x1024 .f32 :=
  mulf (extractStridedSlice S16384x1024 ![0, 416] z slices_S16384x1440_S16384x1024_0_416) (mulf (broadcastInDim S16384x1024 ![] bcast_S_S16384x1024 (constant S_ .f32 0x3F000000#32)) (addf (broadcastInDim S16384x1024 ![] bcast_S_S16384x1024 (constant S_ .f32 0x3F800000#32)) (Host.tanh (mulf (broadcastInDim S16384x1024 ![] bcast_S_S16384x1024 (constant S_ .f32 0x3F4C422A#32)) (addf (extractStridedSlice S16384x1024 ![0, 416] z slices_S16384x1440_S16384x1024_0_416) (mulf (broadcastInDim S16384x1024 ![] bcast_S_S16384x1024 (constant S_ .f32 0x3D372713#32)) (mulf (mulf (extractStridedSlice S16384x1024 ![0, 416] z slices_S16384x1440_S16384x1024_0_416) (extractStridedSlice S16384x1024 ![0, 416] z slices_S16384x1440_S16384x1024_0_416)) (extractStridedSlice S16384x1024 ![0, 416] z slices_S16384x1440_S16384x1024_0_416))))))))

/-- The first half of the lanes times the second half mixed within its chunk. -/
def gated (z : FVec Ideal S16384x1024 .f32) (g : FVec Ideal S1x8x64 .f32) (w : FVec Ideal S1x8x128x128 .f32) (b : FVec Ideal S1x8x128 .f32) : FVec Ideal S16384x512 .f32 :=
  shapeCast S16384x512 (mulf (shapeCast S128x128x8x64 (extractStridedSlice S16384x512 ![0, 0] z slices_S16384x1024_S16384x512_0_0) shapeCasts_S16384x512_S128x128x8x64) (addf (transpose S128x128x8x64 [1, 3, 0, 2] (Host.dotGeneral dot_S128x128x8x64_S8x128x128_S8x128x64x128_1_2_03_1_2_0 none (truncf .bf16 (mulf (mulf (shapeCast S128x128x8x64 (extractStridedSlice S16384x512 ![0, 512] z slices_S16384x1024_S16384x512_0_512) shapeCasts_S16384x512_S128x128x8x64) (broadcastInDim S128x128x8x64 ![0, 1, 2, 3] bcast_S128x128x8x1_S128x128x8x64_0_1_2_3 (Host.rsqrt (addf (Host.divf (broadcastInDim S128x128x8x1 ![0, 1, 2] bcast_S128x128x8_S128x128x8x1_0_1_2 (Host.reduceAdd (mulf (shapeCast S128x128x8x64 (extractStridedSlice S16384x512 ![0, 512] z slices_S16384x1024_S16384x512_0_512) shapeCasts_S16384x512_S128x128x8x64) (shapeCast S128x128x8x64 (extractStridedSlice S16384x512 ![0, 512] z slices_S16384x1024_S16384x512_0_512) shapeCasts_S16384x512_S128x128x8x64)) (constant S_ .f32 0x00000000#32) reducesTo_S128x128x8x64_S128x128x8_d3 h_S_)) (broadcastInDim S128x128x8x1 ![] bcast_S_S128x128x8x1 (constant S_ .f32 0x42800000#32))) (broadcastInDim S128x128x8x1 ![] bcast_S_S128x128x8x1 (constant S_ .f32 0x358637BD#32)))))) (broadcastInDim S128x128x8x64 ![0, 1, 2, 3] bcast_S1x1x8x64_S128x128x8x64_0_1_2_3 (broadcastInDim S1x1x8x64 ![2, 3] bcast_S8x64_S1x1x8x64_2_3 (shapeCast S8x64 g shapeCasts_S1x8x64_S8x64)))) bitsLt_bf16_f32) (truncf .bf16 (select (broadcastInDim S8x128x128 ![1, 2] bcast_S128x128_S8x128x128_1_2 (cmpi .sle (broadcastInDim S128x128 ![0, 1] bcast_S1x128_S128x128_0_1 (broadcastInDim S1x128 ![1] bcast_S128_S1x128_1 (iotaInDim S128 32 0))) (broadcastInDim S128x128 ![0, 1] bcast_S128x1_S128x128_0_1 (broadcastInDim S128x1 ![0] bcast_S128_S128x1_0 (iotaInDim S128 32 0))))) (shapeCast S8x128x128 w shapeCasts_S1x8x128x128_S8x128x128) (broadcastInDim S8x128x128 ![] bcast_S_S8x128x128 (id (constant S_ .f32 0x00000000#32)))) bitsLt_bf16_f32)) transposes_S8x128x64x128_S128x128x8x64_1_3_0_2) (broadcastInDim S128x128x8x64 ![0, 1, 2, 3] bcast_S1x128x8x1_S128x128x8x64_0_1_2_3 (broadcastInDim S1x128x8x1 ![1, 2] bcast_S128x8_S1x128x8x1_1_2 (transpose S128x8 [1, 0] (shapeCast S8x128 b shapeCasts_S1x8x128_S8x128) transposes_S8x128_S128x8_1_0))))) shapeCasts_S128x128x8x64_S16384x512

/-- The queries, their last lanes turned, scaled and laid out by head. -/
def turnedQ (q : FVec Ideal S16384x8x96 .f32) (a : FVec Ideal S16384x16 .f32) : FVec Ideal S16384x1024 .bf16 :=
  shapeCast S16384x1024 (truncf .bf16 (pad S16384x8x128 ![0, 0, 0] ![0, 0, 32] ![0, 0, 0] (mulf (concatenate S16384x8x96 2 [⟨S16384x8x64, (extractStridedSlice S16384x8x64 ![0, 0, 0] q slices_S16384x8x96_S16384x8x64_0_0_0)⟩, ⟨S16384x8x32, (concatenate S16384x8x32 2 [⟨S16384x8x16, (subf (mulf (extractStridedSlice S16384x8x16 ![0, 0, 0] (extractStridedSlice S16384x8x32 ![0, 0, 64] q slices_S16384x8x96_S16384x8x32_0_0_64) slices_S16384x8x32_S16384x8x16_0_0_0) (broadcastInDim S16384x8x16 ![0, 1, 2] bcast_S16384x1x16_S16384x8x16_0_1_2 (broadcastInDim S16384x1x16 ![0, 2] bcast_S16384x16_S16384x1x16_0_2 (Host.cos a)))) (mulf (extractStridedSlice S16384x8x16 ![0, 0, 16] (extractStridedSlice S16384x8x32 ![0, 0, 64] q slices_S16384x8x96_S16384x8x32_0_0_64) slices_S16384x8x32_S16384x8x16_0_0_16) (broadcastInDim S16384x8x16 ![0, 1, 2] bcast_S16384x1x16_S16384x8x16_0_1_2 (broadcastInDim S16384x1x16 ![0, 2] bcast_S16384x16_S16384x1x16_0_2 (Host.sin a)))))⟩, ⟨S16384x8x16, (addf (mulf (extractStridedSlice S16384x8x16 ![0, 0, 16] (extractStridedSlice S16384x8x32 ![0, 0, 64] q slices_S16384x8x96_S16384x8x32_0_0_64) slices_S16384x8x32_S16384x8x16_0_0_16) (broadcastInDim S16384x8x16 ![0, 1, 2] bcast_S16384x1x16_S16384x8x16_0_1_2 (broadcastInDim S16384x1x16 ![0, 2] bcast_S16384x16_S16384x1x16_0_2 (Host.cos a)))) (mulf (extractStridedSlice S16384x8x16 ![0, 0, 0] (extractStridedSlice S16384x8x32 ![0, 0, 64] q slices_S16384x8x96_S16384x8x32_0_0_64) slices_S16384x8x32_S16384x8x16_0_0_0) (broadcastInDim S16384x8x16 ![0, 1, 2] bcast_S16384x1x16_S16384x8x16_0_1_2 (broadcastInDim S16384x1x16 ![0, 2] bcast_S16384x16_S16384x1x16_0_2 (Host.sin a)))))⟩] concatenates_S16384x8x16_S16384x8x16_S16384x8x32_d2)⟩] concatenates_S16384x8x64_S16384x8x32_S16384x8x96_d2) (broadcastInDim S16384x8x96 ![] bcast_S_S16384x8x96 (constant S_ .f32 0x3E16C740#32))) (sitofp .f32 (constantI S_ 32 0#32)) pads_S16384x8x96_S16384x8x128_000_000_0320 h_S_) bitsLt_bf16_f32) shapeCasts_S16384x8x128_S16384x1024

/-- The keys with the shared turned lanes, laid out by head. -/
def turnedK (z : FVec Ideal S16384x1440 .f32) (k : FVec Ideal S16384x8x128 .f32) (a : FVec Ideal S16384x16 .f32) : FVec Ideal S16384x1024 .bf16 :=
  shapeCast S16384x1024 (truncf .bf16 (pad S16384x8x128 ![0, 0, 0] ![0, 0, 32] ![0, 0, 0] (concatenate S16384x8x96 2 [⟨S16384x8x64, (extractStridedSlice S16384x8x64 ![0, 0, 0] k slices_S16384x8x128_S16384x8x64_0_0_0)⟩, ⟨S16384x8x32, (broadcastInDim S16384x8x32 ![0, 1, 2] bcast_S16384x1x32_S16384x8x32_0_1_2 (concatenate S16384x1x32 2 [⟨S16384x1x16, (subf (mulf (extractStridedSlice S16384x1x16 ![0, 0, 0] (broadcastInDim S16384x1x32 ![0, 2] bcast_S16384x32_S16384x1x32_0_2 (extractStridedSlice S16384x32 ![0, 384] z slices_S16384x1440_S16384x32_0_384)) slices_S16384x1x32_S16384x1x16_0_0_0) (broadcastInDim S16384x1x16 ![0, 2] bcast_S16384x16_S16384x1x16_0_2 (Host.cos a))) (mulf (extractStridedSlice S16384x1x16 ![0, 0, 16] (broadcastInDim S16384x1x32 ![0, 2] bcast_S16384x32_S16384x1x32_0_2 (extractStridedSlice S16384x32 ![0, 384] z slices_S16384x1440_S16384x32_0_384)) slices_S16384x1x32_S16384x1x16_0_0_16) (broadcastInDim S16384x1x16 ![0, 2] bcast_S16384x16_S16384x1x16_0_2 (Host.sin a))))⟩, ⟨S16384x1x16, (addf (mulf (extractStridedSlice S16384x1x16 ![0, 0, 16] (broadcastInDim S16384x1x32 ![0, 2] bcast_S16384x32_S16384x1x32_0_2 (extractStridedSlice S16384x32 ![0, 384] z slices_S16384x1440_S16384x32_0_384)) slices_S16384x1x32_S16384x1x16_0_0_16) (broadcastInDim S16384x1x16 ![0, 2] bcast_S16384x16_S16384x1x16_0_2 (Host.cos a))) (mulf (extractStridedSlice S16384x1x16 ![0, 0, 0] (broadcastInDim S16384x1x32 ![0, 2] bcast_S16384x32_S16384x1x32_0_2 (extractStridedSlice S16384x32 ![0, 384] z slices_S16384x1440_S16384x32_0_384)) slices_S16384x1x32_S16384x1x16_0_0_0) (broadcastInDim S16384x1x16 ![0, 2] bcast_S16384x16_S16384x1x16_0_2 (Host.sin a))))⟩] concatenates_S16384x1x16_S16384x1x16_S16384x1x32_d2))⟩] concatenates_S16384x8x64_S16384x8x32_S16384x8x96_d2) (sitofp .f32 (constantI S_ 32 0#32)) pads_S16384x8x96_S16384x8x128_000_000_0320 h_S_) bitsLt_bf16_f32) shapeCasts_S16384x8x128_S16384x1024

/-- The values, transposed. -/
def valuesT (k : FVec Ideal S16384x8x128 .f32) : FVec Ideal S512x16384 .bf16 :=
  truncf .bf16 (transpose S512x16384 [1, 0] (shapeCast S16384x512 (extractStridedSlice S16384x8x64 ![0, 0, 64] k slices_S16384x8x128_S16384x8x64_0_0_64) shapeCasts_S16384x8x64_S16384x512) transposes_S16384x512_S512x16384_1_0) bitsLt_bf16_f32

/-- A row scaled by the inverse root of its mean square, then by the gain. -/
def normed (y : FVec Ideal S16384x512 .f32) (g : FVec Ideal S1x512 .f32) : FVec Ideal S16384x512 .bf16 :=
  truncf .bf16 (mulf (mulf y (broadcastInDim S16384x512 ![0, 1] bcast_S16384x1_S16384x512_0_1 (Host.rsqrt (addf (Host.divf (broadcastInDim S16384x1 ![0] bcast_S16384_S16384x1_0 (Host.reduceAdd (mulf y y) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 (shapeCast S512 g shapeCasts_S1x512_S512)))) bitsLt_bf16_f32

/-- A lane's root factor: one over the root of the mean of the squares, with the small constant. -/
def root {n : ℕ} (v : Fin n → EReal) (d : BitVec 32) : EReal :=
  Ideal.rsqrt (Ideal.div (∑ a : Fin n, v a * v a) (Ideal.ofBits .f32 d) + Ideal.ofBits .f32 0x358637BD#32)

theorem projected_at (x : FVec Ideal S16384x1024 .f32) (g : FVec Ideal S1x1024 .f32) (w : FVec Ideal S1x1024x1440 .f32) (R : Fin 16384) (j : Fin 1440) :
    projected x g w (ix2 R j) = ∑ d : Fin 1024, x (ix2 R d) * root (fun a => x (ix2 R a)) 0x44800000#32 * g (ix2 0 d) * w (ix3 0 d j) := by
  pointwise [projected]
  rfl

theorem queries_at (z : FVec Ideal S16384x1440 .f32) (g : FVec Ideal S1x256 .f32) (w : FVec Ideal S1x256x8x96 .f32) (R : Fin 16384) (h : Fin 8) (j : Fin 96) :
    queries z g w (ix3 R h j) = ∑ d : Fin 256, z (ix2 R ⟨d.val, by omega⟩) * root (fun a : Fin 256 => z (ix2 R ⟨a.val, by omega⟩)) 0x43800000#32 * g (ix2 0 d) * w (ix4 0 d h j) := by
  pointwise [queries]
  rfl

theorem pairs_at (z : FVec Ideal S16384x1440 .f32) (g : FVec Ideal S1x128 .f32) (w : FVec Ideal S1x128x8x128 .f32) (R : Fin 16384) (h : Fin 8) (j : Fin 128) :
    pairs z g w (ix3 R h j) = ∑ d : Fin 128, z (ix2 R ⟨256 + d.val, by omega⟩) * root (fun a : Fin 128 => z (ix2 R ⟨256 + a.val, by omega⟩)) 0x43000000#32 * g (ix2 0 d) * w (ix4 0 d h j) := by
  pointwise [pairs]
  rfl

/-- The curve of one lane. -/
def curve (x : EReal) : EReal :=
  x * (Ideal.ofBits .f32 0x3F000000#32 * (1 + Ideal.tanh (Ideal.ofBits .f32 0x3F4C422A#32 * (x + Ideal.ofBits .f32 0x3D372713#32 * (x * x * x)))))

theorem curved_at (z : FVec Ideal S16384x1440 .f32) (R : Fin 16384) (j : Fin 1024) :
    curved z (ix2 R j) = curve (z (ix2 R ⟨416 + j.val, by omega⟩)) := by
  pointwise [curved]
  rfl

theorem normed_at (y : FVec Ideal S16384x512 .f32) (g : FVec Ideal S1x512 .f32) (R : Fin 16384) (j : Fin 512) :
    normed y g (ix2 R j) = y (ix2 R j) * root (fun a => y (ix2 R a)) 0x44000000#32 * g (ix2 0 j) := by
  pointwise [normed]
  rfl

theorem valuesT_at (k : FVec Ideal S16384x8x128 .f32) (R : Fin 16384) (h : Fin 8) (j : Fin 64) :
    valuesT k (ix2 ⟨h.val * 64 + j.val, by omega⟩ R) = k (ix3 R h ⟨64 + j.val, by omega⟩) := by
  pointwise [valuesT]

/-- The turning rate of a lane. -/
def rate (i : Fin 16) : EReal :=
  Ideal.div 1 (Ideal.pow (Ideal.ofBits .f32 0x461C4000#32) (Ideal.div (Ideal.ofBits .f32 0x40000000#32 * FloatOps.sitofp (F := Ideal) (w := 32) .f32 (BitVec.ofNat 32 i.val)) (Ideal.ofBits .f32 0x42000000#32)))

theorem angles_at (p : IVec S2x8192 32) (R : Fin 16384) (i : Fin 16) :
    angles p (ix2 R i) = (FloatOps.sitofp (F := Ideal) .f32 (p (ix2 ⟨R.val / 8192, by omega⟩ ⟨R.val % 8192, by omega⟩)) : EReal) * rate i := by
  pointwise [angles]
  rfl

/-- The integer zero reads as zero. -/
theorem sitofp_zero : (FloatOps.sitofp (F := Ideal) (w := 32) .f32 0#32 : EReal) = 0 := by
  show (((0#32 : BitVec 32).toInt : ℝ) : EReal) = 0
  simp

theorem turnedQ_plain (q : FVec Ideal S16384x8x96 .f32) (a : FVec Ideal S16384x16 .f32) (R : Fin 16384) (h : Fin 8) (i : Fin 64) :
    turnedQ q a (ix2 R ⟨h.val * 128 + i.val, by omega⟩) = (q (ix3 R h ⟨i.val, by omega⟩) * Ideal.ofBits .f32 0x3E16C740#32 : EReal) := by
  pointwise [turnedQ]
  have e0 : (h.val * 128 + i.val) % 128 = i.val := by omega
  split_ifs <;> first | omega | (simp only [e0] <;> rfl)

theorem turnedQ_first (q : FVec Ideal S16384x8x96 .f32) (a : FVec Ideal S16384x16 .f32) (R : Fin 16384) (h : Fin 8) (i : Fin 16) :
    turnedQ q a (ix2 R ⟨h.val * 128 + (64 + i.val), by omega⟩) = ((q (ix3 R h ⟨64 + i.val, by omega⟩) * Ideal.cos (a (ix2 R i))
      - q (ix3 R h ⟨80 + i.val, by omega⟩) * Ideal.sin (a (ix2 R i))) * Ideal.ofBits .f32 0x3E16C740#32 : EReal) := by
  pointwise [turnedQ]
  have e0 : (h.val * 128 + (64 + i.val)) % 128 = 64 + i.val := by omega
  have e1 : 64 + i.val - 64 = i.val := by omega
  have e2 : 64 + (16 + i.val) = 80 + i.val := by omega
  split_ifs <;> first | omega | (simp only [e0, e1, e2] <;> rfl)

theorem turnedQ_second (q : FVec Ideal S16384x8x96 .f32) (a : FVec Ideal S16384x16 .f32) (R : Fin 16384) (h : Fin 8) (i : Fin 16) :
    turnedQ q a (ix2 R ⟨h.val * 128 + (80 + i.val), by omega⟩) = ((q (ix3 R h ⟨80 + i.val, by omega⟩) * Ideal.cos (a (ix2 R i))
      + q (ix3 R h ⟨64 + i.val, by omega⟩) * Ideal.sin (a (ix2 R i))) * Ideal.ofBits .f32 0x3E16C740#32 : EReal) := by
  pointwise [turnedQ]
  have e0 : (h.val * 128 + (80 + i.val)) % 128 = 80 + i.val := by omega
  have e1 : 80 + i.val - 64 - 16 = i.val := by omega
  have e2 : 64 + (16 + i.val) = 80 + i.val := by omega
  split_ifs <;> first | omega | (simp only [e0, e1, e2] <;> rfl)

theorem turnedQ_rest (q : FVec Ideal S16384x8x96 .f32) (a : FVec Ideal S16384x16 .f32) (R : Fin 16384) (h : Fin 8) (i : Fin 32) :
    turnedQ q a (ix2 R ⟨h.val * 128 + (96 + i.val), by omega⟩) = (0 : EReal) := by
  pointwise [turnedQ]
  split_ifs <;> first | omega | exact sitofp_zero

theorem turnedK_plain (z : FVec Ideal S16384x1440 .f32) (k : FVec Ideal S16384x8x128 .f32) (a : FVec Ideal S16384x16 .f32) (R : Fin 16384) (h : Fin 8) (i : Fin 64) :
    turnedK z k a (ix2 R ⟨h.val * 128 + i.val, by omega⟩) = (k (ix3 R h ⟨i.val, by omega⟩) : EReal) := by
  pointwise [turnedK]
  have e0 : (h.val * 128 + i.val) % 128 = i.val := by omega
  split_ifs <;> first | omega | (simp only [e0] <;> rfl)

theorem turnedK_first (z : FVec Ideal S16384x1440 .f32) (k : FVec Ideal S16384x8x128 .f32) (a : FVec Ideal S16384x16 .f32) (R : Fin 16384) (h : Fin 8) (i : Fin 16) :
    turnedK z k a (ix2 R ⟨h.val * 128 + (64 + i.val), by omega⟩) = (z (ix2 R ⟨384 + i.val, by omega⟩) * Ideal.cos (a (ix2 R i))
      - z (ix2 R ⟨400 + i.val, by omega⟩) * Ideal.sin (a (ix2 R i)) : EReal) := by
  pointwise [turnedK]
  have e0 : (h.val * 128 + (64 + i.val)) % 128 = 64 + i.val := by omega
  have e1 : 64 + i.val - 64 = i.val := by omega
  have e2 : 384 + (16 + i.val) = 400 + i.val := by omega
  split_ifs <;> first | omega | (simp only [e0, e1, e2] <;> rfl)

theorem turnedK_second (z : FVec Ideal S16384x1440 .f32) (k : FVec Ideal S16384x8x128 .f32) (a : FVec Ideal S16384x16 .f32) (R : Fin 16384) (h : Fin 8) (i : Fin 16) :
    turnedK z k a (ix2 R ⟨h.val * 128 + (80 + i.val), by omega⟩) = (z (ix2 R ⟨400 + i.val, by omega⟩) * Ideal.cos (a (ix2 R i))
      + z (ix2 R ⟨384 + i.val, by omega⟩) * Ideal.sin (a (ix2 R i)) : EReal) := by
  pointwise [turnedK]
  have e0 : (h.val * 128 + (80 + i.val)) % 128 = 80 + i.val := by omega
  have e1 : 80 + i.val - 64 - 16 = i.val := by omega
  have e2 : 384 + (16 + i.val) = 400 + i.val := by omega
  split_ifs <;> first | omega | (simp only [e0, e1, e2] <;> rfl)

theorem turnedK_rest (z : FVec Ideal S16384x1440 .f32) (k : FVec Ideal S16384x8x128 .f32) (a : FVec Ideal S16384x16 .f32) (R : Fin 16384) (h : Fin 8) (i : Fin 32) :
    turnedK z k a (ix2 R ⟨h.val * 128 + (96 + i.val), by omega⟩) = (0 : EReal) := by
  pointwise [turnedK]
  split_ifs <;> first | omega | exact sitofp_zero

/-- The zero word reads as zero. -/
theorem zero_word : (id (constant (F := Ideal) S_ .f32 0#32) ix0 : EReal) = 0 := by
  show Ideal.ofBits .f32 0#32 = 0
  simp [Ideal.ofBits, Ideal.ieee]

theorem gated_at (z : FVec Ideal S16384x1024 .f32) (g : FVec Ideal S1x8x64 .f32) (w : FVec Ideal S1x8x128x128 .f32) (b : FVec Ideal S1x8x128 .f32)
    (n t : Fin 128) (h : Fin 8) (j : Fin 64) :
    gated z g w b (ix2 ⟨n.val * 128 + t.val, by omega⟩ ⟨h.val * 64 + j.val, by omega⟩)
      = (z (ix2 ⟨n.val * 128 + t.val, by omega⟩ ⟨h.val * 64 + j.val, by omega⟩)
        * ((∑ s : Fin 128, z (ix2 ⟨n.val * 128 + s.val, by omega⟩ ⟨512 + (h.val * 64 + j.val), by omega⟩)
              * root (fun a : Fin 64 => z (ix2 ⟨n.val * 128 + s.val, by omega⟩ ⟨512 + (h.val * 64 + a.val), by omega⟩)) 0x42800000#32
              * g (ix3 0 h j) * (if s.val ≤ t.val then w (ix4 0 h t s) else 0)) + b (ix3 0 h t)) : EReal) := by
  pointwise [gated]
  refine congrArg₂ (· * ·) rfl (congrArg₂ (· + ·) (Finset.sum_congr rfl fun s _ => congrArg₂ (· * ·) rfl ?_) rfl)
  rw [WordCmp.cmpi_sle_ofNat (by omega) (by omega), WordCmp.select_ofBool]
  simp only [decide_eq_true_eq]
  exact ite_congr rfl (fun _ => rfl) (fun _ => zero_word)

/-- The first projection of the tokens. -/
def zOf (x : FVec Ideal S2x8192x1024 .f32) (g : FVec Ideal S1x1024 .f32) (w : FVec Ideal S1x1024x1440 .f32) : FVec Ideal S16384x1440 .f32 :=
  projected (rows x) g w

/-- The queries of the layer, from the projection. -/
def outQ (z : FVec Ideal S16384x1440 .f32) (p : IVec S2x8192 32) (g : FVec Ideal S1x256 .f32) (w : FVec Ideal S1x256x8x96 .f32) : FVec Ideal S16384x1024 .bf16 :=
  turnedQ (queries z g w) (angles p)

/-- The keys. -/
def outK (z : FVec Ideal S16384x1440 .f32) (p : IVec S2x8192 32) (g : FVec Ideal S1x128 .f32) (w : FVec Ideal S1x128x8x128 .f32) : FVec Ideal S16384x1024 .bf16 :=
  turnedK z (pairs z g w) (angles p)

/-- The values. -/
def outV (z : FVec Ideal S16384x1440 .f32) (g : FVec Ideal S1x128 .f32) (w : FVec Ideal S1x128x8x128 .f32) : FVec Ideal S512x16384 .bf16 :=
  valuesT (pairs z g w)

/-- The gated mixing. -/
def outS (z : FVec Ideal S16384x1440 .f32) (g : FVec Ideal S1x8x64 .f32) (w : FVec Ideal S1x8x128x128 .f32) (b : FVec Ideal S1x8x128 .f32) (o : FVec Ideal S1x512 .f32) : FVec Ideal S16384x512 .bf16 :=
  normed (gated (curved z) g w b) o

set_option maxHeartbeats 2000000 in
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v182) = outQ (zOf (m ((c.tc : Thread nD τ).loc main_arg0)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5))
      ∧ r.2.mem ((c.tc : Thread nD τ).loc main_v185) = outK (zOf (m ((c.tc : Thread nD τ).loc main_arg0)) (m ((c.tc : Thread nD τ).loc main_arg2)) (m ((c.tc : Thread nD τ).loc main_arg3))) (m ((c.tc : Thread nD τ).loc main_arg1)) (m ((c.tc : Thread nD τ).loc main_arg6)) (m ((c.tc : Thread nD τ).loc main_arg7))
      ∧ r.2.mem ((c.tc : Thread nD τ).loc main_v114) = outV (zOf (m ((c.tc : Thread nD τ).loc main_arg0)) (m ((c.tc : Thread nD τ).loc main_arg2)) (m ((c.tc : Thread nD τ).loc main_arg3))) (m ((c.tc : Thread nD τ).loc main_arg6)) (m ((c.tc : Thread nD τ).loc main_arg7))
      ∧ r.2.mem ((c.tc : Thread nD τ).loc main_v179) = outS (zOf (m ((c.tc : Thread nD τ).loc main_arg0)) (m ((c.tc : Thread nD τ).loc main_arg2)) (m ((c.tc : Thread nD τ).loc main_arg3))) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => h c) (run (F := Ideal) m ρ)

end Cert.ReferenceIdeal3.Layer
-- ==== Proof.Proj3.lean ====
module

public import proofs.«01_k».proof.Proof.Gen.KernelIdeal3.Value
public import proofs.«01_k».proof.Proof.Ref3
public import Idealize.ShloMosaic.Lib.Pipeline.ValueKit
public import Idealize.ShloMosaic.Lib.WordCmp

@[expose] public section

set_option maxRecDepth 16384

noncomputable section

namespace Cert.KernelIdeal3.Layer

open Cert.KernelIdeal3 Cert.KernelIdeal3.Gen Cert.KernelIdeal3.Value Idealize.ShloMosaic Idealize.ShloMosaic.TcCoe Idealize.SL.Sem
open Cert.ReferenceIdeal3.Layer (angles rows projected queries pairs curved gated turnedQ turnedK valuesT normed root curve projected_at queries_at pairs_at curved_at normed_at valuesT_at gated_at
  turnedQ_plain turnedQ_first turnedQ_second turnedQ_rest turnedK_plain turnedK_first turnedK_second turnedK_rest)

/-- The projection's block, one lane as a sum. -/
theorem z_at (x0 : Vec Ideal S1024x1024 .f32) (x2 : Vec Ideal S1x1024 .f32) (x3 : Vec Ideal S1024x1536 .bf16) (r : Fin 1024) (l : Fin 1536) :
    (k0_pay2 x0 x2 x3 (ix2 r l) : EReal) = ∑ d : Fin 1024, x0 (ix2 r d) * root (fun a => x0 (ix2 r a)) 0x44800000#32 * x2 (ix2 0 d) * x3 (ix2 d l) := by
  pointwise [k0_pay2]
  rfl

/-- A lane whose weights are those of a reference lane holds that reference lane. -/
theorem z_ref (x0 : Vec Ideal S1024x1024 .f32) (x2 : Vec Ideal S1x1024 .f32) (x3 : Vec Ideal S1024x1536 .bf16) (r : Fin 1024) (l : Fin 1536)
    (x : FVec Ideal Cert.ReferenceIdeal3.S16384x1024 .f32) (g : FVec Ideal Cert.ReferenceIdeal3.S1x1024 .f32) (w : FVec Ideal Cert.ReferenceIdeal3.S1x1024x1440 .f32) (R : Fin 16384) (j : Fin 1440)
    (h0 : ∀ d, (x0 (ix2 r d) : EReal) = x (ix2 R d)) (h2 : ∀ d, (x2 (ix2 0 d) : EReal) = g (ix2 0 d)) (h3 : ∀ d, (x3 (ix2 d l) : EReal) = w (ix3 0 d j)) :
    (k0_pay2 x0 x2 x3 (ix2 r l) : EReal) = projected x g w (ix2 R j) := by
  rw [z_at, projected_at]
  refine Finset.sum_congr rfl fun d _ => ?_
  rw [h0, h2, h3, show (fun a => (x0 (ix2 r a) : EReal)) = fun a => x (ix2 R a) from funext h0]

/-- A lane whose weights vanish vanishes. -/
theorem z_zero (x0 : Vec Ideal S1024x1024 .f32) (x2 : Vec Ideal S1x1024 .f32) (x3 : Vec Ideal S1024x1536 .bf16) (r : Fin 1024) (l : Fin 1536)
    (h3 : ∀ d, (x3 (ix2 d l) : EReal) = 0) : (k0_pay2 x0 x2 x3 (ix2 r l) : EReal) = 0 := by
  rw [z_at]
  exact Finset.sum_eq_zero fun d _ => by rw [h3, mul_zero]

/-- A head's lanes turned: each times its cosine, plus its partner times the signed sine. -/
def turn (v cs sn : FVec Ideal S1024x128 .f32) (b : IVec S1024x128 1) : FVec Ideal S1024x128 .f32 :=
  addf (mulf v cs) (mulf (select b (dynamicRotate 1 112#32 none v rotates_S1024x128_d1) (dynamicRotate 1 16#32 none v rotates_S1024x128_d1)) sn)

theorem cos_at (x1 : Vec Ideal S16x1024 .f32) (r : Fin 1024) (l : Fin 128) :
    (k0_pay4 x1 (ix2 r l) : EReal) = if h : l.val < 64 then 1 else if h : l.val - 64 < 16 then Ideal.cos (x1 (ix2 ⟨l.val - 64, by omega⟩ r))
      else if h : l.val - 64 - 16 < 16 then Ideal.cos (x1 (ix2 ⟨l.val - 64 - 16, by omega⟩ r)) else 1 := by
  pointwise [k0_pay4, k0_pay3]

theorem below (l : Fin 128) : IntOp.cmpi .slt (BitVec.ofNat 32 l.val) 80#32 = if l.val < 80 then 1#1 else 0#1 := by
  revert l; decide +kernel

theorem sin_at (x1 : Vec Ideal S16x1024 .f32) (r : Fin 1024) (l : Fin 128) :
    (k0_pay6 x1 (ix2 r l) : EReal) = if h : l.val < 64 then 0 else if h : l.val - 64 < 16 then 0 - Ideal.sin (x1 (ix2 ⟨l.val - 64, by omega⟩ r))
      else if h : l.val - 64 - 16 < 16 then Ideal.sin (x1 (ix2 ⟨l.val - 64 - 16, by omega⟩ r)) else 0 := by
  pointwise [k0_pay6, k0_pay3, k0_pay5]
  rw [below]
  by_cases hl : l.val < 80
  · rw [if_pos hl]
    show (0 : EReal) - _ = _
    split_ifs <;> first | omega | exact sub_zero _ | rfl
  · rw [if_neg hl]
    show (_ : EReal) = _
    split_ifs <;> first | omega | rfl

theorem turn_at (v cs sn : FVec Ideal S1024x128 .f32) (r : Fin 1024) (l : Fin 128) :
    (turn v cs sn k0_pay5 (ix2 r l) : EReal) = v (ix2 r l) * cs (ix2 r l) + (if l.val < 80 then v (ix2 r ⟨(l.val + 128 - 112) % 128, by omega⟩) else v (ix2 r ⟨(l.val + 128 - 16) % 128, by omega⟩)) * sn (ix2 r l) := by
  pointwise [turn, k0_pay5]
  rw [below]
  by_cases hl : l.val < 80
  · rw [if_pos hl, if_pos hl]
    rfl
  · rw [if_neg hl, if_neg hl]
    rfl

theorem turn_plain (v : FVec Ideal S1024x128 .f32) (x1 : Vec Ideal S16x1024 .f32) (r : Fin 1024) (i : Fin 64) :
    (turn v (k0_pay4 x1) (k0_pay6 x1) k0_pay5 (ix2 r ⟨i.val, by omega⟩) : EReal) = v (ix2 r ⟨i.val, by omega⟩) := by
  rw [turn_at, cos_at, sin_at, dif_pos i.isLt, dif_pos i.isLt, mul_one, mul_zero, add_zero]

theorem turn_rest (v : FVec Ideal S1024x128 .f32) (x1 : Vec Ideal S16x1024 .f32) (r : Fin 1024) (i : Fin 32) :
    (turn v (k0_pay4 x1) (k0_pay6 x1) k0_pay5 (ix2 r ⟨96 + i.val, by omega⟩) : EReal) = v (ix2 r ⟨96 + i.val, by omega⟩) := by
  rw [turn_at, cos_at, sin_at]
  rw [dif_neg (by simp only []; omega), dif_neg (by simp only []; omega), dif_neg (by simp only []; omega), dif_neg (by simp only []; omega), dif_neg (by simp only []; omega), dif_neg (by simp only []; omega), mul_one, mul_zero, add_zero]

theorem turn_first (v : FVec Ideal S1024x128 .f32) (x1 : Vec Ideal S16x1024 .f32) (r : Fin 1024) (i : Fin 16) :
    (turn v (k0_pay4 x1) (k0_pay6 x1) k0_pay5 (ix2 r ⟨64 + i.val, by omega⟩) : EReal)
      = v (ix2 r ⟨64 + i.val, by omega⟩) * Ideal.cos (x1 (ix2 i r)) - v (ix2 r ⟨80 + i.val, by omega⟩) * Ideal.sin (x1 (ix2 i r)) := by
  rw [turn_at, cos_at, sin_at]
  rw [dif_neg (by simp only []; omega), dif_pos (by simp only []; omega), dif_neg (by simp only []; omega), dif_pos (by simp only []; omega), if_pos (by simp only []; omega)]
  have e1 : (64 + i.val) - 64 = i.val := by omega
  have e2 : ((64 + i.val) + 128 - 112) % 128 = 80 + i.val := by omega
  simp only [e1, e2]
  rw [zero_sub, mul_neg, ← sub_eq_add_neg]

theorem turn_second (v : FVec Ideal S1024x128 .f32) (x1 : Vec Ideal S16x1024 .f32) (r : Fin 1024) (i : Fin 16) :
    (turn v (k0_pay4 x1) (k0_pay6 x1) k0_pay5 (ix2 r ⟨80 + i.val, by omega⟩) : EReal)
      = v (ix2 r ⟨80 + i.val, by omega⟩) * Ideal.cos (x1 (ix2 i r)) + v (ix2 r ⟨64 + i.val, by omega⟩) * Ideal.sin (x1 (ix2 i r)) := by
  rw [turn_at, cos_at, sin_at]
  rw [dif_neg (by simp only []; omega), dif_neg (by simp only []; omega), dif_pos (by simp only []; omega), dif_neg (by simp only []; omega), dif_neg (by simp only []; omega), dif_pos (by simp only []; omega), if_neg (by simp only []; omega)]
  have e1 : (80 + i.val) - 64 - 16 = i.val := by omega
  have e2 : ((80 + i.val) + 128 - 16) % 128 = 64 + i.val := by omega
  simp only [e1, e2]

/-- A lane of a head is one of the plain ones, of the first turned ones, of the second, or of the rest. -/
theorem lanes {p : Fin 128 → Prop} (h0 : ∀ i : Fin 64, p ⟨i.val, by omega⟩) (h1 : ∀ i : Fin 16, p ⟨64 + i.val, by omega⟩) (h2 : ∀ i : Fin 16, p ⟨80 + i.val, by omega⟩)
    (h3 : ∀ i : Fin 32, p ⟨96 + i.val, by omega⟩) (l : Fin 128) : p l := by
  by_cases a : l.val < 64
  · exact h0 ⟨l.val, a⟩
  by_cases b : l.val < 80
  · have := h1 ⟨l.val - 64, by omega⟩
    simpa only [show 64 + (l.val - 64) = l.val by omega] using this
  by_cases d : l.val < 96
  · have := h2 ⟨l.val - 80, by omega⟩
    simpa only [show 80 + (l.val - 80) = l.val by omega] using this
  · have := h3 ⟨l.val - 96, by omega⟩
    simpa only [show 96 + (l.val - 96) = l.val by omega] using this

/-- A head's queries: turned and scaled. -/
def scaledTurn (v cs sn : FVec Ideal S1024x128 .f32) (b : IVec S1024x128 1) : FVec Ideal S1024x128 .bf16 :=
  truncf .bf16 (mulf (turn v cs sn b) (broadcast S1024x128 (Scalar.ofBits (F := Ideal) .f32 0x3E16C740#32))) bitsLt_bf16_f32

theorem scaledTurn_at (v cs sn : FVec Ideal S1024x128 .f32) (b : IVec S1024x128 1) (r : Fin 1024) (l : Fin 128) :
    (scaledTurn v cs sn b (ix2 r l) : EReal) = turn v cs sn b (ix2 r l) * Ideal.ofBits .f32 0x3E16C740#32 := by
  pointwise [scaledTurn]

/-- A head's block of the queries is the reference's. -/
theorem head_q (v : FVec Ideal S1024x128 .f32) (x1 : Vec Ideal S16x1024 .f32) (r : Fin 1024) (R : Fin 16384) (h : Fin 8)
    (q : FVec Ideal Cert.ReferenceIdeal3.S16384x8x96 .f32) (a : FVec Ideal Cert.ReferenceIdeal3.S16384x16 .f32)
    (hv : ∀ (l : Fin 128) (hl : l.val < 96), (v (ix2 r l) : EReal) = q (ix3 R h ⟨l.val, hl⟩)) (hz : ∀ l : Fin 128, 96 ≤ l.val → (v (ix2 r l) : EReal) = 0)
    (h1 : ∀ i, (x1 (ix2 i r) : EReal) = a (ix2 R i)) (l : Fin 128) :
    (scaledTurn v (k0_pay4 x1) (k0_pay6 x1) k0_pay5 (ix2 r l) : EReal) = turnedQ q a (ix2 R ⟨h.val * 128 + l.val, by omega⟩) := by
  rw [scaledTurn_at]
  revert l
  refine lanes (fun i => ?_) (fun i => ?_) (fun i => ?_) fun i => ?_
  · rw [turn_plain, turnedQ_plain, hv _ (by simp only []; omega)]
  · rw [turn_first, turnedQ_first, hv _ (by simp only []; omega), hv _ (by simp only []; omega), h1]
  · rw [turn_second, turnedQ_second, hv _ (by simp only []; omega), hv _ (by simp only []; omega), h1]
  · rw [turn_rest, turnedQ_rest, hz _ (by simp only []; omega), zero_mul]

/-- A head's block of the keys is the reference's. -/
theorem head_k (v k : FVec Ideal S1024x128 .f32) (x1 : Vec Ideal S16x1024 .f32) (r : Fin 1024) (R : Fin 16384) (h : Fin 8)
    (z : FVec Ideal Cert.ReferenceIdeal3.S16384x1440 .f32) (kk : FVec Ideal Cert.ReferenceIdeal3.S16384x8x128 .f32) (a : FVec Ideal Cert.ReferenceIdeal3.S16384x16 .f32)
    (hv : ∀ i : Fin 32, (v (ix2 r ⟨64 + i.val, by omega⟩) : EReal) = z (ix2 R ⟨384 + i.val, by omega⟩)) (hv0 : ∀ i : Fin 64, (v (ix2 r ⟨i.val, by omega⟩) : EReal) = 0) (hv1 : ∀ i : Fin 32, (v (ix2 r ⟨96 + i.val, by omega⟩) : EReal) = 0)
    (hk : ∀ i : Fin 64, (k (ix2 r ⟨i.val, by omega⟩) : EReal) = kk (ix3 R h ⟨i.val, by omega⟩)) (hz : ∀ l : Fin 128, 64 ≤ l.val → (k (ix2 r l) : EReal) = 0)
    (h1 : ∀ i, (x1 (ix2 i r) : EReal) = a (ix2 R i)) (l : Fin 128) :
    (truncf .bf16 (addf k (turn v (k0_pay4 x1) (k0_pay6 x1) k0_pay5)) bitsLt_bf16_f32 (ix2 r l) : EReal) = turnedK z kk a (ix2 R ⟨h.val * 128 + l.val, by omega⟩) := by
  show (k (ix2 r l) : EReal) + turn v (k0_pay4 x1) (k0_pay6 x1) k0_pay5 (ix2 r l) = _
  have second : ∀ i : Fin 16, (v (ix2 r ⟨80 + i.val, by omega⟩) : EReal) = z (ix2 R ⟨400 + i.val, by omega⟩) := fun i => by
    have := hv ⟨16 + i.val, by omega⟩
    simpa only [show 64 + (16 + i.val) = 80 + i.val by omega, show 384 + (16 + i.val) = 400 + i.val by omega] using this
  have first : ∀ i : Fin 16, (v (ix2 r ⟨64 + i.val, by omega⟩) : EReal) = z (ix2 R ⟨384 + i.val, by omega⟩) := fun i => hv ⟨i.val, by omega⟩
  revert l
  refine lanes (fun i => ?_) (fun i => ?_) (fun i => ?_) fun i => ?_
  · rw [turn_plain, turnedK_plain, hv0, add_zero, hk]
  · rw [turn_first, turnedK_first, first, second, h1, hz _ (by simp only []; omega), zero_add]
  · rw [turn_second, turnedK_second, first, second, h1, hz _ (by simp only []; omega), zero_add]
  · rw [turn_rest, turnedK_rest, hz _ (by simp only []; omega), hv1, zero_add]

/-- The query heads' block before the turning, one lane as a sum. -/
theorem q_at (v : FVec Ideal S1024x256 .f32) (x4 : Vec Ideal S1x256 .f32) (x5 : Vec Ideal S256x1024 .bf16) (r l : Fin 1024) :
    (k0_pay8 v x4 x5 (ix2 r l) : EReal) = ∑ d : Fin 256, v (ix2 r d) * root (fun a => v (ix2 r a)) 0x43800000#32 * x4 (ix2 0 d) * x5 (ix2 d l) := by
  pointwise [k0_pay8]
  rfl

/-- The normed lanes of the keys and values. -/
theorem kv_at (z : FVec Ideal S1024x1536 .f32) (x6 : Vec Ideal S1x128 .f32) (r : Fin 1024) (l : Fin 128) :
    (k0_pay20 z x6 (ix2 r l) : EReal) = z (ix2 r ⟨256 + l.val, by omega⟩) * root (fun a : Fin 128 => z (ix2 r ⟨256 + a.val, by omega⟩)) 0x43000000#32 * x6 (ix2 0 l) := by
  pointwise [k0_pay20]
  rfl

theorem k_at (v : FVec Ideal S1024x128 .f32) (x7 : Vec Ideal S128x1024 .bf16) (r l : Fin 1024) :
    (k0_pay22 v x7 (ix2 r l) : EReal) = ∑ d : Fin 128, v (ix2 r d) * x7 (ix2 d l) := by
  pointwise [k0_pay22, k0_pay21]

theorem v_at (v : FVec Ideal S1024x128 .f32) (x8 : Vec Ideal S512x128 .bf16) (r : Fin 1024) (l : Fin 512) :
    (k0_pay33 (k0_pay21 v) x8 (ix2 l r) : EReal) = ∑ d : Fin 128, x8 (ix2 l d) * v (ix2 r d) := by
  pointwise [k0_pay33, k0_pay21]
-- ==== Proof.Host3.lean ====
module

public import proofs.«01_k».proof.Proof.Gen.KernelIdeal3.Value
public import Idealize.ShloMosaic.Lib.Pipeline.ValueKit
public import Idealize.ShloMosaic.Lib.WordCmp

@[expose] public section

set_option maxRecDepth 16384

noncomputable section

namespace Cert.KernelIdeal3.Layer

open Cert.KernelIdeal3 Cert.KernelIdeal3.Gen Cert.KernelIdeal3.Value Idealize.ShloMosaic Idealize.ShloMosaic.TcCoe Idealize.SL.Sem

variable (m : (ℓ : Loc nD τ sig) → Buf (Elt Ideal) ℓ)

/-- The buffers after the first line of host operations. -/
def s0 (c : Dev nD) : Valuation τ sig (Elt Ideal) := StableHlo.after hostOps0 (fun b => m (c, b))

/-- … and after line 1. -/
def s1 (c : Dev nD) : Valuation τ sig (Elt Ideal) := StableHlo.after hostOps0_1 (s0 m c)

/-- … and after line 2. -/
def s2 (c : Dev nD) : Valuation τ sig (Elt Ideal) := StableHlo.after hostOps0_2 (s1 m c)

/-- … and after line 3. -/
def s3 (c : Dev nD) : Valuation τ sig (Elt Ideal) := StableHlo.after hostOps0_3 (s2 m c)

/-- … and after line 4. -/
def s4 (c : Dev nD) : Valuation τ sig (Elt Ideal) := StableHlo.after hostOps0_4 (s3 m c)

/-- … and after line 5. -/
def s5 (c : Dev nD) : Valuation τ sig (Elt Ideal) := StableHlo.after hostOps0_5 (s4 m c)

/-- … and after line 6. -/
def s6 (c : Dev nD) : Valuation τ sig (Elt Ideal) := StableHlo.after hostOps0_6 (s5 m c)

/-- … and after line 7. -/
def s7 (c : Dev nD) : Valuation τ sig (Elt Ideal) := StableHlo.after hostOps0_7 (s6 m c)

/-- … and after line 8. -/
def s8 (c : Dev nD) : Valuation τ sig (Elt Ideal) := StableHlo.after hostOps0_8 (s7 m c)

theorem V_eq (c : Dev nD) (b : Ref sig .tc) : V m c b = s8 m c (Proc.devRef .tc b) := by
  show StableHlo.after _ _ _ = _
  simp only [List.flatten_cons, List.flatten_nil, List.append_nil, StableHlo.after_append]
  rfl

/-- The head of a lane, as the host counts it. -/
def headOf (v : IVec S512 32) (k : IVec S_ 32) : IVec S512 32 :=
  select (andi (cmpi .ne (signi v) (broadcastInDim S512 ![] bcast_S_S512 (signi k))) (cmpi .ne (Host.remsi v (broadcastInDim S512 ![] bcast_S_S512 k)) (broadcastInDim S512 ![] bcast_S_S512 (constantI S_ 32 0#32))))
    (subi (Host.divsi v (broadcastInDim S512 ![] bcast_S_S512 k)) (broadcastInDim S512 ![] bcast_S_S512 (constantI S_ 32 1#32))) (Host.divsi v (broadcastInDim S512 ![] bcast_S_S512 k))

/-- The frequencies. -/
def freqs : FVec Ideal S16 .f32 :=
  Host.divf (broadcastInDim S16 ![] bcast_S_S16 (constant S_ .f32 0x3F800000#32)) (Host.powf (broadcastInDim S16 ![] bcast_S_S16 (constant S_ .f32 0x461C4000#32)) (Host.divf (addf (broadcastInDim S16 ![] bcast_S_S16 (constant S_ .f32 0x00000000#32)) (mulf (broadcastInDim S16 ![] bcast_S_S16 (constant S_ .f32 0x40000000#32)) (sitofp .f32 (iotaInDim S16 32 0)))) (broadcastInDim S16 ![] bcast_S_S16 (constant S_ .f32 0x42000000#32))))

theorem s0_v17 (c : Dev nD) : (s0 m c (Proc.devRef .tc main_v17) : Vec Ideal S1024 .f32) = shapeCast S1024 (m ((c : Thread nD τ).loc main_arg2) : Vec Ideal S1x1024 .f32) shapeCasts_S1x1024_S1024 := by
  show StableHlo.after hostOps0 _ _ = _
  entry_read
  skip
  first
  | done
  | rfl

theorem s0_v18 (c : Dev nD) : (s0 m c (Proc.devRef .tc main_v18) : Vec Ideal S1024x1440 .f32) = shapeCast S1024x1440 (m ((c : Thread nD τ).loc main_arg3) : Vec Ideal S1x1024x1440 .f32) shapeCasts_S1x1024x1440_S1024x1440 := by
  show StableHlo.after hostOps0 _ _ = _
  entry_read
  skip
  first
  | done
  | rfl

theorem s0_v19 (c : Dev nD) : (s0 m c (Proc.devRef .tc main_v19) : Vec Ideal S256 .f32) = shapeCast S256 (m ((c : Thread nD τ).loc main_arg4) : Vec Ideal S1x256 .f32) shapeCasts_S1x256_S256 := by
  show StableHlo.after hostOps0 _ _ = _
  entry_read
  skip
  first
  | done
  | rfl

theorem s0_v20 (c : Dev nD) : (s0 m c (Proc.devRef .tc main_v20) : Vec Ideal S256x8x96 .f32) = shapeCast S256x8x96 (m ((c : Thread nD τ).loc main_arg5) : Vec Ideal S1x256x8x96 .f32) shapeCasts_S1x256x8x96_S256x8x96 := by
  show StableHlo.after hostOps0 _ _ = _
  entry_read
  skip
  first
  | done
  | rfl

theorem s0_v21 (c : Dev nD) : (s0 m c (Proc.devRef .tc main_v21) : Vec Ideal S128 .f32) = shapeCast S128 (m ((c : Thread nD τ).loc main_arg6) : Vec Ideal S1x128 .f32) shapeCasts_S1x128_S128 := by
  show StableHlo.after hostOps0 _ _ = _
  entry_read
  skip
  first
  | done
  | rfl

theorem s0_v22 (c : Dev nD) : (s0 m c (Proc.devRef .tc main_v22) : Vec Ideal S128x8x128 .f32) = shapeCast S128x8x128 (m ((c : Thread nD τ).loc main_arg7) : Vec Ideal S1x128x8x128 .f32) shapeCasts_S1x128x8x128_S128x8x128 := by
  show StableHlo.after hostOps0 _ _ = _
  entry_read
  skip
  first
  | done
  | rfl

theorem s0_v23 (c : Dev nD) : (s0 m c (Proc.devRef .tc main_v23) : Vec Ideal S8x64 .f32) = shapeCast S8x64 (m ((c : Thread nD τ).loc main_arg8) : Vec Ideal S1x8x64 .f32) shapeCasts_S1x8x64_S8x64 := by
  show StableHlo.after hostOps0 _ _ = _
  entry_read
  skip
  first
  | done
  | rfl

theorem s0_v24 (c : Dev nD) : (s0 m c (Proc.devRef .tc main_v24) : Vec Ideal S8x128x128 .f32) = shapeCast S8x128x128 (m ((c : Thread nD τ).loc main_arg9) : Vec Ideal S1x8x128x128 .f32) shapeCasts_S1x8x128x128_S8x128x128 := by
  show StableHlo.after hostOps0 _ _ = _
  entry_read
  skip
  first
  | done
  | rfl

theorem s0_v25 (c : Dev nD) : (s0 m c (Proc.devRef .tc main_v25) : Vec Ideal S8x128 .f32) = shapeCast S8x128 (m ((c : Thread nD τ).loc main_arg10) : Vec Ideal S1x8x128 .f32) shapeCasts_S1x8x128_S8x128 := by
  show StableHlo.after hostOps0 _ _ = _
  entry_read
  skip
  first
  | done
  | rfl

theorem s0_v26 (c : Dev nD) : (s0 m c (Proc.devRef .tc main_v26) : Vec Ideal S512 .f32) = shapeCast S512 (m ((c : Thread nD τ).loc main_arg11) : Vec Ideal S1x512 .f32) shapeCasts_S1x512_S512 := by
  show StableHlo.after hostOps0 _ _ = _
  entry_read
  skip
  first
  | done
  | rfl

theorem s0_v27 (c : Dev nD) : (s0 m c (Proc.devRef .tc main_v27) : Vec Ideal S16384x1024 .f32) = shapeCast S16384x1024 (m ((c : Thread nD τ).loc main_arg0) : Vec Ideal S2x8192x1024 .f32) shapeCasts_S2x8192x1024_S16384x1024 := by
  show StableHlo.after hostOps0 _ _ = _
  entry_read
  skip
  first
  | done
  | rfl

theorem s0_v28 (c : Dev nD) : (s0 m c (Proc.devRef .tc main_v28) : Vec Ideal S1024x32 .f32) = extractStridedSlice S1024x32 ![0, 384] (shapeCast S1024x1440 (m ((c : Thread nD τ).loc main_arg3) : Vec Ideal S1x1024x1440 .f32) shapeCasts_S1x1024x1440_S1024x1440) slices_S1024x1440_S1024x32_0_384 := by
  show StableHlo.after hostOps0 _ _ = _
  entry_read
  skip
  first
  | done
  | rfl

theorem s0_v29 (c : Dev nD) : (s0 m c (Proc.devRef .tc main_v29) : Vec Ideal S1024x384 .f32) = extractStridedSlice S1024x384 ![0, 0] (shapeCast S1024x1440 (m ((c : Thread nD τ).loc main_arg3) : Vec Ideal S1x1024x1440 .f32) shapeCasts_S1x1024x1440_S1024x1440) slices_S1024x1440_S1024x384_0_0 := by
  show StableHlo.after hostOps0 _ _ = _
  entry_read
  skip
  first
  | done
  | rfl

theorem s0_c (c : Dev nD) : (s0 m c (Proc.devRef .tc main_c) : IVec S_ 32) = constantI S_ 32 0#32 := by
  show StableHlo.after hostOps0 _ _ = _
  entry_read
  skip
  first
  | done
  | rfl

set_option maxHeartbeats 2000000 in
theorem s0_v16 (c : Dev nD) : (s0 m c (Proc.devRef .tc main_v16) : Vec Ideal S16x16384 .f32) = mulf (broadcastInDim S16x16384 ![0, 1] bcast_S16x1_S16x16384_0_1 (broadcastInDim S16x1 ![0] bcast_S16_S16x1_0 freqs)) (broadcastInDim S16x16384 ![0, 1] bcast_S1x16384_S16x16384_0_1 (shapeCast S1x16384 (sitofp (F := Ideal) .f32 (m ((c : Thread nD τ).loc main_arg1) : IVec S2x8192 32)) shapeCasts_S2x8192_S1x16384)) := by
  show StableHlo.after hostOps0 _ _ = _
  entry_read
  skip
  first
  | done
  | rfl

theorem s8_v27 (c : Dev nD) : (s8 m c (Proc.devRef .tc main_v27) : Vec Ideal S16384x1024 .f32) = s0 m c (Proc.devRef .tc main_v27) := by
  unfold s8 s7 s6 s5 s4 s3 s2 s1
  entry_read
  first | done | rfl

theorem s8_v16 (c : Dev nD) : (s8 m c (Proc.devRef .tc main_v16) : Vec Ideal S16x16384 .f32) = s0 m c (Proc.devRef .tc main_v16) := by
  unfold s8 s7 s6 s5 s4 s3 s2 s1
  entry_read
  first | done | rfl

theorem s1_v18 (c : Dev nD) : (s1 m c (Proc.devRef .tc main_v18) : Vec Ideal S1024x1440 .f32) = s0 m c (Proc.devRef .tc main_v18) := by
  unfold s1
  entry_read
  first | done | rfl

theorem s1_v29 (c : Dev nD) : (s1 m c (Proc.devRef .tc main_v29) : Vec Ideal S1024x384 .f32) = s0 m c (Proc.devRef .tc main_v29) := by
  unfold s1
  entry_read
  first | done | rfl

theorem s2_v20 (c : Dev nD) : (s2 m c (Proc.devRef .tc main_v20) : Vec Ideal S256x8x96 .f32) = s0 m c (Proc.devRef .tc main_v20) := by
  unfold s2 s1
  entry_read
  first | done | rfl

theorem s3_v22 (c : Dev nD) : (s3 m c (Proc.devRef .tc main_v22) : Vec Ideal S128x8x128 .f32) = s0 m c (Proc.devRef .tc main_v22) := by
  unfold s3 s2 s1
  entry_read
  first | done | rfl

theorem s5_v22 (c : Dev nD) : (s5 m c (Proc.devRef .tc main_v22) : Vec Ideal S128x8x128 .f32) = s0 m c (Proc.devRef .tc main_v22) := by
  unfold s5 s4 s3 s2 s1
  entry_read
  first | done | rfl

theorem s7_v24 (c : Dev nD) : (s7 m c (Proc.devRef .tc main_v24) : Vec Ideal S8x128x128 .f32) = s0 m c (Proc.devRef .tc main_v24) := by
  unfold s7 s6 s5 s4 s3 s2 s1
  entry_read
  first | done | rfl

theorem s7_v25 (c : Dev nD) : (s7 m c (Proc.devRef .tc main_v25) : Vec Ideal S8x128 .f32) = s0 m c (Proc.devRef .tc main_v25) := by
  unfold s7 s6 s5 s4 s3 s2 s1
  entry_read
  first | done | rfl

theorem s7_v17 (c : Dev nD) : (s7 m c (Proc.devRef .tc main_v17) : Vec Ideal S1024 .f32) = s0 m c (Proc.devRef .tc main_v17) := by
  unfold s7 s6 s5 s4 s3 s2 s1
  entry_read
  first | done | rfl

theorem s7_v19 (c : Dev nD) : (s7 m c (Proc.devRef .tc main_v19) : Vec Ideal S256 .f32) = s0 m c (Proc.devRef .tc main_v19) := by
  unfold s7 s6 s5 s4 s3 s2 s1
  entry_read
  first | done | rfl

theorem s7_v21 (c : Dev nD) : (s7 m c (Proc.devRef .tc main_v21) : Vec Ideal S128 .f32) = s0 m c (Proc.devRef .tc main_v21) := by
  unfold s7 s6 s5 s4 s3 s2 s1
  entry_read
  first | done | rfl

theorem s7_v23 (c : Dev nD) : (s7 m c (Proc.devRef .tc main_v23) : Vec Ideal S8x64 .f32) = s0 m c (Proc.devRef .tc main_v23) := by
  unfold s7 s6 s5 s4 s3 s2 s1
  entry_read
  first | done | rfl

theorem s7_v26 (c : Dev nD) : (s7 m c (Proc.devRef .tc main_v26) : Vec Ideal S512 .f32) = s0 m c (Proc.devRef .tc main_v26) := by
  unfold s7 s6 s5 s4 s3 s2 s1
  entry_read
  first | done | rfl

/-- The turned lanes of the first weights, placed in a head. -/
def padRope (x : FVec Ideal S1024x32 .f32) (z : IVec S_ 32) : Vec Ideal S1024x128 .f32 :=
  pad S1024x128 ![0, 64] ![0, 32] ![0, 0] x (sitofp (F := Ideal) .f32 z) pads_S1024x32_S1024x128_000_64320 h_S_

theorem s1_v30 (c : Dev nD) : (s1 m c (Proc.devRef .tc main_v30) : Vec Ideal S1024x128 .f32) = padRope (s0 m c (Proc.devRef .tc main_v28) : Vec Ideal S1024x32 .f32) (s0 m c (Proc.devRef .tc main_c) : IVec S_ 32) := by
  show StableHlo.after hostOps0_1 _ _ = _
  entry_read
  simp only [StableHlo.TRef.ofBuf_toBuf]
  first
  | done
  | rfl

/-- The first weights, with the turned lanes in a head of their own. -/
def wide (a : FVec Ideal S1024x384 .f32) (p : FVec Ideal S1024x128 .f32) (w : FVec Ideal S1024x1440 .f32) : Vec Ideal S1024x1536 .bf16 :=
  truncf .bf16 (concatenate S1024x1536 1 [⟨S1024x384, a⟩, ⟨S1024x128, p⟩, ⟨S1024x1024, extractStridedSlice S1024x1024 ![0, 416] w slices_S1024x1440_S1024x1024_0_416⟩] concatenates_S1024x384_S1024x128_S1024x1024_S1024x1536_d1) bitsLt_bf16_f32

set_option maxHeartbeats 2000000 in
theorem s2_v33 (c : Dev nD) : (s2 m c (Proc.devRef .tc main_v33) : Vec Ideal S1024x1536 .bf16) = wide (s1 m c (Proc.devRef .tc main_v29) : Vec Ideal S1024x384 .f32) (s1 m c (Proc.devRef .tc main_v30) : Vec Ideal S1024x128 .f32) (s1 m c (Proc.devRef .tc main_v18) : Vec Ideal S1024x1440 .f32) := by
  show StableHlo.after hostOps0_2 _ _ = _
  rw [StableHlo.after_cons, StableHlo.after_cons, StableHlo.after_cons, StableHlo.after_cons, StableHlo.after_nil]
  rw [StableHlo.nullary_result_ne, StableHlo.unary_result, StableHlo.nary_result]
  · rfl
  · decide

theorem s2_c_4 (c : Dev nD) : (s2 m c (Proc.devRef .tc main_c_4) : IVec S_ 32) = constantI S_ 32 0#32 := by
  show StableHlo.after hostOps0_2 _ _ = _
  entry_read
  skip
  first
  | done
  | rfl

theorem s8_v33 (c : Dev nD) : (s8 m c (Proc.devRef .tc main_v33) : Vec Ideal S1024x1536 .bf16) = s2 m c (Proc.devRef .tc main_v33) := by
  unfold s8 s7 s6 s5 s4 s3
  entry_read
  first | done | rfl

/-- The query weights with each head filled up. -/
def padQ (x : FVec Ideal S256x8x96 .f32) (z : IVec S_ 32) : Vec Ideal S256x8x128 .f32 :=
  pad S256x8x128 ![0, 0, 0] ![0, 0, 32] ![0, 0, 0] x (sitofp (F := Ideal) .f32 z) pads_S256x8x96_S256x8x128_000_000_0320 h_S_

theorem s3_v34 (c : Dev nD) : (s3 m c (Proc.devRef .tc main_v34) : Vec Ideal S256x8x128 .f32) = padQ (s2 m c (Proc.devRef .tc main_v20) : Vec Ideal S256x8x96 .f32) (s2 m c (Proc.devRef .tc main_c_4) : IVec S_ 32) := by
  show StableHlo.after hostOps0_3 _ _ = _
  entry_read
  simp only [StableHlo.TRef.ofBuf_toBuf]
  first
  | done
  | rfl

/-- … laid out by head. -/
def flatQ (x : FVec Ideal S256x8x128 .f32) : Vec Ideal S256x1024 .bf16 :=
  truncf .bf16 (shapeCast S256x1024 x shapeCasts_S256x8x128_S256x1024) bitsLt_bf16_f32

theorem s4_v36 (c : Dev nD) : (s4 m c (Proc.devRef .tc main_v36) : Vec Ideal S256x1024 .bf16) = flatQ (s3 m c (Proc.devRef .tc main_v34) : Vec Ideal S256x8x128 .f32) := by
  show StableHlo.after hostOps0_4 _ _ = _
  entry_read
  skip
  first
  | done
  | rfl

theorem s4_v37 (c : Dev nD) : (s4 m c (Proc.devRef .tc main_v37) : Vec Ideal S128x8x64 .f32) = extractStridedSlice S128x8x64 ![0, 0, 0] (s3 m c (Proc.devRef .tc main_v22) : Vec Ideal S128x8x128 .f32) slices_S128x8x128_S128x8x64_0_0_0 := by
  show StableHlo.after hostOps0_4 _ _ = _
  entry_read
  skip
  first
  | done
  | rfl

theorem s4_c_5 (c : Dev nD) : (s4 m c (Proc.devRef .tc main_c_5) : IVec S_ 32) = constantI S_ 32 0#32 := by
  show StableHlo.after hostOps0_4 _ _ = _
  entry_read
  skip
  first
  | done
  | rfl

theorem s8_v36 (c : Dev nD) : (s8 m c (Proc.devRef .tc main_v36) : Vec Ideal S256x1024 .bf16) = s4 m c (Proc.devRef .tc main_v36) := by
  unfold s8 s7 s6 s5
  entry_read
  first | done | rfl

/-- The key weights with each head filled up. -/
def padK (x : FVec Ideal S128x8x64 .f32) (z : IVec S_ 32) : Vec Ideal S128x8x128 .f32 :=
  pad S128x8x128 ![0, 0, 0] ![0, 0, 64] ![0, 0, 0] x (sitofp (F := Ideal) .f32 z) pads_S128x8x64_S128x8x128_000_000_0640 h_S_

theorem s5_v38 (c : Dev nD) : (s5 m c (Proc.devRef .tc main_v38) : Vec Ideal S128x8x128 .f32) = padK (s4 m c (Proc.devRef .tc main_v37) : Vec Ideal S128x8x64 .f32) (s4 m c (Proc.devRef .tc main_c_5) : IVec S_ 32) := by
  show StableHlo.after hostOps0_5 _ _ = _
  entry_read
  simp only [StableHlo.TRef.ofBuf_toBuf]
  first
  | done
  | rfl

/-- … laid out by head. -/
def flatK (x : FVec Ideal S128x8x128 .f32) : Vec Ideal S128x1024 .bf16 :=
  truncf .bf16 (shapeCast S128x1024 x shapeCasts_S128x8x128_S128x1024) bitsLt_bf16_f32

theorem s6_v40 (c : Dev nD) : (s6 m c (Proc.devRef .tc main_v40) : Vec Ideal S128x1024 .bf16) = flatK (s5 m c (Proc.devRef .tc main_v38) : Vec Ideal S128x8x128 .f32) := by
  show StableHlo.after hostOps0_6 _ _ = _
  entry_read
  skip
  first
  | done
  | rfl

/-- The value weights, transposed. -/
def flatV (x : FVec Ideal S128x8x128 .f32) : Vec Ideal S512x128 .bf16 :=
  truncf .bf16 (transpose S512x128 [1, 0] (shapeCast S128x512 (extractStridedSlice S128x8x64 ![0, 0, 64] x slices_S128x8x128_S128x8x64_0_0_64) shapeCasts_S128x8x64_S128x512) transposes_S128x512_S512x128_1_0) bitsLt_bf16_f32

theorem s6_v44 (c : Dev nD) : (s6 m c (Proc.devRef .tc main_v44) : Vec Ideal S512x128 .bf16) = flatV (s5 m c (Proc.devRef .tc main_v22) : Vec Ideal S128x8x128 .f32) := by
  show StableHlo.after hostOps0_6 _ _ = _
  entry_read
  skip
  first
  | done
  | rfl

theorem s6_v45 (c : Dev nD) : (s6 m c (Proc.devRef .tc main_v45) : IVec S512 32) = iotaInDim S512 32 0 := by
  show StableHlo.after hostOps0_6 _ _ = _
  entry_read
  skip
  first
  | done
  | rfl

theorem s6_c_6 (c : Dev nD) : (s6 m c (Proc.devRef .tc main_c_6) : IVec S_ 32) = constantI S_ 32 64#32 := by
  show StableHlo.after hostOps0_6 _ _ = _
  entry_read
  skip
  first
  | done
  | rfl

theorem s8_v40 (c : Dev nD) : (s8 m c (Proc.devRef .tc main_v40) : Vec Ideal S128x1024 .bf16) = s6 m c (Proc.devRef .tc main_v40) := by
  unfold s8 s7
  entry_read
  first | done | rfl

theorem s8_v44 (c : Dev nD) : (s8 m c (Proc.devRef .tc main_v44) : Vec Ideal S512x128 .bf16) = s6 m c (Proc.devRef .tc main_v44) := by
  unfold s8 s7
  entry_read
  first | done | rfl

set_option maxHeartbeats 2000000 in
theorem s7_v46 (c : Dev nD) : (s7 m c (Proc.devRef .tc main_v46) : IVec S512 32) = headOf (s6 m c (Proc.devRef .tc main_v45) : IVec S512 32) (s6 m c (Proc.devRef .tc main_c_6) : IVec S_ 32) := by
  show StableHlo.after hostOps0_7 _ _ = _
  entry_read
  simp only [StableHlo.TRef.ofBuf_toBuf]
  first
  | done
  | rfl

/-- One where two lanes are of one head. -/
def sameHead (h : IVec S512 32) : FVec Ideal S512x512 .bf16 :=
  uitofp (F := Ideal) .bf16 (cmpi .eq (broadcastInDim S512x512 ![0, 1] bcast_S512x1_S512x512_0_1 (broadcastInDim S512x1 ![0] bcast_S512_S512x1_0 h)) (broadcastInDim S512x512 ![0, 1] bcast_S1x512_S512x512_0_1 (broadcastInDim S1x512 ![1] bcast_S512_S1x512_1 h)))

theorem s8_v52 (c : Dev nD) : (s8 m c (Proc.devRef .tc main_v52) : Vec Ideal S512x512 .bf16) = sameHead (s7 m c (Proc.devRef .tc main_v46) : IVec S512 32) := by
  show StableHlo.after hostOps0_8 _ _ = _
  entry_read
  skip
  first
  | done
  | rfl

theorem s8_v54 (c : Dev nD) : (s8 m c (Proc.devRef .tc main_v54) : Vec Ideal S128x1024 .f32) = shapeCast S128x1024 (transpose S128x8x128 [1, 0, 2] (s7 m c (Proc.devRef .tc main_v24) : Vec Ideal S8x128x128 .f32) transposes_S8x128x128_S128x8x128_1_0_2) shapeCasts_S128x8x128_S128x1024 := by
  show StableHlo.after hostOps0_8 _ _ = _
  entry_read
  skip
  first
  | done
  | rfl

theorem s8_v57 (c : Dev nD) : (s8 m c (Proc.devRef .tc main_v57) : Vec Ideal S128x512 .f32) = shapeCast S128x512 (broadcastInDim S128x8x64 ![0, 1] bcast_S128x8_S128x8x64_0_1 (transpose S128x8 [1, 0] (s7 m c (Proc.devRef .tc main_v25) : Vec Ideal S8x128 .f32) transposes_S8x128_S128x8_1_0)) shapeCasts_S128x8x64_S128x512 := by
  show StableHlo.after hostOps0_8 _ _ = _
  entry_read
  skip
  first
  | done
  | rfl

theorem s8_v58 (c : Dev nD) : (s8 m c (Proc.devRef .tc main_v58) : Vec Ideal S1x1024 .f32) = shapeCast S1x1024 (s7 m c (Proc.devRef .tc main_v17) : Vec Ideal S1024 .f32) shapeCasts_S1024_S1x1024 := by
  show StableHlo.after hostOps0_8 _ _ = _
  entry_read
  skip
  first
  | done
  | rfl

theorem s8_v59 (c : Dev nD) : (s8 m c (Proc.devRef .tc main_v59) : Vec Ideal S1x256 .f32) = shapeCast S1x256 (s7 m c (Proc.devRef .tc main_v19) : Vec Ideal S256 .f32) shapeCasts_S256_S1x256 := by
  show StableHlo.after hostOps0_8 _ _ = _
  entry_read
  skip
  first
  | done
  | rfl

theorem s8_v60 (c : Dev nD) : (s8 m c (Proc.devRef .tc main_v60) : Vec Ideal S1x128 .f32) = shapeCast S1x128 (s7 m c (Proc.devRef .tc main_v21) : Vec Ideal S128 .f32) shapeCasts_S128_S1x128 := by
  show StableHlo.after hostOps0_8 _ _ = _
  entry_read
  skip
  first
  | done
  | rfl

theorem s8_v61 (c : Dev nD) : (s8 m c (Proc.devRef .tc main_v61) : Vec Ideal S1x512 .f32) = shapeCast S1x512 (s7 m c (Proc.devRef .tc main_v23) : Vec Ideal S8x64 .f32) shapeCasts_S8x64_S1x512 := by
  show StableHlo.after hostOps0_8 _ _ = _
  entry_read
  skip
  first
  | done
  | rfl

theorem s8_v62 (c : Dev nD) : (s8 m c (Proc.devRef .tc main_v62) : Vec Ideal S1x512 .f32) = shapeCast S1x512 (s7 m c (Proc.devRef .tc main_v26) : Vec Ideal S512 .f32) shapeCasts_S512_S1x512 := by
  show StableHlo.after hostOps0_8 _ _ = _
  entry_read
  skip
  first
  | done
  | rfl

end Cert.KernelIdeal3.Layer
-- ==== Proof.Reads3.lean ====
module

public import proofs.«01_k».proof.Proof.Gen.KernelIdeal3.Value
public import proofs.«01_k».proof.Proof.Host3
public import proofs.«01_k».proof.Proof.Ref3
public import Idealize.ShloMosaic.Lib.Pipeline.ValueKit
public import Idealize.ShloMosaic.Lib.WordCmp

@[expose] public section

set_option maxRecDepth 16384

noncomputable section

namespace Cert.KernelIdeal3.Layer

open Cert.KernelIdeal3 Cert.KernelIdeal3.Gen Cert.KernelIdeal3.Value Idealize.ShloMosaic Idealize.ShloMosaic.TcCoe Idealize.SL.Sem

variable (m : (ℓ : Loc nD τ sig) → Buf (Elt Ideal) ℓ)

theorem index_at : ∀ t : Fin cfg0.N, win0_0.index t = ![t.val, 0] ∧ win0_1.index t = ![0, t.val] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] :=
  (by decide +kernel : ∀ t : Fin grid0.N, _)

theorem index_out : ∀ t : Fin cfg0.N, win0_14.index t = ![t.val, 0] ∧ win0_15.index t = ![t.val, 0] ∧ win0_16.index t = ![0, t.val]
    ∧ win0_17.index t = ![t.val, 0] :=
  (by decide +kernel : ∀ t : Fin grid0.N, _)

/-- The row of the array that row `r` of block `t` is. -/
abbrev rowOf (t : Fin cfg0.N) (r : Fin 1024) : Fin 16384 := ⟨t.val * 1024 + r.val, by have := lt_of_lt_of_eq t.isLt (show cfg0.N = 16 from N_0); omega⟩

theorem read0 (c : Dev nD) (t : Fin cfg0.N) (r j : Fin 1024) :
    (iblk m c 0 t : Vec Ideal S1024x1024 .f32) (ix2 r j) = (Cert.ReferenceIdeal3.Layer.rows (m ((c : Thread nD τ).loc main_arg0)) (ix2 (rowOf t r) j) : EReal) := by
  have e : (win0_0.blk t).view.emb (ix2 r j) = ix2 (rowOf t r) j := by blk_ext [index_at t]
  show V m c main_v27 ((win0_0.blk t).view.emb (ix2 r j)) = _
  rw [e, V_eq, s8_v27, s0_v27]
  rfl

theorem arr1 (p : IVec S2x8192 32) (R : Fin 16384) (i : Fin 16) :
    (mulf (broadcastInDim S16x16384 ![0, 1] bcast_S16x1_S16x16384_0_1 (broadcastInDim S16x1 ![0] bcast_S16_S16x1_0 freqs)) (broadcastInDim S16x16384 ![0, 1] bcast_S1x16384_S16x16384_0_1 (shapeCast S1x16384 (sitofp (F := Ideal) .f32 p) shapeCasts_S2x8192_S1x16384)) : Vec Ideal S16x16384 .f32) (ix2 i R) = (Cert.ReferenceIdeal3.Layer.angles p (ix2 R i) : EReal) := by
  rw [Cert.ReferenceIdeal3.Layer.angles_at]
  pointwise [freqs]
  exact mul_comm _ _

theorem read1 (c : Dev nD) (t : Fin cfg0.N) (r : Fin 1024) (i : Fin 16) :
    (iblk m c 1 t : Vec Ideal S16x1024 .f32) (ix2 i r) = (Cert.ReferenceIdeal3.Layer.angles (m ((c : Thread nD τ).loc main_arg1)) (ix2 (rowOf t r) i) : EReal) := by
  have e : (win0_1.blk t).view.emb (ix2 i r) = ix2 i (rowOf t r) := by blk_ext [index_at t]
  show V m c main_v16 ((win0_1.blk t).view.emb (ix2 i r)) = _
  rw [e, V_eq, s8_v16, s0_v16]
  exact arr1 _ _ _

theorem arr2 (a : FVec Ideal S1x1024 .f32) (j : Fin 1024) :
    (shapeCast S1x1024 ((shapeCast S1024 a shapeCasts_S1x1024_S1024)) shapeCasts_S1024_S1x1024 : Vec Ideal S1x1024 .f32) (ix2 0 j) = (a (ix2 0 j) : EReal) := by
  pointwise

theorem read2 (c : Dev nD) (t : Fin cfg0.N) (j : Fin 1024) :
    (iblk m c 2 t : Vec Ideal S1x1024 .f32) (ix2 0 j) = ((m ((c : Thread nD τ).loc main_arg2)) (ix2 0 j) : EReal) := by
  have e : (win0_2.blk t).view.emb (ix2 0 j) = (ix2 0 j) := by blk_ext [index_at t]
  show V m c main_v58 ((win0_2.blk t).view.emb (ix2 0 j)) = _
  rw [e, V_eq, s8_v58, s7_v17, s0_v17]
  exact arr2 _ _

theorem arr3 (a : FVec Ideal S1x1024x1440 .f32) (r : Fin 1024) (j : Fin 1536) :
    (wide ((extractStridedSlice S1024x384 ![0, 0] (shapeCast S1024x1440 a shapeCasts_S1x1024x1440_S1024x1440) slices_S1024x1440_S1024x384_0_0)) (padRope (extractStridedSlice S1024x32 ![0, 384] (shapeCast S1024x1440 a shapeCasts_S1x1024x1440_S1024x1440) slices_S1024x1440_S1024x32_0_384) (constantI S_ 32 0#32)) ((shapeCast S1024x1440 a shapeCasts_S1x1024x1440_S1024x1440)) : Vec Ideal S1024x1536 .bf16) (ix2 r j) = (if h : j.val < 384 then a (ix3 0 r ⟨j.val, by omega⟩) else if h : j.val - 384 < 128 then (if h : 64 ≤ j.val - 384 ∧ j.val - 384 - 64 < 32 then a (ix3 0 r ⟨384 + (j.val - 384 - 64), by omega⟩) else 0) else a (ix3 0 r ⟨416 + (j.val - 384 - 128), by omega⟩) : EReal) := by
  pointwise [wide, padRope]
  rw [Cert.ReferenceIdeal3.Layer.sitofp_zero]

theorem read3 (c : Dev nD) (t : Fin cfg0.N) (r : Fin 1024) (j : Fin 1536) :
    (iblk m c 3 t : Vec Ideal S1024x1536 .bf16) (ix2 r j) = (if h : j.val < 384 then (m ((c : Thread nD τ).loc main_arg3)) (ix3 0 r ⟨j.val, by omega⟩) else if h : j.val - 384 < 128 then (if h : 64 ≤ j.val - 384 ∧ j.val - 384 - 64 < 32 then (m ((c : Thread nD τ).loc main_arg3)) (ix3 0 r ⟨384 + (j.val - 384 - 64), by omega⟩) else 0) else (m ((c : Thread nD τ).loc main_arg3)) (ix3 0 r ⟨416 + (j.val - 384 - 128), by omega⟩) : EReal) := by
  have e : (win0_3.blk t).view.emb (ix2 r j) = (ix2 r j) := by blk_ext [index_at t]
  show V m c main_v33 ((win0_3.blk t).view.emb (ix2 r j)) = _
  rw [e, V_eq, s8_v33, s2_v33, s1_v29, s1_v30, s1_v18, s0_v29, s0_v28, s0_c, s0_v18]
  exact arr3 _ _ _

theorem arr4 (a : FVec Ideal S1x256 .f32) (j : Fin 256) :
    (shapeCast S1x256 ((shapeCast S256 a shapeCasts_S1x256_S256)) shapeCasts_S256_S1x256 : Vec Ideal S1x256 .f32) (ix2 0 j) = (a (ix2 0 j) : EReal) := by
  pointwise

theorem read4 (c : Dev nD) (t : Fin cfg0.N) (j : Fin 256) :
    (iblk m c 4 t : Vec Ideal S1x256 .f32) (ix2 0 j) = ((m ((c : Thread nD τ).loc main_arg4)) (ix2 0 j) : EReal) := by
  have e : (win0_4.blk t).view.emb (ix2 0 j) = (ix2 0 j) := by blk_ext [index_at t]
  show V m c main_v59 ((win0_4.blk t).view.emb (ix2 0 j)) = _
  rw [e, V_eq, s8_v59, s7_v19, s0_v19]
  exact arr4 _ _

theorem arr5 (a : FVec Ideal S1x256x8x96 .f32) (r : Fin 256) (h : Fin 8) (j : Fin 128) :
    (flatQ (padQ ((shapeCast S256x8x96 a shapeCasts_S1x256x8x96_S256x8x96)) (constantI S_ 32 0#32)) : Vec Ideal S256x1024 .bf16) (ix2 r ⟨h.val * 128 + j.val, by omega⟩) = (if h96 : j.val < 96 then a (ix4 0 r h ⟨j.val, h96⟩) else 0 : EReal) := by
  pointwise [flatQ, padQ]
  rw [Cert.ReferenceIdeal3.Layer.sitofp_zero]

theorem read5 (c : Dev nD) (t : Fin cfg0.N) (r : Fin 256) (h : Fin 8) (j : Fin 128) :
    (iblk m c 5 t : Vec Ideal S256x1024 .bf16) (ix2 r ⟨h.val * 128 + j.val, by omega⟩) = (if h96 : j.val < 96 then (m ((c : Thread nD τ).loc main_arg5)) (ix4 0 r h ⟨j.val, h96⟩) else 0 : EReal) := by
  have e : (win0_5.blk t).view.emb (ix2 r ⟨h.val * 128 + j.val, by omega⟩) = (ix2 r ⟨h.val * 128 + j.val, by omega⟩) := by blk_ext [index_at t]
  show V m c main_v36 ((win0_5.blk t).view.emb (ix2 r ⟨h.val * 128 + j.val, by omega⟩)) = _
  rw [e, V_eq, s8_v36, s4_v36, s3_v34, s2_v20, s2_c_4, s0_v20]
  exact arr5 _ _ _ _

theorem arr6 (a : FVec Ideal S1x128 .f32) (j : Fin 128) :
    (shapeCast S1x128 ((shapeCast S128 a shapeCasts_S1x128_S128)) shapeCasts_S128_S1x128 : Vec Ideal S1x128 .f32) (ix2 0 j) = (a (ix2 0 j) : EReal) := by
  pointwise

theorem read6 (c : Dev nD) (t : Fin cfg0.N) (j : Fin 128) :
    (iblk m c 6 t : Vec Ideal S1x128 .f32) (ix2 0 j) = ((m ((c : Thread nD τ).loc main_arg6)) (ix2 0 j) : EReal) := by
  have e : (win0_6.blk t).view.emb (ix2 0 j) = (ix2 0 j) := by blk_ext [index_at t]
  show V m c main_v60 ((win0_6.blk t).view.emb (ix2 0 j)) = _
  rw [e, V_eq, s8_v60, s7_v21, s0_v21]
  exact arr6 _ _

theorem arr7 (a : FVec Ideal S1x128x8x128 .f32) (r : Fin 128) (h : Fin 8) (j : Fin 128) :
    (flatK (padK (extractStridedSlice S128x8x64 ![0, 0, 0] ((shapeCast S128x8x128 a shapeCasts_S1x128x8x128_S128x8x128)) slices_S128x8x128_S128x8x64_0_0_0) (constantI S_ 32 0#32)) : Vec Ideal S128x1024 .bf16) (ix2 r ⟨h.val * 128 + j.val, by omega⟩) = (if j.val < 64 then a (ix4 0 r h j) else 0 : EReal) := by
  pointwise [flatK, padK]
  rw [Cert.ReferenceIdeal3.Layer.sitofp_zero]
  split_ifs <;> rfl

theorem read7 (c : Dev nD) (t : Fin cfg0.N) (r : Fin 128) (h : Fin 8) (j : Fin 128) :
    (iblk m c 7 t : Vec Ideal S128x1024 .bf16) (ix2 r ⟨h.val * 128 + j.val, by omega⟩) = (if j.val < 64 then (m ((c : Thread nD τ).loc main_arg7)) (ix4 0 r h j) else 0 : EReal) := by
  have e : (win0_7.blk t).view.emb (ix2 r ⟨h.val * 128 + j.val, by omega⟩) = (ix2 r ⟨h.val * 128 + j.val, by omega⟩) := by blk_ext [index_at t]
  show V m c main_v40 ((win0_7.blk t).view.emb (ix2 r ⟨h.val * 128 + j.val, by omega⟩)) = _
  rw [e, V_eq, s8_v40, s6_v40, s5_v38, s4_v37, s4_c_5, s3_v22, s0_v22]
  exact arr7 _ _ _ _

theorem arr8 (a : FVec Ideal S1x128x8x128 .f32) (r : Fin 128) (h : Fin 8) (j : Fin 64) :
    (flatV ((shapeCast S128x8x128 a shapeCasts_S1x128x8x128_S128x8x128)) : Vec Ideal S512x128 .bf16) (ix2 ⟨h.val * 64 + j.val, by omega⟩ r) = (a (ix4 0 r h ⟨64 + j.val, by omega⟩) : EReal) := by
  pointwise [flatV]

theorem read8 (c : Dev nD) (t : Fin cfg0.N) (r : Fin 128) (h : Fin 8) (j : Fin 64) :
    (iblk m c 8 t : Vec Ideal S512x128 .bf16) (ix2 ⟨h.val * 64 + j.val, by omega⟩ r) = ((m ((c : Thread nD τ).loc main_arg7)) (ix4 0 r h ⟨64 + j.val, by omega⟩) : EReal) := by
  have e : (win0_8.blk t).view.emb (ix2 ⟨h.val * 64 + j.val, by omega⟩ r) = (ix2 ⟨h.val * 64 + j.val, by omega⟩ r) := by blk_ext [index_at t]
  show V m c main_v44 ((win0_8.blk t).view.emb (ix2 ⟨h.val * 64 + j.val, by omega⟩ r)) = _
  rw [e, V_eq, s8_v44, s6_v44, s5_v22, s0_v22]
  exact arr8 _ _ _ _

theorem arr9 (a : FVec Ideal S1x8x64 .f32) (h : Fin 8) (j : Fin 64) :
    (shapeCast S1x512 ((shapeCast S8x64 a shapeCasts_S1x8x64_S8x64)) shapeCasts_S8x64_S1x512 : Vec Ideal S1x512 .f32) (ix2 0 ⟨h.val * 64 + j.val, by omega⟩) = (a (ix3 0 h j) : EReal) := by
  pointwise

theorem read9 (c : Dev nD) (t : Fin cfg0.N) (h : Fin 8) (j : Fin 64) :
    (iblk m c 9 t : Vec Ideal S1x512 .f32) (ix2 0 ⟨h.val * 64 + j.val, by omega⟩) = ((m ((c : Thread nD τ).loc main_arg8)) (ix3 0 h j) : EReal) := by
  have e : (win0_9.blk t).view.emb (ix2 0 ⟨h.val * 64 + j.val, by omega⟩) = (ix2 0 ⟨h.val * 64 + j.val, by omega⟩) := by blk_ext [index_at t]
  show V m c main_v61 ((win0_9.blk t).view.emb (ix2 0 ⟨h.val * 64 + j.val, by omega⟩)) = _
  rw [e, V_eq, s8_v61, s7_v23, s0_v23]
  exact arr9 _ _ _

/-- The host's head of a lane is the lane over sixty-four. -/
theorem headWord : ∀ i : Fin 512, (Scalar.select
          (IntOp.andi
            (IntOp.cmpi CmpIPredicate.ne
              (if BitVec.ofNat 32 i.val = 0 then (0 : BitVec 32) else if (BitVec.ofNat 32 i.val).msb = true then -1 else 1)
              (if 64#32 = 0 then (0 : BitVec 32) else if (64#32).msb = true then -1 else 1))
            (IntOp.cmpi CmpIPredicate.ne (IntOp.remsi ArithUnit.host (BitVec.ofNat 32 i.val) 64#32) 0#32))
          (IntOp.subi (IntOp.divsi ArithUnit.host (BitVec.ofNat 32 i.val) 64#32) 1#32)
          (IntOp.divsi ArithUnit.host (BitVec.ofNat 32 i.val) 64#32) : BitVec 32) = BitVec.ofNat 32 (i.val / 64) := by decide +kernel

/-- Two head numbers, compared and read as a number. -/
theorem headBit (a b : ℕ) (ha : a < 8) (hb : b < 8) :
    (FloatOps.uitofp (F := Ideal) .bf16 (IntOp.cmpi .eq (BitVec.ofNat 32 a) (BitVec.ofNat 32 b)) : EReal) = if a = b then 1 else 0 := by
  have e : ∀ a b : Fin 8, IntOp.cmpi .eq (BitVec.ofNat 32 a.val) (BitVec.ofNat 32 b.val) = if a.val = b.val then 1#1 else 0#1 := by decide +kernel
  rw [e ⟨a, ha⟩ ⟨b, hb⟩]
  show (FloatOps.uitofp (F := Ideal) .bf16 (if a = b then 1#1 else 0#1) : EReal) = _
  split_ifs
  · show (((1#1 : BitVec 1).toNat : ℝ) : EReal) = 1
    simp
  · show (((0#1 : BitVec 1).toNat : ℝ) : EReal) = 0
    simp

theorem arr10 (i j : Fin 512) :
    (sameHead (headOf (iotaInDim S512 32 0) (constantI S_ 32 64#32)) : Vec Ideal S512x512 .bf16) (ix2 i j) = (if i.val / 64 = j.val / 64 then 1 else 0 : EReal) := by
  pointwise [sameHead, headOf]
  exact (congrArg₂ (fun a b => (FloatOps.uitofp (F := Ideal) .bf16 (IntOp.cmpi .eq a b) : EReal)) (headWord i) (headWord j)).trans (headBit _ _ (by omega) (by omega))

theorem read10 (c : Dev nD) (t : Fin cfg0.N) (i j : Fin 512) :
    (iblk m c 10 t : Vec Ideal S512x512 .bf16) (ix2 i j) = (if i.val / 64 = j.val / 64 then 1 else 0 : EReal) := by
  have e : (win0_10.blk t).view.emb (ix2 i j) = (ix2 i j) := by blk_ext [index_at t]
  show V m c main_v52 ((win0_10.blk t).view.emb (ix2 i j)) = _
  rw [e, V_eq, s8_v52, s7_v46, s6_v45, s6_c_6]
  exact arr10 _ _

theorem arr11 (a : FVec Ideal S1x8x128x128 .f32) (r : Fin 128) (h : Fin 8) (j : Fin 128) :
    (shapeCast S128x1024 (transpose S128x8x128 [1, 0, 2] ((shapeCast S8x128x128 a shapeCasts_S1x8x128x128_S8x128x128)) transposes_S8x128x128_S128x8x128_1_0_2) shapeCasts_S128x8x128_S128x1024 : Vec Ideal S128x1024 .f32) (ix2 r ⟨h.val * 128 + j.val, by omega⟩) = (a (ix4 0 h r j) : EReal) := by
  pointwise

theorem read11 (c : Dev nD) (t : Fin cfg0.N) (r : Fin 128) (h : Fin 8) (j : Fin 128) :
    (iblk m c 11 t : Vec Ideal S128x1024 .f32) (ix2 r ⟨h.val * 128 + j.val, by omega⟩) = ((m ((c : Thread nD τ).loc main_arg9)) (ix4 0 h r j) : EReal) := by
  have e : (win0_11.blk t).view.emb (ix2 r ⟨h.val * 128 + j.val, by omega⟩) = (ix2 r ⟨h.val * 128 + j.val, by omega⟩) := by blk_ext [index_at t]
  show V m c main_v54 ((win0_11.blk t).view.emb (ix2 r ⟨h.val * 128 + j.val, by omega⟩)) = _
  rw [e, V_eq, s8_v54, s7_v24, s0_v24]
  exact arr11 _ _ _ _

theorem arr12 (a : FVec Ideal S1x8x128 .f32) (r : Fin 128) (h : Fin 8) (j : Fin 64) :
    (shapeCast S128x512 (broadcastInDim S128x8x64 ![0, 1] bcast_S128x8_S128x8x64_0_1 (transpose S128x8 [1, 0] ((shapeCast S8x128 a shapeCasts_S1x8x128_S8x128)) transposes_S8x128_S128x8_1_0)) shapeCasts_S128x8x64_S128x512 : Vec Ideal S128x512 .f32) (ix2 r ⟨h.val * 64 + j.val, by omega⟩) = (a (ix3 0 h r) : EReal) := by
  pointwise

theorem read12 (c : Dev nD) (t : Fin cfg0.N) (r : Fin 128) (h : Fin 8) (j : Fin 64) :
    (iblk m c 12 t : Vec Ideal S128x512 .f32) (ix2 r ⟨h.val * 64 + j.val, by omega⟩) = ((m ((c : Thread nD τ).loc main_arg10)) (ix3 0 h r) : EReal) := by
  have e : (win0_12.blk t).view.emb (ix2 r ⟨h.val * 64 + j.val, by omega⟩) = (ix2 r ⟨h.val * 64 + j.val, by omega⟩) := by blk_ext [index_at t]
  show V m c main_v57 ((win0_12.blk t).view.emb (ix2 r ⟨h.val * 64 + j.val, by omega⟩)) = _
  rw [e, V_eq, s8_v57, s7_v25, s0_v25]
  exact arr12 _ _ _ _

theorem arr13 (a : FVec Ideal S1x512 .f32) (j : Fin 512) :
    (shapeCast S1x512 ((shapeCast S512 a shapeCasts_S1x512_S512)) shapeCasts_S512_S1x512 : Vec Ideal S1x512 .f32) (ix2 0 j) = (a (ix2 0 j) : EReal) := by
  pointwise

theorem read13 (c : Dev nD) (t : Fin cfg0.N) (j : Fin 512) :
    (iblk m c 13 t : Vec Ideal S1x512 .f32) (ix2 0 j) = ((m ((c : Thread nD τ).loc main_arg11)) (ix2 0 j) : EReal) := by
  have e : (win0_13.blk t).view.emb (ix2 0 j) = (ix2 0 j) := by blk_ext [index_at t]
  show V m c main_v62 ((win0_13.blk t).view.emb (ix2 0 j)) = _
  rw [e, V_eq, s8_v62, s7_v26, s0_v26]
  exact arr13 _ _

end Cert.KernelIdeal3.Layer
-- ==== Proof.Qkv3.lean ====
module

public import proofs.«01_k».proof.Proof.Gen.KernelIdeal3.Value
public import proofs.«01_k».proof.Proof.Proj3
public import proofs.«01_k».proof.Proof.Reads3
public import Idealize.ShloMosaic.Lib.Pipeline.ValueKit
public import Idealize.ShloMosaic.Lib.WordCmp

@[expose] public section

set_option maxRecDepth 16384

noncomputable section

namespace Cert.KernelIdeal3.Layer

open Cert.KernelIdeal3 Cert.KernelIdeal3.Gen Cert.KernelIdeal3.Value Idealize.ShloMosaic Idealize.ShloMosaic.TcCoe Idealize.SL.Sem
open Cert.ReferenceIdeal3.Layer (zOf outQ outK outV outS angles rows projected queries pairs curved gated turnedQ turnedK valuesT normed root curve projected_at queries_at pairs_at curved_at normed_at valuesT_at gated_at
  turnedQ_plain turnedQ_first turnedQ_second turnedQ_rest turnedK_plain turnedK_first turnedK_second turnedK_rest)

/-- One head's 128 lanes of a block. -/
def headSlice (q : FVec Ideal S1024x1024 .f32) (h : Fin 8) : FVec Ideal S1024x128 .f32 := fun y => q (ix2 (y 0) ⟨h.val * 128 + (y 1).val, by have := h.isLt; have := (y 1).isLt; simp at this; omega⟩)

theorem slice_head (q : FVec Ideal S1024x1024 .f32) (h : Fin 8) (o : ℕ) (ho : o = h.val * 128) (hs : S1024x1024.Slices ![0, o] S1024x128) :
    extractStridedSlice S1024x128 ![0, o] q hs = headSlice q h := by
  subst ho
  funext y
  pointwise [headSlice]

/-- What each lane of a block of heads holds when each head went through one function. -/
def byHead (q : FVec Ideal S1024x1024 .f32) (f : FVec Ideal S1024x128 .f32 → FVec Ideal S1024x128 .bf16) : FVec Ideal S1024x1024 .bf16 :=
  fun y => f (headSlice q ⟨(y 1).val / 128, by have := (y 1).isLt; simp at this; omega⟩) (ix2 (y 0) ⟨(y 1).val % 128, by omega⟩)

theorem piece_head (q : FVec Ideal S1024x1024 .f32) (f : FVec Ideal S1024x128 .f32 → FVec Ideal S1024x128 .bf16) (h : Fin 8) (o : ℕ) (ho : o = h.val * 128)
    (hs : S1024x1024.Slices ![0, o] S1024x128) (inb) (x : S1024x128.Idx) :
    (f (extractStridedSlice S1024x128 ![0, o] q hs) x : EReal) = byHead q f ((Rect.unit (s := S1024x1024) ![0, o] S1024x128.size inb).emb x) := by
  rw [slice_head q h o ho]
  subst ho
  have e0 : ((Rect.unit (s := S1024x1024) ![0, h.val * 128] S1024x128.size inb).emb x) = ix2 (x 0) ⟨h.val * 128 + (x 1).val, by have := h.isLt; have := (x 1).isLt; simp at this; omega⟩ := by
    funext a
    refine Fin.ext ((Rect.idx_unit_val _ _ inb x a).trans ?_)
    match a with
    | ⟨0, _⟩ => exact Nat.zero_add _
    | ⟨1, _⟩ => rfl
  rw [e0]
  unfold byHead
  have hx : (x 1).val < 128 := (x 1).isLt
  have e1 : (h.val * 128 + (x 1).val) / 128 = h.val := by omega
  have e2 : (h.val * 128 + (x 1).val) % 128 = (x 1).val := by omega
  have e3 : x = ix2 (x 0) (x 1) := by
    funext a
    match a with
    | ⟨0, _⟩ => rfl
    | ⟨1, _⟩ => rfl
  show f (headSlice q h) x = f (headSlice q ⟨(h.val * 128 + (x 1).val) / 128, _⟩) (ix2 (x 0) ⟨(h.val * 128 + (x 1).val) % 128, _⟩)
  simp only [e1, e2]
  exact congrArg _ e3

/-- The queries' way of one head. -/
def fQ (x1 : Vec Ideal S16x1024 .f32) (v : FVec Ideal S1024x128 .f32) : FVec Ideal S1024x128 .bf16 := scaledTurn v (k0_pay4 x1) (k0_pay6 x1) k0_pay5

/-- The keys' way of one head. -/
def fK (z : FVec Ideal S1024x1536 .f32) (x1 : Vec Ideal S16x1024 .f32) (v : FVec Ideal S1024x128 .f32) : FVec Ideal S1024x128 .bf16 :=
  truncf .bf16 (addf v (turn (extractStridedSlice S1024x128 ![0, 384] z slices_S1024x1536_o0_384_S1024x128) (k0_pay4 x1) (k0_pay6 x1) k0_pay5)) bitsLt_bf16_f32

theorem payQ0 (x1 : Vec Ideal S16x1024 .f32) (v : FVec Ideal S1024x256 .f32) (x4 : Vec Ideal S1x256 .f32) (x5 : Vec Ideal S256x1024 .bf16) :
    k0_pay9 (k0_pay4 x1) k0_pay5 (k0_pay6 x1) v x4 x5 = fQ x1 (extractStridedSlice S1024x128 ![0, 0] (k0_pay8 v x4 x5) slices_S1024x1024_o0_0_S1024x128) := rfl

theorem payQ1 (x1 : Vec Ideal S16x1024 .f32) (v : FVec Ideal S1024x256 .f32) (x4 : Vec Ideal S1x256 .f32) (x5 : Vec Ideal S256x1024 .bf16) :
    k0_pay10 (k0_pay4 x1) k0_pay5 (k0_pay6 x1) v x4 x5 = fQ x1 (extractStridedSlice S1024x128 ![0, 128] (k0_pay8 v x4 x5) slices_S1024x1024_o0_128_S1024x128) := rfl

theorem payQ2 (x1 : Vec Ideal S16x1024 .f32) (v : FVec Ideal S1024x256 .f32) (x4 : Vec Ideal S1x256 .f32) (x5 : Vec Ideal S256x1024 .bf16) :
    k0_pay12 (k0_pay4 x1) k0_pay5 (k0_pay6 x1) (k0_pay11 v x4 x5) 112#32 = fQ x1 (extractStridedSlice S1024x128 ![0, 256] (k0_pay8 v x4 x5) slices_S1024x1024_o0_256_S1024x128) := rfl

theorem payQ3 (x1 : Vec Ideal S16x1024 .f32) (q : FVec Ideal S1024x1024 .f32) :
    k0_pay13 (k0_pay4 x1) k0_pay5 (k0_pay6 x1) q = fQ x1 (extractStridedSlice S1024x128 ![0, 384] q slices_S1024x1024_o0_384_S1024x128) := rfl

theorem payQ4 (x1 : Vec Ideal S16x1024 .f32) (q : FVec Ideal S1024x1024 .f32) :
    k0_pay14 (k0_pay4 x1) k0_pay5 (k0_pay6 x1) q = fQ x1 (extractStridedSlice S1024x128 ![0, 512] q slices_S1024x1024_o0_512_S1024x128) := rfl

theorem payQ5 (x1 : Vec Ideal S16x1024 .f32) (q : FVec Ideal S1024x1024 .f32) :
    k0_pay17 (k0_pay15 (k0_pay4 x1) k0_pay5 (k0_pay6 x1) q) k0_pay16 = fQ x1 (extractStridedSlice S1024x128 ![0, 640] q slices_S1024x1024_o0_640_S1024x128) := rfl

theorem payQ6 (x1 : Vec Ideal S16x1024 .f32) (q : FVec Ideal S1024x1024 .f32) :
    k0_pay18 (k0_pay4 x1) k0_pay5 (k0_pay6 x1) q = fQ x1 (extractStridedSlice S1024x128 ![0, 768] q slices_S1024x1024_o0_768_S1024x128) := rfl

theorem payQ7 (x1 : Vec Ideal S16x1024 .f32) (q : FVec Ideal S1024x1024 .f32) :
    k0_pay19 (k0_pay4 x1) k0_pay5 (k0_pay6 x1) q = fQ x1 (extractStridedSlice S1024x128 ![0, 896] q slices_S1024x1024_o0_896_S1024x128) := rfl

theorem payK0 (z : FVec Ideal S1024x1536 .f32) (x1 : Vec Ideal S16x1024 .f32) (v : FVec Ideal S1024x128 .f32) (x7 : Vec Ideal S128x1024 .bf16) :
    k0_pay24 z (k0_pay4 x1) k0_pay5 (k0_pay6 x1) v x7 = fK z x1 (extractStridedSlice S1024x128 ![0, 0] (k0_pay22 v x7) slices_S1024x1024_o0_0_S1024x128) := rfl

theorem payK1 (z : FVec Ideal S1024x1536 .f32) (x1 : Vec Ideal S16x1024 .f32) (v : FVec Ideal S1024x128 .f32) (x7 : Vec Ideal S128x1024 .bf16) :
    k0_pay25 z (k0_pay4 x1) k0_pay5 (k0_pay6 x1) v x7 = fK z x1 (extractStridedSlice S1024x128 ![0, 128] (k0_pay22 v x7) slices_S1024x1024_o0_128_S1024x128) := rfl

theorem payK2 (z : FVec Ideal S1024x1536 .f32) (x1 : Vec Ideal S16x1024 .f32) (v : FVec Ideal S1024x128 .f32) (x7 : Vec Ideal S128x1024 .bf16) :
    k0_pay26 z (k0_pay4 x1) k0_pay5 (k0_pay6 x1) v x7 = fK z x1 (extractStridedSlice S1024x128 ![0, 256] (k0_pay22 v x7) slices_S1024x1024_o0_256_S1024x128) := rfl

theorem payK3 (z : FVec Ideal S1024x1536 .f32) (x1 : Vec Ideal S16x1024 .f32) (v : FVec Ideal S1024x128 .f32) (x7 : Vec Ideal S128x1024 .bf16) :
    k0_pay27 z (k0_pay4 x1) k0_pay5 (k0_pay6 x1) v x7 = fK z x1 (extractStridedSlice S1024x128 ![0, 384] (k0_pay22 v x7) slices_S1024x1024_o0_384_S1024x128) := rfl

theorem payK4 (z : FVec Ideal S1024x1536 .f32) (x1 : Vec Ideal S16x1024 .f32) (v : FVec Ideal S1024x128 .f32) (x7 : Vec Ideal S128x1024 .bf16) :
    k0_pay28 z (k0_pay4 x1) k0_pay5 (k0_pay6 x1) v x7 = fK z x1 (extractStridedSlice S1024x128 ![0, 512] (k0_pay22 v x7) slices_S1024x1024_o0_512_S1024x128) := rfl

theorem payK5 (z : FVec Ideal S1024x1536 .f32) (x1 : Vec Ideal S16x1024 .f32) (v : FVec Ideal S1024x128 .f32) (x7 : Vec Ideal S128x1024 .bf16) :
    k0_pay29 z (k0_pay4 x1) k0_pay5 (k0_pay6 x1) v x7 = fK z x1 (extractStridedSlice S1024x128 ![0, 640] (k0_pay22 v x7) slices_S1024x1024_o0_640_S1024x128) := rfl

theorem payK6 (z : FVec Ideal S1024x1536 .f32) (x1 : Vec Ideal S16x1024 .f32) (v : FVec Ideal S1024x128 .f32) (x7 : Vec Ideal S128x1024 .bf16) :
    k0_pay31 (k0_pay30 z (k0_pay4 x1) k0_pay5 (k0_pay6 x1) v x7) = fK z x1 (extractStridedSlice S1024x128 ![0, 768] (k0_pay22 v x7) slices_S1024x1024_o0_768_S1024x128) := rfl

theorem payK7 (z : FVec Ideal S1024x1536 .f32) (x1 : Vec Ideal S16x1024 .f32) (v : FVec Ideal S1024x128 .f32) (x7 : Vec Ideal S128x1024 .bf16) :
    k0_pay32 (k0_pay22 v x7) (k0_pay23 z (k0_pay4 x1) k0_pay5 (k0_pay6 x1)) = fK z x1 (extractStridedSlice S1024x128 ![0, 896] (k0_pay22 v x7) slices_S1024x1024_o0_896_S1024x128) := rfl

theorem out14_at (x0 : Vec Ideal S1024x1024 .f32) (x1 : Vec Ideal S16x1024 .f32) (x2 : Vec Ideal S1x1024 .f32) (x3 : Vec Ideal S1024x1536 .bf16) (x4 : Vec Ideal S1x256 .f32) (x5 : Vec Ideal S256x1024 .bf16) (x6 : Vec Ideal S1x128 .f32) (x7 : Vec Ideal S128x1024 .bf16) (x8 : Vec Ideal S512x128 .bf16) (x9 : Vec Ideal S1x512 .f32) (x10 : Vec Ideal S512x512 .bf16) (x11 : Vec Ideal S128x1024 .f32) (x12 : Vec Ideal S128x512 .f32) (x13 : Vec Ideal S1x512 .f32) (y : S1024x1024.Idx) :
    (out0_14 x0 x1 x2 x3 x4 x5 x6 x7 x8 x9 x10 x11 x12 x13 y : EReal)
      = byHead (k0_pay8 (k0_pay7 x0 x2 x3) x4 x5) (fQ x1) y := by
  unfold_out out0_14
  have ld0 : View.ld x0 r0_0 = x0 := View.ld_unit_lit _ _ (by decide)
  have ld1 : View.ld x1 r0_3 = x1 := View.ld_unit_lit _ _ (by decide)
  have ld2 : View.ld x2 r0_1 = x2 := View.ld_unit_lit _ _ (by decide)
  have ld3 : View.ld x3 r0_2 = x3 := View.ld_unit_lit _ _ (by decide)
  have ld4 : View.ld x4 r0_4 = x4 := View.ld_unit_lit _ _ (by decide)
  have ld5 : View.ld x5 r0_5 = x5 := View.ld_unit_lit _ _ (by decide)
  rw [ld0, ld1, ld2, ld3, ld4, ld5]
  refine View.canon_apply_of_pieces (Val := Elt Ideal) (byHead (k0_pay8 (k0_pay7 x0 x2 x3) x4 x5) (fQ x1)) _
    (List.forall_mem_cons.2 ⟨fun x => ?_, List.forall_mem_cons.2 ⟨fun x => ?_, List.forall_mem_cons.2 ⟨fun x => ?_, List.forall_mem_cons.2 ⟨fun x => ?_,
      List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩⟩⟩⟩⟩) y (cover0_14 _ _ _ _ _ _ _ _ y)
  · exact (congrFun (payQ7 _ _) x).trans (piece_head (k0_pay8 (k0_pay7 x0 x2 x3) x4 x5) (fQ x1) 7 896 rfl slices_S1024x1024_o0_896_S1024x128 inb_S1024x1024_S1024x128_0_896 x)
  · exact (congrFun (payQ6 _ _) x).trans (piece_head (k0_pay8 (k0_pay7 x0 x2 x3) x4 x5) (fQ x1) 6 768 rfl slices_S1024x1024_o0_768_S1024x128 inb_S1024x1024_S1024x128_0_768 x)
  · exact (congrFun (payQ5 _ _) x).trans (piece_head (k0_pay8 (k0_pay7 x0 x2 x3) x4 x5) (fQ x1) 5 640 rfl slices_S1024x1024_o0_640_S1024x128 inb_S1024x1024_S1024x128_0_640 x)
  · exact (congrFun (payQ4 _ _) x).trans (piece_head (k0_pay8 (k0_pay7 x0 x2 x3) x4 x5) (fQ x1) 4 512 rfl slices_S1024x1024_o0_512_S1024x128 inb_S1024x1024_S1024x128_0_512 x)
  · exact (congrFun (payQ3 _ _) x).trans (piece_head (k0_pay8 (k0_pay7 x0 x2 x3) x4 x5) (fQ x1) 3 384 rfl slices_S1024x1024_o0_384_S1024x128 inb_S1024x1024_S1024x128_0_384 x)
  · exact (congrFun (payQ2 _ _ _ _) x).trans (piece_head (k0_pay8 (k0_pay7 x0 x2 x3) x4 x5) (fQ x1) 2 256 rfl slices_S1024x1024_o0_256_S1024x128 inb_S1024x1024_S1024x128_0_256 x)
  · exact (congrFun (payQ1 _ _ _ _) x).trans (piece_head (k0_pay8 (k0_pay7 x0 x2 x3) x4 x5) (fQ x1) 1 128 rfl slices_S1024x1024_o0_128_S1024x128 inb_S1024x1024_S1024x128_0_128 x)
  · exact (congrFun (payQ0 _ _ _ _) x).trans (piece_head (k0_pay8 (k0_pay7 x0 x2 x3) x4 x5) (fQ x1) 0 0 rfl slices_S1024x1024_o0_0_S1024x128 inb_S1024x1024_S1024x128_0_0 x)

theorem out15_at (x0 : Vec Ideal S1024x1024 .f32) (x1 : Vec Ideal S16x1024 .f32) (x2 : Vec Ideal S1x1024 .f32) (x3 : Vec Ideal S1024x1536 .bf16) (x4 : Vec Ideal S1x256 .f32) (x5 : Vec Ideal S256x1024 .bf16) (x6 : Vec Ideal S1x128 .f32) (x7 : Vec Ideal S128x1024 .bf16) (x8 : Vec Ideal S512x128 .bf16) (x9 : Vec Ideal S1x512 .f32) (x10 : Vec Ideal S512x512 .bf16) (x11 : Vec Ideal S128x1024 .f32) (x12 : Vec Ideal S128x512 .f32) (x13 : Vec Ideal S1x512 .f32) (y : S1024x1024.Idx) :
    (out0_15 x0 x1 x2 x3 x4 x5 x6 x7 x8 x9 x10 x11 x12 x13 y : EReal)
      = byHead (k0_pay22 (k0_pay20 (k0_pay2 x0 x2 x3) x6) x7) (fK (k0_pay2 x0 x2 x3) x1) y := by
  unfold_out out0_15
  have ld0 : View.ld x0 r0_0 = x0 := View.ld_unit_lit _ _ (by decide)
  have ld1 : View.ld x1 r0_3 = x1 := View.ld_unit_lit _ _ (by decide)
  have ld2 : View.ld x2 r0_1 = x2 := View.ld_unit_lit _ _ (by decide)
  have ld3 : View.ld x3 r0_2 = x3 := View.ld_unit_lit _ _ (by decide)
  have ld6 : View.ld x6 r0_14 = x6 := View.ld_unit_lit _ _ (by decide)
  have ld7 : View.ld x7 r0_15 = x7 := View.ld_unit_lit _ _ (by decide)
  rw [ld0, ld1, ld2, ld3, ld6, ld7]
  refine View.canon_apply_of_pieces (Val := Elt Ideal) (byHead (k0_pay22 (k0_pay20 (k0_pay2 x0 x2 x3) x6) x7) (fK (k0_pay2 x0 x2 x3) x1)) _
    (List.forall_mem_cons.2 ⟨fun x => ?_, List.forall_mem_cons.2 ⟨fun x => ?_, List.forall_mem_cons.2 ⟨fun x => ?_, List.forall_mem_cons.2 ⟨fun x => ?_,
      List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩⟩⟩⟩⟩) y (cover0_15 _ _ _ _ _ _ _ _ y)
  · exact (congrFun (payK7 _ _ _ _) x).trans (piece_head (k0_pay22 (k0_pay20 (k0_pay2 x0 x2 x3) x6) x7) (fK (k0_pay2 x0 x2 x3) x1) 7 896 rfl slices_S1024x1024_o0_896_S1024x128 inb_S1024x1024_S1024x128_0_896 x)
  · exact (congrFun (payK6 _ _ _ _) x).trans (piece_head (k0_pay22 (k0_pay20 (k0_pay2 x0 x2 x3) x6) x7) (fK (k0_pay2 x0 x2 x3) x1) 6 768 rfl slices_S1024x1024_o0_768_S1024x128 inb_S1024x1024_S1024x128_0_768 x)
  · exact (congrFun (payK5 _ _ _ _) x).trans (piece_head (k0_pay22 (k0_pay20 (k0_pay2 x0 x2 x3) x6) x7) (fK (k0_pay2 x0 x2 x3) x1) 5 640 rfl slices_S1024x1024_o0_640_S1024x128 inb_S1024x1024_S1024x128_0_640 x)
  · exact (congrFun (payK4 _ _ _ _) x).trans (piece_head (k0_pay22 (k0_pay20 (k0_pay2 x0 x2 x3) x6) x7) (fK (k0_pay2 x0 x2 x3) x1) 4 512 rfl slices_S1024x1024_o0_512_S1024x128 inb_S1024x1024_S1024x128_0_512 x)
  · exact (congrFun (payK3 _ _ _ _) x).trans (piece_head (k0_pay22 (k0_pay20 (k0_pay2 x0 x2 x3) x6) x7) (fK (k0_pay2 x0 x2 x3) x1) 3 384 rfl slices_S1024x1024_o0_384_S1024x128 inb_S1024x1024_S1024x128_0_384 x)
  · exact (congrFun (payK2 _ _ _ _) x).trans (piece_head (k0_pay22 (k0_pay20 (k0_pay2 x0 x2 x3) x6) x7) (fK (k0_pay2 x0 x2 x3) x1) 2 256 rfl slices_S1024x1024_o0_256_S1024x128 inb_S1024x1024_S1024x128_0_256 x)
  · exact (congrFun (payK1 _ _ _ _) x).trans (piece_head (k0_pay22 (k0_pay20 (k0_pay2 x0 x2 x3) x6) x7) (fK (k0_pay2 x0 x2 x3) x1) 1 128 rfl slices_S1024x1024_o0_128_S1024x128 inb_S1024x1024_S1024x128_0_128 x)
  · exact (congrFun (payK0 _ _ _ _) x).trans (piece_head (k0_pay22 (k0_pay20 (k0_pay2 x0 x2 x3) x6) x7) (fK (k0_pay2 x0 x2 x3) x1) 0 0 rfl slices_S1024x1024_o0_0_S1024x128 inb_S1024x1024_S1024x128_0_0 x)

theorem out16_at (x0 : Vec Ideal S1024x1024 .f32) (x1 : Vec Ideal S16x1024 .f32) (x2 : Vec Ideal S1x1024 .f32) (x3 : Vec Ideal S1024x1536 .bf16) (x4 : Vec Ideal S1x256 .f32) (x5 : Vec Ideal S256x1024 .bf16) (x6 : Vec Ideal S1x128 .f32) (x7 : Vec Ideal S128x1024 .bf16) (x8 : Vec Ideal S512x128 .bf16) (x9 : Vec Ideal S1x512 .f32) (x10 : Vec Ideal S512x512 .bf16) (x11 : Vec Ideal S128x1024 .f32) (x12 : Vec Ideal S128x512 .f32) (x13 : Vec Ideal S1x512 .f32) :
    out0_16 x0 x1 x2 x3 x4 x5 x6 x7 x8 x9 x10 x11 x12 x13
      = k0_pay33 (k0_pay21 (k0_pay20 (k0_pay2 x0 x2 x3) x6)) x8 := by
  unfold_out out0_16
  have ld0 : View.ld x0 r0_0 = x0 := View.ld_unit_lit _ _ (by decide)
  have ld2 : View.ld x2 r0_1 = x2 := View.ld_unit_lit _ _ (by decide)
  have ld3 : View.ld x3 r0_2 = x3 := View.ld_unit_lit _ _ (by decide)
  have ld6 : View.ld x6 r0_14 = x6 := View.ld_unit_lit _ _ (by decide)
  have ld8 : View.ld x8 r0_16 = x8 := View.ld_unit_lit _ _ (by decide)
  rw [ld0, ld2, ld3, ld6, ld8]
  exact View.canon_cons_unit_lit _ _ _ (by decide)

theorem byHead_at (q : FVec Ideal S1024x1024 .f32) (f : FVec Ideal S1024x128 .f32 → FVec Ideal S1024x128 .bf16) (r : Fin 1024) (h : Fin 8) (l : Fin 128) :
    (byHead q f (ix2 r ⟨h.val * 128 + l.val, by omega⟩) : EReal) = f (headSlice q h) (ix2 r l) := by
  have e1 : (h.val * 128 + l.val) / 128 = h.val := by omega
  have e2 : (h.val * 128 + l.val) % 128 = l.val := by omega
  show f (headSlice q ⟨(h.val * 128 + l.val) / 128, _⟩) (ix2 r ⟨(h.val * 128 + l.val) % 128, _⟩) = _
  simp only [e1, e2]

/-- An entry by its head and lane. -/
theorem byLanes {p : Fin 1024 → Prop} (hp : ∀ (h : Fin 8) (l : Fin 128), p ⟨h.val * 128 + l.val, by omega⟩) (j : Fin 1024) : p j := by
  have := hp ⟨j.val / 128, by omega⟩ ⟨j.val % 128, by omega⟩
  simpa only [show j.val / 128 * 128 + j.val % 128 = j.val by omega] using this

variable (m : (ℓ : Loc nD τ sig) → Buf (Elt Ideal) ℓ)

/-- The projection of a block of rows. -/
abbrev zb (c : Dev nD) (t : Fin cfg0.N) : FVec Ideal S1024x1536 .f32 := k0_pay2 (iblk m c 0 t) (iblk m c 2 t) (iblk m c 3 t)

/-- The reference's projection. -/
abbrev zr (c : Dev nD) : FVec Ideal Cert.ReferenceIdeal3.S16384x1440 .f32 :=
  zOf (m ((c : Thread nD τ).loc main_arg0)) (m ((c : Thread nD τ).loc main_arg2)) (m ((c : Thread nD τ).loc main_arg3))

theorem zb_low (c : Dev nD) (t : Fin cfg0.N) (r : Fin 1024) (l : Fin 384) :
    (zb m c t (ix2 r ⟨l.val, by omega⟩) : EReal) = zr m c (ix2 (rowOf t r) ⟨l.val, by omega⟩) :=
  z_ref _ _ _ r ⟨l.val, by omega⟩ _ _ _ (rowOf t r) ⟨l.val, by omega⟩ (fun d => read0 m c t r d) (fun d => read2 m c t d) fun d => by
    rw [read3, dif_pos l.isLt]

theorem zb_turn (c : Dev nD) (t : Fin cfg0.N) (r : Fin 1024) (i : Fin 32) :
    (zb m c t (ix2 r ⟨384 + (64 + i.val), by omega⟩) : EReal) = zr m c (ix2 (rowOf t r) ⟨384 + i.val, by omega⟩) :=
  z_ref _ _ _ r ⟨384 + (64 + i.val), by omega⟩ _ _ _ (rowOf t r) ⟨384 + i.val, by omega⟩ (fun d => read0 m c t r d) (fun d => read2 m c t d) fun d => by
    rw [read3, dif_neg (by simp only []; omega), dif_pos (by simp only []; omega), dif_pos (by simp only []; omega)]
    simp only [show 384 + (64 + i.val) - 384 - 64 = i.val by omega]

theorem zb_gate (c : Dev nD) (t : Fin cfg0.N) (r : Fin 1024) (i : Fin 1024) :
    (zb m c t (ix2 r ⟨512 + i.val, by omega⟩) : EReal) = zr m c (ix2 (rowOf t r) ⟨416 + i.val, by omega⟩) :=
  z_ref _ _ _ r ⟨512 + i.val, by omega⟩ _ _ _ (rowOf t r) ⟨416 + i.val, by omega⟩ (fun d => read0 m c t r d) (fun d => read2 m c t d) fun d => by
    rw [read3, dif_neg (by simp only []; omega), dif_neg (by simp only []; omega)]
    simp only [show 512 + i.val - 384 - 128 = i.val by omega]

theorem zb_zero (c : Dev nD) (t : Fin cfg0.N) (r : Fin 1024) (l : Fin 128) (hl : ¬ (64 ≤ l.val ∧ l.val < 96)) :
    (zb m c t (ix2 r ⟨384 + l.val, by omega⟩) : EReal) = 0 :=
  z_zero _ _ _ r ⟨384 + l.val, by omega⟩ fun d => by
    rw [read3, dif_neg (by simp only []; omega), dif_pos (by simp only []; omega), dif_neg (by simp only []; omega)]

/-- The block's queries before their turning. -/
theorem qb_at (c : Dev nD) (t : Fin cfg0.N) (r : Fin 1024) (h : Fin 8) (l : Fin 128) :
    (headSlice (k0_pay8 (k0_pay7 (iblk m c 0 t) (iblk m c 2 t) (iblk m c 3 t)) (iblk m c 4 t) (iblk m c 5 t)) h (ix2 r l) : EReal)
      = if hl : l.val < 96 then queries (zr m c) (m ((c : Thread nD τ).loc main_arg4)) (m ((c : Thread nD τ).loc main_arg5)) (ix3 (rowOf t r) h ⟨l.val, hl⟩) else 0 := by
  show (k0_pay8 (k0_pay7 (iblk m c 0 t) (iblk m c 2 t) (iblk m c 3 t)) (iblk m c 4 t) (iblk m c 5 t) (ix2 r ⟨h.val * 128 + l.val, _⟩) : EReal) = _
  have hz : ∀ d : Fin 256, (k0_pay7 (iblk m c 0 t) (iblk m c 2 t) (iblk m c 3 t) (ix2 r d) : EReal) = zr m c (ix2 (rowOf t r) ⟨d.val, by omega⟩) := fun d => by
    have e : (k0_pay7 (iblk m c 0 t) (iblk m c 2 t) (iblk m c 3 t) (ix2 r d) : EReal) = zb m c t (ix2 r ⟨d.val, by omega⟩) := by
      pointwise [k0_pay7]
    exact e.trans (zb_low m c t r ⟨d.val, by omega⟩)
  rw [q_at, show (fun a : Fin 256 => (k0_pay7 (iblk m c 0 t) (iblk m c 2 t) (iblk m c 3 t) (ix2 r a) : EReal)) = _ from funext hz]
  by_cases hl : l.val < 96
  · rw [dif_pos hl, queries_at]
    refine Finset.sum_congr rfl fun d _ => ?_
    rw [hz, read4, read5, dif_pos hl]
  · rw [dif_neg hl]
    refine Finset.sum_eq_zero fun d _ => ?_
    rw [read5, dif_neg hl, mul_zero]

theorem q_entry (c : Dev nD) (t : Fin cfg0.N) (r j : Fin 1024) :
    (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) : EReal) = outQ (zr m c) (m ((c : Thread nD τ).loc main_arg1)) (m ((c : Thread nD τ).loc main_arg4)) (m ((c : Thread nD τ).loc main_arg5)) (ix2 (rowOf t r) j) := by
  rw [out14_at]
  revert j
  refine byLanes fun h l => ?_
  rw [byHead_at]
  exact head_q _ _ r (rowOf t r) h _ _ (fun l hl => (qb_at m c t r h l).trans (dif_pos hl)) (fun l hl => (qb_at m c t r h l).trans (dif_neg (by omega))) (fun i => read1 m c t r i) l

/-- The queries' result. -/
theorem result_q (c : Dev nD) : (dats m 0 c).arrAt 14 cfg0.N =
    outQ (zr m c) (m ((c : Thread nD τ).loc main_arg1)) (m ((c : Thread nD τ).loc main_arg4)) (m ((c : Thread nD τ).loc main_arg5)) := by
  refine (dats m 0 c).arrAt_eq_of_covers 14 _ (by decide +kernel) fun t _ y => ?_
  blk_simp
  rw [after0_14]
  have e : (win0_14.blk t).view.emb y = ix2 (rowOf t (y 0)) (y 1) := by
    blk_ext [index_out t]
  have ey : y = ix2 (y 0) (y 1) := by funext a; match a with | ⟨0, _⟩ => rfl | ⟨1, _⟩ => rfl
  rw [e, ey]
  exact q_entry m c t (y 0) (y 1)

/-- The block's normed key and value lanes. -/
theorem kvb_at (c : Dev nD) (t : Fin cfg0.N) (r : Fin 1024) (d : Fin 128) :
    (k0_pay20 (zb m c t) (iblk m c 6 t) (ix2 r d) : EReal)
      = zr m c (ix2 (rowOf t r) ⟨256 + d.val, by omega⟩) * root (fun a : Fin 128 => zr m c (ix2 (rowOf t r) ⟨256 + a.val, by omega⟩)) 0x43000000#32 * (m ((c : Thread nD τ).loc main_arg6)) (ix2 0 d) := by
  have hz : ∀ d : Fin 128, (zb m c t (ix2 r ⟨256 + d.val, by omega⟩) : EReal) = zr m c (ix2 (rowOf t r) ⟨256 + d.val, by omega⟩) := fun d =>
    zb_low m c t r ⟨256 + d.val, by omega⟩
  rw [kv_at, hz, read6, show (fun a : Fin 128 => (zb m c t (ix2 r ⟨256 + a.val, by omega⟩) : EReal)) = _ from funext hz]

/-- The block's keys before the shared lanes. -/
theorem kb_at (c : Dev nD) (t : Fin cfg0.N) (r : Fin 1024) (h : Fin 8) (l : Fin 128) :
    (headSlice (k0_pay22 (k0_pay20 (zb m c t) (iblk m c 6 t)) (iblk m c 7 t)) h (ix2 r l) : EReal)
      = if l.val < 64 then pairs (zr m c) (m ((c : Thread nD τ).loc main_arg6)) (m ((c : Thread nD τ).loc main_arg7)) (ix3 (rowOf t r) h l) else 0 := by
  show (k0_pay22 (k0_pay20 (zb m c t) (iblk m c 6 t)) (iblk m c 7 t) (ix2 r ⟨h.val * 128 + l.val, _⟩) : EReal) = _
  rw [k_at]
  by_cases hl : l.val < 64
  · rw [if_pos hl, pairs_at]
    refine Finset.sum_congr rfl fun d _ => ?_
    rw [kvb_at, read7, if_pos hl]
  · rw [if_neg hl]
    refine Finset.sum_eq_zero fun d _ => ?_
    rw [read7, if_neg hl, mul_zero]

theorem k_entry (c : Dev nD) (t : Fin cfg0.N) (r j : Fin 1024) :
    (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) : EReal) = outK (zr m c) (m ((c : Thread nD τ).loc main_arg1)) (m ((c : Thread nD τ).loc main_arg6)) (m ((c : Thread nD τ).loc main_arg7)) (ix2 (rowOf t r) j) := by
  rw [out15_at]
  revert j
  refine byLanes fun h l => ?_
  rw [byHead_at]
  have es : ∀ l : Fin 128, (extractStridedSlice S1024x128 ![0, 384] (zb m c t) slices_S1024x1536_o0_384_S1024x128 (ix2 r l) : EReal) = zb m c t (ix2 r ⟨384 + l.val, by omega⟩) := fun l => by
    pointwise
  exact head_k _ _ _ r (rowOf t r) h _ _ _ (fun i => (es _).trans (zb_turn m c t r i)) (fun i => (es _).trans (zb_zero m c t r ⟨i.val, by omega⟩ (by simp only []; omega)))
    (fun i => (es _).trans (zb_zero m c t r ⟨96 + i.val, by omega⟩ (by simp only []; omega))) (fun i => (kb_at m c t r h ⟨i.val, by omega⟩).trans (if_pos i.isLt))
    (fun l hl => (kb_at m c t r h l).trans (if_neg (by omega))) (fun i => read1 m c t r i) l

/-- The keys' result. -/
theorem result_k (c : Dev nD) : (dats m 0 c).arrAt 15 cfg0.N =
    outK (zr m c) (m ((c : Thread nD τ).loc main_arg1)) (m ((c : Thread nD τ).loc main_arg6)) (m ((c : Thread nD τ).loc main_arg7)) := by
  refine (dats m 0 c).arrAt_eq_of_covers 15 _ (by decide +kernel) fun t _ y => ?_
  blk_simp
  rw [after0_15]
  have e : (win0_15.blk t).view.emb y = ix2 (rowOf t (y 0)) (y 1) := by
    blk_ext [index_out t]
  have ey : y = ix2 (y 0) (y 1) := by funext a; match a with | ⟨0, _⟩ => rfl | ⟨1, _⟩ => rfl
  rw [e, ey]
  exact k_entry m c t (y 0) (y 1)

/-- An entry of the values by its head and lane. -/
theorem byValueLanes {p : Fin 512 → Prop} (hp : ∀ (h : Fin 8) (l : Fin 64), p ⟨h.val * 64 + l.val, by omega⟩) (j : Fin 512) : p j := by
  have := hp ⟨j.val / 64, by omega⟩ ⟨j.val % 64, by omega⟩
  simpa only [show j.val / 64 * 64 + j.val % 64 = j.val by omega] using this

theorem v_entry (c : Dev nD) (t : Fin cfg0.N) (j : Fin 512) (r : Fin 1024) :
    (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 j r) : EReal) = outV (zr m c) (m ((c : Thread nD τ).loc main_arg6)) (m ((c : Thread nD τ).loc main_arg7)) (ix2 j (rowOf t r)) := by
  rw [out16_at]
  revert j
  refine byValueLanes fun h l => ?_
  rw [v_at]
  show _ = valuesT _ _
  rw [valuesT_at, pairs_at]
  refine Finset.sum_congr rfl fun d _ => ?_
  rw [kvb_at, read8, mul_comm]

/-- The values' result. -/
theorem result_v (c : Dev nD) : (dats m 0 c).arrAt 16 cfg0.N =
    outV (zr m c) (m ((c : Thread nD τ).loc main_arg6)) (m ((c : Thread nD τ).loc main_arg7)) := by
  refine (dats m 0 c).arrAt_eq_of_covers 16 _ (by decide +kernel) fun t _ y => ?_
  blk_simp
  rw [after0_16]
  have e : (win0_16.blk t).view.emb y = ix2 (y 0) (rowOf t (y 1)) := by
    blk_ext [index_out t]
  have ey : y = ix2 (y 0) (y 1) := by funext a; match a with | ⟨0, _⟩ => rfl | ⟨1, _⟩ => rfl
  rw [e, ey]
  exact v_entry m c t (y 0) (y 1)
-- ==== Proof.Gate3.lean ====
module

public import proofs.«01_k».proof.Proof.Gen.KernelIdeal3.Value
public import proofs.«01_k».proof.Proof.Ref3
public import Idealize.ShloMosaic.Lib.Pipeline.ValueKit
public import Idealize.ShloMosaic.Lib.WordCmp

@[expose] public section

set_option maxRecDepth 16384

noncomputable section

namespace Cert.KernelIdeal3.Layer

open Cert.KernelIdeal3 Cert.KernelIdeal3.Gen Cert.KernelIdeal3.Value Idealize.ShloMosaic Idealize.ShloMosaic.TcCoe Idealize.SL.Sem
open Cert.ReferenceIdeal3.Layer (angles rows projected queries pairs curved gated turnedQ turnedK valuesT normed root curve projected_at queries_at pairs_at curved_at normed_at valuesT_at gated_at
  turnedQ_plain turnedQ_first turnedQ_second turnedQ_rest turnedK_plain turnedK_first turnedK_second turnedK_rest)

/-- A chunk's rows with only one head's lanes kept. -/
def keep (v : FVec Ideal S128x512 .f32) (hd : IVec S128x512 32) (k : BitVec 32) : FVec Ideal S128x512 .bf16 :=
  truncf .bf16 (select (cmpi .eq hd (broadcast S128x512 k)) v (broadcast S128x512 (Scalar.ofBits (F := Ideal) .f32 0x00000000#32))) bitsLt_bf16_f32

/-- The kept rows of the eight heads, one below the other. -/
def stacked (v : FVec Ideal S128x512 .f32) (hd : IVec S128x512 32) : FVec Ideal S1024x512 .bf16 :=
  concatenate S1024x512 0 [⟨S128x512, keep v hd 0#32⟩, ⟨S128x512, keep v hd 1#32⟩, ⟨S128x512, keep v hd 2#32⟩, ⟨S128x512, keep v hd 3#32⟩, ⟨S128x512, keep v hd 4#32⟩, ⟨S128x512, keep v hd 5#32⟩, ⟨S128x512, keep v hd 6#32⟩, ⟨S128x512, keep v hd 7#32⟩] concatenates_S128x512_S128x512_S128x512_S128x512_S128x512_S128x512_S128x512_S128x512_S1024x512_d0

/-- A chunk's rows mixed. -/
def mixedRows (v : FVec Ideal S128x512 .f32) (w : FVec Ideal S128x1024 .bf16) (hd : IVec S128x512 32) (b : FVec Ideal S128x512 .f32) : FVec Ideal S128x512 .f32 :=
  addf (matmul dot_S128x1024_S1024x512_S128x512_1_0_0_1_n_n none w (stacked v hd) (constant S128x512 .f32 0x00000000#32)) b

/-- Rows scaled by the inverse root of their mean square, then by the gain. -/
def normRows (p : FVec Ideal S128x512 .f32) (g : FVec Ideal S1x512 .f32) : FVec Ideal S128x512 .bf16 :=
  truncf .bf16 (mulf (mulf p (broadcastTo S128x512 (rsqrt (addf (divf (shapeCast S128x1 (multiReduction .add [1] S128 (mulf p p) 0x00000000#32 reduces_S128x512_S128 (.inl rfl) rfl) shapeCasts_S128_S128x1) (broadcast S128x1 (Scalar.ofBits (F := Ideal) .f32 0x44000000#32))) (broadcast S128x1 (Scalar.ofBits (F := Ideal) .f32 0x358637BD#32)))) broadcasts_S128x1_S128x512)) (broadcastTo S128x512 g broadcasts_S1x512_S128x512)) bitsLt_bf16_f32

/-- What the kernel stores of one chunk: its rows, gated by the mixed ones and normed. -/
def chunk (w : FVec Ideal S128x1024 .bf16) (hd : IVec S128x512 32) (b : FVec Ideal S128x512 .f32) (g : FVec Ideal S1x512 .f32) (u v : FVec Ideal S128x512 .f32) : FVec Ideal S128x512 .bf16 :=
  normRows (mulf u (mixedRows v w hd b)) g

/-- The head of each lane, as the kernel counts it. -/
abbrev heads : IVec S128x512 32 := k0_pay41 (iota .tc S128x512 32 [1] iota_S128x512_d1_w32) 64#32 k0_pay39 k0_pay40

theorem payS0 (U V : FVec Ideal S1024x512 .f32) (w : FVec Ideal S128x1024 .bf16) (b : FVec Ideal S128x512 .f32) (g : FVec Ideal S1x512 .f32) :
    k0_pay51 U w heads b g (k0_pay44 V) (k0_pay45 V (iota .tc S128x512 32 [1] iota_S128x512_d1_w32) 64#32 k0_pay39 k0_pay40) (k0_pay46 V (iota .tc S128x512 32 [1] iota_S128x512_d1_w32) 64#32 k0_pay39 k0_pay40) (k0_pay47 V (iota .tc S128x512 32 [1] iota_S128x512_d1_w32) 64#32 k0_pay39 k0_pay40) (k0_pay48 V (iota .tc S128x512 32 [1] iota_S128x512_d1_w32) 64#32 k0_pay39 k0_pay40) (k0_pay49 V (iota .tc S128x512 32 [1] iota_S128x512_d1_w32) 64#32 k0_pay39 k0_pay40) (k0_pay50 V (iota .tc S128x512 32 [1] iota_S128x512_d1_w32) 64#32 k0_pay39 k0_pay40) = chunk w heads b g (extractStridedSlice S128x512 ![0, 0] U slices_S1024x512_o0_0_S128x512) (extractStridedSlice S128x512 ![0, 0] V slices_S1024x512_o0_0_S128x512) := rfl

theorem payS1 (U V : FVec Ideal S1024x512 .f32) (w : FVec Ideal S128x1024 .bf16) (hd : IVec S128x512 32) (b : FVec Ideal S128x512 .f32) (g : FVec Ideal S1x512 .f32) :
    k0_pay56 U w hd b g (k0_pay52 V) (k0_pay53 V hd) (k0_pay54 V hd) (k0_pay55 hd) (Scalar.ofBits .f32 0x00000000#32) = chunk w hd b g (extractStridedSlice S128x512 ![128, 0] U slices_S1024x512_o128_0_S128x512) (extractStridedSlice S128x512 ![128, 0] V slices_S1024x512_o128_0_S128x512) := rfl

theorem payS2 (U V : FVec Ideal S1024x512 .f32) (w : FVec Ideal S128x1024 .bf16) (hd : IVec S128x512 32) (b : FVec Ideal S128x512 .f32) (g : FVec Ideal S1x512 .f32) :
    k0_pay66 U w b g (k0_pay58 V hd) (k0_pay59 V hd) (k0_pay60 V hd) (k0_pay61 V hd) (k0_pay62 V hd) (k0_pay63 V hd) (k0_pay64 V hd) (k0_pay65 V hd) = chunk w hd b g (extractStridedSlice S128x512 ![256, 0] U slices_S1024x512_o256_0_S128x512) (extractStridedSlice S128x512 ![256, 0] V slices_S1024x512_o256_0_S128x512) := rfl

theorem payS3 (U V : FVec Ideal S1024x512 .f32) (w : FVec Ideal S128x1024 .bf16) (hd : IVec S128x512 32) (b : FVec Ideal S128x512 .f32) (g : FVec Ideal S1x512 .f32) :
    k0_pay73 U w hd b g (k0_pay67 V) (k0_pay68 V hd) (k0_pay69 V hd) (k0_pay70 V hd) (k0_pay71 V hd) (k0_pay72 hd) (Scalar.ofBits .f32 0x00000000#32) = chunk w hd b g (extractStridedSlice S128x512 ![384, 0] U slices_S1024x512_o384_0_S128x512) (extractStridedSlice S128x512 ![384, 0] V slices_S1024x512_o384_0_S128x512) := rfl

theorem payS4 (U V : FVec Ideal S1024x512 .f32) (w : FVec Ideal S128x1024 .bf16) (hd : IVec S128x512 32) (b : FVec Ideal S128x512 .f32) (g : FVec Ideal S1x512 .f32) :
    k0_pay79 g (k0_pay77 U w hd b (k0_pay74 V) (k0_pay75 V hd) k0_pay76) (k0_pay78 U w hd b (k0_pay74 V) (k0_pay75 V hd) k0_pay76) = chunk w hd b g (extractStridedSlice S128x512 ![512, 0] U slices_S1024x512_o512_0_S128x512) (extractStridedSlice S128x512 ![512, 0] V slices_S1024x512_o512_0_S128x512) := rfl

theorem payS5 (U V : FVec Ideal S1024x512 .f32) (w : FVec Ideal S128x1024 .bf16) (hd : IVec S128x512 32) (b : FVec Ideal S128x512 .f32) (g : FVec Ideal S1x512 .f32) :
    k0_pay88 U w hd b g (k0_pay80 V) (k0_pay81 V hd) (k0_pay82 V hd) (k0_pay83 V hd) (k0_pay84 V hd) (k0_pay85 V hd) (k0_pay86 V hd) (k0_pay87 hd) (Scalar.ofBits .f32 0x00000000#32) = chunk w hd b g (extractStridedSlice S128x512 ![640, 0] U slices_S1024x512_o640_0_S128x512) (extractStridedSlice S128x512 ![640, 0] V slices_S1024x512_o640_0_S128x512) := rfl

theorem payS6 (U V : FVec Ideal S1024x512 .f32) (w : FVec Ideal S128x1024 .bf16) (hd : IVec S128x512 32) (b : FVec Ideal S128x512 .f32) (g : FVec Ideal S1x512 .f32) :
    k0_pay94 U w hd b g (k0_pay89 V) (k0_pay90 V hd) (k0_pay91 V hd) (k0_pay92 V hd) k0_pay93 = chunk w hd b g (extractStridedSlice S128x512 ![768, 0] U slices_S1024x512_o768_0_S128x512) (extractStridedSlice S128x512 ![768, 0] V slices_S1024x512_o768_0_S128x512) := rfl

theorem payS7 (U V : FVec Ideal S1024x512 .f32) (w : FVec Ideal S128x1024 .bf16) (hd : IVec S128x512 32) (b : FVec Ideal S128x512 .f32) (g : FVec Ideal S1x512 .f32) :
    k0_pay1 U g (k0_pay96 w hd b (k0_pay95 V)) = chunk w hd b g (extractStridedSlice S128x512 ![896, 0] U slices_S1024x512_o896_0_S128x512) (extractStridedSlice S128x512 ![896, 0] V slices_S1024x512_o896_0_S128x512) := rfl

theorem head_word (r : Fin 128) (l : Fin 512) : heads (ix2 r l) = BitVec.ofNat 32 (l.val / 64) := by
  pointwise [heads, k0_pay41, k0_pay39, k0_pay40]
  clear r
  revert l
  decide +kernel

theorem lane_word : ∀ l : Fin 1024, (Scalar.select
          (IntOp.andi
            (IntOp.xori
              (IntOp.cmpi CmpIPredicate.slt
                (IntOp.remsi ArithUnit.vector (BitVec.ofNat 32 l.val)
                  (Scalar.select (Scalar.cmpi CmpIPredicate.eq 128#32 0#32) 1#32 128#32))
                0#32)
              (Scalar.cmpi CmpIPredicate.slt (Scalar.select (Scalar.cmpi CmpIPredicate.eq 128#32 0#32) 1#32 128#32)
                0#32))
            (IntOp.cmpi CmpIPredicate.ne
              (IntOp.remsi ArithUnit.vector (BitVec.ofNat 32 l.val)
                (Scalar.select (Scalar.cmpi CmpIPredicate.eq 128#32 0#32) 1#32 128#32))
              0#32))
          (IntOp.addi
            (IntOp.remsi ArithUnit.vector (BitVec.ofNat 32 l.val)
              (Scalar.select (Scalar.cmpi CmpIPredicate.eq 128#32 0#32) 1#32 128#32))
            (Scalar.select (Scalar.cmpi CmpIPredicate.eq 128#32 0#32) 1#32 128#32))
          (IntOp.remsi ArithUnit.vector (BitVec.ofNat 32 l.val)
            (Scalar.select (Scalar.cmpi CmpIPredicate.eq 128#32 0#32) 1#32 128#32))) = BitVec.ofNat 32 (l.val % 128) := by decide +kernel

theorem causal_word (r : Fin 128) (l : Fin 1024) (x11 : Vec Ideal S128x1024 .f32) : (k0_pay38 x11 (ix2 r l) : EReal) = if l.val % 128 ≤ r.val then x11 (ix2 r l) else 0 := by
  pointwise [k0_pay38]
  refine (congrArg (fun a => (Scalar.select (IntOp.cmpi .sle a (BitVec.ofNat 32 r.val)) (x11 (ix2 r l) : EReal) 0)) (lane_word l)).trans ?_
  rw [WordCmp.cmpi_sle_ofNat (by omega) (by omega), WordCmp.select_ofBool]
  simp only [decide_eq_true_eq]

theorem keep_at (v : FVec Ideal S128x512 .f32) (k : Fin 8) (r : Fin 128) (l : Fin 512) :
    (keep v heads (BitVec.ofNat 32 k.val) (ix2 r l) : EReal) = if l.val / 64 = k.val then v (ix2 r l) else 0 := by
  have e : (keep v heads (BitVec.ofNat 32 k.val) (ix2 r l) : EReal) = Scalar.select (IntOp.cmpi .eq (heads (ix2 r l)) (BitVec.ofNat 32 k.val)) (v (ix2 r l) : EReal) 0 := by
    pointwise [keep]
  rw [e, head_word]
  have b : IntOp.cmpi .eq (BitVec.ofNat 32 (l.val / 64)) (BitVec.ofNat 32 k.val) = if l.val / 64 = k.val then 1#1 else 0#1 :=
    (by decide +kernel : ∀ a b : Fin 8, IntOp.cmpi .eq (BitVec.ofNat 32 a.val) (BitVec.ofNat 32 b.val) = if a.val = b.val then 1#1 else 0#1) ⟨l.val / 64, by omega⟩ k
  rw [b]
  split_ifs <;> rfl

theorem stacked_0 (v : FVec Ideal S128x512 .f32) (hd : IVec S128x512 32) (s : Fin 128) (l : Fin 512) :
    (stacked v hd (ix2 ⟨0 * 128 + s.val, by omega⟩ l) : EReal) = keep v hd 0#32 (ix2 s l) := by
  pointwise [stacked]

theorem stacked_1 (v : FVec Ideal S128x512 .f32) (hd : IVec S128x512 32) (s : Fin 128) (l : Fin 512) :
    (stacked v hd (ix2 ⟨1 * 128 + s.val, by omega⟩ l) : EReal) = keep v hd 1#32 (ix2 s l) := by
  pointwise [stacked]

theorem stacked_2 (v : FVec Ideal S128x512 .f32) (hd : IVec S128x512 32) (s : Fin 128) (l : Fin 512) :
    (stacked v hd (ix2 ⟨2 * 128 + s.val, by omega⟩ l) : EReal) = keep v hd 2#32 (ix2 s l) := by
  pointwise [stacked]
  generalize keep v hd = K
  rw [dif_neg (by omega)]
  rw [dif_neg (by omega)]
  rw [dif_pos (by omega)]
  exact congrArg (fun a => K 2#32 (ix2 a l)) (Fin.ext (by show 2 * 128 + s.val - 128 - 128 = s.val; omega))

theorem stacked_3 (v : FVec Ideal S128x512 .f32) (hd : IVec S128x512 32) (s : Fin 128) (l : Fin 512) :
    (stacked v hd (ix2 ⟨3 * 128 + s.val, by omega⟩ l) : EReal) = keep v hd 3#32 (ix2 s l) := by
  pointwise [stacked]
  generalize keep v hd = K
  rw [dif_neg (by omega)]
  rw [dif_neg (by omega)]
  rw [dif_neg (by omega)]
  rw [dif_pos (by omega)]
  exact congrArg (fun a => K 3#32 (ix2 a l)) (Fin.ext (by show 3 * 128 + s.val - 128 - 128 - 128 = s.val; omega))

theorem stacked_4 (v : FVec Ideal S128x512 .f32) (hd : IVec S128x512 32) (s : Fin 128) (l : Fin 512) :
    (stacked v hd (ix2 ⟨4 * 128 + s.val, by omega⟩ l) : EReal) = keep v hd 4#32 (ix2 s l) := by
  pointwise [stacked]
  generalize keep v hd = K
  rw [dif_neg (by omega)]
  rw [dif_neg (by omega)]
  rw [dif_neg (by omega)]
  rw [dif_neg (by omega)]
  rw [dif_pos (by omega)]
  exact congrArg (fun a => K 4#32 (ix2 a l)) (Fin.ext (by show 4 * 128 + s.val - 128 - 128 - 128 - 128 = s.val; omega))

theorem stacked_5 (v : FVec Ideal S128x512 .f32) (hd : IVec S128x512 32) (s : Fin 128) (l : Fin 512) :
    (stacked v hd (ix2 ⟨5 * 128 + s.val, by omega⟩ l) : EReal) = keep v hd 5#32 (ix2 s l) := by
  pointwise [stacked]
  generalize keep v hd = K
  rw [dif_neg (by omega)]
  rw [dif_neg (by omega)]
  rw [dif_neg (by omega)]
  rw [dif_neg (by omega)]
  rw [dif_neg (by omega)]
  rw [dif_pos (by omega)]
  exact congrArg (fun a => K 5#32 (ix2 a l)) (Fin.ext (by show 5 * 128 + s.val - 128 - 128 - 128 - 128 - 128 = s.val; omega))

theorem stacked_6 (v : FVec Ideal S128x512 .f32) (hd : IVec S128x512 32) (s : Fin 128) (l : Fin 512) :
    (stacked v hd (ix2 ⟨6 * 128 + s.val, by omega⟩ l) : EReal) = keep v hd 6#32 (ix2 s l) := by
  pointwise [stacked]
  generalize keep v hd = K
  rw [dif_neg (by omega)]
  rw [dif_neg (by omega)]
  rw [dif_neg (by omega)]
  rw [dif_neg (by omega)]
  rw [dif_neg (by omega)]
  rw [dif_neg (by omega)]
  rw [dif_pos (by omega)]
  exact congrArg (fun a => K 6#32 (ix2 a l)) (Fin.ext (by show 6 * 128 + s.val - 128 - 128 - 128 - 128 - 128 - 128 = s.val; omega))

theorem stacked_7 (v : FVec Ideal S128x512 .f32) (hd : IVec S128x512 32) (s : Fin 128) (l : Fin 512) :
    (stacked v hd (ix2 ⟨7 * 128 + s.val, by omega⟩ l) : EReal) = keep v hd 7#32 (ix2 s l) := by
  pointwise [stacked]
  generalize keep v hd = K
  rw [dif_neg (by omega)]
  rw [dif_neg (by omega)]
  rw [dif_neg (by omega)]
  rw [dif_neg (by omega)]
  rw [dif_neg (by omega)]
  rw [dif_neg (by omega)]
  rw [dif_neg (by omega)]
  exact congrArg (fun a => K 7#32 (ix2 a l)) (Fin.ext (by show 7 * 128 + s.val - 128 - 128 - 128 - 128 - 128 - 128 - 128 = s.val; omega))

theorem stacked_at (v : FVec Ideal S128x512 .f32) (k : Fin 8) (s : Fin 128) (l : Fin 512) :
    (stacked v heads (ix2 ⟨k.val * 128 + s.val, by omega⟩ l) : EReal) = if l.val / 64 = k.val then v (ix2 s l) else 0 := by
  rw [← keep_at]
  match k with
  | ⟨0, _⟩ => exact stacked_0 v heads s l
  | ⟨1, _⟩ => exact stacked_1 v heads s l
  | ⟨2, _⟩ => exact stacked_2 v heads s l
  | ⟨3, _⟩ => exact stacked_3 v heads s l
  | ⟨4, _⟩ => exact stacked_4 v heads s l
  | ⟨5, _⟩ => exact stacked_5 v heads s l
  | ⟨6, _⟩ => exact stacked_6 v heads s l
  | ⟨7, _⟩ => exact stacked_7 v heads s l

/-- A sum over a row of heads, head by head. -/
theorem sum_heads (f : Fin 1024 → EReal) : ∑ x, f x = ∑ k : Fin 8, ∑ s : Fin 128, f ⟨k.val * 128 + s.val, by omega⟩ := by
  rw [← Fintype.sum_prod_type']
  refine ((finProdFinEquiv (m := 8) (n := 128)).sum_comp f).symm.trans (Finset.sum_congr rfl fun p _ => congrArg f (Fin.ext ?_))
  show p.2.val + 128 * p.1.val = p.1.val * 128 + p.2.val
  omega

theorem sum_groups (f : Fin 512 → EReal) : ∑ x, f x = ∑ k : Fin 8, ∑ s : Fin 64, f ⟨k.val * 64 + s.val, by omega⟩ := by
  rw [← Fintype.sum_prod_type']
  refine ((finProdFinEquiv (m := 8) (n := 64)).sum_comp f).symm.trans (Finset.sum_congr rfl fun p _ => congrArg f (Fin.ext ?_))
  show p.2.val + 64 * p.1.val = p.1.val * 64 + p.2.val
  omega

theorem mixedRows_at (v : FVec Ideal S128x512 .f32) (w : FVec Ideal S128x1024 .bf16) (b : FVec Ideal S128x512 .f32) (r : Fin 128) (h : Fin 8) (j : Fin 64) :
    (mixedRows v w heads b (ix2 r ⟨h.val * 64 + j.val, by omega⟩) : EReal)
      = (∑ s : Fin 128, v (ix2 s ⟨h.val * 64 + j.val, by omega⟩) * w (ix2 r ⟨h.val * 128 + s.val, by omega⟩)) + b (ix2 r ⟨h.val * 64 + j.val, by omega⟩) := by
  have e : (mixedRows v w heads b (ix2 r ⟨h.val * 64 + j.val, by omega⟩) : EReal)
      = (∑ x : Fin 1024, w (ix2 r x) * stacked v heads (ix2 x ⟨h.val * 64 + j.val, by omega⟩)) + b (ix2 r ⟨h.val * 64 + j.val, by omega⟩) := by
    pointwise [mixedRows]
  rw [e, sum_heads]
  refine congrArg (· + _) ?_
  have hj : (h.val * 64 + j.val) / 64 = h.val := by omega
  rw [Finset.sum_eq_single h]
  · refine Finset.sum_congr rfl fun s _ => ?_
    rw [stacked_at, if_pos hj, mul_comm]
  · intro k _ hk
    refine Finset.sum_eq_zero fun s _ => ?_
    rw [stacked_at, if_neg (by simp only [hj]; exact fun h' => hk (Fin.ext h'.symm)), mul_zero]
  · exact fun h' => absurd (Finset.mem_univ _) h'

theorem normRows_at (p : FVec Ideal S128x512 .f32) (g : FVec Ideal S1x512 .f32) (r : Fin 128) (j : Fin 512) :
    (normRows p g (ix2 r j) : EReal) = p (ix2 r j) * root (fun a : Fin 512 => p (ix2 r a)) 0x44000000#32 * g (ix2 0 j) := by
  pointwise [normRows]
  rfl

/-- The gating lanes through the curve, in the block. -/
theorem gate_at (z : FVec Ideal S1024x1536 .f32) (r l : Fin 1024) : (k0_pay34 z (ix2 r l) : EReal) = curve (z (ix2 r ⟨512 + l.val, by omega⟩)) := by
  pointwise [k0_pay34]
  unfold curve
  rw [mul_assoc (z (ix2 r ⟨512 + l.val, by omega⟩) : EReal)]

theorem first_at (z : FVec Ideal S1024x1536 .f32) (r : Fin 1024) (l : Fin 512) : (k0_pay35 z (ix2 r l) : EReal) = k0_pay34 z (ix2 r ⟨l.val, by omega⟩) := by
  pointwise [k0_pay35]

theorem mean_at (z : FVec Ideal S1024x1536 .f32) (x10 : Vec Ideal S512x512 .bf16) (x9 : Vec Ideal S1x512 .f32) (r : Fin 1024) (l : Fin 512) :
    (k0_pay37 (k0_pay36 z x10) x9 (ix2 r l) : EReal)
      = k0_pay34 z (ix2 r ⟨512 + l.val, by omega⟩) * Ideal.rsqrt ((∑ x : Fin 512, k0_pay34 z (ix2 r ⟨512 + x.val, by omega⟩) * k0_pay34 z (ix2 r ⟨512 + x.val, by omega⟩) * x10 (ix2 x l)) * Ideal.ofBits .f32 0x3C800000#32 + Ideal.ofBits .f32 0x358637BD#32) * x9 (ix2 0 l) := by
  pointwise [k0_pay37, k0_pay36]

/-- Multiplying by one over 64 divides by 64. -/
theorem mean64 (x : EReal) : x * Ideal.ofBits .f32 0x3C800000#32 = Ideal.div x (Ideal.ofBits .f32 0x42800000#32) := by
  have a : Ideal.ofBits .f32 0x3C800000#32 = ((1 / 64 : ℝ) : EReal) := by
    simp [Ideal.ofBits, Ideal.ieee]
    rw [← EReal.coe_mul]
    norm_num
  have b : Ideal.ofBits .f32 0x42800000#32 = ((64 : ℝ) : EReal) := by
    simp [Ideal.ofBits, Ideal.ieee]
    rw [← EReal.coe_mul]
    norm_num
  rw [a, b]
  unfold Ideal.div
  rw [if_neg (by norm_num), ← EReal.coe_inv, one_div]

end Cert.KernelIdeal3.Layer
-- ==== Proof.Mix3.lean ====
module

public import proofs.«01_k».proof.Proof.Gen.KernelIdeal3.Value
public import proofs.«01_k».proof.Proof.Qkv3
public import proofs.«01_k».proof.Proof.Gate3
public import Idealize.ShloMosaic.Lib.Pipeline.ValueKit
public import Idealize.ShloMosaic.Lib.WordCmp

@[expose] public section

set_option maxRecDepth 16384

noncomputable section

namespace Cert.KernelIdeal3.Layer

open Cert.KernelIdeal3 Cert.KernelIdeal3.Gen Cert.KernelIdeal3.Value Idealize.ShloMosaic Idealize.ShloMosaic.TcCoe Idealize.SL.Sem
open Cert.ReferenceIdeal3.Layer (zOf outQ outK outV outS angles rows projected queries pairs curved gated turnedQ turnedK valuesT normed root curve projected_at queries_at pairs_at curved_at normed_at valuesT_at gated_at
  turnedQ_plain turnedQ_first turnedQ_second turnedQ_rest turnedK_plain turnedK_first turnedK_second turnedK_rest)

/-- One chunk's 128 rows of a block. -/
def rowSlice (q : FVec Ideal S1024x512 .f32) (n : Fin 8) : FVec Ideal S128x512 .f32 := fun y => q (ix2 ⟨n.val * 128 + (y 0).val, by have := n.isLt; have := (y 0).isLt; simp at this; omega⟩ (y 1))

theorem slice_rows (q : FVec Ideal S1024x512 .f32) (n : Fin 8) (o : ℕ) (ho : o = n.val * 128) (hs : S1024x512.Slices ![o, 0] S128x512) :
    extractStridedSlice S128x512 ![o, 0] q hs = rowSlice q n := by
  subst ho
  funext y
  pointwise [rowSlice]

/-- What each entry of a block of chunks holds when each chunk went through one function. -/
def byChunk (u v : FVec Ideal S1024x512 .f32) (f : FVec Ideal S128x512 .f32 → FVec Ideal S128x512 .f32 → FVec Ideal S128x512 .bf16) : FVec Ideal S1024x512 .bf16 :=
  fun y => f (rowSlice u ⟨(y 0).val / 128, by have := (y 0).isLt; simp at this; omega⟩) (rowSlice v ⟨(y 0).val / 128, by have := (y 0).isLt; simp at this; omega⟩) (ix2 ⟨(y 0).val % 128, by omega⟩ (y 1))

theorem piece_chunk (u v : FVec Ideal S1024x512 .f32) (f : FVec Ideal S128x512 .f32 → FVec Ideal S128x512 .f32 → FVec Ideal S128x512 .bf16) (n : Fin 8) (o : ℕ) (ho : o = n.val * 128)
    (hs : S1024x512.Slices ![o, 0] S128x512) (inb) (x : S128x512.Idx) :
    (f (extractStridedSlice S128x512 ![o, 0] u hs) (extractStridedSlice S128x512 ![o, 0] v hs) x : EReal) = byChunk u v f ((Rect.unit (s := S1024x512) ![o, 0] S128x512.size inb).emb x) := by
  rw [slice_rows u n o ho, slice_rows v n o ho]
  subst ho
  have e0 : ((Rect.unit (s := S1024x512) ![n.val * 128, 0] S128x512.size inb).emb x) = ix2 ⟨n.val * 128 + (x 0).val, by have := n.isLt; have := (x 0).isLt; simp at this; omega⟩ (x 1) := by
    funext a
    refine Fin.ext ((Rect.idx_unit_val _ _ inb x a).trans ?_)
    match a with
    | ⟨0, _⟩ => rfl
    | ⟨1, _⟩ => exact Nat.zero_add _
  rw [e0]
  unfold byChunk
  have hx : (x 0).val < 128 := (x 0).isLt
  have e1 : (n.val * 128 + (x 0).val) / 128 = n.val := by omega
  have e2 : (n.val * 128 + (x 0).val) % 128 = (x 0).val := by omega
  have e3 : x = ix2 (x 0) (x 1) := by
    funext a
    match a with
    | ⟨0, _⟩ => rfl
    | ⟨1, _⟩ => rfl
  show f (rowSlice u n) (rowSlice v n) x = f (rowSlice u ⟨(n.val * 128 + (x 0).val) / 128, _⟩) (rowSlice v ⟨(n.val * 128 + (x 0).val) / 128, _⟩) (ix2 ⟨(n.val * 128 + (x 0).val) % 128, _⟩ (x 1))
  simp only [e1, e2]
  exact congrArg _ e3

theorem byChunk_at (u v : FVec Ideal S1024x512 .f32) (f : FVec Ideal S128x512 .f32 → FVec Ideal S128x512 .f32 → FVec Ideal S128x512 .bf16) (n : Fin 8) (s : Fin 128) (j : Fin 512) :
    (byChunk u v f (ix2 ⟨n.val * 128 + s.val, by omega⟩ j) : EReal) = f (rowSlice u n) (rowSlice v n) (ix2 s j) := by
  have e1 : (n.val * 128 + s.val) / 128 = n.val := by omega
  have e2 : (n.val * 128 + s.val) % 128 = s.val := by omega
  show f (rowSlice u ⟨(n.val * 128 + s.val) / 128, _⟩) (rowSlice v ⟨(n.val * 128 + s.val) / 128, _⟩) (ix2 ⟨(n.val * 128 + s.val) % 128, _⟩ j) = _
  simp only [e1, e2]

set_option maxHeartbeats 2000000 in
theorem out17_at (x0 : Vec Ideal S1024x1024 .f32) (x1 : Vec Ideal S16x1024 .f32) (x2 : Vec Ideal S1x1024 .f32) (x3 : Vec Ideal S1024x1536 .bf16) (x4 : Vec Ideal S1x256 .f32) (x5 : Vec Ideal S256x1024 .bf16) (x6 : Vec Ideal S1x128 .f32) (x7 : Vec Ideal S128x1024 .bf16) (x8 : Vec Ideal S512x128 .bf16) (x9 : Vec Ideal S1x512 .f32) (x10 : Vec Ideal S512x512 .bf16) (x11 : Vec Ideal S128x1024 .f32) (x12 : Vec Ideal S128x512 .f32) (x13 : Vec Ideal S1x512 .f32) (y : S1024x512.Idx) :
    (out0_17 x0 x1 x2 x3 x4 x5 x6 x7 x8 x9 x10 x11 x12 x13 y : EReal)
      = byChunk (k0_pay35 (k0_pay2 x0 x2 x3)) (k0_pay37 (k0_pay36 (k0_pay2 x0 x2 x3) x10) x9) (chunk (k0_pay38 x11) heads (k0_pay42 x12) (k0_pay43 x13)) y := by
  unfold_out out0_17
  have ld0 : View.ld x0 r0_0 = x0 := View.ld_unit_lit _ _ (by decide)
  have ld2 : View.ld x2 r0_1 = x2 := View.ld_unit_lit _ _ (by decide)
  have ld3 : View.ld x3 r0_2 = x3 := View.ld_unit_lit _ _ (by decide)
  have ld9 : View.ld x9 r0_19 = x9 := View.ld_unit_lit _ _ (by decide)
  have ld10 : View.ld x10 r0_18 = x10 := View.ld_unit_lit _ _ (by decide)
  have ld11 : View.ld x11 r0_15 = x11 := View.ld_unit_lit _ _ (by decide)
  have ld12 : View.ld x12 r0_20 = x12 := View.ld_unit_lit _ _ (by decide)
  have ld13 : View.ld x13 r0_19 = x13 := View.ld_unit_lit _ _ (by decide)
  rw [ld0, ld2, ld3, ld9, ld10, ld11, ld12, ld13]
  refine View.canon_apply_of_pieces (Val := Elt Ideal) (byChunk (k0_pay35 (k0_pay2 x0 x2 x3)) (k0_pay37 (k0_pay36 (k0_pay2 x0 x2 x3) x10) x9) (chunk (k0_pay38 x11) heads (k0_pay42 x12) (k0_pay43 x13))) _
    (List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩⟩⟩⟩⟩) y (cover0_17 _ _ _ _ _ _ _ _ y)
  · exact (congrFun (payS7 _ _ _ _ _ _) x).trans (piece_chunk (k0_pay35 (k0_pay2 x0 x2 x3)) (k0_pay37 (k0_pay36 (k0_pay2 x0 x2 x3) x10) x9) (chunk (k0_pay38 x11) heads (k0_pay42 x12) (k0_pay43 x13)) 7 896 rfl slices_S1024x512_o896_0_S128x512 inb_S1024x512_S128x512_896_0 x)
  · exact (congrFun (payS6 _ _ _ _ _ _) x).trans (piece_chunk (k0_pay35 (k0_pay2 x0 x2 x3)) (k0_pay37 (k0_pay36 (k0_pay2 x0 x2 x3) x10) x9) (chunk (k0_pay38 x11) heads (k0_pay42 x12) (k0_pay43 x13)) 6 768 rfl slices_S1024x512_o768_0_S128x512 inb_S1024x512_S128x512_768_0 x)
  · exact (congrFun (payS5 _ _ _ _ _ _) x).trans (piece_chunk (k0_pay35 (k0_pay2 x0 x2 x3)) (k0_pay37 (k0_pay36 (k0_pay2 x0 x2 x3) x10) x9) (chunk (k0_pay38 x11) heads (k0_pay42 x12) (k0_pay43 x13)) 5 640 rfl slices_S1024x512_o640_0_S128x512 inb_S1024x512_S128x512_640_0 x)
  · exact (congrFun (payS4 _ _ _ _ _ _) x).trans (piece_chunk (k0_pay35 (k0_pay2 x0 x2 x3)) (k0_pay37 (k0_pay36 (k0_pay2 x0 x2 x3) x10) x9) (chunk (k0_pay38 x11) heads (k0_pay42 x12) (k0_pay43 x13)) 4 512 rfl slices_S1024x512_o512_0_S128x512 inb_S1024x512_S128x512_512_0 x)
  · exact (congrFun (payS3 _ _ _ _ _ _) x).trans (piece_chunk (k0_pay35 (k0_pay2 x0 x2 x3)) (k0_pay37 (k0_pay36 (k0_pay2 x0 x2 x3) x10) x9) (chunk (k0_pay38 x11) heads (k0_pay42 x12) (k0_pay43 x13)) 3 384 rfl slices_S1024x512_o384_0_S128x512 inb_S1024x512_S128x512_384_0 x)
  · exact (congrFun (payS2 _ _ _ _ _ _) x).trans (piece_chunk (k0_pay35 (k0_pay2 x0 x2 x3)) (k0_pay37 (k0_pay36 (k0_pay2 x0 x2 x3) x10) x9) (chunk (k0_pay38 x11) heads (k0_pay42 x12) (k0_pay43 x13)) 2 256 rfl slices_S1024x512_o256_0_S128x512 inb_S1024x512_S128x512_256_0 x)
  · exact (congrFun (payS1 _ _ _ _ _ _) x).trans (piece_chunk (k0_pay35 (k0_pay2 x0 x2 x3)) (k0_pay37 (k0_pay36 (k0_pay2 x0 x2 x3) x10) x9) (chunk (k0_pay38 x11) heads (k0_pay42 x12) (k0_pay43 x13)) 1 128 rfl slices_S1024x512_o128_0_S128x512 inb_S1024x512_S128x512_128_0 x)
  · exact (congrFun (payS0 _ _ _ _ _) x).trans (piece_chunk (k0_pay35 (k0_pay2 x0 x2 x3)) (k0_pay37 (k0_pay36 (k0_pay2 x0 x2 x3) x10) x9) (chunk (k0_pay38 x11) heads (k0_pay42 x12) (k0_pay43 x13)) 0 0 rfl slices_S1024x512_o0_0_S128x512 inb_S1024x512_S128x512_0_0 x)

theorem rooted (v : Fin 64 → EReal) (a g : EReal) {S : EReal} (h : S = ∑ i, v i * v i) :
    a * Ideal.rsqrt (Ideal.div S (Ideal.ofBits .f32 0x42800000#32) + Ideal.ofBits .f32 0x358637BD#32) * g = a * root v 0x42800000#32 * g := by
  rw [h]
  rfl

theorem shifted (u b : EReal) {S S' : EReal} (h : S = S') : u * (S + b) = u * (S' + b) := by rw [h]

variable (m : (ℓ : Loc nD τ sig) → Buf (Elt Ideal) ℓ)

/-- The block's gating lanes. -/
theorem gb_at (c : Dev nD) (t : Fin cfg0.N) (r l : Fin 1024) :
    (k0_pay34 (zb m c t) (ix2 r l) : EReal) = curved (zr m c) (ix2 (rowOf t r) l) := by
  rw [gate_at, curved_at]
  exact congrArg curve (zb_gate m c t r l)

/-- The block's second half, normed within each head. -/
theorem vb_at (c : Dev nD) (t : Fin cfg0.N) (r : Fin 1024) (h : Fin 8) (j : Fin 64) :
    (k0_pay37 (k0_pay36 (zb m c t) (iblk m c 10 t)) (iblk m c 9 t) (ix2 r ⟨h.val * 64 + j.val, by omega⟩) : EReal)
      = curved (zr m c) (ix2 (rowOf t r) ⟨512 + (h.val * 64 + j.val), by omega⟩)
        * root (fun a : Fin 64 => curved (zr m c) (ix2 (rowOf t r) ⟨512 + (h.val * 64 + a.val), by omega⟩)) 0x42800000#32 * (m ((c : Thread nD τ).loc main_arg8)) (ix3 0 h j) := by
  rw [mean_at, read9, gb_at, mean64]
  refine rooted (fun a : Fin 64 => curved (zr m c) (ix2 (rowOf t r) ⟨512 + (h.val * 64 + a.val), by omega⟩)) _ _ ?_
  rw [sum_groups, Finset.sum_eq_single h]
  · refine Finset.sum_congr rfl fun a _ => ?_
    rw [read10, if_pos (by simp only []; omega), mul_one, gb_at]
  · intro k _ hk
    refine Finset.sum_eq_zero fun a _ => ?_
    have hk' : k.val ≠ h.val := fun e => hk (Fin.ext e)
    rw [read10, if_neg (by simp only []; omega), mul_zero]
  · exact fun h' => absurd (Finset.mem_univ _) h'

/-- The block's mixing weights. -/
theorem wb_at (c : Dev nD) (t : Fin cfg0.N) (r : Fin 128) (h : Fin 8) (s : Fin 128) :
    (k0_pay38 (iblk m c 11 t) (ix2 r ⟨h.val * 128 + s.val, by omega⟩) : EReal) = if s.val ≤ r.val then (m ((c : Thread nD τ).loc main_arg9)) (ix4 0 h r s) else (0 : EReal) := by
  rw [causal_word, read11]
  simp only [show (h.val * 128 + s.val) % 128 = s.val by omega]

theorem bb_at (c : Dev nD) (t : Fin cfg0.N) (r : Fin 128) (h : Fin 8) (j : Fin 64) :
    (k0_pay42 (iblk m c 12 t) (ix2 r ⟨h.val * 64 + j.val, by omega⟩) : EReal) = (m ((c : Thread nD τ).loc main_arg10)) (ix3 0 h r) := by
  have e : k0_pay42 (iblk m c 12 t) (ix2 r ⟨h.val * 64 + j.val, by omega⟩) = (iblk m c 12 t : Vec Ideal S128x512 .f32) (ix2 r ⟨h.val * 64 + j.val, by omega⟩) := by
    pointwise [k0_pay42]
  exact e.trans (read12 m c t r h j)

theorem ob_at (c : Dev nD) (t : Fin cfg0.N) (j : Fin 512) :
    (k0_pay43 (iblk m c 13 t) (ix2 0 j) : EReal) = (m ((c : Thread nD τ).loc main_arg11)) (ix2 0 j) := by
  have e : k0_pay43 (iblk m c 13 t) (ix2 0 j) = (iblk m c 13 t : Vec Ideal S1x512 .f32) (ix2 0 j) := by
    pointwise [k0_pay43]
  exact e.trans (read13 m c t j)

/-- The row of the array that row `s` of chunk `n` of block `t` is, counted by chunks. -/
theorem row_chunk (t : Fin cfg0.N) (n : Fin 8) (s : Fin 128) :
    rowOf t ⟨n.val * 128 + s.val, by omega⟩ = ⟨(⟨t.val * 8 + n.val, by have := lt_of_lt_of_eq t.isLt (show cfg0.N = 16 from N_0); omega⟩ : Fin 128).val * 128 + s.val, by have := lt_of_lt_of_eq t.isLt (show cfg0.N = 16 from N_0); omega⟩ :=
  Fin.ext (by show t.val * 1024 + (n.val * 128 + s.val) = (t.val * 8 + n.val) * 128 + s.val; omega)

/-- A chunk's rows, gated by the mixed ones. -/
theorem gated_chunk (c : Dev nD) (t : Fin cfg0.N) (n : Fin 8) (s : Fin 128) (j : Fin 512) :
    (mulf (rowSlice (k0_pay35 (zb m c t)) n) (mixedRows (rowSlice (k0_pay37 (k0_pay36 (zb m c t) (iblk m c 10 t)) (iblk m c 9 t)) n) (k0_pay38 (iblk m c 11 t)) heads (k0_pay42 (iblk m c 12 t))) (ix2 s j) : EReal)
      = gated (curved (zr m c)) (m ((c : Thread nD τ).loc main_arg8)) (m ((c : Thread nD τ).loc main_arg9)) (m ((c : Thread nD τ).loc main_arg10)) (ix2 (rowOf t ⟨n.val * 128 + s.val, by omega⟩) j) := by
  revert j
  refine byValueLanes fun h j => ?_
  rw [row_chunk, gated_at]
  show (k0_pay35 (zb m c t) (ix2 ⟨n.val * 128 + s.val, _⟩ ⟨h.val * 64 + j.val, _⟩) : EReal) * mixedRows _ _ _ _ (ix2 s ⟨h.val * 64 + j.val, _⟩) = _
  rw [first_at, gb_at, mixedRows_at, bb_at, row_chunk]
  refine shifted _ _ (Finset.sum_congr rfl fun q _ => ?_)
  show (k0_pay37 (k0_pay36 (zb m c t) (iblk m c 10 t)) (iblk m c 9 t) (ix2 ⟨n.val * 128 + q.val, _⟩ ⟨h.val * 64 + j.val, _⟩) : EReal) * _ = _
  rw [vb_at, wb_at, row_chunk]

theorem s_entry (c : Dev nD) (t : Fin cfg0.N) (r : Fin 1024) (j : Fin 512) :
    (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) : EReal) = outS (zr m c) (m ((c : Thread nD τ).loc main_arg8)) (m ((c : Thread nD τ).loc main_arg9)) (m ((c : Thread nD τ).loc main_arg10)) (m ((c : Thread nD τ).loc main_arg11)) (ix2 (rowOf t r) j) := by
  rw [out17_at]
  revert r
  refine byLanes fun n s => ?_
  rw [byChunk_at]
  show (normRows _ _ (ix2 s j) : EReal) = normed _ _ (ix2 (rowOf t ⟨n.val * 128 + s.val, _⟩) j)
  rw [normRows_at, normed_at, ob_at, gated_chunk]
  refine congrArg (fun a => _ * root a _ * _) (funext fun a => ?_)
  exact gated_chunk m c t n s a

/-- The gated mixing's result. -/
theorem result_s (c : Dev nD) : (dats m 0 c).arrAt 17 cfg0.N =
    outS (zr m c) (m ((c : Thread nD τ).loc main_arg8)) (m ((c : Thread nD τ).loc main_arg9)) (m ((c : Thread nD τ).loc main_arg10)) (m ((c : Thread nD τ).loc main_arg11)) := by
  refine (dats m 0 c).arrAt_eq_of_covers 17 _ (by decide +kernel) fun t _ y => ?_
  blk_simp
  rw [after0_17]
  have e : (win0_17.blk t).view.emb y = ix2 (rowOf t (y 0)) (y 1) := by
    blk_ext [index_out t]
  have ey : y = ix2 (y 0) (y 1) := by funext a; match a with | ⟨0, _⟩ => rfl | ⟨1, _⟩ => rfl
  rw [e, ey]
  exact s_entry m c t (y 0) (y 1)

end Cert.KernelIdeal3.Layer
-- ==== Proof.Ranked.lean ====
module

public import Idealize.ShloMosaic.Lib.Pipeline.ValueKit
public import Idealize.ShloMosaic.Lib.SortFacts

@[expose] public section

noncomputable section

open Idealize.ShloMosaic

namespace Cert.Ranked

variable {n : ℕ}

/-- How many entries are at least `t`. -/
def count (t : EReal) (x : Fin n → EReal) : ℕ := (Finset.univ.filter fun i => t ≤ x i).card

/-- `y` is `x` with one of its greatest entries lowered to the bottom. -/
def Lowered (x y : Fin n → EReal) : Prop :=
  ∃ a, x a = Finset.univ.sup x ∧ ∀ i, y i = if i = a then ⊥ else x i

/-- Lowering a greatest entry takes one from the count, above the bottom. -/
theorem count_lowered {t : EReal} (ht : t ≠ ⊥) {x y : Fin n → EReal} (h : Lowered x y) : count t y = count t x - 1 := by
  obtain ⟨a, ha, hy⟩ := h
  have e : (Finset.univ.filter fun i => t ≤ y i) = (Finset.univ.filter fun i => t ≤ x i).erase a := by
    ext i
    simp only [Finset.mem_filter, Finset.mem_univ, true_and, Finset.mem_erase, hy]
    by_cases hi : i = a
    · simp [hi, ht]
    · simp [hi]
  unfold count
  rw [e]
  by_cases hm : a ∈ Finset.univ.filter fun i => t ≤ x i
  · exact Finset.card_erase_of_mem hm
  · have h0 : (Finset.univ.filter fun i => t ≤ x i) = ∅ := by
      refine Finset.filter_eq_empty_iff.mpr fun i _ hti => hm ?_
      simp only [Finset.mem_filter, Finset.mem_univ, true_and]
      exact (hti.trans (Finset.le_sup (Finset.mem_univ i))).trans_eq ha.symm
    rw [h0]; simp

/-- The greatest entry is at least `t` exactly if some entry is. -/
theorem le_sup_iff {t : EReal} (ht : t ≠ ⊥) (x : Fin n → EReal) : t ≤ Finset.univ.sup x ↔ 1 ≤ count t x := by
  unfold count
  rw [Finset.le_sup_iff (bot_lt_iff_ne_bot.mpr ht), Nat.one_le_iff_ne_zero, Finset.card_ne_zero]
  constructor
  · rintro ⟨i, -, hi⟩; exact ⟨i, by simpa using hi⟩
  · rintro ⟨i, hi⟩; exact ⟨i, Finset.mem_univ i, by simpa using hi⟩

/-- Two values with the same lower bounds above the bottom are one. -/
theorem eq_of_bounds {a b : EReal} (h : ∀ t, t ≠ ⊥ → (t ≤ a ↔ t ≤ b)) : a = b := by
  refine le_antisymm ?_ ?_
  · by_cases ha : a = ⊥
    · rw [ha]; exact bot_le
    · exact (h a ha).mp le_rfl
  · by_cases hb : b = ⊥
    · rw [hb]; exact bot_le
    · exact (h b hb).mpr le_rfl

/-- An entry of the values in descending order is at least `t` exactly if more entries than its place are. -/
theorem le_sorted_iff {t : EReal} {x : Fin n → EReal} (σ : Fin n → Fin n) (hσ : Function.Injective σ)
    (hs : ∀ i j, i < j → x (σ j) ≤ x (σ i)) (k : Fin n) : t ≤ x (σ k) ↔ k.val + 1 ≤ count t x := by
  have e : count t x = (Finset.univ.filter fun j => t ≤ x (σ j)).card := by
    unfold count
    rw [← Finset.card_image_of_injective (Finset.univ.filter fun j => t ≤ x (σ j)) hσ]
    congr 1
    ext i
    simp only [Finset.mem_filter, Finset.mem_univ, true_and, Finset.mem_image]
    constructor
    · intro hi
      obtain ⟨j, rfl⟩ := (Finite.injective_iff_surjective.mp hσ) i
      exact ⟨j, hi, rfl⟩
    · rintro ⟨j, hj, rfl⟩; exact hj
  rw [e]
  constructor
  · intro hk
    have : Finset.Iic k ⊆ Finset.univ.filter fun j => t ≤ x (σ j) := by
      intro j hj
      simp only [Finset.mem_filter, Finset.mem_univ, true_and]
      rcases (Finset.mem_Iic.mp hj).lt_or_eq with h | h
      · exact hk.trans (hs j k h)
      · rw [h]; exact hk
    have := Finset.card_le_card this
    rwa [Fin.card_Iic] at this
  · intro hc
    by_contra hk
    have : (Finset.univ.filter fun j => t ≤ x (σ j)) ⊆ Finset.Iio k := by
      intro j hj
      simp only [Finset.mem_filter, Finset.mem_univ, true_and] at hj
      refine Finset.mem_Iio.mpr (lt_of_not_ge fun h => hk ?_)
      rcases h.lt_or_eq with h | h
      · exact hj.trans (hs k j h)
      · rw [h]; exact hj
    have := Finset.card_le_card this
    rw [Fin.card_Iio] at this
    omega

/-- The positions of the stable descending sort of `x`. -/
abbrev place (x : Fin n → EReal) : Fin n → Fin n :=
  sortedFrom (fun k k' => (FloatOps.cmpfTotal (F := Ideal) (φ := .f32) .gt (x k) (x k') == 1#1))

theorem gt_iff (a b : EReal) : (FloatOps.cmpfTotal (F := Ideal) (φ := .f32) .gt a b == 1#1) = decide (b < a) := by
  show (BitVec.ofBool (decide (b < a)) == 1#1) = _
  cases decide (b < a) <;> rfl

theorem place_sorted (x : Fin n → EReal) (i j : Fin n) (h : i < j) : x (place x j) ≤ x (place x i) := by
  have := sortedFrom_noInversion (fun k k' => (FloatOps.cmpfTotal (F := Ideal) (φ := .f32) .gt (x k) (x k') == 1#1))
    (fun k k' => (FloatOps.cmpfTotal (F := Ideal) (φ := .f32) .gt (x k) (x k') == 1#1))
    (fun a b hab => by
      simp only [gt_iff, decide_eq_true_eq, decide_eq_false_iff_not] at hab ⊢
      exact not_lt.mpr hab.le)
    (fun _ _ h => h)
    (fun a b c hab hbc => by
      simp only [gt_iff, decide_eq_false_iff_not, not_lt] at hab hbc ⊢
      exact hab.trans hbc) i j h
  exact not_lt.mp (decide_eq_false_iff_not.mp ((gt_iff _ _).symm.trans this))

/-- The greatest entry after `k` lowerings is the sorted values' `k`-th. -/
theorem sup_eq_sorted (y : ℕ → Fin n → EReal) (k : Fin n) (h : ∀ i < k.val, Lowered (y i) (y (i + 1))) :
    Finset.univ.sup (y k.val) = y 0 (place (y 0) k) := by
  refine eq_of_bounds fun t ht => ?_
  rw [le_sup_iff ht, le_sorted_iff (place (y 0)) (sortedFrom_injective _) (place_sorted (y 0)) k]
  have : ∀ i ≤ k.val, count t (y i) = count t (y 0) - i := by
    intro i
    induction i with
    | zero => intro _; rfl
    | succ i ih => intro hi; rw [count_lowered ht (h i (by omega)), ih (by omega)]; omega
  rw [this k.val le_rfl]
  omega

end Cert.Ranked
-- ==== Proof.Ref4.lean ====
module

public import proofs.«01_k».proof.Proof.Gen.ReferenceIdeal4.Run
public import proofs.«01_k».proof.Proof.Ranked
public import Idealize.ShloMosaic.Lib.Pipeline.ValueKit

@[expose] public section

set_option maxRecDepth 16384

noncomputable section

open Idealize.ShloMosaic Idealize.ShloMosaic.TcCoe Idealize.SL.Sem

namespace Cert.ReferenceIdeal4.Layer

open Cert.ReferenceIdeal4 Cert.ReferenceIdeal4.Gen Cert.ReferenceIdeal4.Value

/-- The two mixers' rows side by side, through the output weights. -/
def projected (a b : FVec Ideal S16384x512 .bf16) (w : FVec Ideal S1x1024x1024 .f32) : FVec Ideal S16384x1024 .f32 :=
  Host.dotGeneral dot_S16384x1024_S1024x1024_S16384x1024_1_0_0_1_n_n none
    (concatenate S16384x1024 1 [⟨S16384x512, a⟩, ⟨S16384x512, b⟩] concatenates_S16384x512_S16384x512_S16384x1024_d1)
    (truncf .bf16 (shapeCast S1024x1024 w shapeCasts_S1x1024x1024_S1024x1024) bitsLt_bf16_f32)

/-- A row scaled by the inverse root of its mean square, then by the gain. -/
def normed (y : FVec Ideal S16384x1024 .f32) (g : FVec Ideal S1x1024 .f32) : FVec Ideal S16384x1024 .f32 :=
  mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast S1024 g shapeCasts_S1x1024_S1024)))

/-- The rows after the mixers' residual. -/
def after (x : FVec Ideal S2x8192x1024 .f32) (y : FVec Ideal S16384x1024 .f32) (g : FVec Ideal S1x1024 .f32) : FVec Ideal S16384x1024 .f32 :=
  addf (shapeCast S16384x1024 x shapeCasts_S2x8192x1024_S16384x1024) (normed y g)

/-- A row of the product is its first mixer's half against the upper weights and its second's against the lower ones. -/
theorem projected_at (a b : FVec Ideal S16384x512 .bf16) (w : FVec Ideal S1x1024x1024 .f32) (R : Fin 16384) (j : Fin 1024) :
    projected a b w (ix2 R j) = (∑ k : Fin 512, a (ix2 R k) * w (ix3 0 ⟨k.val, by omega⟩ j) : EReal)
      + ∑ k : Fin 512, b (ix2 R k) * w (ix3 0 ⟨512 + k.val, by omega⟩ j) := by
  pointwise [projected]

/-- The router's score of every expert for every row. -/
def scores (x1 : FVec Ideal S16384x1024 .f32) (g : FVec Ideal S1x1024 .f32) (w : FVec Ideal S1x1024x32 .f32) (b : FVec Ideal S1x32 .f32) : FVec Ideal S16384x32 .f32 :=
  addf (Host.dotGeneral dot_S16384x1024_S1024x32_S16384x32_1_0_0_1_n_n none (truncf .bf16 (normed x1 g) bitsLt_bf16_f32)
      (truncf .bf16 (shapeCast S1024x32 w shapeCasts_S1x1024x32_S1024x32) bitsLt_bf16_f32))
    (broadcastInDim S16384x32 ![0, 1] bcast_S1x32_S16384x32_0_1 (broadcastInDim S1x32 ![1] bcast_S32_S1x32_1 (shapeCast S32 b shapeCasts_S1x32_S32)))

/-- Each row's four greatest scores, in descending order. -/
def greatest (l : FVec Ideal S16384x32 .f32) : FVec Ideal S16384x4 .f32 :=
  (Host.topK S16384x4 1 (FloatOps.cmpfTotal .gt) l sliceFits_S16384x32_S16384x4).1

/-- A row's exponentials of its distances to its greatest value. -/
def powers (v : FVec Ideal S16384x4 .f32) : FVec Ideal S16384x4 .f32 :=
  Host.exp (subf v (broadcastInDim S16384x4 ![0, 1] bcast_S16384x1_S16384x4_0_1 (broadcastInDim S16384x1 ![0] bcast_S16384_S16384x1_0 (maximumf (broadcastInDim S16384 ![] bcast_S_S16384 (constant S_ .f32 0xFF800000#32)) (Host.reduce FloatOps.maximumf v (constant S_ .f32 0xFF800000#32) reducesTo_S16384x4_S16384_d1 h_S_)))))

/-- The softmax of each row's values, one row of the result for each of the four. -/
def gates (v : FVec Ideal S16384x4 .f32) : FVec Ideal S4x16384 .f32 :=
  transpose S4x16384 [1, 0] (Host.divf (powers v) (broadcastInDim S16384x4 ![0, 1] bcast_S16384x1_S16384x4_0_1 (broadcastInDim S16384x1 ![0] bcast_S16384_S16384x1_0 (Host.reduceAdd (powers v) (constant S_ .f32 0x00000000#32) reducesTo_S16384x4_S16384_d1 h_S_)))) transposes_S16384x4_S4x16384_1_0

/-- A row's `k`-th greatest score is the one at the `k`-th place of the descending order. -/
theorem greatest_at (l : FVec Ideal S16384x32 .f32) (R : Fin 16384) (k : Fin 4) :
    greatest l (ix2 R k) = l (ix2 R (Ranked.place (fun e => l (ix2 R e)) ⟨k.val, by omega⟩)) := by
  unfold greatest Host.topK
  dsimp only
  unfold Host.sort2 extractStridedSlice
  rw [dif_pos (by decide)]
  dsimp only
  have e : ∀ (J : S16384x32.Idx) (q : Fin 32), J 0 = R → J.along 1 q = ix2 R q := by
    intro J q hJ
    funext a
    match a with
    | ⟨0, _⟩ => exact hJ
    | ⟨1, _⟩ => rfl
  refine (congrArg l (e _ _ (Fin.ext (Nat.zero_add _)))).trans ?_
  have s : ∀ J : S16384x32.Idx, J 0 = R → (fun e => l (J.along 1 e)) = fun e => l (ix2 R e) := fun J hJ => funext fun q => congrArg l (e J q hJ)
  refine congrArg (fun q => l (ix2 R q)) ?_
  unfold Ranked.place
  rw [← s (fun a => ⟨0 + ((ix2 R k : S16384x4.Idx) (a.cast rfl)).val, by match a with | ⟨0, _⟩ => (show 0 + R.val < 16384; omega) | ⟨1, _⟩ => (show 0 + k.val < 32; omega)⟩) (Fin.ext (Nat.zero_add _))]
  refine congrArg _ (Fin.ext ?_)
  exact Nat.zero_add _

/-- A gate of a row whose values descend, over those values. -/
theorem gates_at (v : FVec Ideal S16384x4 .f32) (R : Fin 16384) (k : Fin 4) (h : ∀ k : Fin 4, v (ix2 R k) ≤ v (ix2 R 0)) :
    gates v (ix2 k R) = Ideal.div (Ideal.exp (v (ix2 R k) - v (ix2 R 0))) (∑ i : Fin 4, Ideal.exp (v (ix2 R i) - v (ix2 R 0))) := by
  pointwise [gates, powers]
  have e : Finset.fold max (⊥ : EReal) (fun x : Fin 4 => v (ix2 R x)) Finset.univ = v (ix2 R 0) :=
    le_antisymm (Finset.sup_le fun i _ => h i) (Finset.le_sup (f := fun x : Fin 4 => v (ix2 R x)) (Finset.mem_univ 0))
  have b : Ideal.ofBits .f32 4286578688#32 = ⊥ := by first | rfl | simp [Ideal.ofBits]
  rw [b, e, max_eq_right bot_le]

/-- What the reference returns, over its arguments. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = after (m ((c.tc : Thread nD τ).loc main_arg0))
        (projected (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_v53) = gates (greatest (scores (after (m ((c.tc : Thread nD τ).loc main_arg0)) (projected (m ((c.tc : Thread nD τ).loc main_arg1)) (m ((c.tc : Thread nD τ).loc main_arg2)) (m ((c.tc : Thread nD τ).loc main_arg3))) (m ((c.tc : Thread nD τ).loc main_arg4)))
        (m ((c.tc : Thread nD τ).loc main_arg5)) (m ((c.tc : Thread nD τ).loc main_arg6)) (m ((c.tc : Thread nD τ).loc main_arg7))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := run m ρ

end Cert.ReferenceIdeal4.Layer
-- ==== Proof.Block4.lean ====
module

public import proofs.«01_k».proof.Proof.Gen.KernelIdeal4.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal4.Layer

open Cert.KernelIdeal4 Cert.KernelIdeal4.Gen Cert.KernelIdeal4.Value

variable {F : FTy → Type} [FloatOps F]

/-- The upper half of the output weights' rows. -/
abbrev upper (w : Vec F S1024x1024 .bf16) : Vec F S512x1024 .bf16 :=
  View.ld w (Rect.unit (s := S1024x1024) ![0, 0] S512x1024.size inb_S1024x1024_S512x1024_0_0)

/-- The lower half of the output weights' rows. -/
abbrev lower (w : Vec F S1024x1024 .bf16) : Vec F S512x1024 .bf16 :=
  View.ld w (Rect.unit (s := S1024x1024) ![512, 0] S512x1024.size inb_S1024x1024_S512x1024_512_0)

/-- The block of rows a point stores, over the blocks it reads and the weights as the scratch holds them. -/
def rowBlock (x0 : Vec F S1024x1024 .f32) (x1 x2 : Vec F S1024x512 .bf16) (x4 : Vec F S1x1024 .f32) (w : Vec F S1024x1024 .bf16) : Vec F S1024x1024 .f32 :=
  k0_pay7 x1 (upper w) x2 (lower w) x0 x4

/-- A load from a scratch just stored whole is the load from what was stored. -/
theorem load_stored (v : View sig Kind.tc Space.vmem S1024x1024 EltTy.bf16) (w : Vec F S1024x1024 .bf16) (B : Rect S1024x1024) :
    v.readCov [(⟨Rect.unit ![0, 0] S1024x1024.size inb_S1024x1024_S1024x1024_0_0, w⟩ : View.Piece (Elt F) S1024x1024 .bf16)] B.toLoadRect = View.ld w B := by
  rw [View.readCov_eq_canon', View.canon_cons_unit_lit _ _ _ (by decide)]

theorem out_first (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S32x1024 .bf16) (h7 : a7.IsWhole) (a8 : Memref sig .tc .vmem S32x1 .f32) (h8 : a8.IsWhole) (a9 : Memref sig .tc .vmem S1024x1024 .f32) (h9 : a9.IsWhole) (a10 : Memref sig .tc .vmem S1024x2x512 .bf16) (h10 : a10.IsWhole) (a11 : Memref sig .tc .vmem S4x1024 .i32) (h11 : a11.IsWhole) (a12 : Memref sig .tc .vmem S4x1024 .f32) (h12 : a12.IsWhole) (a13 : Memref sig .tc .vmem S4x1024 .i32) (h13 : a13.IsWhole) (a14 : Memref sig .tc .vmem S32x128 .f32) (h14 : a14.IsWhole) (a15 : Memref sig .tc .vmem S32x1 .f32) (h15 : a15.IsWhole) (a16 : Memref sig .tc .vmem S1024x1024 .bf16) (h16 : a16.IsWhole) (hc : cond0_0 i) (x0 : Vec F S1024x1024 .f32) (x1 : Vec F S1024x512 .bf16) (x2 : Vec F S1024x512 .bf16) (x3 : Vec F S1024x1024 .f32) (x4 : Vec F S1x1024 .f32) (x5 : Vec F S1x1024 .f32) (x6 : Vec F S32x1024 .bf16) (x7 : Vec F S32x1 .f32) :
    out0_A_8 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 = rowBlock x0 x1 x2 x4 (k0_pay6 x3) := by
  frame_out
  unfold rowBlock upper lower
  rw [load_stored, load_stored]

theorem out_later (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S32x1024 .bf16) (h7 : a7.IsWhole) (a8 : Memref sig .tc .vmem S32x1 .f32) (h8 : a8.IsWhole) (a9 : Memref sig .tc .vmem S1024x1024 .f32) (h9 : a9.IsWhole) (a10 : Memref sig .tc .vmem S1024x2x512 .bf16) (h10 : a10.IsWhole) (a11 : Memref sig .tc .vmem S4x1024 .i32) (h11 : a11.IsWhole) (a12 : Memref sig .tc .vmem S4x1024 .f32) (h12 : a12.IsWhole) (a13 : Memref sig .tc .vmem S4x1024 .i32) (h13 : a13.IsWhole) (a14 : Memref sig .tc .vmem S32x128 .f32) (h14 : a14.IsWhole) (a15 : Memref sig .tc .vmem S32x1 .f32) (h15 : a15.IsWhole) (a16 : Memref sig .tc .vmem S1024x1024 .bf16) (h16 : a16.IsWhole) (hc : ¬cond0_0 i) (x0 : Vec F S1024x1024 .f32) (x1 : Vec F S1024x512 .bf16) (x2 : Vec F S1024x512 .bf16) (x3 : Vec F S1024x1024 .f32) (x4 : Vec F S1x1024 .f32) (x5 : Vec F S1x1024 .f32) (x6 : Vec F S32x1024 .bf16) (x7 : Vec F S32x1 .f32) (s0 : Vec F S32x1 .f32) (s1 : Vec F S1024x1024 .bf16) :
    out0_B_8 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 s0 s1 = rowBlock x0 x1 x2 x4 s1 := by
  frame_out
  rfl

theorem scratch_first (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S32x1024 .bf16) (h7 : a7.IsWhole) (a8 : Memref sig .tc .vmem S32x1 .f32) (h8 : a8.IsWhole) (a9 : Memref sig .tc .vmem S1024x1024 .f32) (h9 : a9.IsWhole) (a10 : Memref sig .tc .vmem S1024x2x512 .bf16) (h10 : a10.IsWhole) (a11 : Memref sig .tc .vmem S4x1024 .i32) (h11 : a11.IsWhole) (a12 : Memref sig .tc .vmem S4x1024 .f32) (h12 : a12.IsWhole) (a13 : Memref sig .tc .vmem S4x1024 .i32) (h13 : a13.IsWhole) (a14 : Memref sig .tc .vmem S32x128 .f32) (h14 : a14.IsWhole) (a15 : Memref sig .tc .vmem S32x1 .f32) (h15 : a15.IsWhole) (a16 : Memref sig .tc .vmem S1024x1024 .bf16) (h16 : a16.IsWhole) (hc : cond0_0 i) (x0 : Vec F S1024x1024 .f32) (x1 : Vec F S1024x512 .bf16) (x2 : Vec F S1024x512 .bf16) (x3 : Vec F S1024x1024 .f32) (x4 : Vec F S1x1024 .f32) (x5 : Vec F S1x1024 .f32) (x6 : Vec F S32x1024 .bf16) (x7 : Vec F S32x1 .f32) :
    sout0_A_1 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 = k0_pay6 x3 := by
  frame_out

/-- The block of scores a point computes, over the blocks it reads and the weights as the scratch holds them. -/
def scoreBlock (x0 : Vec F S1024x1024 .f32) (x1 x2 : Vec F S1024x512 .bf16) (x4 x5 : Vec F S1x1024 .f32) (x6 : Vec F S32x1024 .bf16) (x7 : Vec F S32x1 .f32) (w : Vec F S1024x1024 .bf16) : Vec F S32x1024 .f32 :=
  k0_pay12 (rowBlock x0 x1 x2 x4 w) (k0_pay8 x5) (k0_pay9 x1 (upper w) x2 (lower w) x0 x4) x6 x7

/-- The block of gates a point stores. -/
def gatesBlock (x0 : Vec F S1024x1024 .f32) (x1 x2 : Vec F S1024x512 .bf16) (x4 x5 : Vec F S1x1024 .f32) (x6 : Vec F S32x1024 .bf16) (x7 : Vec F S32x1 .f32) (w : Vec F S1024x1024 .bf16) : Vec F S4x1024 .f32 :=
  k0_pay29 (iota .tc S32x1024 32 [0] iota_S32x1024_d0_w32)
    (k0_pay13 (rowBlock x0 x1 x2 x4 w) (k0_pay8 x5) (k0_pay9 x1 (upper w) x2 (lower w) x0 x4) x6 x7)
    (k0_pay16 (rowBlock x0 x1 x2 x4 w) (k0_pay8 x5) (k0_pay9 x1 (upper w) x2 (lower w) x0 x4) x6 x7)
    (k0_pay17 (rowBlock x0 x1 x2 x4 w) (k0_pay8 x5) (k0_pay9 x1 (upper w) x2 (lower w) x0 x4) x6 x7)
    (k0_pay18 (rowBlock x0 x1 x2 x4 w) (k0_pay8 x5) (k0_pay9 x1 (upper w) x2 (lower w) x0 x4) x6 x7)

theorem gates_first (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S32x1024 .bf16) (h7 : a7.IsWhole) (a8 : Memref sig .tc .vmem S32x1 .f32) (h8 : a8.IsWhole) (a9 : Memref sig .tc .vmem S1024x1024 .f32) (h9 : a9.IsWhole) (a10 : Memref sig .tc .vmem S1024x2x512 .bf16) (h10 : a10.IsWhole) (a11 : Memref sig .tc .vmem S4x1024 .i32) (h11 : a11.IsWhole) (a12 : Memref sig .tc .vmem S4x1024 .f32) (h12 : a12.IsWhole) (a13 : Memref sig .tc .vmem S4x1024 .i32) (h13 : a13.IsWhole) (a14 : Memref sig .tc .vmem S32x128 .f32) (h14 : a14.IsWhole) (a15 : Memref sig .tc .vmem S32x1 .f32) (h15 : a15.IsWhole) (a16 : Memref sig .tc .vmem S1024x1024 .bf16) (h16 : a16.IsWhole) (hc : cond0_0 i) (x0 : Vec F S1024x1024 .f32) (x1 : Vec F S1024x512 .bf16) (x2 : Vec F S1024x512 .bf16) (x3 : Vec F S1024x1024 .f32) (x4 : Vec F S1x1024 .f32) (x5 : Vec F S1x1024 .f32) (x6 : Vec F S32x1024 .bf16) (x7 : Vec F S32x1 .f32) :
    out0_A_11 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 = gatesBlock x0 x1 x2 x4 x5 x6 x7 (k0_pay6 x3) := by
  frame_out
  unfold gatesBlock rowBlock upper lower
  rw [load_stored, load_stored]

theorem gates_later (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S32x1024 .bf16) (h7 : a7.IsWhole) (a8 : Memref sig .tc .vmem S32x1 .f32) (h8 : a8.IsWhole) (a9 : Memref sig .tc .vmem S1024x1024 .f32) (h9 : a9.IsWhole) (a10 : Memref sig .tc .vmem S1024x2x512 .bf16) (h10 : a10.IsWhole) (a11 : Memref sig .tc .vmem S4x1024 .i32) (h11 : a11.IsWhole) (a12 : Memref sig .tc .vmem S4x1024 .f32) (h12 : a12.IsWhole) (a13 : Memref sig .tc .vmem S4x1024 .i32) (h13 : a13.IsWhole) (a14 : Memref sig .tc .vmem S32x128 .f32) (h14 : a14.IsWhole) (a15 : Memref sig .tc .vmem S32x1 .f32) (h15 : a15.IsWhole) (a16 : Memref sig .tc .vmem S1024x1024 .bf16) (h16 : a16.IsWhole) (hc : ¬cond0_0 i) (x0 : Vec F S1024x1024 .f32) (x1 : Vec F S1024x512 .bf16) (x2 : Vec F S1024x512 .bf16) (x3 : Vec F S1024x1024 .f32) (x4 : Vec F S1x1024 .f32) (x5 : Vec F S1x1024 .f32) (x6 : Vec F S32x1024 .bf16) (x7 : Vec F S32x1 .f32) (s0 : Vec F S32x1 .f32) (s1 : Vec F S1024x1024 .bf16) :
    out0_B_11 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 s0 s1 = gatesBlock x0 x1 x2 x4 x5 x6 x7 s1 := by
  frame_out
  rfl

end Cert.KernelIdeal4.Layer
-- ==== Proof.Order.lean ====
module

public import proofs.«01_k».proof.Proof.Ranked
public import Idealize.ShloMosaic.Lib.SortPrefix

@[expose] public section

noncomputable section

open Idealize.ShloMosaic

namespace Cert.Ranked

variable {n : ℕ}

/-- `a` is the first place that holds the greatest entry of `x`. -/
def First (x : Fin n → EReal) (a : Fin n) : Prop := x a = Finset.univ.sup x ∧ ∀ e < a, x e ≠ Finset.univ.sup x

/-- Two relations that agree on pairs in which the later place comes first sort an ascending list alike. -/
theorem sort_ascending (R R' : Fin n → Fin n → Bool) (h : ∀ a b, a < b → R b a = R' b a) (l : List (Fin n)) (hl : l.Pairwise (· < ·)) :
    stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- Greater entries first, and of equal ones the earlier place first. -/
abbrev ahead (x : Fin n → EReal) (p q : Fin n) : Bool := decide (x q < x p) || (decide (x p = x q) && decide (p < q))

theorem ahead_total (x : Fin n → EReal) : StrictTotalBefore (ahead x) :=
  StrictTotalBefore.of_key_then_position (fun a b : EReal => decide (b < a)) x (fun a => by simp)
    (fun a b c hab hbc => by
      simp only [decide_eq_true_eq] at hab hbc ⊢
      exact hbc.trans hab)
    (fun a b => by
      simp only [decide_eq_true_eq]
      rcases lt_trichotomy a b with h | h | h
      · exact .inr (.inr h)
      · exact .inr (.inl h)
      · exact .inl h)

theorem place_ahead (x : Fin n → EReal) : place x = sortedFrom (ahead x) := by
  have e : sortPositions n (fun k k' => (FloatOps.cmpfTotal (F := Ideal) (φ := .f32) .gt (x k) (x k') == 1#1)) = sortPositions n (ahead x) :=
    sort_ascending _ _ (fun a b hab => by
      rw [gt_iff]
      have : decide (b < a) = false := decide_eq_false (not_lt.mpr hab.le)
      simp only [ahead, this, Bool.and_false, Bool.or_false]) _ (List.pairwise_lt_finRange n)
  funext k
  unfold place sortedFrom
  rw [List.get_of_eq e]
  rfl

/-- If no entry is the bottom, taking the first greatest entry and lowering it, again and again, names the places of the stable descending sort. -/
theorem place_eq (y : ℕ → Fin n → EReal) (a : ℕ → Fin n) (hf : ∀ i < n, First (y i) (a i))
    (hy : ∀ i < n, ∀ e, y (i + 1) e = if e = a i then ⊥ else y i e) (h0 : ∀ e, y 0 e ≠ ⊥) (k : Fin n) : place (y 0) k = a k.val := by
  have kept : ∀ i ≤ n, ∀ e, y i e = if ∃ j < i, e = a j then ⊥ else y 0 e := by
    intro i
    induction i with
    | zero => intro _ e; simp
    | succ i ih =>
      intro hi e
      rw [hy i (by omega), ih (by omega)]
      by_cases h1 : e = a i
      · rw [if_pos h1, if_pos ⟨i, Nat.lt_succ_self i, h1⟩]
      · rw [if_neg h1]
        refine if_congr ⟨fun ⟨j, hj, he⟩ => ⟨j, by omega, he⟩, fun ⟨j, hj, he⟩ => ⟨j, ?_, he⟩⟩ rfl rfl
        rcases Nat.lt_succ_iff_lt_or_eq.mp hj with h | h
        · exact h
        · exact absurd (h ▸ he) h1
  have new : ∀ i < n, ∀ j < i, a i ≠ a j := by
    intro i hi j hj he
    have hb : y i (a i) = ⊥ := by rw [kept i hi.le, if_pos ⟨j, hj, he⟩]
    obtain ⟨e, hne⟩ : ∃ e, ∀ j < i, e ≠ a j := by
      by_contra hall
      push Not at hall
      have hsub : (Finset.univ : Finset (Fin n)) ⊆ (Finset.range i).image a := by
        intro e _
        obtain ⟨j, hj, he⟩ := hall e
        exact Finset.mem_image.mpr ⟨j, Finset.mem_range.mpr hj, he.symm⟩
      have := (Finset.card_le_card hsub).trans Finset.card_image_le
      rw [Finset.card_univ, Fintype.card_fin, Finset.card_range] at this
      omega
    have hle : y i e ≤ ⊥ := (Finset.le_sup (f := y i) (Finset.mem_univ e)).trans_eq ((hf i hi).1.symm.trans hb)
    rw [kept i hi.le, if_neg (by rintro ⟨j, hj, he⟩; exact hne j hj he)] at hle
    exact h0 e (le_bot_iff.mp hle)
  have last : ∀ i < n, ∀ p, (∀ j < i, p ≠ a j) → ahead (y 0) p (a i) = false := by
    intro i hi p hp
    have e1 : y i p = y 0 p := by rw [kept i hi.le, if_neg (by rintro ⟨j, hj, he⟩; exact hp j hj he)]
    have e2 : y i (a i) = y 0 (a i) := by rw [kept i hi.le, if_neg (by rintro ⟨j, hj, he⟩; exact new i hi j hj he)]
    have hle : y i p ≤ y i (a i) := (Finset.le_sup (f := y i) (Finset.mem_univ p)).trans_eq (hf i hi).1.symm
    rw [e1, e2] at hle
    have hlt : ¬y 0 (a i) < y 0 p := not_lt.mpr hle
    have hpos : ¬(y 0 p = y 0 (a i) ∧ p < a i) := fun ⟨he, hpa⟩ => (hf i hi).2 p hpa (by rw [e1, he, ← e2]; exact (hf i hi).1)
    rw [Bool.or_eq_false_iff]
    refine ⟨decide_eq_false hlt, ?_⟩
    rw [← Bool.decide_and]
    exact decide_eq_false hpos
  have h := (ahead_total (y 0)).sortedFrom_eq_of_prefix le_rfl (fun i : Fin n => a i.val)
    (fun i j hij => by
      rcases lt_trichotomy i.val j.val with h | h | h
      · exact absurd hij.symm (new j.val j.isLt i.val h)
      · exact Fin.ext h
      · exact absurd hij (new i.val i.isLt j.val h))
    (fun i j hij => last i.val i.isLt _ fun l hl => new j.val j.isLt l (hl.trans hij))
    (fun i p hp => last i.val i.isLt p fun l hl => (hp ⟨l, hl.trans i.isLt⟩).symm) k
  rw [place_ahead]
  exact h

end Cert.Ranked
-- ==== Proof.Peaks.lean ====
module

public import proofs.«01_k».proof.Proof.Gen.KernelIdeal4.Skeleton
public import proofs.«01_k».proof.Proof.Order
public import Idealize.ShloMosaic.Lib.Pipeline.ValueKit

@[expose] public section

set_option maxRecDepth 16384

noncomputable section

open Idealize.ShloMosaic Idealize.ShloMosaic.TcCoe Idealize.SL.Sem

namespace Cert.KernelIdeal4.Layer

open Cert.KernelIdeal4 Cert.KernelIdeal4.Gen

/-- The experts' numbers down each column. -/
def numbers : IVec S32x1024 32 := iota .tc S32x1024 32 [0] iota_S32x1024_d0_w32

/-- Each column's greatest entry. -/
def peak (v : FVec Ideal S32x1024 .f32) : FVec Ideal S1x1024 .f32 :=
  shapeCast S1x1024 (multiReduction .maximumf [0] S1024 v 0xFF800000#32 reduces_S32x1024_S1024 (.inl rfl) rfl) shapeCasts_S1024_S1x1024

/-- The first row at which each column's greatest entry stands. -/
def pick (v : FVec Ideal S32x1024 .f32) : IVec S1024 32 :=
  multiReductionI .minsi [0] S1024 (select (cmpf .oeq v (broadcastTo S32x1024 (peak v) broadcasts_S1x1024_S32x1024)) numbers (broadcast S32x1024 32#32)) 2147483647#32 reduces_S32x1024_S1024 rfl

/-- The entries with each column's picked one lowered to the bottom. -/
def rest (v : FVec Ideal S32x1024 .f32) : FVec Ideal S32x1024 .f32 :=
  select (cmpi .eq numbers (broadcastTo S32x1024 (shapeCast S1x1024 (pick v) shapeCasts_S1024_S1x1024) broadcasts_S1x1024_S32x1024))
    (broadcast S32x1024 (Scalar.ofBits .f32 0xFF800000#32)) v

theorem minsi_cases (a b : BitVec 32) : (IntOp.minsi a b = a ∨ IntOp.minsi a b = b) ∧ (IntOp.minsi a b).toInt ≤ a.toInt ∧ (IntOp.minsi a b).toInt ≤ b.toInt := by
  unfold IntOp.minsi
  by_cases h : a.slt b
  · rw [if_pos h]; have := BitVec.slt_iff_toInt_lt.mp h; exact ⟨.inl rfl, le_rfl, this.le⟩
  · rw [if_neg h]; have := BitVec.slt_iff_toInt_lt.not.mp h; exact ⟨.inr rfl, not_lt.mp this, le_rfl⟩

/-- A fold of signed minima is its start or one of the values, and at most each of them. -/
theorem fold_min {ι : Type} [DecidableEq ι] (b : BitVec 32) (f : ι → BitVec 32) (s : Finset ι) :
    (s.fold IntOp.minsi b f = b ∨ ∃ i ∈ s, s.fold IntOp.minsi b f = f i) ∧ ∀ i ∈ s, (s.fold IntOp.minsi b f).toInt ≤ (f i).toInt := by
  induction s using Finset.induction_on with
  | empty => simp
  | insert c s hc ih =>
    rw [Finset.fold_insert hc]
    obtain ⟨h1, h2⟩ := ih
    obtain ⟨m1, m2, m3⟩ := minsi_cases (f c) (s.fold IntOp.minsi b f)
    refine ⟨?_, fun i hi => ?_⟩
    · rcases m1 with m1 | m1
      · exact .inr ⟨c, Finset.mem_insert_self c s, m1⟩
      · rcases h1 with h1 | ⟨i, hi, h1⟩
        · exact .inl (m1.trans h1)
        · exact .inr ⟨i, Finset.mem_insert_of_mem hi, m1.trans h1⟩
    · rcases Finset.mem_insert.mp hi with rfl | hi
      · exact m2
      · exact m3.trans (h2 i hi)

theorem neg_inf : Ideal.ofBits .f32 4286578688#32 = ⊥ := by first | rfl | simp [Ideal.ofBits]

theorem number_toInt (a : Fin 32) : (BitVec.ofNat 32 a.val).toInt = a.val := by
  revert a; decide

theorem peak_at (v : FVec Ideal S32x1024 .f32) (r : Fin 1024) : peak v (ix2 0 r) = Finset.univ.sup fun e : Fin 32 => v (ix2 e r) := by
  pointwise [peak]
  rw [neg_inf]
  rfl

/-- The pick of a column is the first row that holds its greatest entry. -/
theorem pick_at (v : FVec Ideal S32x1024 .f32) (r : Fin 1024) : ∃ a : Fin 32, Ranked.First (fun e : Fin 32 => v (ix2 e r)) a
    ∧ pick v (ix1 r) = BitVec.ofNat 32 a.val := by
  have hp := peak_at v r
  have hq : pick v (ix1 r) = Finset.univ.fold IntOp.minsi 2147483647#32 fun x : Fin 32 => if v (ix2 x r) = peak v (ix2 0 r) then BitVec.ofNat 32 x.val else 32#32 := by
    pointwise [pick, numbers]
  rw [hq, hp]
  obtain ⟨e, -, he⟩ := Finset.exists_mem_eq_sup Finset.univ Finset.univ_nonempty fun e : Fin 32 => v (ix2 e r)
  obtain ⟨h1, h2⟩ := fold_min 2147483647#32 (fun x : Fin 32 => if v (ix2 x r) = (Finset.univ.sup fun e : Fin 32 => v (ix2 e r)) then BitVec.ofNat 32 x.val else 32#32) Finset.univ
  have hle := h2 e (Finset.mem_univ e)
  rw [if_pos he.symm, number_toInt] at hle
  have hlt := e.isLt
  rcases h1 with h1 | ⟨a, -, h1⟩
  · rw [h1] at hle
    have : (2147483647#32).toInt = 2147483647 := by decide
    omega
  · by_cases ha : v (ix2 a r) = Finset.univ.sup fun e : Fin 32 => v (ix2 e r)
    · rw [if_pos ha] at h1
      refine ⟨a, ⟨ha, fun i hi hv => ?_⟩, h1⟩
      have hm := h2 i (Finset.mem_univ i)
      rw [h1, if_pos hv, number_toInt, number_toInt] at hm
      have := Fin.lt_def.mp hi
      omega
    · rw [if_neg ha] at h1
      rw [h1] at hle
      have : (32#32).toInt = 32 := by decide
      omega

theorem number_eq (e a : Fin 32) : (BitVec.ofNat 32 e.val = BitVec.ofNat 32 a.val) ↔ e = a :=
  ⟨fun h => Fin.ext (by have := congrArg BitVec.toInt h; rw [number_toInt, number_toInt] at this; exact_mod_cast this), fun h => by rw [h]⟩

/-- The pick of a column is the first row that holds its greatest entry, and the rest is the column with that entry lowered. -/
theorem round (v : FVec Ideal S32x1024 .f32) (r : Fin 1024) : ∃ a : Fin 32, Ranked.First (fun e : Fin 32 => v (ix2 e r)) a
    ∧ pick v (ix1 r) = BitVec.ofNat 32 a.val ∧ ∀ e : Fin 32, rest v (ix2 e r) = if e = a then ⊥ else v (ix2 e r) := by
  obtain ⟨a, ha, hp⟩ := pick_at v r
  refine ⟨a, ha, hp, fun e => ?_⟩
  have hr : rest v (ix2 e r) = Scalar.select (IntOp.cmpi .eq (BitVec.ofNat 32 e.val) (pick v (ix1 r))) (Ideal.ofBits .f32 4286578688#32) (v (ix2 e r)) := by
    pointwise [rest, numbers]
  rw [hr, hp, neg_inf]
  by_cases h : e = a
  · rw [if_pos h, h]
    simp [Scalar.select, IntOp.cmpi]
  · have h' := (number_eq e a).not.mpr h
    rw [if_neg h]
    have hc : IntOp.cmpi .eq (BitVec.ofNat 32 e.val) (BitVec.ofNat 32 a.val) = 0#1 := by
      show BitVec.ofBool (BitVec.ofNat 32 e.val == BitVec.ofNat 32 a.val) = 0#1
      rw [beq_eq_false_iff_ne.mpr h']
      rfl
    rw [hc]
    rfl

/-- The rest of a column is the column with one of its greatest entries lowered. -/
theorem rest_lowered (v : FVec Ideal S32x1024 .f32) (r : Fin 1024) : Ranked.Lowered (fun e : Fin 32 => v (ix2 e r)) (fun e => rest v (ix2 e r)) := by
  obtain ⟨a, ha, -, hr⟩ := round v r
  exact ⟨a, ha.1, hr⟩

/-- The picks of the successive rests of a column without a bottom entry are the places of its descending order. -/
theorem picks (v : FVec Ideal S32x1024 .f32) (r : Fin 1024) (h0 : ∀ e : Fin 32, v (ix2 e r) ≠ ⊥) (k : Fin 32) :
    pick (rest^[k.val] v) (ix1 r) = BitVec.ofNat 32 (Ranked.place (fun e => v (ix2 e r)) k).val := by
  choose a ha hp hr using fun i : ℕ => round (rest^[i] v) r
  have h := Ranked.place_eq (fun i e => (rest^[i] v) (ix2 e r)) a (fun i _ => ha i) (fun i _ e => by
    rw [Function.iterate_succ_apply']
    exact hr i e) h0 k
  exact (hp k.val).trans (congrArg (fun q : Fin 32 => BitVec.ofNat 32 q.val) h.symm)

/-- The greatest entries of the successive rests of a column are its entries in descending order. -/
theorem peaks (v : FVec Ideal S32x1024 .f32) (r : Fin 1024) (k : Fin 32) :
    peak (rest^[k.val] v) (ix2 0 r) = v (ix2 (Ranked.place (fun e => v (ix2 e r)) k) r) := by
  rw [peak_at]
  refine Ranked.sup_eq_sorted (fun i e => (rest^[i] v) (ix2 e r)) k fun i _ => ?_
  rw [Function.iterate_succ_apply']
  exact rest_lowered _ r

/-- The block of gates over a block of scores. -/
def gateBlock (v : FVec Ideal S32x1024 .f32) : FVec Ideal S4x1024 .f32 :=
  k0_pay29 (F := Ideal) numbers (peak v) (rest v) (peak (rest v)) (pick (rest v))

theorem second (v : FVec Ideal S32x1024 .f32) : k0_pay22 (F := Ideal) numbers (rest v) (pick (rest v)) = peak (rest (rest v)) := rfl

theorem third (v : FVec Ideal S32x1024 .f32) : k0_pay26 (F := Ideal) numbers (rest v) (pick (rest v)) = peak (rest (rest (rest v))) := rfl

theorem gateBlock_at (v : FVec Ideal S32x1024 .f32) (r : Fin 1024) (k : Fin 4) (p : Fin 4 → EReal)
    (hp : ∀ k : Fin 4, p k = v (ix2 (Ranked.place (fun e => v (ix2 e r)) ⟨k.val, by omega⟩) r)) :
    gateBlock v (ix2 k r) = Ideal.div (Ideal.exp (p k - p 0)) (∑ i : Fin 4, Ideal.exp (p i - p 0)) := by
  have h0 : peak v (ix2 0 r) = p 0 := by
    have := peaks v r ⟨0, by omega⟩
    simp only [Function.iterate_succ, Function.iterate_zero, Function.comp_apply, id_eq] at this
    exact this.trans (hp 0).symm
  have h1 : peak (rest v) (ix2 0 r) = p 1 := by
    have := peaks v r ⟨1, by omega⟩
    simp only [Function.iterate_succ, Function.iterate_zero, Function.comp_apply, id_eq] at this
    exact this.trans (hp 1).symm
  have h2 : peak (rest (rest v)) (ix2 0 r) = p 2 := by
    have := peaks v r ⟨2, by omega⟩
    simp only [Function.iterate_succ, Function.iterate_zero, Function.comp_apply, id_eq] at this
    exact this.trans (hp 2).symm
  have h3 : peak (rest (rest (rest v))) (ix2 0 r) = p 3 := by
    have := peaks v r ⟨3, by omega⟩
    simp only [Function.iterate_succ, Function.iterate_zero, Function.comp_apply, id_eq] at this
    exact this.trans (hp 3).symm
  unfold gateBlock k0_pay29
  rw [second, third]
  generalize peak v = a0 at *
  generalize peak (rest v) = a1 at *
  generalize peak (rest (rest v)) = a2 at *
  generalize peak (rest (rest (rest v))) = a3 at *
  rw [Fin.sum_univ_four]
  fin_cases k <;> pointwise <;> simp only [h0, h1, h2, h3] <;> rfl

/-- The block of choices over a block of scores. -/
def choiceBlock (v : FVec Ideal S32x1024 .f32) : IVec S4x1024 32 :=
  k0_pay30 (F := Ideal) numbers (shapeCast S1x1024 (pick v) shapeCasts_S1024_S1x1024) (rest v) (pick (rest v))

theorem third_pick (v : FVec Ideal S32x1024 .f32) : k0_pay23 (F := Ideal) numbers (rest v) (pick (rest v)) = shapeCast S1x1024 (pick (rest (rest v))) shapeCasts_S1024_S1x1024 := rfl

theorem fourth_pick (v : FVec Ideal S32x1024 .f32) : k0_pay27 (F := Ideal) numbers (rest v) (pick (rest v)) = shapeCast S1x1024 (pick (rest (rest (rest v)))) shapeCasts_S1024_S1x1024 := rfl

theorem choiceBlock_at (v : FVec Ideal S32x1024 .f32) (r : Fin 1024) (h0 : ∀ e : Fin 32, v (ix2 e r) ≠ ⊥) (k : Fin 4) :
    choiceBlock v (ix2 k r) = BitVec.ofNat 32 (Ranked.place (fun e => v (ix2 e r)) ⟨k.val, by omega⟩).val := by
  have p0 := picks v r h0 ⟨0, by omega⟩
  have p1 := picks v r h0 ⟨1, by omega⟩
  have p2 := picks v r h0 ⟨2, by omega⟩
  have p3 := picks v r h0 ⟨3, by omega⟩
  simp only [Function.iterate_succ, Function.iterate_zero, Function.comp_apply, id_eq] at p0 p1 p2 p3
  unfold choiceBlock k0_pay30 k0_pay19
  rw [third_pick, fourth_pick]
  generalize pick v = a0 at *
  generalize pick (rest v) = a1 at *
  generalize pick (rest (rest v)) = a2 at *
  generalize pick (rest (rest (rest v))) = a3 at *
  fin_cases k <;> pointwise
  · exact p0
  · exact p1
  · exact p2
  · exact p3

end Cert.KernelIdeal4.Layer
-- ==== Proof.Post4.lean ====
module

public import proofs.«01_k».proof.Proof.Ref4
public import proofs.«01_k».proof.Proof.Block4
public import proofs.«01_k».proof.Proof.Peaks

@[expose] public section

set_option maxRecDepth 16384

noncomputable section

open Idealize.ShloMosaic Idealize.ShloMosaic.TcCoe Idealize.SL.Sem

namespace Cert.KernelIdeal4.Layer

open Cert.KernelIdeal4 Cert.KernelIdeal4.Gen Cert.KernelIdeal4.Value
open Cert.ReferenceIdeal4.Layer (projected normed after projected_at scores greatest gates greatest_at gates_at)

/-- Row `r` of the block a point stores is row `R` of the reference's result. -/
theorem rowBlock_row (r : Fin 1024) (R : Fin 16384) (x0 : FVec Ideal S1024x1024 .f32) (x1 x2 : FVec Ideal S1024x512 .bf16)
    (x3 : FVec Ideal S1024x1024 .f32) (x4 : FVec Ideal S1x1024 .f32)
    (x : FVec Ideal Cert.ReferenceIdeal4.S2x8192x1024 .f32) (a b : FVec Ideal Cert.ReferenceIdeal4.S16384x512 .bf16)
    (w : FVec Ideal Cert.ReferenceIdeal4.S1x1024x1024 .f32)
    (h0 : ∀ j : Fin 1024, x0 (ix2 r j) = x (ix3 ⟨R.val / 8192, by omega⟩ ⟨R.val % 8192, by omega⟩ j))
    (h1 : ∀ k : Fin 512, x1 (ix2 r k) = a (ix2 R k)) (h2 : ∀ k : Fin 512, x2 (ix2 r k) = b (ix2 R k))
    (h3 : ∀ k j : Fin 1024, x3 (ix2 k j) = w (ix3 0 k j)) (j : Fin 1024) :
    rowBlock (F := Ideal) x0 x1 x2 x4 (k0_pay6 (F := Ideal) x3) (ix2 r j) = after x (projected a b w) x4 (ix2 R j) := by
  have hp := fun j => projected_at a b w R j
  unfold rowBlock
  generalize projected a b w = P at hp ⊢
  pointwise [k0_pay7, k0_pay6, upper, lower, after, normed]
  simp only [h0, h1, h2, h3, hp]

/-- The norm's row sums are the sums of the squares of the block's rows. -/
theorem squares (x0 : FVec Ideal S1024x1024 .f32) (x1 x2 : FVec Ideal S1024x512 .bf16) (x4 : FVec Ideal S1x1024 .f32) (w : FVec Ideal S1024x1024 .bf16) (r : Fin 1024) :
    k0_pay9 (F := Ideal) x1 (upper w) x2 (lower w) x0 x4 (ix2 r 0) = ∑ j : Fin 1024, rowBlock (F := Ideal) x0 x1 x2 x4 w (ix2 r j) * rowBlock (F := Ideal) x0 x1 x2 x4 w (ix2 r j) := by
  have h : k0_pay9 (F := Ideal) x1 (upper w) x2 (lower w) x0 x4 = shapeCast S1024x1 (multiReduction .add [1] S1024 (mulf (rowBlock (F := Ideal) x0 x1 x2 x4 w) (rowBlock (F := Ideal) x0 x1 x2 x4 w)) 0x00000000#32 reduces_S1024x1024_S1024 (.inl rfl) rfl) shapeCasts_S1024_S1024x1 := rfl
  rw [h]
  generalize rowBlock (F := Ideal) x0 x1 x2 x4 w = y
  pointwise

/-- A column of the block of scores a point computes is a row of the reference's scores. -/
theorem scores_row (r : Fin 1024) (R : Fin 16384) (y : FVec Ideal S1024x1024 .f32) (q : FVec Ideal S1024x1 .f32) (x5 : FVec Ideal S1x1024 .f32)
    (x6 : FVec Ideal S32x1024 .bf16) (x7 : FVec Ideal S32x1 .f32) (x : FVec Ideal Cert.ReferenceIdeal4.S16384x1024 .f32)
    (w : FVec Ideal Cert.ReferenceIdeal4.S1x1024x32 .f32) (b : FVec Ideal Cert.ReferenceIdeal4.S1x32 .f32)
    (hq : q (ix2 r 0) = ∑ j : Fin 1024, y (ix2 r j) * y (ix2 r j)) (hy : ∀ j : Fin 1024, y (ix2 r j) = x (ix2 R j))
    (h6 : ∀ (e : Fin 32) (k : Fin 1024), x6 (ix2 e k) = w (ix3 0 k e)) (h7 : ∀ e : Fin 32, x7 (ix2 e 0) = b (ix2 0 e)) (e : Fin 32) :
    k0_pay12 (F := Ideal) y (k0_pay8 (F := Ideal) x5) q x6 x7 (ix2 e r) = scores x x5 w b (ix2 R e) := by
  pointwise [k0_pay12, k0_pay10, k0_pay8, scores, normed]
  simp only [hq, hy, h6, h7]
  exact congrArg (fun z : EReal => z + b (ix2 0 e)) (Finset.sum_congr rfl fun _ _ => mul_comm (_ : EReal) _)

/-- A column of the block of gates a point stores is a column of the reference's gates, if that of its scores is a row of the reference's. -/
theorem gates_row (r : Fin 1024) (R : Fin 16384) (v : FVec Ideal S32x1024 .f32) (l : FVec Ideal Cert.ReferenceIdeal4.S16384x32 .f32)
    (h : ∀ e : Fin 32, v (ix2 e r) = l (ix2 R e)) (k : Fin 4) : gateBlock v (ix2 k r) = gates (greatest l) (ix2 k R) := by
  have hv : (fun e : Fin 32 => v (ix2 e r)) = fun e => l (ix2 R e) := funext h
  rw [gates_at (greatest l) R k fun i => ?_]
  · refine gateBlock_at v r k (fun k => greatest l (ix2 R k)) fun k => ?_
    rw [h, hv]
    exact greatest_at l R k
  · rw [greatest_at, greatest_at]
    rcases Nat.eq_zero_or_pos i.val with hi | hi
    · rw [show i = 0 from Fin.ext hi]
    · exact Ranked.place_sorted (fun e => l (ix2 R e)) _ _ (Fin.mk_lt_mk.mpr hi)

theorem gatesBlock_eq (x0 : FVec Ideal S1024x1024 .f32) (x1 x2 : FVec Ideal S1024x512 .bf16) (x4 x5 : FVec Ideal S1x1024 .f32) (x6 : FVec Ideal S32x1024 .bf16)
    (x7 : FVec Ideal S32x1 .f32) (w : FVec Ideal S1024x1024 .bf16) :
    gatesBlock (F := Ideal) x0 x1 x2 x4 x5 x6 x7 w = gateBlock (scoreBlock (F := Ideal) x0 x1 x2 x4 x5 x6 x7 w) := rfl

variable (m : (ℓ : Loc nD τ sig) → Buf (Elt Ideal) ℓ)

/-- Where each window's block lies at point `t`. -/
theorem index_at : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem index_at8 : ∀ t : Fin cfg0.N, win0_8.index t = ![t.val, 0] := (by decide +kernel : ∀ t : Fin grid0.N, _)

theorem index_at11 : ∀ t : Fin cfg0.N, win0_11.index t = ![0, t.val] := (by decide +kernel : ∀ t : Fin grid0.N, _)

/-- The row of the array that row `r` of block `t` is. -/
abbrev rowOf (t : Fin cfg0.N) (r : Fin 1024) : Fin 16384 := ⟨t.val * 1024 + r.val, by have := lt_of_lt_of_eq t.isLt (show cfg0.N = 16 from N_0); omega⟩

theorem read0 (c : Dev nD) (t : Fin cfg0.N) (r j : Fin 1024) :
    (iblk m c 0 t : Vec Ideal S1024x1024 .f32) (ix2 r j) = m ((c : Thread nD τ).loc main_arg0)
      (ix3 ⟨(rowOf t r).val / 8192, by omega⟩ ⟨(rowOf t r).val % 8192, by omega⟩ j) := by
  blk_simp [iblk, index_at t]
  entry_read
  pointwise
  blk_point [index_at t]

theorem read1 (c : Dev nD) (t : Fin cfg0.N) (r : Fin 1024) (k : Fin 512) :
    (iblk m c 1 t : Vec Ideal S1024x512 .bf16) (ix2 r k) = m ((c : Thread nD τ).loc main_arg1) (ix2 (rowOf t r) k) := by
  blk_point [iblk, V, index_at t]

theorem read2 (c : Dev nD) (t : Fin cfg0.N) (r : Fin 1024) (k : Fin 512) :
    (iblk m c 2 t : Vec Ideal S1024x512 .bf16) (ix2 r k) = m ((c : Thread nD τ).loc main_arg2) (ix2 (rowOf t r) k) := by
  blk_point [iblk, V, index_at t]

theorem read3 (c : Dev nD) (t : Fin cfg0.N) (k j : Fin 1024) :
    (iblk m c 3 t : Vec Ideal S1024x1024 .f32) (ix2 k j) = m ((c : Thread nD τ).loc main_arg3) (ix3 0 k j) := by
  blk_simp [iblk, index_at t]
  entry_read
  pointwise
  blk_point [index_at t]

theorem read4 (c : Dev nD) (t : Fin cfg0.N) : (iblk m c 4 t : Vec Ideal S1x1024 .f32) = m ((c : Thread nD τ).loc main_arg4) := by
  funext y
  blk_simp [iblk, index_at t]
  entry_read
  pointwise
  blk_point [index_at t]

theorem read5 (c : Dev nD) (t : Fin cfg0.N) : (iblk m c 5 t : Vec Ideal S1x1024 .f32) = m ((c : Thread nD τ).loc main_arg5) := by
  funext y
  blk_simp [iblk, index_at t]
  entry_read
  pointwise
  blk_point [index_at t]

theorem read6 (c : Dev nD) (t : Fin cfg0.N) (e : Fin 32) (k : Fin 1024) :
    (iblk m c 6 t : Vec Ideal S32x1024 .bf16) (ix2 e k) = m ((c : Thread nD τ).loc main_arg6) (ix3 0 k e) := by
  blk_simp [iblk, index_at t]
  entry_read
  pointwise
  blk_point [index_at t]

theorem read7 (c : Dev nD) (t : Fin cfg0.N) (e : Fin 32) :
    (iblk m c 7 t : Vec Ideal S32x1 .f32) (ix2 e 0) = m ((c : Thread nD τ).loc main_arg7) (ix2 0 e) := by
  blk_simp [iblk, index_at t]
  entry_read
  pointwise
  blk_point [index_at t]

/-- The weights' block is the same at every point: its whole array. -/
theorem whole3 (c : Dev nD) (t t' : Fin cfg0.N) : (iblk m c 3 t : Vec Ideal S1024x1024 .f32) = iblk m c 3 t' := by
  funext y
  obtain ⟨a, b, rfl⟩ : ∃ a b, y = ix2 a b := ⟨y 0, y 1, by funext q; match q with | ⟨0, _⟩ => rfl | ⟨1, _⟩ => rfl⟩
  exact (read3 m c t a b).trans (read3 m c t' a b).symm

/-- What the weights' scratch holds after a later point is what it held before it. -/
theorem scratch_kept (c : Dev nD) (t : Fin cfg0.N) (h0 : ¬t.val % 16 = 0) :
    (outsAt0 m c t.val t.isLt).2.2.2.2.2.2.2 = (outsAt0 m c (t.val - 1) (Nat.lt_of_le_of_lt (Nat.sub_le _ _) t.isLt)).2.2.2.2.2.2.2 := by
  rw [outsAt0_B m c t h0]
  dsimp only
  unfold sout0_B_1
  rfl

/-- After every point the scratch holds the weights, stored once at the first point. -/
theorem scratch_after (c : Dev nD) (n : ℕ) : ∀ (h : n < cfg0.N) (t' : Fin cfg0.N),
    (outsAt0 m c n h).2.2.2.2.2.2.2 = k0_pay6 (F := Ideal) (iblk m c 3 t') := by
  induction n with
  | zero =>
    intro h t'
    rw [outsAt0_A m c ⟨0, h⟩ rfl]
    dsimp only
    rw [scratch_first, whole3 m c _ t']
  | succ n ih =>
    intro h t'
    have hN := lt_of_lt_of_eq h (show cfg0.N = 16 from N_0)
    rw [scratch_kept m c ⟨n + 1, h⟩ (by dsimp only; omega)]
    exact ih (Nat.lt_of_succ_lt h) t'

/-- The block of rows point `t` leaves for writing back. -/
theorem block_after (c : Dev nD) (t : Fin cfg0.N) : (outsAt0 m c t.val t.isLt).1 =
    rowBlock (F := Ideal) (iblk m c 0 t) (iblk m c 1 t) (iblk m c 2 t) (iblk m c 4 t) (k0_pay6 (F := Ideal) (iblk m c 3 t)) := by
  by_cases h0 : t.val % 16 = 0
  · rw [outsAt0_A m c t h0]
    dsimp only
    rw [out_first]
  · have hs := scratch_after m c (t.val - 1) (Nat.lt_of_le_of_lt (Nat.sub_le _ _) t.isLt) t
    rw [outsAt0_B m c t h0]
    dsimp only
    rw [out_later, hs]

/-- The block of gates point `t` leaves for writing back. -/
theorem gates_after (c : Dev nD) (t : Fin cfg0.N) : (outsAt0 m c t.val t.isLt).2.2.2.1 =
    gateBlock (scoreBlock (F := Ideal) (iblk m c 0 t) (iblk m c 1 t) (iblk m c 2 t) (iblk m c 4 t) (iblk m c 5 t) (iblk m c 6 t) (iblk m c 7 t) (k0_pay6 (F := Ideal) (iblk m c 3 t))) := by
  by_cases h0 : t.val % 16 = 0
  · rw [outsAt0_A m c t h0]
    dsimp only
    rw [gates_first, gatesBlock_eq]
  · have hs := scratch_after m c (t.val - 1) (Nat.lt_of_le_of_lt (Nat.sub_le _ _) t.isLt) t
    rw [outsAt0_B m c t h0]
    dsimp only
    rw [gates_later, hs, gatesBlock_eq]

/-- The rows' array after the run is what the reference returns of the same arguments. -/
theorem result (c : Dev nD) : (dats m 0 c).arrAt 8 cfg0.N = after (m ((c : Thread nD τ).loc main_arg0))
    (projected (m ((c : Thread nD τ).loc main_arg1)) (m ((c : Thread nD τ).loc main_arg2)) (m ((c : Thread nD τ).loc main_arg3))) (m ((c : Thread nD τ).loc main_arg4)) := by
  refine (dats m 0 c).arrAt_eq_of_covers 8 _ (by decide +kernel) fun t _ y => ?_
  blk_simp
  rw [after0_8, block_after, read4]
  have e : (win0_8.blk t).view.emb y = ix2 (rowOf t (y 0)) (y 1) := by
    blk_ext [index_at8 t]
  have ey : y = ix2 (y 0) (y 1) := by funext a; match a with | ⟨0, _⟩ => rfl | ⟨1, _⟩ => rfl
  rw [e, ey]
  exact rowBlock_row (y 0) (rowOf t (y 0)) _ _ _ _ _ _ _ _ _ (read0 m c t _) (read1 m c t _) (read2 m c t _) (read3 m c t) (y 1)

/-- The gates' array after the run is what the reference returns of the same arguments. -/
theorem result_gates (c : Dev nD) : (dats m 0 c).arrAt 11 cfg0.N = gates (greatest (scores (after (m ((c : Thread nD τ).loc main_arg0))
    (projected (m ((c : Thread nD τ).loc main_arg1)) (m ((c : Thread nD τ).loc main_arg2)) (m ((c : Thread nD τ).loc main_arg3))) (m ((c : Thread nD τ).loc main_arg4)))
    (m ((c : Thread nD τ).loc main_arg5)) (m ((c : Thread nD τ).loc main_arg6)) (m ((c : Thread nD τ).loc main_arg7)))) := by
  refine (dats m 0 c).arrAt_eq_of_covers 11 _ (by decide +kernel) fun t _ y => ?_
  blk_simp
  rw [after0_11, gates_after, read4, read5]
  have e : (win0_11.blk t).view.emb y = ix2 (y 0) (rowOf t (y 1)) := by
    blk_ext [index_at11 t]
  have ey : y = ix2 (y 0) (y 1) := by funext a; match a with | ⟨0, _⟩ => rfl | ⟨1, _⟩ => rfl
  rw [e, ey]
  refine gates_row (y 1) (rowOf t (y 1)) _ _ (fun k => ?_) (y 0)
  unfold scoreBlock
  exact scores_row (y 1) (rowOf t (y 1)) _ _ _ _ _ _ _ _ (squares _ _ _ _ _ (y 1))
    (rowBlock_row (y 1) (rowOf t (y 1)) _ _ _ _ _ _ _ _ _ (read0 m c t _) (read1 m c t _) (read2 m c t _) (read3 m c t)) (read6 m c t) (read7 m c t) k

end Cert.KernelIdeal4.Layer
-- ==== Proof.Ref5.lean ====
module

public import proofs.«01_k».proof.Proof.Gen.ReferenceIdeal5.Run
public import proofs.«01_k».proof.Proof.Ref4

@[expose] public section

set_option maxRecDepth 16384

noncomputable section

open Idealize.ShloMosaic Idealize.ShloMosaic.TcCoe Idealize.SL.Sem

namespace Cert.ReferenceIdeal5.Layer

open Cert.ReferenceIdeal5 Cert.ReferenceIdeal5.Gen Cert.ReferenceIdeal5.Value
open Cert.ReferenceIdeal4.Layer (projected after scores)

/-- The experts of each row's four greatest scores, in descending order of the scores. -/
def named (l : FVec Ideal S16384x32 .f32) : IVec S16384x4 32 :=
  (Host.topK S16384x4 1 (FloatOps.cmpfTotal .gt) l sliceFits_S16384x32_S16384x4).2

/-- The experts, one row of the result for each of the four. -/
def choices (l : FVec Ideal S16384x32 .f32) : IVec S4x16384 32 := transpose S4x16384 [1, 0] (named l) transposes_S16384x4_S4x16384_1_0

/-- A row's `k`-th expert is the one at the `k`-th place of the descending order. -/
theorem named_at (l : FVec Ideal S16384x32 .f32) (R : Fin 16384) (k : Fin 4) :
    named l (ix2 R k) = BitVec.ofNat 32 (Ranked.place (fun e => l (ix2 R e)) ⟨k.val, by omega⟩).val := by
  unfold named Host.topK
  dsimp only
  unfold Host.sort2 extractStridedSlice
  rw [dif_pos (by decide)]
  dsimp only
  have e : ∀ (J : S16384x32.Idx) (q : Fin 32), J 0 = R → J.along 1 q = ix2 R q := by
    intro J q hJ
    funext a
    match a with
    | ⟨0, _⟩ => exact hJ
    | ⟨1, _⟩ => rfl
  have w : ∀ (J : S16384x32.Idx) (q : Fin 32), (if hd : 1 < S16384x32.rank then iotaInDim S16384x32 32 ⟨1, hd⟩ (J.along 1 q) else 0#32) = BitVec.ofNat 32 q.val := by
    intro J q
    rw [dif_pos (by decide)]
    rfl
  refine (w _ _).trans ?_
  have s : ∀ J : S16384x32.Idx, J 0 = R → (fun e => l (J.along 1 e)) = fun e => l (ix2 R e) := fun J hJ => funext fun q => congrArg l (e J q hJ)
  refine congrArg (fun q : Fin 32 => BitVec.ofNat 32 q.val) ?_
  unfold Ranked.place
  rw [← s (fun a => ⟨0 + ((ix2 R k : S16384x4.Idx) (a.cast rfl)).val, by match a with | ⟨0, _⟩ => (show 0 + R.val < 16384; omega) | ⟨1, _⟩ => (show 0 + k.val < 32; omega)⟩) (Fin.ext (Nat.zero_add _))]
  refine congrArg _ (Fin.ext ?_)
  exact Nat.zero_add _

theorem choices_at (l : FVec Ideal S16384x32 .f32) (R : Fin 16384) (k : Fin 4) :
    choices l (ix2 k R) = BitVec.ofNat 32 (Ranked.place (fun e => l (ix2 R e)) ⟨k.val, by omega⟩).val := by
  rw [← named_at]
  pointwise [choices]

/-- Which experts each row names, as ones and zeros. -/
def named_ones (l : FVec Ideal S16384x32 .f32) : FVec Ideal S16384x4x32 .f32 :=
  uitofp .f32 (cmpi .eq (broadcastInDim S16384x4x32 ![0, 1, 2] bcast_S16384x4x1_S16384x4x32_0_1_2 (broadcastInDim S16384x4x1 ![0, 1] bcast_S16384x4_S16384x4x1_0_1 (named l)))
    (broadcastInDim S16384x4x32 ![0, 1, 2] bcast_S1x1x32_S16384x4x32_0_1_2 (broadcastInDim S1x1x32 ![2] bcast_S32_S1x1x32_2 (iotaInDim S32 32 0))))

/-- How many rows name each expert, in every lane. -/
def counts (l : FVec Ideal S16384x32 .f32) : FVec Ideal S32x128 .f32 :=
  broadcastInDim S32x128 ![0, 1] bcast_S32x1_S32x128_0_1 (broadcastInDim S32x1 ![0] bcast_S32_S32x1_0
    (Host.reduceAdd (Host.reduceAdd (named_ones l) (constant S_ .f32 0x00000000#32) reducesTo_S16384x4x32_S16384x32_d1 h_S_) (constant S_ .f32 0x00000000#32) reducesTo_S16384x32_S32_d0 h_S_))

/-- How often a row names an expert among its four. -/
def tally (v : Fin 32 → EReal) (e : Fin 32) : EReal := ∑ k : Fin 4, if Ranked.place v ⟨k.val, by omega⟩ = e then 1 else 0

theorem named_ones_at (l : FVec Ideal S16384x32 .f32) (R : Fin 16384) (k : Fin 4) (e : Fin 32) :
    named_ones l (ix3 R k e) = if Ranked.place (fun e => l (ix2 R e)) ⟨k.val, by omega⟩ = e then 1 else 0 := by
  have h2 : named_ones l (ix3 R k e) = FloatOps.uitofp (F := Ideal) .f32 (IntOp.cmpi .eq (named l (ix2 R k)) (BitVec.ofNat 32 e.val)) := by
    pointwise [named_ones]
  rw [h2, named_at]
  by_cases h : Ranked.place (fun e => l (ix2 R e)) ⟨k.val, by omega⟩ = e
  · rw [if_pos h, h]
    have hc : IntOp.cmpi .eq (BitVec.ofNat 32 e.val) (BitVec.ofNat 32 e.val) = 1#1 := by simp [IntOp.cmpi]
    rw [hc]
    show (((1#1).toNat : ℝ) : EReal) = 1
    simp
  · rw [if_neg h]
    have hn : BitVec.ofNat 32 (Ranked.place (fun e => l (ix2 R e)) ⟨k.val, by omega⟩).val ≠ BitVec.ofNat 32 e.val := by
      intro q
      have q' := congrArg BitVec.toNat q
      rw [BitVec.toNat_ofNat, BitVec.toNat_ofNat, Nat.mod_eq_of_lt (by omega), Nat.mod_eq_of_lt (by omega)] at q'
      exact h (Fin.ext q')
    have hc : IntOp.cmpi .eq (BitVec.ofNat 32 (Ranked.place (fun e => l (ix2 R e)) ⟨k.val, by omega⟩).val) (BitVec.ofNat 32 e.val) = 0#1 := by
      show BitVec.ofBool (_ == _) = 0#1
      rw [beq_eq_false_iff_ne.mpr hn]
      rfl
    rw [hc]
    show (((0#1).toNat : ℝ) : EReal) = 0
    simp

/-- How often each row names each expert. -/
def namings (l : FVec Ideal S16384x32 .f32) : FVec Ideal S16384x32 .f32 :=
  Host.reduceAdd (named_ones l) (constant S_ .f32 0x00000000#32) reducesTo_S16384x4x32_S16384x32_d1 h_S_

theorem namings_at (l : FVec Ideal S16384x32 .f32) (R : Fin 16384) (e : Fin 32) : namings l (ix2 R e) = tally (fun e => l (ix2 R e)) e := by
  have h1 : namings l (ix2 R e) = ∑ k : Fin 4, named_ones l (ix3 R k e) := by
    pointwise [namings]
  rw [h1]
  exact Finset.sum_congr rfl fun k _ => named_ones_at l R k e

theorem counts_at (l : FVec Ideal S16384x32 .f32) (e : Fin 32) (b : Fin 128) :
    counts l (ix2 e b) = ∑ R : Fin 16384, tally (fun e => l (ix2 R e)) e := by
  have h1 : counts l (ix2 e b) = ∑ R : Fin 16384, ∑ k : Fin 4, named_ones l (ix3 R k e) := by
    pointwise [counts]
  rw [h1]
  exact Finset.sum_congr rfl fun R _ => Finset.sum_congr rfl fun k _ => named_ones_at l R k e

/-- Which rows stand before each row, as ones and zeros. -/
def before : FVec Ideal S16384x16384 .f32 :=
  uitofp .f32 (cmpi .slt (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0))))

theorem slt_number (a b : ℕ) (ha : a < 16384) (hb : b < 16384) : IntOp.cmpi .slt (BitVec.ofNat 32 a) (BitVec.ofNat 32 b) = if a < b then 1#1 else 0#1 := by
  have t : ∀ n : ℕ, n < 16384 → (BitVec.ofNat 32 n).toInt = n := by
    intro n hn
    rw [BitVec.toInt_eq_toNat_of_lt (by rw [BitVec.toNat_ofNat, Nat.mod_eq_of_lt (by omega)]; omega), BitVec.toNat_ofNat, Nat.mod_eq_of_lt (by omega)]
  show BitVec.ofBool ((BitVec.ofNat 32 a).slt (BitVec.ofNat 32 b)) = _
  by_cases h : a < b
  · rw [if_pos h, BitVec.slt_iff_toInt_lt.mpr (by rw [t a ha, t b hb]; exact_mod_cast h)]
    rfl
  · have hs : (BitVec.ofNat 32 a).slt (BitVec.ofNat 32 b) = false := by
      rw [← Bool.not_eq_true, BitVec.slt_iff_toInt_lt, t a ha, t b hb]
      exact_mod_cast h
    rw [if_neg h, hs]
    rfl

theorem before_at (R Q : Fin 16384) : before (ix2 R Q) = if Q.val < R.val then 1 else 0 := by
  have h : before (ix2 R Q) = FloatOps.uitofp (F := Ideal) .f32 (IntOp.cmpi .slt (BitVec.ofNat 32 Q.val) (BitVec.ofNat 32 R.val)) := by
    pointwise [before]
  rw [h, slt_number _ _ Q.isLt R.isLt]
  by_cases hq : Q.val < R.val
  · rw [if_pos hq, if_pos hq]
    show (((1#1).toNat : ℝ) : EReal) = 1
    simp
  · rw [if_neg hq, if_neg hq]
    show (((0#1).toNat : ℝ) : EReal) = 0
    simp

/-- How often the rows before each row name each expert. -/
def earlier (l : FVec Ideal S16384x32 .f32) : FVec Ideal S16384x32 .f32 :=
  Host.dotGeneral dot_S16384x16384_S16384x32_S16384x32_1_0_0_1_n_n none before (namings l)

theorem earlier_at (l : FVec Ideal S16384x32 .f32) (R : Fin 16384) (e : Fin 32) :
    earlier l (ix2 R e) = ∑ Q : Fin 16384, if Q.val < R.val then tally (fun e => l (ix2 Q e)) e else 0 := by
  have h : earlier l (ix2 R e) = ∑ Q : Fin 16384, before (ix2 R Q) * namings l (ix2 Q e) := by
    pointwise [earlier]
  rw [h]
  refine Finset.sum_congr rfl fun Q _ => ?_
  rw [before_at, namings_at, ite_mul, one_mul, zero_mul]

/-- How many of the rows before each row name each of its experts. -/
def ranks (l : FVec Ideal S16384x32 .f32) : IVec S4x16384 32 :=
  transpose S4x16384 [1, 0] (fptosi 32 (Host.reduceAdd (mulf (named_ones l) (broadcastInDim S16384x4x32 ![0, 1, 2] bcast_S16384x1x32_S16384x4x32_0_1_2
    (broadcastInDim S16384x1x32 ![0, 2] bcast_S16384x32_S16384x1x32_0_2 (earlier l)))) (constant S_ .f32 0x00000000#32) reducesTo_S16384x4x32_S16384x4_d2 h_S_ : FVec Ideal S16384x4 .f32)) transposes_S16384x4_S4x16384_1_0

theorem ranks_at (l : FVec Ideal S16384x32 .f32) (R : Fin 16384) (k : Fin 4) :
    ranks l (ix2 k R) = FloatOps.fptosi (F := Ideal) (φ := .f32) 32 (earlier l (ix2 R (Ranked.place (fun e => l (ix2 R e)) ⟨k.val, by omega⟩))) := by
  have h : ranks l (ix2 k R) = FloatOps.fptosi (F := Ideal) (φ := .f32) 32 (∑ e : Fin 32, named_ones l (ix3 R k e) * earlier l (ix2 R e)) := by
    pointwise [ranks]
  rw [h]
  refine congrArg _ ?_
  have hs : ∀ e : Fin 32, named_ones l (ix3 R k e) * earlier l (ix2 R e) = if Ranked.place (fun e => l (ix2 R e)) ⟨k.val, by omega⟩ = e then earlier l (ix2 R e) else 0 := by
    intro e
    rw [named_ones_at, ite_mul, one_mul, zero_mul]
  rw [Finset.sum_congr rfl fun e _ => hs e, Finset.sum_ite_eq, if_pos (Finset.mem_univ _)]

/-- What the reference returns, over its arguments. -/
theorem results (m : (ℓ : Loc nD τ sig) → Buf (Elt Ideal) ℓ) (c : Dev nD) : res_out0 m c =
    choices (scores (after (m ((c.tc : Thread nD τ).loc main_arg0)) (projected (m ((c.tc : Thread nD τ).loc main_arg1)) (m ((c.tc : Thread nD τ).loc main_arg2)) (m ((c.tc : Thread nD τ).loc main_arg3))) (m ((c.tc : Thread nD τ).loc main_arg4)))
      (m ((c.tc : Thread nD τ).loc main_arg5)) (m ((c.tc : Thread nD τ).loc main_arg6)) (m ((c.tc : Thread nD τ).loc main_arg7))) := rfl

theorem results_counts (m : (ℓ : Loc nD τ sig) → Buf (Elt Ideal) ℓ) (c : Dev nD) : res_out2 m c =
    counts (scores (after (m ((c.tc : Thread nD τ).loc main_arg0)) (projected (m ((c.tc : Thread nD τ).loc main_arg1)) (m ((c.tc : Thread nD τ).loc main_arg2)) (m ((c.tc : Thread nD τ).loc main_arg3))) (m ((c.tc : Thread nD τ).loc main_arg4)))
      (m ((c.tc : Thread nD τ).loc main_arg5)) (m ((c.tc : Thread nD τ).loc main_arg6)) (m ((c.tc : Thread nD τ).loc main_arg7))) := rfl

theorem results_ranks (m : (ℓ : Loc nD τ sig) → Buf (Elt Ideal) ℓ) (c : Dev nD) : res_out1 m c =
    ranks (scores (after (m ((c.tc : Thread nD τ).loc main_arg0)) (projected (m ((c.tc : Thread nD τ).loc main_arg1)) (m ((c.tc : Thread nD τ).loc main_arg2)) (m ((c.tc : Thread nD τ).loc main_arg3))) (m ((c.tc : Thread nD τ).loc main_arg4)))
      (m ((c.tc : Thread nD τ).loc main_arg5)) (m ((c.tc : Thread nD τ).loc main_arg6)) (m ((c.tc : Thread nD τ).loc main_arg7))) := rfl

end Cert.ReferenceIdeal5.Layer
-- ==== Proof.Block5.lean ====
module

public import proofs.«01_k».proof.Proof.Gen.KernelIdeal5.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal5.Layer

open Cert.KernelIdeal5 Cert.KernelIdeal5.Gen Cert.KernelIdeal5.Value

variable {F : FTy → Type} [FloatOps F]

/-- The upper half of the output weights' rows. -/
abbrev upper (w : Vec F S1024x1024 .bf16) : Vec F S512x1024 .bf16 :=
  View.ld w (Rect.unit (s := S1024x1024) ![0, 0] S512x1024.size inb_S1024x1024_S512x1024_0_0)

/-- The lower half of the output weights' rows. -/
abbrev lower (w : Vec F S1024x1024 .bf16) : Vec F S512x1024 .bf16 :=
  View.ld w (Rect.unit (s := S1024x1024) ![512, 0] S512x1024.size inb_S1024x1024_S512x1024_512_0)

/-- The block of rows a point stores, over the blocks it reads and the weights as the scratch holds them. -/
def rowBlock (x0 : Vec F S1024x1024 .f32) (x1 x2 : Vec F S1024x512 .bf16) (x4 : Vec F S1x1024 .f32) (w : Vec F S1024x1024 .bf16) : Vec F S1024x1024 .f32 :=
  k0_pay7 x1 (upper w) x2 (lower w) x0 x4

/-- A load from a scratch just stored whole is the load from what was stored. -/
theorem load_stored (v : View sig Kind.tc Space.vmem S1024x1024 EltTy.bf16) (w : Vec F S1024x1024 .bf16) (B : Rect S1024x1024) :
    v.readCov [(⟨Rect.unit ![0, 0] S1024x1024.size inb_S1024x1024_S1024x1024_0_0, w⟩ : View.Piece (Elt F) S1024x1024 .bf16)] B.toLoadRect = View.ld w B := by
  rw [View.readCov_eq_canon', View.canon_cons_unit_lit _ _ _ (by decide)]

theorem scratch_first (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S32x1024 .bf16) (h7 : a7.IsWhole) (a8 : Memref sig .tc .vmem S32x1 .f32) (h8 : a8.IsWhole) (a9 : Memref sig .tc .vmem S1024x1024 .f32) (h9 : a9.IsWhole) (a10 : Memref sig .tc .vmem S1024x2x512 .bf16) (h10 : a10.IsWhole) (a11 : Memref sig .tc .vmem S4x1024 .i32) (h11 : a11.IsWhole) (a12 : Memref sig .tc .vmem S4x1024 .f32) (h12 : a12.IsWhole) (a13 : Memref sig .tc .vmem S4x1024 .i32) (h13 : a13.IsWhole) (a14 : Memref sig .tc .vmem S32x128 .f32) (h14 : a14.IsWhole) (a15 : Memref sig .tc .vmem S32x1 .f32) (h15 : a15.IsWhole) (a16 : Memref sig .tc .vmem S1024x1024 .bf16) (h16 : a16.IsWhole) (hc : cond0_0 i) (x0 : Vec F S1024x1024 .f32) (x1 : Vec F S1024x512 .bf16) (x2 : Vec F S1024x512 .bf16) (x3 : Vec F S1024x1024 .f32) (x4 : Vec F S1x1024 .f32) (x5 : Vec F S1x1024 .f32) (x6 : Vec F S32x1024 .bf16) (x7 : Vec F S32x1 .f32) :
    sout0_A_1 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 = k0_pay6 x3 := by
  frame_out

/-- The block of choices a point stores, over the blocks it reads and the weights as the scratch holds them. -/
def choicesBlock (x0 : Vec F S1024x1024 .f32) (x1 x2 : Vec F S1024x512 .bf16) (x4 x5 : Vec F S1x1024 .f32) (x6 : Vec F S32x1024 .bf16) (x7 : Vec F S32x1 .f32) (w : Vec F S1024x1024 .bf16) : Vec F S4x1024 .i32 :=
  k0_pay30 (iota .tc S32x1024 32 [0] iota_S32x1024_d0_w32)
    (k0_pay14 (rowBlock x0 x1 x2 x4 w) (k0_pay8 x5) (k0_pay9 x1 (upper w) x2 (lower w) x0 x4) x6 x7)
    (k0_pay16 (rowBlock x0 x1 x2 x4 w) (k0_pay8 x5) (k0_pay9 x1 (upper w) x2 (lower w) x0 x4) x6 x7)
    (k0_pay18 (rowBlock x0 x1 x2 x4 w) (k0_pay8 x5) (k0_pay9 x1 (upper w) x2 (lower w) x0 x4) x6 x7)

theorem choices_first (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S32x1024 .bf16) (h7 : a7.IsWhole) (a8 : Memref sig .tc .vmem S32x1 .f32) (h8 : a8.IsWhole) (a9 : Memref sig .tc .vmem S1024x1024 .f32) (h9 : a9.IsWhole) (a10 : Memref sig .tc .vmem S1024x2x512 .bf16) (h10 : a10.IsWhole) (a11 : Memref sig .tc .vmem S4x1024 .i32) (h11 : a11.IsWhole) (a12 : Memref sig .tc .vmem S4x1024 .f32) (h12 : a12.IsWhole) (a13 : Memref sig .tc .vmem S4x1024 .i32) (h13 : a13.IsWhole) (a14 : Memref sig .tc .vmem S32x128 .f32) (h14 : a14.IsWhole) (a15 : Memref sig .tc .vmem S32x1 .f32) (h15 : a15.IsWhole) (a16 : Memref sig .tc .vmem S1024x1024 .bf16) (h16 : a16.IsWhole) (hc : cond0_0 i) (x0 : Vec F S1024x1024 .f32) (x1 : Vec F S1024x512 .bf16) (x2 : Vec F S1024x512 .bf16) (x3 : Vec F S1024x1024 .f32) (x4 : Vec F S1x1024 .f32) (x5 : Vec F S1x1024 .f32) (x6 : Vec F S32x1024 .bf16) (x7 : Vec F S32x1 .f32) :
    out0_A_10 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 = choicesBlock x0 x1 x2 x4 x5 x6 x7 (k0_pay6 x3) := by
  frame_out
  unfold choicesBlock rowBlock upper lower
  rw [load_stored, load_stored]

theorem choices_later (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S32x1024 .bf16) (h7 : a7.IsWhole) (a8 : Memref sig .tc .vmem S32x1 .f32) (h8 : a8.IsWhole) (a9 : Memref sig .tc .vmem S1024x1024 .f32) (h9 : a9.IsWhole) (a10 : Memref sig .tc .vmem S1024x2x512 .bf16) (h10 : a10.IsWhole) (a11 : Memref sig .tc .vmem S4x1024 .i32) (h11 : a11.IsWhole) (a12 : Memref sig .tc .vmem S4x1024 .f32) (h12 : a12.IsWhole) (a13 : Memref sig .tc .vmem S4x1024 .i32) (h13 : a13.IsWhole) (a14 : Memref sig .tc .vmem S32x128 .f32) (h14 : a14.IsWhole) (a15 : Memref sig .tc .vmem S32x1 .f32) (h15 : a15.IsWhole) (a16 : Memref sig .tc .vmem S1024x1024 .bf16) (h16 : a16.IsWhole) (hc : ¬cond0_0 i) (x0 : Vec F S1024x1024 .f32) (x1 : Vec F S1024x512 .bf16) (x2 : Vec F S1024x512 .bf16) (x3 : Vec F S1024x1024 .f32) (x4 : Vec F S1x1024 .f32) (x5 : Vec F S1x1024 .f32) (x6 : Vec F S32x1024 .bf16) (x7 : Vec F S32x1 .f32) (s0 : Vec F S32x1 .f32) (s1 : Vec F S1024x1024 .bf16) :
    out0_B_10 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 s0 s1 = choicesBlock x0 x1 x2 x4 x5 x6 x7 s1 := by
  frame_out
  rfl

/-- Where each expert is among a token's four, as ones and zeros, over the blocks a point reads and the weights as the scratch holds them. -/
def onesBlock (x0 : Vec F S1024x1024 .f32) (x1 x2 : Vec F S1024x512 .bf16) (x4 x5 : Vec F S1x1024 .f32) (x6 : Vec F S32x1024 .bf16) (x7 : Vec F S32x1 .f32) (w : Vec F S1024x1024 .bf16) : FVec F S32x1024 .f32 :=
  k0_pay31 (F := F)
    (k0_pay15 (rowBlock x0 x1 x2 x4 w) (k0_pay8 x5) (k0_pay9 x1 (upper w) x2 (lower w) x0 x4) x6 x7)
    (k0_pay20 (iota .tc S32x1024 32 [0] iota_S32x1024_d0_w32) (k0_pay18 (rowBlock x0 x1 x2 x4 w) (k0_pay8 x5) (k0_pay9 x1 (upper w) x2 (lower w) x0 x4) x6 x7))
    (k0_pay24 (iota .tc S32x1024 32 [0] iota_S32x1024_d0_w32)
      (k0_pay16 (rowBlock x0 x1 x2 x4 w) (k0_pay8 x5) (k0_pay9 x1 (upper w) x2 (lower w) x0 x4) x6 x7)
      (k0_pay18 (rowBlock x0 x1 x2 x4 w) (k0_pay8 x5) (k0_pay9 x1 (upper w) x2 (lower w) x0 x4) x6 x7))
    (k0_pay28 (iota .tc S32x1024 32 [0] iota_S32x1024_d0_w32)
      (k0_pay16 (rowBlock x0 x1 x2 x4 w) (k0_pay8 x5) (k0_pay9 x1 (upper w) x2 (lower w) x0 x4) x6 x7)
      (k0_pay18 (rowBlock x0 x1 x2 x4 w) (k0_pay8 x5) (k0_pay9 x1 (upper w) x2 (lower w) x0 x4) x6 x7))

/-- A load of a whole scratch just stored whole is what was stored. -/
theorem load_whole (v : View sig Kind.tc Space.vmem S32x1 EltTy.f32) (w : Vec F S32x1 .f32) :
    v.readCov [(⟨Rect.unit ![0, 0] S32x1.size inb_S32x1_S32x1_0_0, w⟩ : View.Piece (Elt F) S32x1 .f32)] (Rect.unit (s := S32x1) ![0, 0] S32x1.size inb_S32x1_S32x1_0_0).toLoadRect = w := by
  rw [View.readCov_eq_canon', View.canon_cons_unit_lit _ _ _ (by decide)]
  exact View.ld_unit_lit _ _ (by decide)

theorem total_first (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S32x1024 .bf16) (h7 : a7.IsWhole) (a8 : Memref sig .tc .vmem S32x1 .f32) (h8 : a8.IsWhole) (a9 : Memref sig .tc .vmem S1024x1024 .f32) (h9 : a9.IsWhole) (a10 : Memref sig .tc .vmem S1024x2x512 .bf16) (h10 : a10.IsWhole) (a11 : Memref sig .tc .vmem S4x1024 .i32) (h11 : a11.IsWhole) (a12 : Memref sig .tc .vmem S4x1024 .f32) (h12 : a12.IsWhole) (a13 : Memref sig .tc .vmem S4x1024 .i32) (h13 : a13.IsWhole) (a14 : Memref sig .tc .vmem S32x128 .f32) (h14 : a14.IsWhole) (a15 : Memref sig .tc .vmem S32x1 .f32) (h15 : a15.IsWhole) (a16 : Memref sig .tc .vmem S1024x1024 .bf16) (h16 : a16.IsWhole) (hc : cond0_0 i) (x0 : Vec F S1024x1024 .f32) (x1 : Vec F S1024x512 .bf16) (x2 : Vec F S1024x512 .bf16) (x3 : Vec F S1024x1024 .f32) (x4 : Vec F S1x1024 .f32) (x5 : Vec F S1x1024 .f32) (x6 : Vec F S32x1024 .bf16) (x7 : Vec F S32x1 .f32) :
    sout0_A_0 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 = k0_pay3 (onesBlock x0 x1 x2 x4 x5 x6 x7 (k0_pay6 x3)) (k0_pay5 (F := F)) := by
  frame_out
  unfold onesBlock rowBlock upper lower
  try rw [load_stored, load_stored]
  try rw [load_whole]
  try rfl

theorem total_later (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S32x1024 .bf16) (h7 : a7.IsWhole) (a8 : Memref sig .tc .vmem S32x1 .f32) (h8 : a8.IsWhole) (a9 : Memref sig .tc .vmem S1024x1024 .f32) (h9 : a9.IsWhole) (a10 : Memref sig .tc .vmem S1024x2x512 .bf16) (h10 : a10.IsWhole) (a11 : Memref sig .tc .vmem S4x1024 .i32) (h11 : a11.IsWhole) (a12 : Memref sig .tc .vmem S4x1024 .f32) (h12 : a12.IsWhole) (a13 : Memref sig .tc .vmem S4x1024 .i32) (h13 : a13.IsWhole) (a14 : Memref sig .tc .vmem S32x128 .f32) (h14 : a14.IsWhole) (a15 : Memref sig .tc .vmem S32x1 .f32) (h15 : a15.IsWhole) (a16 : Memref sig .tc .vmem S1024x1024 .bf16) (h16 : a16.IsWhole) (hc : ¬cond0_0 i) (x0 : Vec F S1024x1024 .f32) (x1 : Vec F S1024x512 .bf16) (x2 : Vec F S1024x512 .bf16) (x3 : Vec F S1024x1024 .f32) (x4 : Vec F S1x1024 .f32) (x5 : Vec F S1x1024 .f32) (x6 : Vec F S32x1024 .bf16) (x7 : Vec F S32x1 .f32) (s0 : Vec F S32x1 .f32) (s1 : Vec F S1024x1024 .bf16) :
    sout0_B_0 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 s0 s1 = k0_pay3 (onesBlock x0 x1 x2 x4 x5 x6 x7 s1) s0 := by
  frame_out
  rfl

theorem counts_first (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S32x1024 .bf16) (h7 : a7.IsWhole) (a8 : Memref sig .tc .vmem S32x1 .f32) (h8 : a8.IsWhole) (a9 : Memref sig .tc .vmem S1024x1024 .f32) (h9 : a9.IsWhole) (a10 : Memref sig .tc .vmem S1024x2x512 .bf16) (h10 : a10.IsWhole) (a11 : Memref sig .tc .vmem S4x1024 .i32) (h11 : a11.IsWhole) (a12 : Memref sig .tc .vmem S4x1024 .f32) (h12 : a12.IsWhole) (a13 : Memref sig .tc .vmem S4x1024 .i32) (h13 : a13.IsWhole) (a14 : Memref sig .tc .vmem S32x128 .f32) (h14 : a14.IsWhole) (a15 : Memref sig .tc .vmem S32x1 .f32) (h15 : a15.IsWhole) (a16 : Memref sig .tc .vmem S1024x1024 .bf16) (h16 : a16.IsWhole) (hc : cond0_0 i) (x0 : Vec F S1024x1024 .f32) (x1 : Vec F S1024x512 .bf16) (x2 : Vec F S1024x512 .bf16) (x3 : Vec F S1024x1024 .f32) (x4 : Vec F S1x1024 .f32) (x5 : Vec F S1x1024 .f32) (x6 : Vec F S32x1024 .bf16) (x7 : Vec F S32x1 .f32) :
    out0_A_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 = k0_pay4 (onesBlock x0 x1 x2 x4 x5 x6 x7 (k0_pay6 x3)) (k0_pay5 (F := F)) := by
  frame_out
  unfold onesBlock rowBlock upper lower
  try rw [load_stored, load_stored]
  try rw [load_whole]
  try rfl

theorem counts_later (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S32x1024 .bf16) (h7 : a7.IsWhole) (a8 : Memref sig .tc .vmem S32x1 .f32) (h8 : a8.IsWhole) (a9 : Memref sig .tc .vmem S1024x1024 .f32) (h9 : a9.IsWhole) (a10 : Memref sig .tc .vmem S1024x2x512 .bf16) (h10 : a10.IsWhole) (a11 : Memref sig .tc .vmem S4x1024 .i32) (h11 : a11.IsWhole) (a12 : Memref sig .tc .vmem S4x1024 .f32) (h12 : a12.IsWhole) (a13 : Memref sig .tc .vmem S4x1024 .i32) (h13 : a13.IsWhole) (a14 : Memref sig .tc .vmem S32x128 .f32) (h14 : a14.IsWhole) (a15 : Memref sig .tc .vmem S32x1 .f32) (h15 : a15.IsWhole) (a16 : Memref sig .tc .vmem S1024x1024 .bf16) (h16 : a16.IsWhole) (hc : ¬cond0_0 i) (x0 : Vec F S1024x1024 .f32) (x1 : Vec F S1024x512 .bf16) (x2 : Vec F S1024x512 .bf16) (x3 : Vec F S1024x1024 .f32) (x4 : Vec F S1x1024 .f32) (x5 : Vec F S1x1024 .f32) (x6 : Vec F S32x1024 .bf16) (x7 : Vec F S32x1 .f32) (s0 : Vec F S32x1 .f32) (s1 : Vec F S1024x1024 .bf16) :
    out0_B_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 s0 s1 = k0_pay4 (onesBlock x0 x1 x2 x4 x5 x6 x7 s1) s0 := by
  frame_out
  rfl

/-- Where each token's first expert stands in its column. -/
abbrev hitA (x0 : Vec F S1024x1024 .f32) (x1 x2 : Vec F S1024x512 .bf16) (x4 x5 : Vec F S1x1024 .f32) (x6 : Vec F S32x1024 .bf16) (x7 : Vec F S32x1 .f32) (w : Vec F S1024x1024 .bf16) : IVec S32x1024 1 :=
  k0_pay15 (rowBlock x0 x1 x2 x4 w) (k0_pay8 x5) (k0_pay9 x1 (upper w) x2 (lower w) x0 x4) x6 x7

/-- Where each token's second expert stands in its column. -/
abbrev hitB (x0 : Vec F S1024x1024 .f32) (x1 x2 : Vec F S1024x512 .bf16) (x4 x5 : Vec F S1x1024 .f32) (x6 : Vec F S32x1024 .bf16) (x7 : Vec F S32x1 .f32) (w : Vec F S1024x1024 .bf16) : IVec S32x1024 1 :=
  k0_pay20 (iota .tc S32x1024 32 [0] iota_S32x1024_d0_w32) (k0_pay18 (rowBlock x0 x1 x2 x4 w) (k0_pay8 x5) (k0_pay9 x1 (upper w) x2 (lower w) x0 x4) x6 x7)

/-- Where each token's third expert stands in its column. -/
abbrev hitC (x0 : Vec F S1024x1024 .f32) (x1 x2 : Vec F S1024x512 .bf16) (x4 x5 : Vec F S1x1024 .f32) (x6 : Vec F S32x1024 .bf16) (x7 : Vec F S32x1 .f32) (w : Vec F S1024x1024 .bf16) : IVec S32x1024 1 :=
  k0_pay24 (iota .tc S32x1024 32 [0] iota_S32x1024_d0_w32)
    (k0_pay16 (rowBlock x0 x1 x2 x4 w) (k0_pay8 x5) (k0_pay9 x1 (upper w) x2 (lower w) x0 x4) x6 x7)
    (k0_pay18 (rowBlock x0 x1 x2 x4 w) (k0_pay8 x5) (k0_pay9 x1 (upper w) x2 (lower w) x0 x4) x6 x7)

/-- Where each token's fourth expert stands in its column. -/
abbrev hitD (x0 : Vec F S1024x1024 .f32) (x1 x2 : Vec F S1024x512 .bf16) (x4 x5 : Vec F S1x1024 .f32) (x6 : Vec F S32x1024 .bf16) (x7 : Vec F S32x1 .f32) (w : Vec F S1024x1024 .bf16) : IVec S32x1024 1 :=
  k0_pay28 (iota .tc S32x1024 32 [0] iota_S32x1024_d0_w32)
    (k0_pay16 (rowBlock x0 x1 x2 x4 w) (k0_pay8 x5) (k0_pay9 x1 (upper w) x2 (lower w) x0 x4) x6 x7)
    (k0_pay18 (rowBlock x0 x1 x2 x4 w) (k0_pay8 x5) (k0_pay9 x1 (upper w) x2 (lower w) x0 x4) x6 x7)

/-- The block of ranks a point stores, over the blocks it reads, the weights as the scratch holds them and the running count before it. -/
def ranksBlock (x0 : Vec F S1024x1024 .f32) (x1 x2 : Vec F S1024x512 .bf16) (x4 x5 : Vec F S1x1024 .f32) (x6 : Vec F S32x1024 .bf16) (x7 : Vec F S32x1 .f32) (w : Vec F S1024x1024 .bf16) (b : Vec F S32x1 .f32) : IVec S4x1024 32 :=
  k0_pay1 (F := F) (hitD x0 x1 x2 x4 x5 x6 x7 w) (k0_pay32 (hitA x0 x1 x2 x4 x5 x6 x7 w) (hitB x0 x1 x2 x4 x5 x6 x7 w) (hitC x0 x1 x2 x4 x5 x6 x7 w) (hitD x0 x1 x2 x4 x5 x6 x7 w) b)
    (k0_pay33 (hitA x0 x1 x2 x4 x5 x6 x7 w) (hitB x0 x1 x2 x4 x5 x6 x7 w) (hitC x0 x1 x2 x4 x5 x6 x7 w) (hitD x0 x1 x2 x4 x5 x6 x7 w) b)
    (k0_pay34 (hitA x0 x1 x2 x4 x5 x6 x7 w) (hitB x0 x1 x2 x4 x5 x6 x7 w) (hitC x0 x1 x2 x4 x5 x6 x7 w) (hitD x0 x1 x2 x4 x5 x6 x7 w) b)
    (k0_pay35 (hitA x0 x1 x2 x4 x5 x6 x7 w) (hitB x0 x1 x2 x4 x5 x6 x7 w) (hitC x0 x1 x2 x4 x5 x6 x7 w) (hitD x0 x1 x2 x4 x5 x6 x7 w) b)

theorem ranks_first (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S32x1024 .bf16) (h7 : a7.IsWhole) (a8 : Memref sig .tc .vmem S32x1 .f32) (h8 : a8.IsWhole) (a9 : Memref sig .tc .vmem S1024x1024 .f32) (h9 : a9.IsWhole) (a10 : Memref sig .tc .vmem S1024x2x512 .bf16) (h10 : a10.IsWhole) (a11 : Memref sig .tc .vmem S4x1024 .i32) (h11 : a11.IsWhole) (a12 : Memref sig .tc .vmem S4x1024 .f32) (h12 : a12.IsWhole) (a13 : Memref sig .tc .vmem S4x1024 .i32) (h13 : a13.IsWhole) (a14 : Memref sig .tc .vmem S32x128 .f32) (h14 : a14.IsWhole) (a15 : Memref sig .tc .vmem S32x1 .f32) (h15 : a15.IsWhole) (a16 : Memref sig .tc .vmem S1024x1024 .bf16) (h16 : a16.IsWhole) (hc : cond0_0 i) (x0 : Vec F S1024x1024 .f32) (x1 : Vec F S1024x512 .bf16) (x2 : Vec F S1024x512 .bf16) (x3 : Vec F S1024x1024 .f32) (x4 : Vec F S1x1024 .f32) (x5 : Vec F S1x1024 .f32) (x6 : Vec F S32x1024 .bf16) (x7 : Vec F S32x1 .f32) :
    out0_A_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 = ranksBlock x0 x1 x2 x4 x5 x6 x7 (k0_pay6 x3) (k0_pay5 (F := F)) := by
  frame_out
  unfold ranksBlock hitA hitB hitC hitD rowBlock upper lower
  try rw [load_stored, load_stored]
  try rw [load_whole]
  try rfl

theorem ranks_later (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S32x1024 .bf16) (h7 : a7.IsWhole) (a8 : Memref sig .tc .vmem S32x1 .f32) (h8 : a8.IsWhole) (a9 : Memref sig .tc .vmem S1024x1024 .f32) (h9 : a9.IsWhole) (a10 : Memref sig .tc .vmem S1024x2x512 .bf16) (h10 : a10.IsWhole) (a11 : Memref sig .tc .vmem S4x1024 .i32) (h11 : a11.IsWhole) (a12 : Memref sig .tc .vmem S4x1024 .f32) (h12 : a12.IsWhole) (a13 : Memref sig .tc .vmem S4x1024 .i32) (h13 : a13.IsWhole) (a14 : Memref sig .tc .vmem S32x128 .f32) (h14 : a14.IsWhole) (a15 : Memref sig .tc .vmem S32x1 .f32) (h15 : a15.IsWhole) (a16 : Memref sig .tc .vmem S1024x1024 .bf16) (h16 : a16.IsWhole) (hc : ¬cond0_0 i) (x0 : Vec F S1024x1024 .f32) (x1 : Vec F S1024x512 .bf16) (x2 : Vec F S1024x512 .bf16) (x3 : Vec F S1024x1024 .f32) (x4 : Vec F S1x1024 .f32) (x5 : Vec F S1x1024 .f32) (x6 : Vec F S32x1024 .bf16) (x7 : Vec F S32x1 .f32) (s0 : Vec F S32x1 .f32) (s1 : Vec F S1024x1024 .bf16) :
    out0_B_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 s0 s1 = ranksBlock x0 x1 x2 x4 x5 x6 x7 s1 s0 := by
  frame_out
  rfl

end Cert.KernelIdeal5.Layer
-- ==== Proof.Post5.lean ====
module

public import proofs.«01_k».proof.Proof.Ref5
public import proofs.«01_k».proof.Proof.Block5
public import proofs.«01_k».proof.Proof.Post4
public import proofs.«01_k».proof.Defs
public import proofs.«01_k».proof.Proof.Gen.Pre_logits_above_bottom

@[expose] public section

set_option maxRecDepth 16384

noncomputable section

open Idealize.ShloMosaic Idealize.ShloMosaic.TcCoe Idealize.SL.Sem

namespace Cert.KernelIdeal5.Layer

open Cert.KernelIdeal5 Cert.KernelIdeal5.Gen Cert.KernelIdeal5.Value
open Cert.ReferenceIdeal4.Layer (projected after scores)
open Cert.ReferenceIdeal5.Layer (choices choices_at)
open Cert.KernelIdeal4.Layer (scoreBlock choiceBlock choiceBlock_at scores_row squares rowBlock_row)

theorem choicesBlock_eq (x0 : FVec Ideal S1024x1024 .f32) (x1 x2 : FVec Ideal S1024x512 .bf16) (x4 x5 : FVec Ideal S1x1024 .f32) (x6 : FVec Ideal S32x1024 .bf16)
    (x7 : FVec Ideal S32x1 .f32) (w : FVec Ideal S1024x1024 .bf16) :
    choicesBlock (F := Ideal) x0 x1 x2 x4 x5 x6 x7 w = choiceBlock (scoreBlock (F := Ideal) x0 x1 x2 x4 x5 x6 x7 w) := rfl

/-- A column of the block of choices a point stores is a column of the reference's choices, if that of its scores is a row of the
    reference's and none of them is the bottom. -/
theorem choices_row (r : Fin 1024) (R : Fin 16384) (v : FVec Ideal S32x1024 .f32) (l : FVec Ideal Cert.ReferenceIdeal5.S16384x32 .f32)
    (h : ∀ e : Fin 32, v (ix2 e r) = l (ix2 R e)) (h0 : ∀ e : Fin 32, l (ix2 R e) ≠ ⊥) (k : Fin 4) : choiceBlock v (ix2 k r) = choices l (ix2 k R) := by
  have hv : (fun e : Fin 32 => v (ix2 e r)) = fun e => l (ix2 R e) := funext h
  rw [choices_at l R k, choiceBlock_at v r (fun e => by rw [h]; exact h0 e) k, hv]

variable (m : (ℓ : Loc nD τ sig) → Buf (Elt Ideal) ℓ)

/-- Where each window's block lies at point `t`. -/
theorem index_at : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem index_at10 : ∀ t : Fin cfg0.N, win0_10.index t = ![0, t.val] := (by decide +kernel : ∀ t : Fin grid0.N, _)

/-- The row of the array that row `r` of block `t` is. -/
abbrev rowOf (t : Fin cfg0.N) (r : Fin 1024) : Fin 16384 := ⟨t.val * 1024 + r.val, by have := lt_of_lt_of_eq t.isLt (show cfg0.N = 16 from N_0); omega⟩

theorem read0 (c : Dev nD) (t : Fin cfg0.N) (r j : Fin 1024) :
    (iblk m c 0 t : Vec Ideal S1024x1024 .f32) (ix2 r j) = m ((c : Thread nD τ).loc main_arg0)
      (ix3 ⟨(rowOf t r).val / 8192, by omega⟩ ⟨(rowOf t r).val % 8192, by omega⟩ j) := by
  blk_simp [iblk, index_at t]
  entry_read
  pointwise
  blk_point [index_at t]

theorem read1 (c : Dev nD) (t : Fin cfg0.N) (r : Fin 1024) (k : Fin 512) :
    (iblk m c 1 t : Vec Ideal S1024x512 .bf16) (ix2 r k) = m ((c : Thread nD τ).loc main_arg1) (ix2 (rowOf t r) k) := by
  blk_point [iblk, V, index_at t]

theorem read2 (c : Dev nD) (t : Fin cfg0.N) (r : Fin 1024) (k : Fin 512) :
    (iblk m c 2 t : Vec Ideal S1024x512 .bf16) (ix2 r k) = m ((c : Thread nD τ).loc main_arg2) (ix2 (rowOf t r) k) := by
  blk_point [iblk, V, index_at t]

theorem read3 (c : Dev nD) (t : Fin cfg0.N) (k j : Fin 1024) :
    (iblk m c 3 t : Vec Ideal S1024x1024 .f32) (ix2 k j) = m ((c : Thread nD τ).loc main_arg3) (ix3 0 k j) := by
  blk_simp [iblk, index_at t]
  entry_read
  pointwise
  blk_point [index_at t]

theorem read4 (c : Dev nD) (t : Fin cfg0.N) : (iblk m c 4 t : Vec Ideal S1x1024 .f32) = m ((c : Thread nD τ).loc main_arg4) := by
  funext y
  blk_simp [iblk, index_at t]
  entry_read
  pointwise
  blk_point [index_at t]

theorem read5 (c : Dev nD) (t : Fin cfg0.N) : (iblk m c 5 t : Vec Ideal S1x1024 .f32) = m ((c : Thread nD τ).loc main_arg5) := by
  funext y
  blk_simp [iblk, index_at t]
  entry_read
  pointwise
  blk_point [index_at t]

theorem read6 (c : Dev nD) (t : Fin cfg0.N) (e : Fin 32) (k : Fin 1024) :
    (iblk m c 6 t : Vec Ideal S32x1024 .bf16) (ix2 e k) = m ((c : Thread nD τ).loc main_arg6) (ix3 0 k e) := by
  blk_simp [iblk, index_at t]
  entry_read
  pointwise
  blk_point [index_at t]

theorem read7 (c : Dev nD) (t : Fin cfg0.N) (e : Fin 32) :
    (iblk m c 7 t : Vec Ideal S32x1 .f32) (ix2 e 0) = m ((c : Thread nD τ).loc main_arg7) (ix2 0 e) := by
  blk_simp [iblk, index_at t]
  entry_read
  pointwise
  blk_point [index_at t]

/-- The weights' block is the same at every point: its whole array. -/
theorem whole3 (c : Dev nD) (t t' : Fin cfg0.N) : (iblk m c 3 t : Vec Ideal S1024x1024 .f32) = iblk m c 3 t' := by
  funext y
  obtain ⟨a, b, rfl⟩ : ∃ a b, y = ix2 a b := ⟨y 0, y 1, by funext q; match q with | ⟨0, _⟩ => rfl | ⟨1, _⟩ => rfl⟩
  exact (read3 m c t a b).trans (read3 m c t' a b).symm

/-- What the weights' scratch holds after a later point is what it held before it. -/
theorem scratch_kept (c : Dev nD) (t : Fin cfg0.N) (h0 : ¬t.val % 16 = 0) :
    (outsAt0 m c t.val t.isLt).2.2.2.2.2.2.2 = (outsAt0 m c (t.val - 1) (Nat.lt_of_le_of_lt (Nat.sub_le _ _) t.isLt)).2.2.2.2.2.2.2 := by
  rw [outsAt0_B m c t h0]
  dsimp only
  unfold sout0_B_1
  rfl

/-- After every point the scratch holds the weights, stored once at the first point. -/
theorem scratch_after (c : Dev nD) (n : ℕ) : ∀ (h : n < cfg0.N) (t' : Fin cfg0.N),
    (outsAt0 m c n h).2.2.2.2.2.2.2 = k0_pay6 (F := Ideal) (iblk m c 3 t') := by
  induction n with
  | zero =>
    intro h t'
    rw [outsAt0_A m c ⟨0, h⟩ rfl]
    dsimp only
    rw [scratch_first, whole3 m c _ t']
  | succ n ih =>
    intro h t'
    have hN := lt_of_lt_of_eq h (show cfg0.N = 16 from N_0)
    rw [scratch_kept m c ⟨n + 1, h⟩ (by dsimp only; omega)]
    exact ih (Nat.lt_of_succ_lt h) t'

/-- The block of choices point `t` leaves for writing back. -/
theorem choices_after (c : Dev nD) (t : Fin cfg0.N) : (outsAt0 m c t.val t.isLt).2.2.1 =
    choiceBlock (scoreBlock (F := Ideal) (iblk m c 0 t) (iblk m c 1 t) (iblk m c 2 t) (iblk m c 4 t) (iblk m c 5 t) (iblk m c 6 t) (iblk m c 7 t) (k0_pay6 (F := Ideal) (iblk m c 3 t))) := by
  by_cases h0 : t.val % 16 = 0
  · rw [outsAt0_A m c t h0]
    dsimp only
    rw [choices_first, choicesBlock_eq]
  · have hs := scratch_after m c (t.val - 1) (Nat.lt_of_le_of_lt (Nat.sub_le _ _) t.isLt) t
    rw [outsAt0_B m c t h0]
    dsimp only
    rw [choices_later, hs, choicesBlock_eq]

/-- The scores of the reference over the kernel's arguments. -/
abbrev scored (c : Dev nD) : FVec Ideal Cert.ReferenceIdeal5.S16384x32 .f32 := scores (after (m ((c : Thread nD τ).loc main_arg0))
    (projected (m ((c : Thread nD τ).loc main_arg1)) (m ((c : Thread nD τ).loc main_arg2)) (m ((c : Thread nD τ).loc main_arg3))) (m ((c : Thread nD τ).loc main_arg4)))
    (m ((c : Thread nD τ).loc main_arg5)) (m ((c : Thread nD τ).loc main_arg6)) (m ((c : Thread nD τ).loc main_arg7))

/-- The choices' array after the run is what the reference returns of the same arguments, if no score is the bottom. -/
theorem result_choices (c : Dev nD) (h0 : ∀ (R : Fin 16384) (e : Fin 32), scored m c (ix2 R e) ≠ ⊥) : (dats m 0 c).arrAt 10 cfg0.N = choices (scored m c) := by
  refine (dats m 0 c).arrAt_eq_of_covers 10 _ (by decide +kernel) fun t _ y => ?_
  blk_simp
  rw [after0_10, choices_after, read4, read5]
  have e : (win0_10.blk t).view.emb y = ix2 (y 0) (rowOf t (y 1)) := by
    blk_ext [index_at10 t]
  have ey : y = ix2 (y 0) (y 1) := by funext a; match a with | ⟨0, _⟩ => rfl | ⟨1, _⟩ => rfl
  rw [e, ey]
  refine choices_row (y 1) (rowOf t (y 1)) _ _ (fun k => ?_) (h0 _) (y 0)
  unfold scoreBlock
  exact scores_row (y 1) (rowOf t (y 1)) _ _ _ _ _ _ _ _ (squares _ _ _ _ _ (y 1))
    (rowBlock_row (y 1) (rowOf t (y 1)) _ _ _ _ _ _ _ _ _ (read0 m c t _) (read1 m c t _) (read2 m c t _) (read3 m c t)) (read6 m c t) (read7 m c t) k

/-- The condition says that no score is the bottom. -/
theorem scored_ne (h : Cert.Pre_KernelIdeal5_logits_above_bottom m) (c : Dev nD) (R : Fin 16384) (e : Fin 32) : scored m c (ix2 R e) ≠ ⊥ := by
  intro hb
  have hc := congrFun (h c) (ix2 R e)
  have hd : FloatOps.cmpf (F := Ideal) (φ := .f32) .ogt (scored m c (ix2 R e)) (Ideal.ofBits .f32 4286578688#32) = 1#1 := hc
  rw [hb, Cert.KernelIdeal4.Layer.neg_inf] at hd
  have hf : BitVec.ofBool (decide ((⊥ : EReal) < ⊥)) = 1#1 := hd
  simp at hf

end Cert.KernelIdeal5.Layer
-- ==== Proof.Count5.lean ====
module

public import proofs.«01_k».proof.Proof.Post5
public import Idealize.ShloMosaic.Lib.IdealHost

@[expose] public section

set_option maxRecDepth 16384

noncomputable section

open Idealize.ShloMosaic Idealize.ShloMosaic.TcCoe Idealize.SL.Sem

namespace Cert.KernelIdeal5.Layer

open Cert.KernelIdeal5 Cert.KernelIdeal5.Gen Cert.KernelIdeal5.Value
open Cert.ReferenceIdeal4.Layer (projected after scores)
open Cert.ReferenceIdeal5.Layer (counts counts_at tally)
open Cert.KernelIdeal4.Layer (numbers pick rest picks number_eq scoreBlock scores_row squares rowBlock_row)

/-- Where each column's pick stands. -/
def hits (v : FVec Ideal S32x1024 .f32) : IVec S32x1024 1 :=
  cmpi .eq numbers (broadcastTo S32x1024 (shapeCast S1x1024 (pick v) shapeCasts_S1024_S1x1024) broadcasts_S1x1024_S32x1024)

/-- Where each column's four picks stand, as ones and zeros. -/
def ones (v : FVec Ideal S32x1024 .f32) : FVec Ideal S32x1024 .f32 :=
  k0_pay31 (F := Ideal) (hits v) (hits (rest v)) (hits (rest (rest v))) (hits (rest (rest (rest v))))

theorem onesBlock_eq (x0 : FVec Ideal S1024x1024 .f32) (x1 x2 : FVec Ideal S1024x512 .bf16) (x4 x5 : FVec Ideal S1x1024 .f32) (x6 : FVec Ideal S32x1024 .bf16)
    (x7 : FVec Ideal S32x1 .f32) (w : FVec Ideal S1024x1024 .bf16) :
    onesBlock (F := Ideal) x0 x1 x2 x4 x5 x6 x7 w = ones (scoreBlock (F := Ideal) x0 x1 x2 x4 x5 x6 x7 w) := rfl

theorem hits_at (v : FVec Ideal S32x1024 .f32) (r : Fin 1024) (e : Fin 32) : hits v (ix2 e r) = IntOp.cmpi .eq (BitVec.ofNat 32 e.val) (pick v (ix1 r)) := by
  pointwise [hits, numbers]

theorem one_bits : Ideal.ofBits .f32 1065353216#32 = 1 := Ideal.ofBits_one_f32

theorem select_number (e a : Fin 32) : Scalar.select (IntOp.cmpi .eq (BitVec.ofNat 32 e.val) (BitVec.ofNat 32 a.val)) (1 : EReal) 0 = if a = e then 1 else 0 := by
  by_cases h : a = e
  · rw [if_pos h, h]
    simp [Scalar.select, IntOp.cmpi]
  · have h' := (number_eq e a).not.mpr fun q => h q.symm
    rw [if_neg h]
    have hc : IntOp.cmpi .eq (BitVec.ofNat 32 e.val) (BitVec.ofNat 32 a.val) = 0#1 := by
      show BitVec.ofBool (BitVec.ofNat 32 e.val == BitVec.ofNat 32 a.val) = 0#1
      rw [beq_eq_false_iff_ne.mpr h']
      rfl
    rw [hc]
    rfl

/-- A column's ones say how often its row of scores names each expert. -/
theorem ones_at (v : FVec Ideal S32x1024 .f32) (r : Fin 1024) (h0 : ∀ e : Fin 32, v (ix2 e r) ≠ ⊥) (e : Fin 32) :
    ones v (ix2 e r) = tally (fun e => v (ix2 e r)) e := by
  have p0 := picks v r h0 ⟨0, by omega⟩
  have p1 := picks v r h0 ⟨1, by omega⟩
  have p2 := picks v r h0 ⟨2, by omega⟩
  have p3 := picks v r h0 ⟨3, by omega⟩
  simp only [Function.iterate_succ, Function.iterate_zero, Function.comp_apply, id_eq] at p0 p1 p2 p3
  have q0 := hits_at v r e
  have q1 := hits_at (rest v) r e
  have q2 := hits_at (rest (rest v)) r e
  have q3 := hits_at (rest (rest (rest v))) r e
  rw [p0] at q0
  rw [p1] at q1
  rw [p2] at q2
  rw [p3] at q3
  unfold ones k0_pay31 tally
  generalize hits v = a0 at *
  generalize hits (rest v) = a1 at *
  generalize hits (rest (rest v)) = a2 at *
  generalize hits (rest (rest (rest v))) = a3 at *
  rw [Fin.sum_univ_four]
  pointwise
  rw [q0, q1, q2, q3]
  simp only [one_bits, select_number]
  rfl

/-- One block's contribution to the running count. -/
theorem total_at (o : FVec Ideal S32x1024 .f32) (b : FVec Ideal S32x1 .f32) (e : Fin 32) :
    k0_pay3 (F := Ideal) o b (ix2 e 0) = b (ix2 e 0) + ∑ r : Fin 1024, o (ix2 e r) := by
  pointwise [k0_pay3, k0_pay2]

theorem lanes_at (o : FVec Ideal S32x1024 .f32) (b : FVec Ideal S32x1 .f32) (e : Fin 32) (l : Fin 128) :
    k0_pay4 (F := Ideal) o b (ix2 e l) = b (ix2 e 0) + ∑ r : Fin 1024, o (ix2 e r) := by
  pointwise [k0_pay4, k0_pay2]

theorem start_at (e : Fin 32) : k0_pay5 (F := Ideal) (ix2 e 0) = 0 := by
  pointwise [k0_pay5]

variable (m : (ℓ : Loc nD τ sig) → Buf (Elt Ideal) ℓ)

theorem index_at13 : ∀ t : Fin cfg0.N, win0_13.index t = ![0, 0] := (by decide +kernel : ∀ t : Fin grid0.N, _)

/-- The counts are written back after the last point only. -/
theorem last13 : ∀ t : Fin cfg0.N, win0_13.flush t = true → t.val = 15 := (by decide +kernel : ∀ t : Fin grid0.N, _)

/-- The scores of block `t`. -/
abbrev scoresOf (c : Dev nD) (t : Fin cfg0.N) : FVec Ideal S32x1024 .f32 :=
  scoreBlock (F := Ideal) (iblk m c 0 t) (iblk m c 1 t) (iblk m c 2 t) (iblk m c 4 t) (iblk m c 5 t) (iblk m c 6 t) (iblk m c 7 t) (k0_pay6 (F := Ideal) (iblk m c 3 t))

theorem scoresOf_at (c : Dev nD) (t : Fin cfg0.N) (r : Fin 1024) (e : Fin 32) : scoresOf m c t (ix2 e r) = scored m c (ix2 (rowOf t r) e) := by
  unfold scoresOf scoreBlock
  rw [read4, read5]
  exact scores_row r (rowOf t r) _ _ _ _ _ _ _ _ (squares _ _ _ _ _ r)
    (rowBlock_row r (rowOf t r) _ _ _ _ _ _ _ _ _ (read0 m c t _) (read1 m c t _) (read2 m c t _) (read3 m c t)) (read6 m c t) (read7 m c t) e

/-- How often row `R` names expert `e`, zero past the last row. -/
def named (c : Dev nD) (e : Fin 32) (R : ℕ) : EReal := if h : R < 16384 then tally (fun e => scored m c (ix2 ⟨R, h⟩ e)) e else 0

theorem ones_named (c : Dev nD) (h0 : ∀ (R : Fin 16384) (e : Fin 32), scored m c (ix2 R e) ≠ ⊥) (t : Fin cfg0.N) (e : Fin 32) (r : Fin 1024) :
    ones (scoresOf m c t) (ix2 e r) = named m c e (t.val * 1024 + r.val) := by
  rw [ones_at _ r (fun e => by rw [scoresOf_at]; exact h0 _ e) e]
  unfold named
  rw [dif_pos (rowOf t r).isLt]
  exact congrArg (fun v => tally v e) (funext fun e => scoresOf_at m c t r e)

theorem block_named (c : Dev nD) (h0 : ∀ (R : Fin 16384) (e : Fin 32), scored m c (ix2 R e) ≠ ⊥) (t : Fin cfg0.N) (e : Fin 32) :
    ∑ r : Fin 1024, ones (scoresOf m c t) (ix2 e r) = ∑ r ∈ Finset.range 1024, named m c e (t.val * 1024 + r) := by
  rw [Finset.sum_range]
  exact Finset.sum_congr rfl fun r _ => ones_named m c h0 t e r

/-- After point `n` the running count holds how often the rows so far name each expert. -/
theorem total_after (c : Dev nD) (h0 : ∀ (R : Fin 16384) (e : Fin 32), scored m c (ix2 R e) ≠ ⊥) (e : Fin 32) (n : ℕ) : ∀ h : n < cfg0.N,
    (outsAt0 m c n h).2.2.2.2.2.2.1 (ix2 e 0) = ∑ R ∈ Finset.range ((n + 1) * 1024), named m c e R := by
  induction n with
  | zero =>
    intro h
    rw [outsAt0_A m c ⟨0, h⟩ rfl]
    dsimp only
    rw [total_first, onesBlock_eq, total_at, start_at, zero_add]
    refine (block_named m c h0 ⟨0, h⟩ e).trans ?_
    exact Finset.sum_congr rfl fun r _ => by simp
  | succ n ih =>
    intro h
    have hN := lt_of_lt_of_eq h (show cfg0.N = 16 from N_0)
    have hs : (outsAt0 m c (n + 1 - 1) (Nat.lt_of_le_of_lt (Nat.sub_le _ _) h)).2.2.2.2.2.2.2 = _ := scratch_after m c n (Nat.lt_of_succ_lt h) ⟨n + 1, h⟩
    have hb : (outsAt0 m c (n + 1 - 1) (Nat.lt_of_le_of_lt (Nat.sub_le _ _) h)).2.2.2.2.2.2.1 (ix2 e 0) = _ := ih (Nat.lt_of_succ_lt h)
    rw [outsAt0_B m c ⟨n + 1, h⟩ (by dsimp only; omega)]
    dsimp only
    rw [total_later, hs, onesBlock_eq, total_at, hb, show (n + 1 + 1) * 1024 = (n + 1) * 1024 + 1024 by ring, Finset.sum_range_add]
    exact congrArg _ (block_named m c h0 ⟨n + 1, h⟩ e)

/-- What a point leaves for writing back is the running count in every lane. -/
theorem counts_after (c : Dev nD) (h0 : ∀ (R : Fin 16384) (e : Fin 32), scored m c (ix2 R e) ≠ ⊥) (e : Fin 32) (l : Fin 128) (t : Fin cfg0.N) :
    (outsAt0 m c t.val t.isLt).2.2.2.2.2.1 (ix2 e l) = (outsAt0 m c t.val t.isLt).2.2.2.2.2.2.1 (ix2 e 0) := by
  by_cases h : t.val % 16 = 0
  · rw [outsAt0_A m c t h]
    dsimp only
    rw [counts_first, total_first, lanes_at, total_at]
  · rw [outsAt0_B m c t h]
    dsimp only
    rw [counts_later, total_later, lanes_at, total_at]

/-- What the last point leaves for writing back is the reference's counts. -/
theorem counts_last (c : Dev nD) (h0 : ∀ (R : Fin 16384) (e : Fin 32), scored m c (ix2 R e) ≠ ⊥) (t : Fin cfg0.N) (hl : t.val = 15) (e : Fin 32) (l : Fin 128) :
    (outsAt0 m c t.val t.isLt).2.2.2.2.2.1 (ix2 e l) = counts (scored m c) (ix2 e l) := by
  rw [counts_after m c h0, total_after m c h0, counts_at, hl, show (15 + 1) * 1024 = 16384 from rfl, Finset.sum_range]
  exact Finset.sum_congr rfl fun R _ => dif_pos R.isLt

/-- The counts' array after the run is what the reference returns of the same arguments, if no score is the bottom. -/
theorem result_counts (c : Dev nD) (h0 : ∀ (R : Fin 16384) (e : Fin 32), scored m c (ix2 R e) ≠ ⊥) : (dats m 0 c).arrAt 13 cfg0.N = counts (scored m c) := by
  refine (dats m 0 c).arrAt_eq_of_covers 13 _ (by decide +kernel) fun t ht y => ?_
  blk_simp
  rw [after0_13]
  have e : (win0_13.blk t).view.emb y = ix2 (y 0) (y 1) := by
    blk_ext [index_at13 t]
  have ey : y = ix2 (y 0) (y 1) := by funext a; match a with | ⟨0, _⟩ => rfl | ⟨1, _⟩ => rfl
  rw [e, ey]
  exact counts_last m c h0 t (last13 t ht) (y 0) (y 1)

end Cert.KernelIdeal5.Layer
-- ==== Proof.Rank5.lean ====
module

public import proofs.«01_k».proof.Proof.Count5

@[expose] public section

set_option maxRecDepth 16384

noncomputable section

open Idealize.ShloMosaic Idealize.ShloMosaic.TcCoe Idealize.SL.Sem

namespace Cert.KernelIdeal5.Layer

open Cert.KernelIdeal5 Cert.KernelIdeal5.Gen Cert.KernelIdeal5.Value
open Cert.ReferenceIdeal5.Layer (ranks ranks_at earlier earlier_at slt_number tally)
open Cert.KernelIdeal4.Layer (rest picks scoreBlock)

/-- The running count before each token of a block. -/
def running (v : FVec Ideal S32x1024 .f32) (b : FVec Ideal S32x1 .f32) : FVec Ideal S32x1024 .f32 :=
  k0_pay32 (F := Ideal) (hits v) (hits (rest v)) (hits (rest (rest v))) (hits (rest (rest (rest v)))) b

/-- The block of ranks over a block of scores and the count before it. -/
def rankBlock (v : FVec Ideal S32x1024 .f32) (b : FVec Ideal S32x1 .f32) : IVec S4x1024 32 :=
  k0_pay1 (F := Ideal) (hits (rest (rest (rest v)))) (running v b)
    (k0_pay33 (F := Ideal) (hits v) (hits (rest v)) (hits (rest (rest v))) (hits (rest (rest (rest v)))) b)
    (k0_pay34 (F := Ideal) (hits v) (hits (rest v)) (hits (rest (rest v))) (hits (rest (rest (rest v)))) b)
    (k0_pay35 (F := Ideal) (hits v) (hits (rest v)) (hits (rest (rest v))) (hits (rest (rest (rest v)))) b)

theorem ranksBlock_eq (x0 : FVec Ideal S1024x1024 .f32) (x1 x2 : FVec Ideal S1024x512 .bf16) (x4 x5 : FVec Ideal S1x1024 .f32) (x6 : FVec Ideal S32x1024 .bf16)
    (x7 : FVec Ideal S32x1 .f32) (w : FVec Ideal S1024x1024 .bf16) (b : FVec Ideal S32x1 .f32) :
    ranksBlock (F := Ideal) x0 x1 x2 x4 x5 x6 x7 w b = rankBlock (scoreBlock (F := Ideal) x0 x1 x2 x4 x5 x6 x7 w) b := rfl

theorem running_at (v : FVec Ideal S32x1024 .f32) (b : FVec Ideal S32x1 .f32) (r : Fin 1024) (e : Fin 32) :
    running v b (ix2 e r) = b (ix2 e 0) + ∑ q : Fin 1024, if q.val < r.val then ones v (ix2 e q) else 0 := by
  have h : running v b (ix2 e r) = b (ix2 e 0) + ∑ q : Fin 1024, ones v (ix2 e q) * Scalar.select (IntOp.cmpi .slt (BitVec.ofNat 32 q.val) (BitVec.ofNat 32 r.val)) (1 : EReal) 0 := by
    unfold running k0_pay32
    change _ = b (ix2 e 0) + ∑ q : Fin 1024, (ones v) (ix2 e q) * _
    have ho : k0_pay31 (F := Ideal) (hits v) (hits (rest v)) (hits (rest (rest v))) (hits (rest (rest (rest v)))) = ones v := rfl
    rw [ho]
    generalize ones v = o
    pointwise
  rw [h]
  refine congrArg _ (Finset.sum_congr rfl fun q _ => ?_)
  rw [slt_number _ _ (by omega) (by omega)]
  by_cases hq : q.val < r.val
  · rw [if_pos hq, if_pos hq]
    exact mul_one _
  · rw [if_neg hq, if_neg hq]
    exact mul_zero _

/-- The entry of a column at its pick, as the sum the kernel takes. -/
theorem sum_hits (a : Fin 32) (x : Fin 32 → EReal) (p : BitVec 32) (hp : p = BitVec.ofNat 32 a.val) :
    ∑ e : Fin 32, Scalar.select (IntOp.cmpi .eq (BitVec.ofNat 32 e.val) p) (x e) 0 = x a := by
  have hs : ∀ e : Fin 32, Scalar.select (IntOp.cmpi .eq (BitVec.ofNat 32 e.val) p) (x e) 0 = if a = e then x e else 0 := by
    intro e
    rw [hp]
    by_cases h : a = e
    · rw [if_pos h, h]
      simp [Scalar.select, IntOp.cmpi]
    · have h' := (Cert.KernelIdeal4.Layer.number_eq e a).not.mpr fun q => h q.symm
      rw [if_neg h]
      have hc : IntOp.cmpi .eq (BitVec.ofNat 32 e.val) (BitVec.ofNat 32 a.val) = 0#1 := by
        show BitVec.ofBool (BitVec.ofNat 32 e.val == BitVec.ofNat 32 a.val) = 0#1
        rw [beq_eq_false_iff_ne.mpr h']
        rfl
      rw [hc]
      rfl
  rw [Finset.sum_congr rfl fun e _ => hs e, Finset.sum_ite_eq, if_pos (Finset.mem_univ _)]

theorem rankBlock_at (v : FVec Ideal S32x1024 .f32) (b : FVec Ideal S32x1 .f32) (r : Fin 1024) (h0 : ∀ e : Fin 32, v (ix2 e r) ≠ ⊥) (k : Fin 4) :
    rankBlock v b (ix2 k r) = FloatOps.fptosi (F := Ideal) (φ := .f32) 32 (running v b (ix2 (Ranked.place (fun e => v (ix2 e r)) ⟨k.val, by omega⟩) r)) := by
  have p0 := picks v r h0 ⟨0, by omega⟩
  have p1 := picks v r h0 ⟨1, by omega⟩
  have p2 := picks v r h0 ⟨2, by omega⟩
  have p3 := picks v r h0 ⟨3, by omega⟩
  simp only [Function.iterate_succ, Function.iterate_zero, Function.comp_apply, id_eq] at p0 p1 p2 p3
  have s0 := sum_hits _ (fun e => running v b (ix2 e r)) _ p0
  have s1 := sum_hits _ (fun e => running v b (ix2 e r)) _ p1
  have s2 := sum_hits _ (fun e => running v b (ix2 e r)) _ p2
  have s3 := sum_hits _ (fun e => running v b (ix2 e r)) _ p3
  simp only [← hits_at] at s0 s1 s2 s3
  unfold rankBlock k0_pay1 k0_pay33 k0_pay34 k0_pay35
  have hr : k0_pay32 (F := Ideal) (hits v) (hits (rest v)) (hits (rest (rest v))) (hits (rest (rest (rest v)))) b = running v b := rfl
  rw [hr]
  generalize running v b = T at *
  generalize hits v = a0 at *
  generalize hits (rest v) = a1 at *
  generalize hits (rest (rest v)) = a2 at *
  generalize hits (rest (rest (rest v))) = a3 at *
  fin_cases k <;> pointwise
  · exact congrArg _ s0
  · exact congrArg _ s1
  · exact congrArg _ s2
  · exact congrArg _ s3

theorem sum_cut (f : ℕ → EReal) (n r : ℕ) (h : r ≤ n) : (∑ q ∈ Finset.range n, if q < r then f q else 0) = ∑ q ∈ Finset.range r, f q := by
  rw [← Finset.sum_filter]
  refine Finset.sum_congr (Finset.ext fun q => ?_) fun _ _ => rfl
  rw [Finset.mem_filter, Finset.mem_range, Finset.mem_range]
  omega

variable (m : (ℓ : Loc nD τ sig) → Buf (Elt Ideal) ℓ)

theorem index_at12 : ∀ t : Fin cfg0.N, win0_12.index t = ![0, t.val] := (by decide +kernel : ∀ t : Fin grid0.N, _)

/-- The reference's count of the rows before row `R`, as a sum over a range. -/
theorem earlier_named (c : Dev nD) (R : Fin 16384) (e : Fin 32) : earlier (scored m c) (ix2 R e) = ∑ Q ∈ Finset.range R.val, named m c e Q := by
  rw [earlier_at, ← sum_cut (named m c e) 16384 R.val R.isLt.le, Finset.sum_range]
  refine Finset.sum_congr rfl fun Q _ => ?_
  unfold named
  rw [dif_pos Q.isLt]

/-- The running count before a token is that over all rows before its row. -/
theorem running_named (c : Dev nD) (h0 : ∀ (R : Fin 16384) (e : Fin 32), scored m c (ix2 R e) ≠ ⊥) (t : Fin cfg0.N) (b : FVec Ideal S32x1 .f32) (e : Fin 32)
    (hb : b (ix2 e 0) = ∑ Q ∈ Finset.range (t.val * 1024), named m c e Q) (r : Fin 1024) :
    running (scoresOf m c t) b (ix2 e r) = ∑ Q ∈ Finset.range (rowOf t r).val, named m c e Q := by
  rw [running_at, hb]
  show _ = ∑ Q ∈ Finset.range (t.val * 1024 + r.val), named m c e Q
  rw [Finset.sum_range_add, ← sum_cut (fun q => named m c e (t.val * 1024 + q)) 1024 r.val r.isLt.le]
  refine congrArg _ (Eq.trans (Finset.sum_congr rfl fun q _ => ?_) (Finset.sum_range fun q : ℕ => if q < r.val then named m c e (t.val * 1024 + q) else 0).symm)
  rw [ones_named m c h0 t e q]

/-- The block of ranks point `t` leaves for writing back, over the count before it. -/
theorem ranks_after (c : Dev nD) (h0 : ∀ (R : Fin 16384) (e : Fin 32), scored m c (ix2 R e) ≠ ⊥) (t : Fin cfg0.N) : ∃ b : FVec Ideal S32x1 .f32,
    (outsAt0 m c t.val t.isLt).2.2.2.2.1 = rankBlock (scoresOf m c t) b ∧ ∀ e : Fin 32, b (ix2 e 0) = ∑ Q ∈ Finset.range (t.val * 1024), named m c e Q := by
  have hN := lt_of_lt_of_eq t.isLt (show cfg0.N = 16 from N_0)
  by_cases h : t.val % 16 = 0
  · refine ⟨k0_pay5 (F := Ideal), ?_, fun e => ?_⟩
    · rw [outsAt0_A m c t h]
      dsimp only
      rw [ranks_first, ranksBlock_eq]
    · rw [start_at, show t.val = 0 by omega, Nat.zero_mul, Finset.range_zero, Finset.sum_empty]
  · have hl := Nat.lt_of_le_of_lt (Nat.sub_le t.val 1) t.isLt
    refine ⟨(outsAt0 m c (t.val - 1) hl).2.2.2.2.2.2.1, ?_, fun e => ?_⟩
    · have hs := scratch_after m c (t.val - 1) hl t
      rw [outsAt0_B m c t h]
      dsimp only
      rw [ranks_later, hs, ranksBlock_eq]
    · rw [total_after m c h0 e (t.val - 1) hl, show t.val - 1 + 1 = t.val by omega]

theorem ranks_point (c : Dev nD) (h0 : ∀ (R : Fin 16384) (e : Fin 32), scored m c (ix2 R e) ≠ ⊥) (t : Fin cfg0.N) (k : Fin 4) (r : Fin 1024) :
    (outsAt0 m c t.val t.isLt).2.2.2.2.1 (ix2 k r) = ranks (scored m c) (ix2 k (rowOf t r)) := by
  obtain ⟨b, hb, hn⟩ := ranks_after m c h0 t
  have hv : (fun e : Fin 32 => scoresOf m c t (ix2 e r)) = fun e => scored m c (ix2 (rowOf t r) e) := funext fun e => scoresOf_at m c t r e
  rw [hb, rankBlock_at _ b r (fun e => by rw [scoresOf_at]; exact h0 _ e) k, ranks_at, hv, running_named m c h0 t b _ (hn _) r, earlier_named]

/-- The ranks' array after the run is what the reference returns of the same arguments, if no score is the bottom. -/
theorem result_ranks (c : Dev nD) (h0 : ∀ (R : Fin 16384) (e : Fin 32), scored m c (ix2 R e) ≠ ⊥) : (dats m 0 c).arrAt 12 cfg0.N = ranks (scored m c) := by
  refine (dats m 0 c).arrAt_eq_of_covers 12 _ (by decide +kernel) fun t _ y => ?_
  blk_simp
  rw [after0_12]
  have e : (win0_12.blk t).view.emb y = ix2 (y 0) (rowOf t (y 1)) := by
    blk_ext [index_at12 t]
  have ey : y = ix2 (y 0) (y 1) := by funext a; match a with | ⟨0, _⟩ => rfl | ⟨1, _⟩ => rfl
  rw [e, ey]
  exact ranks_point m c h0 t (y 0) (y 1)

end Cert.KernelIdeal5.Layer
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Array
public import proofs.«01_k».proof.Proof.Attn
public import proofs.«01_k».proof.Proof.Mix3
public import proofs.«01_k».proof.Proof.Post4
public import proofs.«01_k».proof.Proof.Rank5
public import proofs.«01_k».proof.Proof.Gen.Kernel3.Frame
public import proofs.«01_k».proof.Proof.Gen.KernelIdeal3.Value
public import proofs.«01_k».proof.Proof.Gen.ReferenceIdeal3.Run
public import proofs.«01_k».proof.Proof.Gen.Kernel2.Frame
public import proofs.«01_k».proof.Proof.Gen.KernelIdeal2.Value
public import proofs.«01_k».proof.Proof.Gen.ReferenceIdeal2.Run
public import proofs.«01_k».proof.Proof.Gen.Kernel4.Frame
public import proofs.«01_k».proof.Proof.Gen.KernelIdeal4.Value
public import proofs.«01_k».proof.Proof.Gen.ReferenceIdeal4.Run
public import proofs.«01_k».proof.Proof.Gen.Kernel5.Frame
public import proofs.«01_k».proof.Proof.Gen.KernelIdeal5.Value
public import proofs.«01_k».proof.Proof.Gen.ReferenceIdeal5.Run
public import proofs.«01_k».proof.Proof.Gen.Pre_logits_above_bottom
public import Idealize.ShloMosaic.Adequacy
public import Idealize.ShloMosaic.Init
public import Idealize.ShloMosaic.Lib.Bf16PairInverse
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1, Cert.KernelIdeal.Layer.result, Cert.ReferenceIdeal.Layer.res_eq]
  obtain ⟨e0, e1, e2, e3, e4, e5, e6, e7, e8⟩ := hagree c
  rw [e0, e1, e2, e3, e4, e5, e6, e7, e8]

theorem quiescent_ReferenceIdeal2 : quiescent_ReferenceIdeal2 := fun m ρ _ =>
  (θ_run Cert.ReferenceIdeal2.defs _ _).mono (fun r h => ⟨fun c => (h c).2, sem_eq_zero_of_no_sems (by decide) r.2⟩)
    (Cert.ReferenceIdeal2.Value.run (F := Ideal) m ρ)

theorem algebraic_KernelIdeal2_ReferenceIdeal2 : algebraic_KernelIdeal2_ReferenceIdeal2 := by
  intro m ρ m' ρ' _ hagree
  refine ⟨_, Cert.KernelIdeal2.Value.run_blocks (F := Ideal) m ρ, ?_⟩
  refine (θ_run Cert.ReferenceIdeal2.defs _ _).mono (fun _ h c => ⟨?_, (h c).2⟩) (Cert.ReferenceIdeal2.Value.run (F := Ideal) m' ρ')
  rw [(h c).1, Cert.KernelIdeal2.Layer.result]
  refine (Cert.ReferenceIdeal2.Layer.res_eq m' c).trans ?_
  obtain ⟨e0, e1, e2, e3⟩ := hagree c
  rw [e0, e1, e2, e3]

theorem quiescent_ReferenceIdeal3 : quiescent_ReferenceIdeal3 := fun m ρ _ =>
  (θ_run Cert.ReferenceIdeal3.defs _ _).mono (fun r h => ⟨fun c => (h c).2.2.2.2, sem_eq_zero_of_no_sems (by decide) r.2⟩)
    (Cert.ReferenceIdeal3.Layer.results m ρ)

theorem algebraic_KernelIdeal3_ReferenceIdeal3 : algebraic_KernelIdeal3_ReferenceIdeal3 := by
  intro m ρ m' ρ' _ hagree
  refine ⟨_, _, _, _, Cert.KernelIdeal3.Value.run_blocks (F := Ideal) m ρ, ?_⟩
  refine (θ_run Cert.ReferenceIdeal3.defs _ _).mono (fun _ h c => ?_) (Cert.ReferenceIdeal3.Layer.results m' ρ')
  obtain ⟨hq, hk, hv, hs, hargs⟩ := h c
  obtain ⟨e0, e1, e2, e3, e4, e5, e6, e7, e8, e9, e10, e11⟩ := hagree c
  refine ⟨?_, ?_, ?_, ?_, hargs⟩
  · rw [hq, Cert.KernelIdeal3.Layer.result_q, e0, e1, e2, e3, e4, e5]
  · rw [hk, Cert.KernelIdeal3.Layer.result_k, e0, e1, e2, e3, e6, e7]
  · rw [hv, Cert.KernelIdeal3.Layer.result_v, e0, e2, e3, e6, e7]
  · rw [hs, Cert.KernelIdeal3.Layer.result_s, e0, e2, e3, e8, e9, e10, e11]

theorem quiescent_ReferenceIdeal4 : quiescent_ReferenceIdeal4 := fun m ρ _ =>
  (θ_run Cert.ReferenceIdeal4.defs _ _).mono (fun r h => ⟨fun c => (h c).2.2, sem_eq_zero_of_no_sems (by decide) r.2⟩)
    (Cert.ReferenceIdeal4.Layer.results m ρ)

theorem preserves_Kernel4_KernelIdeal4 : preserves_Kernel4_KernelIdeal4 :=
  open Cert.KernelIdeal4 IdealRules.bf16_pair in
  ⟨bufferStatement S16384x2x512 S16384x1x512, bufferStatement S1024x2x512 S1024x1x512, packStatement S1024x512, statement S1024x2x512 S1024x1x512⟩

theorem algebraic_KernelIdeal4_ReferenceIdeal4 : algebraic_KernelIdeal4_ReferenceIdeal4 := by
  intro m ρ m' ρ' _ hagree
  refine ⟨_, _, (θ_run Cert.KernelIdeal4.defs _ _).mono (fun _ h c => ⟨(h c).1, (h c).2.2.2.1, (h c).2.2.2.2.2.2⟩) (Cert.KernelIdeal4.Value.run_blocks (F := Ideal) m ρ), ?_⟩
  refine (θ_run Cert.ReferenceIdeal4.defs _ _).mono (fun _ h c => ⟨?_, ?_, (h c).2.2⟩) (Cert.ReferenceIdeal4.Layer.results m' ρ')
  all_goals obtain ⟨e0, e1, e2, e3, e4, e5, e6, e7⟩ := hagree c
  · rw [(h c).1, Cert.KernelIdeal4.Layer.result, e0, e1, e2, e3, e4]
  · rw [(h c).2.1, Cert.KernelIdeal4.Layer.result_gates, e0, e1, e2, e3, e4, e5, e6, e7]

theorem quiescent_ReferenceIdeal5 : quiescent_ReferenceIdeal5 := fun m ρ _ =>
  (θ_run Cert.ReferenceIdeal5.defs _ _).mono (fun r h => ⟨fun c => (h c).2.2.2, sem_eq_zero_of_no_sems (by decide) r.2⟩)
    (Cert.ReferenceIdeal5.Value.run (F := Ideal) m ρ)

theorem preserves_Kernel5_KernelIdeal5 : preserves_Kernel5_KernelIdeal5 :=
  open Cert.KernelIdeal5 IdealRules.bf16_pair in
  ⟨bufferStatement S16384x2x512 S16384x1x512, bufferStatement S1024x2x512 S1024x1x512, packStatement S1024x512, statement S1024x2x512 S1024x1x512⟩

theorem algebraic_KernelIdeal5_ReferenceIdeal5 : algebraic_KernelIdeal5_ReferenceIdeal5_pre_logits_above_bottom := by
  intro m ρ m' ρ' hpre hagree
  refine ⟨_, _, _, (θ_run Cert.KernelIdeal5.defs _ _).mono (fun _ h c => ⟨(h c).2.2.1, (h c).2.2.2.2.1, (h c).2.2.2.2.2.1, (h c).2.2.2.2.2.2⟩) (Cert.KernelIdeal5.Value.run_blocks (F := Ideal) m ρ), ?_⟩
  refine (θ_run Cert.ReferenceIdeal5.defs _ _).mono (fun _ h c => ⟨?_, ?_, ?_, (h c).2.2.2⟩) (Cert.ReferenceIdeal5.Value.run (F := Ideal) m' ρ')
  all_goals obtain ⟨e0, e1, e2, e3, e4, e5, e6, e7⟩ := hagree c
  · rw [(h c).1, Cert.KernelIdeal5.Layer.result_choices m c (Cert.KernelIdeal5.Layer.scored_ne m hpre c)]
    refine (Cert.ReferenceIdeal5.Layer.results m' c).trans ?_
    rw [e0, e1, e2, e3, e4, e5, e6, e7]
  · rw [(h c).2.1, Cert.KernelIdeal5.Layer.result_ranks m c (Cert.KernelIdeal5.Layer.scored_ne m hpre c)]
    refine (Cert.ReferenceIdeal5.Layer.results_ranks m' c).trans ?_
    rw [e0, e1, e2, e3, e4, e5, e6, e7]
  · rw [(h c).2.2.1, Cert.KernelIdeal5.Layer.result_counts m c (Cert.KernelIdeal5.Layer.scored_ne m hpre c)]
    refine (Cert.ReferenceIdeal5.Layer.results_counts m' c).trans ?_
    rw [e0, e1, e2, e3, e4, e5, e6, e7]

theorem claim : Cert.Claim := ⟨Cert.Kernel.Gen.facts, Cert.KernelIdeal.Gen.facts, Cert.ReferenceIdeal.Gen.facts,
  Cert.Kernel2.Gen.facts, Cert.KernelIdeal2.Gen.facts, Cert.ReferenceIdeal2.Gen.facts,
  Cert.Kernel3.Gen.facts, Cert.KernelIdeal3.Gen.facts, Cert.ReferenceIdeal3.Gen.facts,
  Cert.Kernel4.Gen.facts, Cert.KernelIdeal4.Gen.facts, Cert.ReferenceIdeal4.Gen.facts,
  Cert.Kernel5.Gen.facts, Cert.KernelIdeal5.Gen.facts, Cert.ReferenceIdeal5.Gen.facts, Cert.Pre_logits_above_bottom.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.KernelIdeal2.Gen.frame m ρ, quiescent_ReferenceIdeal2,
  fun m ρ _ => Cert.Kernel3.Gen.frame m ρ, fun m ρ _ => Cert.KernelIdeal3.Gen.frame m ρ, quiescent_ReferenceIdeal3,
  fun m ρ _ => Cert.Kernel4.Gen.frame m ρ, fun m ρ _ => Cert.KernelIdeal4.Gen.frame m ρ, quiescent_ReferenceIdeal4,
  fun m ρ _ => Cert.Kernel5.Gen.frame m ρ, fun m ρ _ => Cert.KernelIdeal5.Gen.frame m ρ, fun m ρ _ => Cert.KernelIdeal5.Gen.frame m ρ,
  quiescent_ReferenceIdeal5, fun m ρ _ => quiescent_ReferenceIdeal5 m ρ trivial,
  (trivial : preserves_Kernel_KernelIdeal), algebraic_KernelIdeal_ReferenceIdeal,
  (trivial : preserves_Kernel2_KernelIdeal2), algebraic_KernelIdeal2_ReferenceIdeal2,
  (trivial : preserves_Kernel3_KernelIdeal3), algebraic_KernelIdeal3_ReferenceIdeal3,
  preserves_Kernel4_KernelIdeal4, algebraic_KernelIdeal4_ReferenceIdeal4,
  preserves_Kernel5_KernelIdeal5, algebraic_KernelIdeal5_ReferenceIdeal5⟩

end Cert.Proof

end
